-- ==== Defs.lean ====
def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutIdeal_offsets_ok [hPre_offsets_ok : Cert.Pre_offsets_ok.Facts] (m : (ℓ : Loc Cert.OutIdeal.nD Cert.OutIdeal.τ Cert.OutIdeal.sig) → Buf (Elt Ideal) ℓ) : Prop :=
  ∀ c : Dev Cert.OutIdeal.nD,
    (Cert.Pre_offsets_ok.fn (F := Ideal) (m ((c.tc : Thread Cert.OutIdeal.nD Cert.OutIdeal.τ).loc Cert.OutIdeal.main_arg0)) (m ((c.tc : Thread Cert.OutIdeal.nD Cert.OutIdeal.τ).loc Cert.OutIdeal.main_arg1)) (m ((c.tc : Thread Cert.OutIdeal.nD Cert.OutIdeal.τ).loc Cert.OutIdeal.main_arg2)) (m ((c.tc : Thread Cert.OutIdeal.nD Cert.OutIdeal.τ).loc Cert.OutIdeal.main_arg3)) (m ((c.tc : Thread Cert.OutIdeal.nD Cert.OutIdeal.τ).loc Cert.OutIdeal.main_arg4)) (m ((c.tc : Thread Cert.OutIdeal.nD Cert.OutIdeal.τ).loc Cert.OutIdeal.main_arg5)) (m ((c.tc : Thread Cert.OutIdeal.nD Cert.OutIdeal.τ).loc Cert.OutIdeal.main_arg6))) = (fun _ => 1#1)

def Pre_OutRefIdeal (m : (ℓ : Loc Cert.OutRefIdeal.nD Cert.OutRefIdeal.τ Cert.OutRefIdeal.sig) → Buf (Elt Ideal) ℓ) : Prop :=
  True

def Pre_OutRefIdeal_offsets_ok [hPre_offsets_ok : Cert.Pre_offsets_ok.Facts] (m : (ℓ : Loc Cert.OutRefIdeal.nD Cert.OutRefIdeal.τ Cert.OutRefIdeal.sig) → Buf (Elt Ideal) ℓ) : Prop :=
  ∀ c : Dev Cert.OutRefIdeal.nD,
    (Cert.Pre_offsets_ok.fn (F := Ideal) (m ((c.tc : Thread Cert.OutRefIdeal.nD Cert.OutRefIdeal.τ).loc Cert.OutRefIdeal.main_arg0)) (m ((c.tc : Thread Cert.OutRefIdeal.nD Cert.OutRefIdeal.τ).loc Cert.OutRefIdeal.main_arg1)) (m ((c.tc : Thread Cert.OutRefIdeal.nD Cert.OutRefIdeal.τ).loc Cert.OutRefIdeal.main_arg2)) (m ((c.tc : Thread Cert.OutRefIdeal.nD Cert.OutRefIdeal.τ).loc Cert.OutRefIdeal.main_arg3)) (m ((c.tc : Thread Cert.OutRefIdeal.nD Cert.OutRefIdeal.τ).loc Cert.OutRefIdeal.main_arg4)) (m ((c.tc : Thread Cert.OutRefIdeal.nD Cert.OutRefIdeal.τ).loc Cert.OutRefIdeal.main_arg5)) (m ((c.tc : Thread Cert.OutRefIdeal.nD Cert.OutRefIdeal.τ).loc Cert.OutRefIdeal.main_arg6))) = (fun _ => 1#1)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutIdeal_pre_offsets_ok [hOutIdeal : Cert.OutIdeal.Facts] [hPre_offsets_ok : Cert.Pre_offsets_ok.Facts] : Prop :=
  ∀ (m : (ℓ : Loc Cert.OutIdeal.nD Cert.OutIdeal.τ Cert.OutIdeal.sig) → Buf (Elt Ideal) ℓ) (g : Dev Cert.OutIdeal.nD → PrngReg), Pre_OutIdeal_offsets_ok m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_OutRefIdeal_pre_offsets_ok [hOutRefIdeal : Cert.OutRefIdeal.Facts] [hPre_offsets_ok : Cert.Pre_offsets_ok.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal_offsets_ok m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v23_0)) (v1 : (c : Dev Cert.QkvIdeal.nD) → Buf (Elt Ideal) ((c.tc : Thread Cert.QkvIdeal.nD Cert.QkvIdeal.τ).loc Cert.QkvIdeal.main_v23_1)) (v2 : (c : Dev Cert.QkvIdeal.nD) → Buf (Elt Ideal) ((c.tc : Thread Cert.QkvIdeal.nD Cert.QkvIdeal.τ).loc Cert.QkvIdeal.main_v23_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v23_0) = v0 c
          ∧ r.2.mem ((c.tc : Thread Cert.QkvIdeal.nD Cert.QkvIdeal.τ).loc Cert.QkvIdeal.main_v23_1) = v1 c
          ∧ r.2.mem ((c.tc : Thread Cert.QkvIdeal.nD Cert.QkvIdeal.τ).loc Cert.QkvIdeal.main_v23_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v17_0) = v0 c
          ∧ r.2.mem ((c.tc : Thread Cert.QkvRefIdeal.nD Cert.QkvRefIdeal.τ).loc Cert.QkvRefIdeal.main_v17_1) = v1 c
          ∧ r.2.mem ((c.tc : Thread Cert.QkvRefIdeal.nD Cert.QkvRefIdeal.τ).loc Cert.QkvRefIdeal.main_v17_2) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_Out_OutIdeal : Prop :=
  True

def algebraic_OutIdeal_OutRefIdeal_pre_offsets_ok [hOutIdeal : Cert.OutIdeal.Facts] [hOutRefIdeal : Cert.OutRefIdeal.Facts] [hPre_offsets_ok : Cert.Pre_offsets_ok.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal_offsets_ok m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v28)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v28) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v33) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def Claim : Prop :=
  ∃ (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hPre_offsets_ok : Cert.Pre_offsets_ok.Facts),
    quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutIdeal_pre_offsets_ok (hOutIdeal := hOutIdeal) (hPre_offsets_ok := hPre_offsets_ok)
    ∧ quiescent_OutRefIdeal (hOutRefIdeal := hOutRefIdeal)
    ∧ quiescent_OutRefIdeal_pre_offsets_ok (hOutRefIdeal := hOutRefIdeal) (hPre_offsets_ok := hPre_offsets_ok)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal_pre_offsets_ok (hOutIdeal := hOutIdeal) (hOutRefIdeal := hOutRefIdeal) (hPre_offsets_ok := hPre_offsets_ok)
-- ==== Pre_offsets_ok.lean ====
abbrev S4 : Shape := ⟨1, ![4]⟩
abbrev S1248x3584 : Shape := ⟨2, ![1248, 3584]⟩
abbrev S3x3584x3584 : Shape := ⟨3, ![3, 3584, 3584]⟩
abbrev S3x3584 : Shape := ⟨2, ![3, 3584]⟩
abbrev S3 : Shape := ⟨1, ![3]⟩
abbrev S1024x3584 : Shape := ⟨2, ![1024, 3584]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1

variable [Facts]

def fn_part1 {F : FTy → Type} [FloatOps F] (main_v20 : IVec S_ 1) (main_v22 : IVec S_ 32) : IVec S_ 1 :=
  let main_c_0 : IVec S_ 32 := constantI S_ 32 1024#32
  let main_v23 : IVec S_ 1 := cmpi .eq main_v22 main_c_0
  let main_v24 : IVec S_ 1 := andi main_v20 main_v23
  main_v24

def fn {F : FTy → Type} [FloatOps F] (main_arg0 : IVec S4 32) (main_arg1 : FVec F S1248x3584 .bf16) (main_arg2 : FVec F S3x3584x3584 .fp8e4m3) (main_arg3 : FVec F S3x3584 .f32) (main_arg4 : FVec F S3x3584 .f32) (main_arg5 : FVec F S3 .f32) (main_arg6 : FVec F S1024x3584 .bf16) : IVec S_ 1 :=
  let main_v0 : IVec S1 32 := (extractStridedSlice S1 ![0] · slices_S4_S1_0) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![0] · slices_S4_S1_0) main_arg0
  let main_v4 : IVec S_ 32 := shapeCast S_ main_v3 shapeCasts_S1_S_
  let main_v5 : IVec S1 32 := (extractStridedSlice S1 ![1] · slices_S4_S1_1) main_arg0
  let main_v6 : IVec S_ 32 := shapeCast S_ main_v5 shapeCasts_S1_S_
  let main_v7 : IVec S_ 1 := cmpi .sle main_v4 main_v6
  let main_v8 : IVec S_ 1 := andi main_v2 main_v7
  let main_v9 : IVec S1 32 := (extractStridedSlice S1 ![1] · slices_S4_S1_1) main_arg0
  let main_v10 : IVec S_ 32 := shapeCast S_ main_v9 shapeCasts_S1_S_
  let main_v11 : IVec S1 32 := (extractStridedSlice S1 ![2] · slices_S4_S1_2) main_arg0
  let main_v12 : IVec S_ 32 := shapeCast S_ main_v11 shapeCasts_S1_S_
  let main_v13 : IVec S_ 1 := cmpi .sle main_v10 main_v12
  let main_v14 : IVec S_ 1 := andi main_v8 main_v13
  let main_v15 : IVec S1 32 := (extractStridedSlice S1 ![2] · slices_S4_S1_2) main_arg0
  let main_v16 : IVec S_ 32 := shapeCast S_ main_v15 shapeCasts_S1_S_
  let main_v17 : IVec S1 32 := (extractStridedSlice S1 ![3] · slices_S4_S1_3) main_arg0
  let main_v18 : IVec S_ 32 := shapeCast S_ main_v17 shapeCasts_S1_S_
  let main_v19 : IVec S_ 1 := cmpi .sle main_v16 main_v18
  let main_v20 : IVec S_ 1 := andi main_v14 main_v19
  let main_v21 : IVec S1 32 := (extractStridedSlice S1 ![3] · slices_S4_S1_3) main_arg0
  let main_v22 : IVec S_ 32 := shapeCast S_ main_v21 shapeCasts_S1_S_
  fn_part1 (F := F) main_v20 main_v22
-- ==== Qkv.lean ====
abbrev S4 : Shape := ⟨1, ![4]⟩
abbrev S1248x3584 : Shape := ⟨2, ![1248, 3584]⟩
abbrev S3x3584x10752 : Shape := ⟨3, ![3, 3584, 10752]⟩
abbrev S3x10752 : Shape := ⟨2, ![3, 10752]⟩
abbrev S3 : Shape := ⟨1, ![3]⟩
abbrev S_ : Shape := ⟨0, ![]⟩
abbrev S1 : Shape := ⟨1, ![1]⟩
abbrev S13 : Shape := ⟨1, ![13]⟩
abbrev S13x1 : Shape := ⟨2, ![13, 1]⟩
abbrev S1x3 : Shape := ⟨2, ![1, 3]⟩
abbrev S13x3 : Shape := ⟨2, ![13, 3]⟩
abbrev S3x1x10752 : Shape := ⟨3, ![3, 1, 10752]⟩
abbrev S3x3584x512 : Shape := ⟨3, ![3, 3584, 512]⟩
abbrev S3x1x512 : Shape := ⟨3, ![3, 1, 512]⟩
abbrev S1248x512 : Shape := ⟨2, ![1248, 512]⟩
abbrev S96x3584 : Shape := ⟨2, ![96, 3584]⟩
abbrev S1x3584x512 : Shape := ⟨3, ![1, 3584, 512]⟩
abbrev S3584x512 : Shape := ⟨2, ![3584, 512]⟩
abbrev S96x512 : Shape := ⟨2, ![96, 512]⟩
abbrev S1x1x512 : Shape := ⟨3, ![1, 1, 512]⟩
abbrev S1x512 : Shape := ⟨2, ![1, 512]⟩

abbrev nBuf : Space → Nat
  | .hbm => 60
  | .vmem => 13
  | .smem => 1
  | _ => 0

abbrev bufTy : (tb : Table) → Fin (tcTables nBuf tb) → BufTy
  | .hbm, ⟨0, _⟩ => ⟨S4, .i32⟩
  | .hbm, ⟨1, _⟩ => ⟨S1248x3584, .bf16⟩
  | .hbm, ⟨2, _⟩ => ⟨S3x3584x10752, .fp8e4m3⟩
  | .hbm, ⟨3, _⟩ => ⟨S3x10752, .f32⟩
  | .hbm, ⟨4, _⟩ => ⟨S3x10752, .f32⟩
  | .hbm, ⟨5, _⟩ => ⟨S3, .i32⟩
  | .hbm, ⟨6, _⟩ => ⟨S3, .i32⟩
  | .hbm, ⟨7, _⟩ => ⟨S3, .i32⟩
  | .hbm, ⟨8, _⟩ => ⟨S_, .i32⟩
  | .hbm, ⟨9, _⟩ => ⟨S3, .i32⟩
  | .hbm, ⟨10, _⟩ => ⟨S3, .i32⟩
  | .hbm, ⟨11, _⟩ => ⟨S_, .i32⟩
  | .hbm, ⟨12, _⟩ => ⟨S3, .i32⟩
  | .hbm, ⟨13, _⟩ => ⟨S3, .i32⟩
  | .hbm, ⟨14, _⟩ => ⟨S_, .i32⟩
  | .hbm, ⟨15, _⟩ => ⟨S_, .i32⟩
  | .hbm, ⟨16, _⟩ => ⟨S3, .i32⟩
  | .hbm, ⟨17, _⟩ => ⟨S3, .i32⟩
  | .hbm, ⟨18, _⟩ => ⟨S3, .i32⟩
  | .hbm, ⟨19, _⟩ => ⟨S_, .i32⟩
  | .hbm, ⟨20, _⟩ => ⟨S3, .i32⟩
  | .hbm, ⟨21, _⟩ => ⟨S3, .i1⟩
  | .hbm, ⟨22, _⟩ => ⟨S3, .i32⟩
  | .hbm, ⟨23, _⟩ => ⟨S3, .i32⟩
  | .hbm, ⟨24, _⟩ => ⟨S_, .i32⟩
  | .hbm, ⟨25, _⟩ => ⟨S3, .i32⟩
  | .hbm, ⟨26, _⟩ => ⟨S3, .i1⟩
  | .hbm, ⟨27, _⟩ => ⟨S3, .i1⟩
  | .hbm, ⟨28, _⟩ => ⟨S_, .i32⟩
  | .hbm, ⟨29, _⟩ => ⟨S3, .i32⟩
  | .hbm, ⟨30, _⟩ => ⟨S3, .i32⟩
  | .hbm, ⟨31, _⟩ => ⟨S3, .i32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S_, .i32⟩
  | .hbm, ⟨36, _⟩ => ⟨S3, .i32⟩
  | .hbm, ⟨37, _⟩ => ⟨S4, .i32⟩
  | .hbm, ⟨38, _⟩ => ⟨S13, .i32⟩
  | .hbm, ⟨39, _⟩ => ⟨S13x1, .i32⟩
  | .hbm, ⟨40, _⟩ => ⟨S3, .i32⟩
  | .hbm, ⟨41, _⟩ => ⟨S1x3, .i32⟩
  | .hbm, ⟨42, _⟩ => ⟨S13x3, .i32⟩
  | .hbm, ⟨43, _⟩ => ⟨S13x3, .i32⟩
  | .hbm, ⟨44, _⟩ => ⟨S13x3, .i1⟩
  | .hbm, ⟨45, _⟩ => ⟨S13x3, .i32⟩
  | .hbm, ⟨46, _⟩ => ⟨S_, .i32⟩
  | .hbm, ⟨47, _⟩ => ⟨S13, .i32⟩
  | .hbm, ⟨48, _⟩ => ⟨S_, .i32⟩
  | .hbm, ⟨49, _⟩ => ⟨S13, .i32⟩
  | .hbm, ⟨50, _⟩ => ⟨S13, .i1⟩
  | .hbm, ⟨51, _⟩ => ⟨S_, .i32⟩
  | .hbm, ⟨52, _⟩ => ⟨S_, .i32⟩
  | .hbm, ⟨53, _⟩ => ⟨S13, .i32⟩
  | .hbm, ⟨54, _⟩ => ⟨S13, .i32⟩
  | .hbm, ⟨55, _⟩ => ⟨S3x1x10752, .f32⟩
  | .hbm, ⟨56, _⟩ => ⟨S3x1x10752, .f32⟩
  | .hbm, ⟨57, _⟩ => ⟨S1248x3584, .f32⟩
  | .hbm, ⟨58, _⟩ => ⟨S1248x3584, .bf16⟩
  | .hbm, ⟨59, _⟩ => ⟨S1248x3584, .bf16⟩
  | .local _ .vmem, ⟨0, _⟩ => ⟨S1248x3584, .bf16⟩
  | .local _ .vmem, ⟨1, _⟩ => ⟨S3x3584x512, .fp8e4m3⟩
  | .local _ .vmem, ⟨2, _⟩ => ⟨S3x3584x512, .fp8e4m3⟩
  | .local _ .vmem, ⟨3, _⟩ => ⟨S3x1x512, .f32⟩
  | .local _ .vmem, ⟨4, _⟩ => ⟨S3x1x512, .f32⟩
  | .local _ .vmem, ⟨5, _⟩ => ⟨S3x1x512, .f32⟩
  | .local _ .vmem, ⟨6, _⟩ => ⟨S3x1x512, .f32⟩
  | .local _ .vmem, ⟨7, _⟩ => ⟨S1248x512, .f32⟩
  | .local _ .vmem, ⟨8, _⟩ => ⟨S1248x512, .f32⟩
  | .local _ .vmem, ⟨9, _⟩ => ⟨S1248x512, .bf16⟩
  | .local _ .vmem, ⟨10, _⟩ => ⟨S1248x512, .bf16⟩
  | .local _ .vmem, ⟨11, _⟩ => ⟨S1248x512, .bf16⟩
  | .local _ .vmem, ⟨12, _⟩ => ⟨S1248x512, .bf16⟩
  | .local _ .smem, ⟨0, _⟩ => ⟨S13, .i32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_c : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_0 : Ref sig .tc := ⟨.hbm, 28, rfl⟩
abbrev main_call1_v12 : Ref sig .tc := ⟨.hbm, 29, rfl⟩
abbrev main_call1_v13 : Ref sig .tc := ⟨.hbm, 30, rfl⟩
abbrev main_v5 : Ref sig .tc := ⟨.hbm, 31, rfl⟩
abbrev main_c_2 : Ref sig .tc := ⟨.hbm, 32, rfl⟩
abbrev main_v6 : Ref sig .tc := ⟨.hbm, 33, rfl⟩
abbrev main_call2_call0_c : Ref sig .tc := ⟨.hbm, 34, rfl⟩
abbrev main_call2_call0_v0 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_c_4 : Ref sig .tc := ⟨.hbm, 48, rfl⟩
abbrev main_v18 : Ref sig .tc := ⟨.hbm, 49, rfl⟩
abbrev main_v19 : Ref sig .tc := ⟨.hbm, 50, rfl⟩
abbrev main_c_5 : Ref sig .tc := ⟨.hbm, 51, rfl⟩
abbrev main_call3_v0 : Ref sig .tc := ⟨.hbm, 52, rfl⟩
abbrev main_call3_v1 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23_0 : Ref sig .tc := ⟨.hbm, 57, rfl⟩
abbrev main_v23_1 : Ref sig .tc := ⟨.hbm, 58, rfl⟩
abbrev main_v23_2 : Ref sig .tc := ⟨.hbm, 59, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![21], ![false]⟩

def k0_cond1 (i : grid0.Coords) : BitVec 1 :=
  let arg0 : BitVec 32 := BitVec.ofNat 32 (i 0).val
  let c7_i32 : BitVec 32 := 7#32
  let v0 : BitVec 1 := Scalar.cmpi .slt arg0 c7_i32
  let v1 : BitVec 32 := Scalar.extui v0
  let c0_i32 : BitVec 32 := 0#32
  let v2 : BitVec 1 := Scalar.cmpi .ne v1 c0_i32
  v2

def k0_off1 (v11 : BitVec 32) : Fin 3 → Nat :=
  let c0_i32_56 : BitVec 32 := 0#32
  let v102 : BitVec 32 := Scalar.maxsi v11 c0_i32_56
  let v104 : Index := Scalar.indexCast v102
  let c0_59 : Index := 0#32
  let c0_60 : Index := 0#32
  ![v104.toNat, 0, 0]
def k0_cond2 (v11 : BitVec 32) : BitVec 1 :=
  let c0_i32_4 : BitVec 32 := 0#32
  let v12 : BitVec 1 := Scalar.cmpi .sge v11 c0_i32_4
  let v13 : BitVec 32 := Scalar.extui v12
  let c0_i32_5 : BitVec 32 := 0#32
  let v14 : BitVec 1 := Scalar.cmpi .ne v13 c0_i32_5
  v14

def k0_off2 (v11 : BitVec 32) : Fin 3 → Nat :=
  let c0_i32_56 : BitVec 32 := 0#32
  let v102 : BitVec 32 := Scalar.maxsi v11 c0_i32_56
  let v108 : Index := Scalar.indexCast v102
  let c0_61 : Index := 0#32
  let c0_62 : Index := 0#32
  ![v108.toNat, 0, 0]

def k0_chk1 (i : grid0.Coords) (v11 : BitVec 32) : Prop :=
  (∀ (k0_h1 : k0_cond1 i = 1#1), ∀ (k0_h2 : k0_cond2 v11 = 1#1), ∀ a, (k0_off1 v11) a + S1x3584x512.size a ≤ S3x3584x512.size a) ∧
  (∀ (k0_h1 : k0_cond1 i = 1#1), ∀ (k0_h2 : k0_cond2 v11 = 1#1), ∀ a, (k0_off2 v11) a + S1x1x512.size a ≤ S3x1x512.size a)
theorem k0_off1_inb : ∀ (i : grid0.Coords) (v11 : BitVec 32) (k0_hw1 : k0_chk1 i v11), ∀ (k0_h1 : k0_cond1 i = 1#1), ∀ (k0_h2 : k0_cond2 v11 = 1#1), ∀ a, (k0_off1 v11) a + S1x3584x512.size a ≤ S3x3584x512.size a := fun i v11 k0_hw1 k0_h1 k0_h2 => k0_hw1.1 k0_h1 k0_h2
theorem k0_off2_inb : ∀ (i : grid0.Coords) (v11 : BitVec 32) (k0_hw1 : k0_chk1 i v11), ∀ (k0_h1 : k0_cond1 i = 1#1), ∀ (k0_h2 : k0_cond2 v11 = 1#1), ∀ a, (k0_off2 v11) a + S1x1x512.size a ≤ S3x1x512.size a := fun i v11 k0_hw1 k0_h1 k0_h2 => k0_hw1.2 k0_h1 k0_h2

def k0_off3 (v18 : BitVec 32) : Fin 3 → Nat :=
  let c0_i32_56 : BitVec 32 := 0#32
  let v102 : BitVec 32 := Scalar.maxsi v18 c0_i32_56
  let v104 : Index := Scalar.indexCast v102
  let c0_58 : Index := 0#32
  let c0_59 : Index := 0#32
  ![v104.toNat, 0, 0]
def k0_cond4 (v18 : BitVec 32) : BitVec 1 :=
  let c0_i32_8 : BitVec 32 := 0#32
  let v19 : BitVec 1 := Scalar.cmpi .sge v18 c0_i32_8
  let v20 : BitVec 32 := Scalar.extui v19
  let c0_i32_9 : BitVec 32 := 0#32
  let v21 : BitVec 1 := Scalar.cmpi .ne v20 c0_i32_9
  v21

def k0_off4 (v18 : BitVec 32) : Fin 3 → Nat :=
  let c0_i32_56 : BitVec 32 := 0#32
  let v102 : BitVec 32 := Scalar.maxsi v18 c0_i32_56
  let v108 : Index := Scalar.indexCast v102
  let c0_60 : Index := 0#32
  let c0_61 : Index := 0#32
  ![v108.toNat, 0, 0]

def k0_chk2 (i : grid0.Coords) (v18 : BitVec 32) : Prop :=
  (∀ (k0_h1 : k0_cond1 i = 1#1), ∀ (k0_h4 : k0_cond4 v18 = 1#1), ∀ a, (k0_off3 v18) a + S1x3584x512.size a ≤ S3x3584x512.size a) ∧
  (∀ (k0_h1 : k0_cond1 i = 1#1), ∀ (k0_h4 : k0_cond4 v18 = 1#1), ∀ a, (k0_off4 v18) a + S1x1x512.size a ≤ S3x1x512.size a)
theorem k0_off3_inb : ∀ (i : grid0.Coords) (v18 : BitVec 32) (k0_hw2 : k0_chk2 i v18), ∀ (k0_h1 : k0_cond1 i = 1#1), ∀ (k0_h4 : k0_cond4 v18 = 1#1), ∀ a, (k0_off3 v18) a + S1x3584x512.size a ≤ S3x3584x512.size a := fun i v18 k0_hw2 k0_h1 k0_h4 => k0_hw2.1 k0_h1 k0_h4
theorem k0_off4_inb : ∀ (i : grid0.Coords) (v18 : BitVec 32) (k0_hw2 : k0_chk2 i v18), ∀ (k0_h1 : k0_cond1 i = 1#1), ∀ (k0_h4 : k0_cond4 v18 = 1#1), ∀ a, (k0_off4 v18) a + S1x1x512.size a ≤ S3x1x512.size a := fun i v18 k0_hw2 k0_h1 k0_h4 => k0_hw2.2 k0_h1 k0_h4

def k0_off5 (v25 : BitVec 32) : Fin 3 → Nat :=
  let c0_i32_56 : BitVec 32 := 0#32
  let v102 : BitVec 32 := Scalar.maxsi v25 c0_i32_56
  let v104 : Index := Scalar.indexCast v102
  let c0_58 : Index := 0#32
  let c0_59 : Index := 0#32
  ![v104.toNat, 0, 0]
def k0_cond6 (v25 : BitVec 32) : BitVec 1 :=
  let c0_i32_12 : BitVec 32 := 0#32
  let v26 : BitVec 1 := Scalar.cmpi .sge v25 c0_i32_12
  let v27 : BitVec 32 := Scalar.extui v26
  let c0_i32_13 : BitVec 32 := 0#32
  let v28 : BitVec 1 := Scalar.cmpi .ne v27 c0_i32_13
  v28

def k0_off6 (v25 : BitVec 32) : Fin 3 → Nat :=
  let c0_i32_56 : BitVec 32 := 0#32
  let v102 : BitVec 32 := Scalar.maxsi v25 c0_i32_56
  let v108 : Index := Scalar.indexCast v102
  let c0_60 : Index := 0#32
  let c0_61 : Index := 0#32
  ![v108.toNat, 0, 0]

def k0_chk3 (i : grid0.Coords) (v25 : BitVec 32) : Prop :=
  (∀ (k0_h1 : k0_cond1 i = 1#1), ∀ (k0_h6 : k0_cond6 v25 = 1#1), ∀ a, (k0_off5 v25) a + S1x3584x512.size a ≤ S3x3584x512.size a) ∧
  (∀ (k0_h1 : k0_cond1 i = 1#1), ∀ (k0_h6 : k0_cond6 v25 = 1#1), ∀ a, (k0_off6 v25) a + S1x1x512.size a ≤ S3x1x512.size a)
theorem k0_off5_inb : ∀ (i : grid0.Coords) (v25 : BitVec 32) (k0_hw3 : k0_chk3 i v25), ∀ (k0_h1 : k0_cond1 i = 1#1), ∀ (k0_h6 : k0_cond6 v25 = 1#1), ∀ a, (k0_off5 v25) a + S1x3584x512.size a ≤ S3x3584x512.size a := fun i v25 k0_hw3 k0_h1 k0_h6 => k0_hw3.1 k0_h1 k0_h6
theorem k0_off6_inb : ∀ (i : grid0.Coords) (v25 : BitVec 32) (k0_hw3 : k0_chk3 i v25), ∀ (k0_h1 : k0_cond1 i = 1#1), ∀ (k0_h6 : k0_cond6 v25 = 1#1), ∀ a, (k0_off6 v25) a + S1x1x512.size a ≤ S3x1x512.size a := fun i v25 k0_hw3 k0_h1 k0_h6 => k0_hw3.2 k0_h1 k0_h6

def k0_off7 (v32 : BitVec 32) : Fin 3 → Nat :=
  let c0_i32_56 : BitVec 32 := 0#32
  let v102 : BitVec 32 := Scalar.maxsi v32 c0_i32_56
  let v104 : Index := Scalar.indexCast v102
  let c0_58 : Index := 0#32
  let c0_59 : Index := 0#32
  ![v104.toNat, 0, 0]
def k0_cond8 (v32 : BitVec 32) : BitVec 1 :=
  let c0_i32_16 : BitVec 32 := 0#32
  let v33 : BitVec 1 := Scalar.cmpi .sge v32 c0_i32_16
  let v34 : BitVec 32 := Scalar.extui v33
  let c0_i32_17 : BitVec 32 := 0#32
  let v35 : BitVec 1 := Scalar.cmpi .ne v34 c0_i32_17
  v35

def k0_off8 (v32 : BitVec 32) : Fin 3 → Nat :=
  let c0_i32_56 : BitVec 32 := 0#32
  let v102 : BitVec 32 := Scalar.maxsi v32 c0_i32_56
  let v108 : Index := Scalar.indexCast v102
  let c0_60 : Index := 0#32
  let c0_61 : Index := 0#32
  ![v108.toNat, 0, 0]

def k0_chk4 (i : grid0.Coords) (v32 : BitVec 32) : Prop :=
  (∀ (k0_h1 : k0_cond1 i = 1#1), ∀ (k0_h8 : k0_cond8 v32 = 1#1), ∀ a, (k0_off7 v32) a + S1x3584x512.size a ≤ S3x3584x512.size a) ∧
  (∀ (k0_h1 : k0_cond1 i = 1#1), ∀ (k0_h8 : k0_cond8 v32 = 1#1), ∀ a, (k0_off8 v32) a + S1x1x512.size a ≤ S3x1x512.size a)
theorem k0_off7_inb : ∀ (i : grid0.Coords) (v32 : BitVec 32) (k0_hw4 : k0_chk4 i v32), ∀ (k0_h1 : k0_cond1 i = 1#1), ∀ (k0_h8 : k0_cond8 v32 = 1#1), ∀ a, (k0_off7 v32) a + S1x3584x512.size a ≤ S3x3584x512.size a := fun i v32 k0_hw4 k0_h1 k0_h8 => k0_hw4.1 k0_h1 k0_h8
theorem k0_off8_inb : ∀ (i : grid0.Coords) (v32 : BitVec 32) (k0_hw4 : k0_chk4 i v32), ∀ (k0_h1 : k0_cond1 i = 1#1), ∀ (k0_h8 : k0_cond8 v32 = 1#1), ∀ a, (k0_off8 v32) a + S1x1x512.size a ≤ S3x1x512.size a := fun i v32 k0_hw4 k0_h1 k0_h8 => k0_hw4.2 k0_h1 k0_h8

def k0_off9 (v39 : BitVec 32) : Fin 3 → Nat :=
  let c0_i32_56 : BitVec 32 := 0#32
  let v102 : BitVec 32 := Scalar.maxsi v39 c0_i32_56
  let v104 : Index := Scalar.indexCast v102
  let c0_58 : Index := 0#32
  let c0_59 : Index := 0#32
  ![v104.toNat, 0, 0]
def k0_cond10 (v39 : BitVec 32) : BitVec 1 :=
  let c0_i32_20 : BitVec 32 := 0#32
  let v40 : BitVec 1 := Scalar.cmpi .sge v39 c0_i32_20
  let v41 : BitVec 32 := Scalar.extui v40
  let c0_i32_21 : BitVec 32 := 0#32
  let v42 : BitVec 1 := Scalar.cmpi .ne v41 c0_i32_21
  v42

def k0_off10 (v39 : BitVec 32) : Fin 3 → Nat :=
  let c0_i32_56 : BitVec 32 := 0#32
  let v102 : BitVec 32 := Scalar.maxsi v39 c0_i32_56
  let v108 : Index := Scalar.indexCast v102
  let c0_60 : Index := 0#32
  let c0_61 : Index := 0#32
  ![v108.toNat, 0, 0]

def k0_chk5 (i : grid0.Coords) (v39 : BitVec 32) : Prop :=
  (∀ (k0_h1 : k0_cond1 i = 1#1), ∀ (k0_h10 : k0_cond10 v39 = 1#1), ∀ a, (k0_off9 v39) a + S1x3584x512.size a ≤ S3x3584x512.size a) ∧
  (∀ (k0_h1 : k0_cond1 i = 1#1), ∀ (k0_h10 : k0_cond10 v39 = 1#1), ∀ a, (k0_off10 v39) a + S1x1x512.size a ≤ S3x1x512.size a)
theorem k0_off9_inb : ∀ (i : grid0.Coords) (v39 : BitVec 32) (k0_hw5 : k0_chk5 i v39), ∀ (k0_h1 : k0_cond1 i = 1#1), ∀ (k0_h10 : k0_cond10 v39 = 1#1), ∀ a, (k0_off9 v39) a + S1x3584x512.size a ≤ S3x3584x512.size a := fun i v39 k0_hw5 k0_h1 k0_h10 => k0_hw5.1 k0_h1 k0_h10
theorem k0_off10_inb : ∀ (i : grid0.Coords) (v39 : BitVec 32) (k0_hw5 : k0_chk5 i v39), ∀ (k0_h1 : k0_cond1 i = 1#1), ∀ (k0_h10 : k0_cond10 v39 = 1#1), ∀ a, (k0_off10 v39) a + S1x1x512.size a ≤ S3x1x512.size a := fun i v39 k0_hw5 k0_h1 k0_h10 => k0_hw5.2 k0_h1 k0_h10

def k0_off11 (v46 : BitVec 32) : Fin 3 → Nat :=
  let c0_i32_56 : BitVec 32 := 0#32
  let v102 : BitVec 32 := Scalar.maxsi v46 c0_i32_56
  let v104 : Index := Scalar.indexCast v102
  let c0_58 : Index := 0#32
  let c0_59 : Index := 0#32
  ![v104.toNat, 0, 0]
def k0_cond12 (v46 : BitVec 32) : BitVec 1 :=
  let c0_i32_24 : BitVec 32 := 0#32
  let v47 : BitVec 1 := Scalar.cmpi .sge v46 c0_i32_24
  let v48 : BitVec 32 := Scalar.extui v47
  let c0_i32_25 : BitVec 32 := 0#32
  let v49 : BitVec 1 := Scalar.cmpi .ne v48 c0_i32_25
  v49

def k0_off12 (v46 : BitVec 32) : Fin 3 → Nat :=
  let c0_i32_56 : BitVec 32 := 0#32
  let v102 : BitVec 32 := Scalar.maxsi v46 c0_i32_56
  let v108 : Index := Scalar.indexCast v102
  let c0_60 : Index := 0#32
  let c0_61 : Index := 0#32
  ![v108.toNat, 0, 0]

def k0_chk6 (i : grid0.Coords) (v46 : BitVec 32) : Prop :=
  (∀ (k0_h1 : k0_cond1 i = 1#1), ∀ (k0_h12 : k0_cond12 v46 = 1#1), ∀ a, (k0_off11 v46) a + S1x3584x512.size a ≤ S3x3584x512.size a) ∧
  (∀ (k0_h1 : k0_cond1 i = 1#1), ∀ (k0_h12 : k0_cond12 v46 = 1#1), ∀ a, (k0_off12 v46) a + S1x1x512.size a ≤ S3x1x512.size a)
theorem k0_off11_inb : ∀ (i : grid0.Coords) (v46 : BitVec 32) (k0_hw6 : k0_chk6 i v46), ∀ (k0_h1 : k0_cond1 i = 1#1), ∀ (k0_h12 : k0_cond12 v46 = 1#1), ∀ a, (k0_off11 v46) a + S1x3584x512.size a ≤ S3x3584x512.size a := fun i v46 k0_hw6 k0_h1 k0_h12 => k0_hw6.1 k0_h1 k0_h12
theorem k0_off12_inb : ∀ (i : grid0.Coords) (v46 : BitVec 32) (k0_hw6 : k0_chk6 i v46), ∀ (k0_h1 : k0_cond1 i = 1#1), ∀ (k0_h12 : k0_cond12 v46 = 1#1), ∀ a, (k0_off12 v46) a + S1x1x512.size a ≤ S3x1x512.size a := fun i v46 k0_hw6 k0_h1 k0_h12 => k0_hw6.2 k0_h1 k0_h12

def k0_off13 (v53 : BitVec 32) : Fin 3 → Nat :=
  let c0_i32_56 : BitVec 32 := 0#32
  let v102 : BitVec 32 := Scalar.maxsi v53 c0_i32_56
  let v104 : Index := Scalar.indexCast v102
  let c0_58 : Index := 0#32
  let c0_59 : Index := 0#32
  ![v104.toNat, 0, 0]
def k0_cond14 (v53 : BitVec 32) : BitVec 1 :=
  let c0_i32_28 : BitVec 32 := 0#32
  let v54 : BitVec 1 := Scalar.cmpi .sge v53 c0_i32_28
  let v55 : BitVec 32 := Scalar.extui v54
  let c0_i32_29 : BitVec 32 := 0#32
  let v56 : BitVec 1 := Scalar.cmpi .ne v55 c0_i32_29
  v56

def k0_off14 (v53 : BitVec 32) : Fin 3 → Nat :=
  let c0_i32_56 : BitVec 32 := 0#32
  let v102 : BitVec 32 := Scalar.maxsi v53 c0_i32_56
  let v108 : Index := Scalar.indexCast v102
  let c0_60 : Index := 0#32
  let c0_61 : Index := 0#32
  ![v108.toNat, 0, 0]

def k0_chk7 (i : grid0.Coords) (v53 : BitVec 32) : Prop :=
  (∀ (k0_h1 : k0_cond1 i = 1#1), ∀ (k0_h14 : k0_cond14 v53 = 1#1), ∀ a, (k0_off13 v53) a + S1x3584x512.size a ≤ S3x3584x512.size a) ∧
  (∀ (k0_h1 : k0_cond1 i = 1#1), ∀ (k0_h14 : k0_cond14 v53 = 1#1), ∀ a, (k0_off14 v53) a + S1x1x512.size a ≤ S3x1x512.size a)
theorem k0_off13_inb : ∀ (i : grid0.Coords) (v53 : BitVec 32) (k0_hw7 : k0_chk7 i v53), ∀ (k0_h1 : k0_cond1 i = 1#1), ∀ (k0_h14 : k0_cond14 v53 = 1#1), ∀ a, (k0_off13 v53) a + S1x3584x512.size a ≤ S3x3584x512.size a := fun i v53 k0_hw7 k0_h1 k0_h14 => k0_hw7.1 k0_h1 k0_h14
theorem k0_off14_inb : ∀ (i : grid0.Coords) (v53 : BitVec 32) (k0_hw7 : k0_chk7 i v53), ∀ (k0_h1 : k0_cond1 i = 1#1), ∀ (k0_h14 : k0_cond14 v53 = 1#1), ∀ a, (k0_off14 v53) a + S1x1x512.size a ≤ S3x1x512.size a := fun i v53 k0_hw7 k0_h1 k0_h14 => k0_hw7.2 k0_h1 k0_h14

def k0_off15 (v60 : BitVec 32) : Fin 3 → Nat :=
  let c0_i32_56 : BitVec 32 := 0#32
  let v102 : BitVec 32 := Scalar.maxsi v60 c0_i32_56
  let v104 : Index := Scalar.indexCast v102
  let c0_58 : Index := 0#32
  let c0_59 : Index := 0#32
  ![v104.toNat, 0, 0]
def k0_cond16 (v60 : BitVec 32) : BitVec 1 :=
  let c0_i32_32 : BitVec 32 := 0#32
  let v61 : BitVec 1 := Scalar.cmpi .sge v60 c0_i32_32
  let v62 : BitVec 32 := Scalar.extui v61
  let c0_i32_33 : BitVec 32 := 0#32
  let v63 : BitVec 1 := Scalar.cmpi .ne v62 c0_i32_33
  v63

def k0_off16 (v60 : BitVec 32) : Fin 3 → Nat :=
  let c0_i32_56 : BitVec 32 := 0#32
  let v102 : BitVec 32 := Scalar.maxsi v60 c0_i32_56
  let v108 : Index := Scalar.indexCast v102
  let c0_60 : Index := 0#32
  let c0_61 : Index := 0#32
  ![v108.toNat, 0, 0]

def k0_chk8 (i : grid0.Coords) (v60 : BitVec 32) : Prop :=
  (∀ (k0_h1 : k0_cond1 i = 1#1), ∀ (k0_h16 : k0_cond16 v60 = 1#1), ∀ a, (k0_off15 v60) a + S1x3584x512.size a ≤ S3x3584x512.size a) ∧
  (∀ (k0_h1 : k0_cond1 i = 1#1), ∀ (k0_h16 : k0_cond16 v60 = 1#1), ∀ a, (k0_off16 v60) a + S1x1x512.size a ≤ S3x1x512.size a)
theorem k0_off15_inb : ∀ (i : grid0.Coords) (v60 : BitVec 32) (k0_hw8 : k0_chk8 i v60), ∀ (k0_h1 : k0_cond1 i = 1#1), ∀ (k0_h16 : k0_cond16 v60 = 1#1), ∀ a, (k0_off15 v60) a + S1x3584x512.size a ≤ S3x3584x512.size a := fun i v60 k0_hw8 k0_h1 k0_h16 => k0_hw8.1 k0_h1 k0_h16
theorem k0_off16_inb : ∀ (i : grid0.Coords) (v60 : BitVec 32) (k0_hw8 : k0_chk8 i v60), ∀ (k0_h1 : k0_cond1 i = 1#1), ∀ (k0_h16 : k0_cond16 v60 = 1#1), ∀ a, (k0_off16 v60) a + S1x1x512.size a ≤ S3x1x512.size a := fun i v60 k0_hw8 k0_h1 k0_h16 => k0_hw8.2 k0_h1 k0_h16

def k0_off17 (v67 : BitVec 32) : Fin 3 → Nat :=
  let c0_i32_56 : BitVec 32 := 0#32
  let v102 : BitVec 32 := Scalar.maxsi v67 c0_i32_56
  let v104 : Index := Scalar.indexCast v102
  let c0_58 : Index := 0#32
  let c0_59 : Index := 0#32
  ![v104.toNat, 0, 0]
def k0_cond18 (v67 : BitVec 32) : BitVec 1 :=
  let c0_i32_36 : BitVec 32 := 0#32
  let v68 : BitVec 1 := Scalar.cmpi .sge v67 c0_i32_36
  let v69 : BitVec 32 := Scalar.extui v68
  let c0_i32_37 : BitVec 32 := 0#32
  let v70 : BitVec 1 := Scalar.cmpi .ne v69 c0_i32_37
  v70

def k0_off18 (v67 : BitVec 32) : Fin 3 → Nat :=
  let c0_i32_56 : BitVec 32 := 0#32
  let v102 : BitVec 32 := Scalar.maxsi v67 c0_i32_56
  let v108 : Index := Scalar.indexCast v102
  let c0_60 : Index := 0#32
  let c0_61 : Index := 0#32
  ![v108.toNat, 0, 0]

def k0_chk9 (i : grid0.Coords) (v67 : BitVec 32) : Prop :=
  (∀ (k0_h1 : k0_cond1 i = 1#1), ∀ (k0_h18 : k0_cond18 v67 = 1#1), ∀ a, (k0_off17 v67) a + S1x3584x512.size a ≤ S3x3584x512.size a) ∧
  (∀ (k0_h1 : k0_cond1 i = 1#1), ∀ (k0_h18 : k0_cond18 v67 = 1#1), ∀ a, (k0_off18 v67) a + S1x1x512.size a ≤ S3x1x512.size a)
theorem k0_off17_inb : ∀ (i : grid0.Coords) (v67 : BitVec 32) (k0_hw9 : k0_chk9 i v67), ∀ (k0_h1 : k0_cond1 i = 1#1), ∀ (k0_h18 : k0_cond18 v67 = 1#1), ∀ a, (k0_off17 v67) a + S1x3584x512.size a ≤ S3x3584x512.size a := fun i v67 k0_hw9 k0_h1 k0_h18 => k0_hw9.1 k0_h1 k0_h18
theorem k0_off18_inb : ∀ (i : grid0.Coords) (v67 : BitVec 32) (k0_hw9 : k0_chk9 i v67), ∀ (k0_h1 : k0_cond1 i = 1#1), ∀ (k0_h18 : k0_cond18 v67 = 1#1), ∀ a, (k0_off18 v67) a + S1x1x512.size a ≤ S3x1x512.size a := fun i v67 k0_hw9 k0_h1 k0_h18 => k0_hw9.2 k0_h1 k0_h18

def k0_off19 (v74 : BitVec 32) : Fin 3 → Nat :=
  let c0_i32_56 : BitVec 32 := 0#32
  let v102 : BitVec 32 := Scalar.maxsi v74 c0_i32_56
  let v104 : Index := Scalar.indexCast v102
  let c0_58 : Index := 0#32
  let c0_59 : Index := 0#32
  ![v104.toNat, 0, 0]
def k0_cond20 (v74 : BitVec 32) : BitVec 1 :=
  let c0_i32_40 : BitVec 32 := 0#32
  let v75 : BitVec 1 := Scalar.cmpi .sge v74 c0_i32_40
  let v76 : BitVec 32 := Scalar.extui v75
  let c0_i32_41 : BitVec 32 := 0#32
  let v77 : BitVec 1 := Scalar.cmpi .ne v76 c0_i32_41
  v77

def k0_off20 (v74 : BitVec 32) : Fin 3 → Nat :=
  let c0_i32_56 : BitVec 32 := 0#32
  let v102 : BitVec 32 := Scalar.maxsi v74 c0_i32_56
  let v108 : Index := Scalar.indexCast v102
  let c0_60 : Index := 0#32
  let c0_61 : Index := 0#32
  ![v108.toNat, 0, 0]

def k0_chk10 (i : grid0.Coords) (v74 : BitVec 32) : Prop :=
  (∀ (k0_h1 : k0_cond1 i = 1#1), ∀ (k0_h20 : k0_cond20 v74 = 1#1), ∀ a, (k0_off19 v74) a + S1x3584x512.size a ≤ S3x3584x512.size a) ∧
  (∀ (k0_h1 : k0_cond1 i = 1#1), ∀ (k0_h20 : k0_cond20 v74 = 1#1), ∀ a, (k0_off20 v74) a + S1x1x512.size a ≤ S3x1x512.size a)
theorem k0_off19_inb : ∀ (i : grid0.Coords) (v74 : BitVec 32) (k0_hw10 : k0_chk10 i v74), ∀ (k0_h1 : k0_cond1 i = 1#1), ∀ (k0_h20 : k0_cond20 v74 = 1#1), ∀ a, (k0_off19 v74) a + S1x3584x512.size a ≤ S3x3584x512.size a := fun i v74 k0_hw10 k0_h1 k0_h20 => k0_hw10.1 k0_h1 k0_h20
theorem k0_off20_inb : ∀ (i : grid0.Coords) (v74 : BitVec 32) (k0_hw10 : k0_chk10 i v74), ∀ (k0_h1 : k0_cond1 i = 1#1), ∀ (k0_h20 : k0_cond20 v74 = 1#1), ∀ a, (k0_off20 v74) a + S1x1x512.size a ≤ S3x1x512.size a := fun i v74 k0_hw10 k0_h1 k0_h20 => k0_hw10.2 k0_h1 k0_h20

def k0_off21 (v81 : BitVec 32) : Fin 3 → Nat :=
  let c0_i32_56 : BitVec 32 := 0#32
  let v102 : BitVec 32 := Scalar.maxsi v81 c0_i32_56
  let v104 : Index := Scalar.indexCast v102
  let c0_58 : Index := 0#32
  let c0_59 : Index := 0#32
  ![v104.toNat, 0, 0]
def k0_cond22 (v81 : BitVec 32) : BitVec 1 :=
  let c0_i32_44 : BitVec 32 := 0#32
  let v82 : BitVec 1 := Scalar.cmpi .sge v81 c0_i32_44
  let v83 : BitVec 32 := Scalar.extui v82
  let c0_i32_45 : BitVec 32 := 0#32
  let v84 : BitVec 1 := Scalar.cmpi .ne v83 c0_i32_45
  v84

def k0_off22 (v81 : BitVec 32) : Fin 3 → Nat :=
  let c0_i32_56 : BitVec 32 := 0#32
  let v102 : BitVec 32 := Scalar.maxsi v81 c0_i32_56
  let v108 : Index := Scalar.indexCast v102
  let c0_60 : Index := 0#32
  let c0_61 : Index := 0#32
  ![v108.toNat, 0, 0]

def k0_chk11 (i : grid0.Coords) (v81 : BitVec 32) : Prop :=
  (∀ (k0_h1 : k0_cond1 i = 1#1), ∀ (k0_h22 : k0_cond22 v81 = 1#1), ∀ a, (k0_off21 v81) a + S1x3584x512.size a ≤ S3x3584x512.size a) ∧
  (∀ (k0_h1 : k0_cond1 i = 1#1), ∀ (k0_h22 : k0_cond22 v81 = 1#1), ∀ a, (k0_off22 v81) a + S1x1x512.size a ≤ S3x1x512.size a)
theorem k0_off21_inb : ∀ (i : grid0.Coords) (v81 : BitVec 32) (k0_hw11 : k0_chk11 i v81), ∀ (k0_h1 : k0_cond1 i = 1#1), ∀ (k0_h22 : k0_cond22 v81 = 1#1), ∀ a, (k0_off21 v81) a + S1x3584x512.size a ≤ S3x3584x512.size a := fun i v81 k0_hw11 k0_h1 k0_h22 => k0_hw11.1 k0_h1 k0_h22
theorem k0_off22_inb : ∀ (i : grid0.Coords) (v81 : BitVec 32) (k0_hw11 : k0_chk11 i v81), ∀ (k0_h1 : k0_cond1 i = 1#1), ∀ (k0_h22 : k0_cond22 v81 = 1#1), ∀ a, (k0_off22 v81) a + S1x1x512.size a ≤ S3x1x512.size a := fun i v81 k0_hw11 k0_h1 k0_h22 => k0_hw11.2 k0_h1 k0_h22

def k0_off23 (v88 : BitVec 32) : Fin 3 → Nat :=
  let c0_i32_56 : BitVec 32 := 0#32
  let v102 : BitVec 32 := Scalar.maxsi v88 c0_i32_56
  let v104 : Index := Scalar.indexCast v102
  let c0_58 : Index := 0#32
  let c0_59 : Index := 0#32
  ![v104.toNat, 0, 0]
def k0_cond24 (v88 : BitVec 32) : BitVec 1 :=
  let c0_i32_48 : BitVec 32 := 0#32
  let v89 : BitVec 1 := Scalar.cmpi .sge v88 c0_i32_48
  let v90 : BitVec 32 := Scalar.extui v89
  let c0_i32_49 : BitVec 32 := 0#32
  let v91 : BitVec 1 := Scalar.cmpi .ne v90 c0_i32_49
  v91

def k0_off24 (v88 : BitVec 32) : Fin 3 → Nat :=
  let c0_i32_56 : BitVec 32 := 0#32
  let v102 : BitVec 32 := Scalar.maxsi v88 c0_i32_56
  let v108 : Index := Scalar.indexCast v102
  let c0_60 : Index := 0#32
  let c0_61 : Index := 0#32
  ![v108.toNat, 0, 0]

def k0_chk12 (i : grid0.Coords) (v88 : BitVec 32) : Prop :=
  (∀ (k0_h1 : k0_cond1 i = 1#1), ∀ (k0_h24 : k0_cond24 v88 = 1#1), ∀ a, (k0_off23 v88) a + S1x3584x512.size a ≤ S3x3584x512.size a) ∧
  (∀ (k0_h1 : k0_cond1 i = 1#1), ∀ (k0_h24 : k0_cond24 v88 = 1#1), ∀ a, (k0_off24 v88) a + S1x1x512.size a ≤ S3x1x512.size a)
theorem k0_off23_inb : ∀ (i : grid0.Coords) (v88 : BitVec 32) (k0_hw12 : k0_chk12 i v88), ∀ (k0_h1 : k0_cond1 i = 1#1), ∀ (k0_h24 : k0_cond24 v88 = 1#1), ∀ a, (k0_off23 v88) a + S1x3584x512.size a ≤ S3x3584x512.size a := fun i v88 k0_hw12 k0_h1 k0_h24 => k0_hw12.1 k0_h1 k0_h24
theorem k0_off24_inb : ∀ (i : grid0.Coords) (v88 : BitVec 32) (k0_hw12 : k0_chk12 i v88), ∀ (k0_h1 : k0_cond1 i = 1#1), ∀ (k0_h24 : k0_cond24 v88 = 1#1), ∀ a, (k0_off24 v88) a + S1x1x512.size a ≤ S3x1x512.size a := fun i v88 k0_hw12 k0_h1 k0_h24 => k0_hw12.2 k0_h1 k0_h24

def k0_off25 (v95 : BitVec 32) : Fin 3 → Nat :=
  let c0_i32_56 : BitVec 32 := 0#32
  let v102 : BitVec 32 := Scalar.maxsi v95 c0_i32_56
  let v104 : Index := Scalar.indexCast v102
  let c0_58 : Index := 0#32
  let c0_59 : Index := 0#32
  ![v104.toNat, 0, 0]
def k0_cond26 (v95 : BitVec 32) : BitVec 1 :=
  let c0_i32_52 : BitVec 32 := 0#32
  let v96 : BitVec 1 := Scalar.cmpi .sge v95 c0_i32_52
  let v97 : BitVec 32 := Scalar.extui v96
  let c0_i32_53 : BitVec 32 := 0#32
  let v98 : BitVec 1 := Scalar.cmpi .ne v97 c0_i32_53
  v98

def k0_off26 (v95 : BitVec 32) : Fin 3 → Nat :=
  let c0_i32_56 : BitVec 32 := 0#32
  let v102 : BitVec 32 := Scalar.maxsi v95 c0_i32_56
  let v108 : Index := Scalar.indexCast v102
  let c0_60 : Index := 0#32
  let c0_61 : Index := 0#32
  ![v108.toNat, 0, 0]

def k0_chk13 (i : grid0.Coords) (v95 : BitVec 32) : Prop :=
  (∀ (k0_h1 : k0_cond1 i = 1#1), ∀ (k0_h26 : k0_cond26 v95 = 1#1), ∀ a, (k0_off25 v95) a + S1x3584x512.size a ≤ S3x3584x512.size a) ∧
  (∀ (k0_h1 : k0_cond1 i = 1#1), ∀ (k0_h26 : k0_cond26 v95 = 1#1), ∀ a, (k0_off26 v95) a + S1x1x512.size a ≤ S3x1x512.size a)
theorem k0_off25_inb : ∀ (i : grid0.Coords) (v95 : BitVec 32) (k0_hw13 : k0_chk13 i v95), ∀ (k0_h1 : k0_cond1 i = 1#1), ∀ (k0_h26 : k0_cond26 v95 = 1#1), ∀ a, (k0_off25 v95) a + S1x3584x512.size a ≤ S3x3584x512.size a := fun i v95 k0_hw13 k0_h1 k0_h26 => k0_hw13.1 k0_h1 k0_h26
theorem k0_off26_inb : ∀ (i : grid0.Coords) (v95 : BitVec 32) (k0_hw13 : k0_chk13 i v95), ∀ (k0_h1 : k0_cond1 i = 1#1), ∀ (k0_h26 : k0_cond26 v95 = 1#1), ∀ a, (k0_off26 v95) a + S1x1x512.size a ≤ S3x1x512.size a := fun i v95 k0_hw13 k0_h1 k0_h26 => k0_hw13.2 k0_h1 k0_h26

def k0_cond28 (i : grid0.Coords) : BitVec 1 :=
  let arg0 : BitVec 32 := BitVec.ofNat 32 (i 0).val
  let c7_i32_0 : BitVec 32 := 7#32
  let v3 : BitVec 1 := Scalar.cmpi .sge arg0 c7_i32_0
  let c14_i32 : BitVec 32 := 14#32
  let v4 : BitVec 1 := Scalar.cmpi .slt arg0 c14_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off27 (v11 : BitVec 32) : Fin 3 → Nat :=
  let c0_i32_56 : BitVec 32 := 0#32
  let v102 : BitVec 32 := Scalar.maxsi v11 c0_i32_56
  let v104 : Index := Scalar.indexCast v102
  let c0_59 : Index := 0#32
  let c0_60 : Index := 0#32
  ![v104.toNat, 0, 0]
def k0_cond29 (v11 : BitVec 32) : BitVec 1 :=
  let c0_i32_4 : BitVec 32 := 0#32
  let v12 : BitVec 1 := Scalar.cmpi .sge v11 c0_i32_4
  let v13 : BitVec 32 := Scalar.extui v12
  let c0_i32_5 : BitVec 32 := 0#32
  let v14 : BitVec 1 := Scalar.cmpi .ne v13 c0_i32_5
  v14

def k0_off28 (v11 : BitVec 32) : Fin 3 → Nat :=
  let c0_i32_56 : BitVec 32 := 0#32
  let v102 : BitVec 32 := Scalar.maxsi v11 c0_i32_56
  let v108 : Index := Scalar.indexCast v102
  let c0_61 : Index := 0#32
  let c0_62 : Index := 0#32
  ![v108.toNat, 0, 0]

def k0_chk14 (i : grid0.Coords) (v11 : BitVec 32) : Prop :=
  (∀ (k0_h28 : k0_cond28 i = 1#1), ∀ (k0_h29 : k0_cond29 v11 = 1#1), ∀ a, (k0_off27 v11) a + S1x3584x512.size a ≤ S3x3584x512.size a) ∧
  (∀ (k0_h28 : k0_cond28 i = 1#1), ∀ (k0_h29 : k0_cond29 v11 = 1#1), ∀ a, (k0_off28 v11) a + S1x1x512.size a ≤ S3x1x512.size a)
theorem k0_off27_inb : ∀ (i : grid0.Coords) (v11 : BitVec 32) (k0_hw14 : k0_chk14 i v11), ∀ (k0_h28 : k0_cond28 i = 1#1), ∀ (k0_h29 : k0_cond29 v11 = 1#1), ∀ a, (k0_off27 v11) a + S1x3584x512.size a ≤ S3x3584x512.size a := fun i v11 k0_hw14 k0_h28 k0_h29 => k0_hw14.1 k0_h28 k0_h29
theorem k0_off28_inb : ∀ (i : grid0.Coords) (v11 : BitVec 32) (k0_hw14 : k0_chk14 i v11), ∀ (k0_h28 : k0_cond28 i = 1#1), ∀ (k0_h29 : k0_cond29 v11 = 1#1), ∀ a, (k0_off28 v11) a + S1x1x512.size a ≤ S3x1x512.size a := fun i v11 k0_hw14 k0_h28 k0_h29 => k0_hw14.2 k0_h28 k0_h29

def k0_off29 (v18 : BitVec 32) : Fin 3 → Nat :=
  let c0_i32_56 : BitVec 32 := 0#32
  let v102 : BitVec 32 := Scalar.maxsi v18 c0_i32_56
  let v104 : Index := Scalar.indexCast v102
  let c0_58 : Index := 0#32
  let c0_59 : Index := 0#32
  ![v104.toNat, 0, 0]
def k0_cond31 (v18 : BitVec 32) : BitVec 1 :=
  let c0_i32_8 : BitVec 32 := 0#32
  let v19 : BitVec 1 := Scalar.cmpi .sge v18 c0_i32_8
  let v20 : BitVec 32 := Scalar.extui v19
  let c0_i32_9 : BitVec 32 := 0#32
  let v21 : BitVec 1 := Scalar.cmpi .ne v20 c0_i32_9
  v21

def k0_off30 (v18 : BitVec 32) : Fin 3 → Nat :=
  let c0_i32_56 : BitVec 32 := 0#32
  let v102 : BitVec 32 := Scalar.maxsi v18 c0_i32_56
  let v108 : Index := Scalar.indexCast v102
  let c0_60 : Index := 0#32
  let c0_61 : Index := 0#32
  ![v108.toNat, 0, 0]

def k0_chk15 (i : grid0.Coords) (v18 : BitVec 32) : Prop :=
  (∀ (k0_h28 : k0_cond28 i = 1#1), ∀ (k0_h31 : k0_cond31 v18 = 1#1), ∀ a, (k0_off29 v18) a + S1x3584x512.size a ≤ S3x3584x512.size a) ∧
  (∀ (k0_h28 : k0_cond28 i = 1#1), ∀ (k0_h31 : k0_cond31 v18 = 1#1), ∀ a, (k0_off30 v18) a + S1x1x512.size a ≤ S3x1x512.size a)
theorem k0_off29_inb : ∀ (i : grid0.Coords) (v18 : BitVec 32) (k0_hw15 : k0_chk15 i v18), ∀ (k0_h28 : k0_cond28 i = 1#1), ∀ (k0_h31 : k0_cond31 v18 = 1#1), ∀ a, (k0_off29 v18) a + S1x3584x512.size a ≤ S3x3584x512.size a := fun i v18 k0_hw15 k0_h28 k0_h31 => k0_hw15.1 k0_h28 k0_h31
theorem k0_off30_inb : ∀ (i : grid0.Coords) (v18 : BitVec 32) (k0_hw15 : k0_chk15 i v18), ∀ (k0_h28 : k0_cond28 i = 1#1), ∀ (k0_h31 : k0_cond31 v18 = 1#1), ∀ a, (k0_off30 v18) a + S1x1x512.size a ≤ S3x1x512.size a := fun i v18 k0_hw15 k0_h28 k0_h31 => k0_hw15.2 k0_h28 k0_h31

def k0_off31 (v25 : BitVec 32) : Fin 3 → Nat :=
  let c0_i32_56 : BitVec 32 := 0#32
  let v102 : BitVec 32 := Scalar.maxsi v25 c0_i32_56
  let v104 : Index := Scalar.indexCast v102
  let c0_58 : Index := 0#32
  let c0_59 : Index := 0#32
  ![v104.toNat, 0, 0]
def k0_cond33 (v25 : BitVec 32) : BitVec 1 :=
  let c0_i32_12 : BitVec 32 := 0#32
  let v26 : BitVec 1 := Scalar.cmpi .sge v25 c0_i32_12
  let v27 : BitVec 32 := Scalar.extui v26
  let c0_i32_13 : BitVec 32 := 0#32
  let v28 : BitVec 1 := Scalar.cmpi .ne v27 c0_i32_13
  v28

def k0_off32 (v25 : BitVec 32) : Fin 3 → Nat :=
  let c0_i32_56 : BitVec 32 := 0#32
  let v102 : BitVec 32 := Scalar.maxsi v25 c0_i32_56
  let v108 : Index := Scalar.indexCast v102
  let c0_60 : Index := 0#32
  let c0_61 : Index := 0#32
  ![v108.toNat, 0, 0]

def k0_chk16 (i : grid0.Coords) (v25 : BitVec 32) : Prop :=
  (∀ (k0_h28 : k0_cond28 i = 1#1), ∀ (k0_h33 : k0_cond33 v25 = 1#1), ∀ a, (k0_off31 v25) a + S1x3584x512.size a ≤ S3x3584x512.size a) ∧
  (∀ (k0_h28 : k0_cond28 i = 1#1), ∀ (k0_h33 : k0_cond33 v25 = 1#1), ∀ a, (k0_off32 v25) a + S1x1x512.size a ≤ S3x1x512.size a)
theorem k0_off31_inb : ∀ (i : grid0.Coords) (v25 : BitVec 32) (k0_hw16 : k0_chk16 i v25), ∀ (k0_h28 : k0_cond28 i = 1#1), ∀ (k0_h33 : k0_cond33 v25 = 1#1), ∀ a, (k0_off31 v25) a + S1x3584x512.size a ≤ S3x3584x512.size a := fun i v25 k0_hw16 k0_h28 k0_h33 => k0_hw16.1 k0_h28 k0_h33
theorem k0_off32_inb : ∀ (i : grid0.Coords) (v25 : BitVec 32) (k0_hw16 : k0_chk16 i v25), ∀ (k0_h28 : k0_cond28 i = 1#1), ∀ (k0_h33 : k0_cond33 v25 = 1#1), ∀ a, (k0_off32 v25) a + S1x1x512.size a ≤ S3x1x512.size a := fun i v25 k0_hw16 k0_h28 k0_h33 => k0_hw16.2 k0_h28 k0_h33

def k0_off33 (v32 : BitVec 32) : Fin 3 → Nat :=
  let c0_i32_56 : BitVec 32 := 0#32
  let v102 : BitVec 32 := Scalar.maxsi v32 c0_i32_56
  let v104 : Index := Scalar.indexCast v102
  let c0_58 : Index := 0#32
  let c0_59 : Index := 0#32
  ![v104.toNat, 0, 0]
def k0_cond35 (v32 : BitVec 32) : BitVec 1 :=
  let c0_i32_16 : BitVec 32 := 0#32
  let v33 : BitVec 1 := Scalar.cmpi .sge v32 c0_i32_16
  let v34 : BitVec 32 := Scalar.extui v33
  let c0_i32_17 : BitVec 32 := 0#32
  let v35 : BitVec 1 := Scalar.cmpi .ne v34 c0_i32_17
  v35

def k0_off34 (v32 : BitVec 32) : Fin 3 → Nat :=
  let c0_i32_56 : BitVec 32 := 0#32
  let v102 : BitVec 32 := Scalar.maxsi v32 c0_i32_56
  let v108 : Index := Scalar.indexCast v102
  let c0_60 : Index := 0#32
  let c0_61 : Index := 0#32
  ![v108.toNat, 0, 0]

def k0_chk17 (i : grid0.Coords) (v32 : BitVec 32) : Prop :=
  (∀ (k0_h28 : k0_cond28 i = 1#1), ∀ (k0_h35 : k0_cond35 v32 = 1#1), ∀ a, (k0_off33 v32) a + S1x3584x512.size a ≤ S3x3584x512.size a) ∧
  (∀ (k0_h28 : k0_cond28 i = 1#1), ∀ (k0_h35 : k0_cond35 v32 = 1#1), ∀ a, (k0_off34 v32) a + S1x1x512.size a ≤ S3x1x512.size a)
theorem k0_off33_inb : ∀ (i : grid0.Coords) (v32 : BitVec 32) (k0_hw17 : k0_chk17 i v32), ∀ (k0_h28 : k0_cond28 i = 1#1), ∀ (k0_h35 : k0_cond35 v32 = 1#1), ∀ a, (k0_off33 v32) a + S1x3584x512.size a ≤ S3x3584x512.size a := fun i v32 k0_hw17 k0_h28 k0_h35 => k0_hw17.1 k0_h28 k0_h35
theorem k0_off34_inb : ∀ (i : grid0.Coords) (v32 : BitVec 32) (k0_hw17 : k0_chk17 i v32), ∀ (k0_h28 : k0_cond28 i = 1#1), ∀ (k0_h35 : k0_cond35 v32 = 1#1), ∀ a, (k0_off34 v32) a + S1x1x512.size a ≤ S3x1x512.size a := fun i v32 k0_hw17 k0_h28 k0_h35 => k0_hw17.2 k0_h28 k0_h35

def k0_off35 (v39 : BitVec 32) : Fin 3 → Nat :=
  let c0_i32_56 : BitVec 32 := 0#32
  let v102 : BitVec 32 := Scalar.maxsi v39 c0_i32_56
  let v104 : Index := Scalar.indexCast v102
  let c0_58 : Index := 0#32
  let c0_59 : Index := 0#32
  ![v104.toNat, 0, 0]
def k0_cond37 (v39 : BitVec 32) : BitVec 1 :=
  let c0_i32_20 : BitVec 32 := 0#32
  let v40 : BitVec 1 := Scalar.cmpi .sge v39 c0_i32_20
  let v41 : BitVec 32 := Scalar.extui v40
  let c0_i32_21 : BitVec 32 := 0#32
  let v42 : BitVec 1 := Scalar.cmpi .ne v41 c0_i32_21
  v42

def k0_off36 (v39 : BitVec 32) : Fin 3 → Nat :=
  let c0_i32_56 : BitVec 32 := 0#32
  let v102 : BitVec 32 := Scalar.maxsi v39 c0_i32_56
  let v108 : Index := Scalar.indexCast v102
  let c0_60 : Index := 0#32
  let c0_61 : Index := 0#32
  ![v108.toNat, 0, 0]

def k0_chk18 (i : grid0.Coords) (v39 : BitVec 32) : Prop :=
  (∀ (k0_h28 : k0_cond28 i = 1#1), ∀ (k0_h37 : k0_cond37 v39 = 1#1), ∀ a, (k0_off35 v39) a + S1x3584x512.size a ≤ S3x3584x512.size a) ∧
  (∀ (k0_h28 : k0_cond28 i = 1#1), ∀ (k0_h37 : k0_cond37 v39 = 1#1), ∀ a, (k0_off36 v39) a + S1x1x512.size a ≤ S3x1x512.size a)
theorem k0_off35_inb : ∀ (i : grid0.Coords) (v39 : BitVec 32) (k0_hw18 : k0_chk18 i v39), ∀ (k0_h28 : k0_cond28 i = 1#1), ∀ (k0_h37 : k0_cond37 v39 = 1#1), ∀ a, (k0_off35 v39) a + S1x3584x512.size a ≤ S3x3584x512.size a := fun i v39 k0_hw18 k0_h28 k0_h37 => k0_hw18.1 k0_h28 k0_h37
theorem k0_off36_inb : ∀ (i : grid0.Coords) (v39 : BitVec 32) (k0_hw18 : k0_chk18 i v39), ∀ (k0_h28 : k0_cond28 i = 1#1), ∀ (k0_h37 : k0_cond37 v39 = 1#1), ∀ a, (k0_off36 v39) a + S1x1x512.size a ≤ S3x1x512.size a := fun i v39 k0_hw18 k0_h28 k0_h37 => k0_hw18.2 k0_h28 k0_h37

def k0_off37 (v46 : BitVec 32) : Fin 3 → Nat :=
  let c0_i32_56 : BitVec 32 := 0#32
  let v102 : BitVec 32 := Scalar.maxsi v46 c0_i32_56
  let v104 : Index := Scalar.indexCast v102
  let c0_58 : Index := 0#32
  let c0_59 : Index := 0#32
  ![v104.toNat, 0, 0]
def k0_cond39 (v46 : BitVec 32) : BitVec 1 :=
  let c0_i32_24 : BitVec 32 := 0#32
  let v47 : BitVec 1 := Scalar.cmpi .sge v46 c0_i32_24
  let v48 : BitVec 32 := Scalar.extui v47
  let c0_i32_25 : BitVec 32 := 0#32
  let v49 : BitVec 1 := Scalar.cmpi .ne v48 c0_i32_25
  v49

def k0_off38 (v46 : BitVec 32) : Fin 3 → Nat :=
  let c0_i32_56 : BitVec 32 := 0#32
  let v102 : BitVec 32 := Scalar.maxsi v46 c0_i32_56
  let v108 : Index := Scalar.indexCast v102
  let c0_60 : Index := 0#32
  let c0_61 : Index := 0#32
  ![v108.toNat, 0, 0]

def k0_chk19 (i : grid0.Coords) (v46 : BitVec 32) : Prop :=
  (∀ (k0_h28 : k0_cond28 i = 1#1), ∀ (k0_h39 : k0_cond39 v46 = 1#1), ∀ a, (k0_off37 v46) a + S1x3584x512.size a ≤ S3x3584x512.size a) ∧
  (∀ (k0_h28 : k0_cond28 i = 1#1), ∀ (k0_h39 : k0_cond39 v46 = 1#1), ∀ a, (k0_off38 v46) a + S1x1x512.size a ≤ S3x1x512.size a)
theorem k0_off37_inb : ∀ (i : grid0.Coords) (v46 : BitVec 32) (k0_hw19 : k0_chk19 i v46), ∀ (k0_h28 : k0_cond28 i = 1#1), ∀ (k0_h39 : k0_cond39 v46 = 1#1), ∀ a, (k0_off37 v46) a + S1x3584x512.size a ≤ S3x3584x512.size a := fun i v46 k0_hw19 k0_h28 k0_h39 => k0_hw19.1 k0_h28 k0_h39
theorem k0_off38_inb : ∀ (i : grid0.Coords) (v46 : BitVec 32) (k0_hw19 : k0_chk19 i v46), ∀ (k0_h28 : k0_cond28 i = 1#1), ∀ (k0_h39 : k0_cond39 v46 = 1#1), ∀ a, (k0_off38 v46) a + S1x1x512.size a ≤ S3x1x512.size a := fun i v46 k0_hw19 k0_h28 k0_h39 => k0_hw19.2 k0_h28 k0_h39

def k0_off39 (v53 : BitVec 32) : Fin 3 → Nat :=
  let c0_i32_56 : BitVec 32 := 0#32
  let v102 : BitVec 32 := Scalar.maxsi v53 c0_i32_56
  let v104 : Index := Scalar.indexCast v102
  let c0_58 : Index := 0#32
  let c0_59 : Index := 0#32
  ![v104.toNat, 0, 0]
def k0_cond41 (v53 : BitVec 32) : BitVec 1 :=
  let c0_i32_28 : BitVec 32 := 0#32
  let v54 : BitVec 1 := Scalar.cmpi .sge v53 c0_i32_28
  let v55 : BitVec 32 := Scalar.extui v54
  let c0_i32_29 : BitVec 32 := 0#32
  let v56 : BitVec 1 := Scalar.cmpi .ne v55 c0_i32_29
  v56

def k0_off40 (v53 : BitVec 32) : Fin 3 → Nat :=
  let c0_i32_56 : BitVec 32 := 0#32
  let v102 : BitVec 32 := Scalar.maxsi v53 c0_i32_56
  let v108 : Index := Scalar.indexCast v102
  let c0_60 : Index := 0#32
  let c0_61 : Index := 0#32
  ![v108.toNat, 0, 0]

def k0_chk20 (i : grid0.Coords) (v53 : BitVec 32) : Prop :=
  (∀ (k0_h28 : k0_cond28 i = 1#1), ∀ (k0_h41 : k0_cond41 v53 = 1#1), ∀ a, (k0_off39 v53) a + S1x3584x512.size a ≤ S3x3584x512.size a) ∧
  (∀ (k0_h28 : k0_cond28 i = 1#1), ∀ (k0_h41 : k0_cond41 v53 = 1#1), ∀ a, (k0_off40 v53) a + S1x1x512.size a ≤ S3x1x512.size a)
theorem k0_off39_inb : ∀ (i : grid0.Coords) (v53 : BitVec 32) (k0_hw20 : k0_chk20 i v53), ∀ (k0_h28 : k0_cond28 i = 1#1), ∀ (k0_h41 : k0_cond41 v53 = 1#1), ∀ a, (k0_off39 v53) a + S1x3584x512.size a ≤ S3x3584x512.size a := fun i v53 k0_hw20 k0_h28 k0_h41 => k0_hw20.1 k0_h28 k0_h41
theorem k0_off40_inb : ∀ (i : grid0.Coords) (v53 : BitVec 32) (k0_hw20 : k0_chk20 i v53), ∀ (k0_h28 : k0_cond28 i = 1#1), ∀ (k0_h41 : k0_cond41 v53 = 1#1), ∀ a, (k0_off40 v53) a + S1x1x512.size a ≤ S3x1x512.size a := fun i v53 k0_hw20 k0_h28 k0_h41 => k0_hw20.2 k0_h28 k0_h41

def k0_off41 (v60 : BitVec 32) : Fin 3 → Nat :=
  let c0_i32_56 : BitVec 32 := 0#32
  let v102 : BitVec 32 := Scalar.maxsi v60 c0_i32_56
  let v104 : Index := Scalar.indexCast v102
  let c0_58 : Index := 0#32
  let c0_59 : Index := 0#32
  ![v104.toNat, 0, 0]
def k0_cond43 (v60 : BitVec 32) : BitVec 1 :=
  let c0_i32_32 : BitVec 32 := 0#32
  let v61 : BitVec 1 := Scalar.cmpi .sge v60 c0_i32_32
  let v62 : BitVec 32 := Scalar.extui v61
  let c0_i32_33 : BitVec 32 := 0#32
  let v63 : BitVec 1 := Scalar.cmpi .ne v62 c0_i32_33
  v63

def k0_off42 (v60 : BitVec 32) : Fin 3 → Nat :=
  let c0_i32_56 : BitVec 32 := 0#32
  let v102 : BitVec 32 := Scalar.maxsi v60 c0_i32_56
  let v108 : Index := Scalar.indexCast v102
  let c0_60 : Index := 0#32
  let c0_61 : Index := 0#32
  ![v108.toNat, 0, 0]

def k0_chk21 (i : grid0.Coords) (v60 : BitVec 32) : Prop :=
  (∀ (k0_h28 : k0_cond28 i = 1#1), ∀ (k0_h43 : k0_cond43 v60 = 1#1), ∀ a, (k0_off41 v60) a + S1x3584x512.size a ≤ S3x3584x512.size a) ∧
  (∀ (k0_h28 : k0_cond28 i = 1#1), ∀ (k0_h43 : k0_cond43 v60 = 1#1), ∀ a, (k0_off42 v60) a + S1x1x512.size a ≤ S3x1x512.size a)
theorem k0_off41_inb : ∀ (i : grid0.Coords) (v60 : BitVec 32) (k0_hw21 : k0_chk21 i v60), ∀ (k0_h28 : k0_cond28 i = 1#1), ∀ (k0_h43 : k0_cond43 v60 = 1#1), ∀ a, (k0_off41 v60) a + S1x3584x512.size a ≤ S3x3584x512.size a := fun i v60 k0_hw21 k0_h28 k0_h43 => k0_hw21.1 k0_h28 k0_h43
theorem k0_off42_inb : ∀ (i : grid0.Coords) (v60 : BitVec 32) (k0_hw21 : k0_chk21 i v60), ∀ (k0_h28 : k0_cond28 i = 1#1), ∀ (k0_h43 : k0_cond43 v60 = 1#1), ∀ a, (k0_off42 v60) a + S1x1x512.size a ≤ S3x1x512.size a := fun i v60 k0_hw21 k0_h28 k0_h43 => k0_hw21.2 k0_h28 k0_h43

def k0_off43 (v67 : BitVec 32) : Fin 3 → Nat :=
  let c0_i32_56 : BitVec 32 := 0#32
  let v102 : BitVec 32 := Scalar.maxsi v67 c0_i32_56
  let v104 : Index := Scalar.indexCast v102
  let c0_58 : Index := 0#32
  let c0_59 : Index := 0#32
  ![v104.toNat, 0, 0]
def k0_cond45 (v67 : BitVec 32) : BitVec 1 :=
  let c0_i32_36 : BitVec 32 := 0#32
  let v68 : BitVec 1 := Scalar.cmpi .sge v67 c0_i32_36
  let v69 : BitVec 32 := Scalar.extui v68
  let c0_i32_37 : BitVec 32 := 0#32
  let v70 : BitVec 1 := Scalar.cmpi .ne v69 c0_i32_37
  v70

def k0_off44 (v67 : BitVec 32) : Fin 3 → Nat :=
  let c0_i32_56 : BitVec 32 := 0#32
  let v102 : BitVec 32 := Scalar.maxsi v67 c0_i32_56
  let v108 : Index := Scalar.indexCast v102
  let c0_60 : Index := 0#32
  let c0_61 : Index := 0#32
  ![v108.toNat, 0, 0]

def k0_chk22 (i : grid0.Coords) (v67 : BitVec 32) : Prop :=
  (∀ (k0_h28 : k0_cond28 i = 1#1), ∀ (k0_h45 : k0_cond45 v67 = 1#1), ∀ a, (k0_off43 v67) a + S1x3584x512.size a ≤ S3x3584x512.size a) ∧
  (∀ (k0_h28 : k0_cond28 i = 1#1), ∀ (k0_h45 : k0_cond45 v67 = 1#1), ∀ a, (k0_off44 v67) a + S1x1x512.size a ≤ S3x1x512.size a)
theorem k0_off43_inb : ∀ (i : grid0.Coords) (v67 : BitVec 32) (k0_hw22 : k0_chk22 i v67), ∀ (k0_h28 : k0_cond28 i = 1#1), ∀ (k0_h45 : k0_cond45 v67 = 1#1), ∀ a, (k0_off43 v67) a + S1x3584x512.size a ≤ S3x3584x512.size a := fun i v67 k0_hw22 k0_h28 k0_h45 => k0_hw22.1 k0_h28 k0_h45
theorem k0_off44_inb : ∀ (i : grid0.Coords) (v67 : BitVec 32) (k0_hw22 : k0_chk22 i v67), ∀ (k0_h28 : k0_cond28 i = 1#1), ∀ (k0_h45 : k0_cond45 v67 = 1#1), ∀ a, (k0_off44 v67) a + S1x1x512.size a ≤ S3x1x512.size a := fun i v67 k0_hw22 k0_h28 k0_h45 => k0_hw22.2 k0_h28 k0_h45

def k0_off45 (v74 : BitVec 32) : Fin 3 → Nat :=
  let c0_i32_56 : BitVec 32 := 0#32
  let v102 : BitVec 32 := Scalar.maxsi v74 c0_i32_56
  let v104 : Index := Scalar.indexCast v102
  let c0_58 : Index := 0#32
  let c0_59 : Index := 0#32
  ![v104.toNat, 0, 0]
def k0_cond47 (v74 : BitVec 32) : BitVec 1 :=
  let c0_i32_40 : BitVec 32 := 0#32
  let v75 : BitVec 1 := Scalar.cmpi .sge v74 c0_i32_40
  let v76 : BitVec 32 := Scalar.extui v75
  let c0_i32_41 : BitVec 32 := 0#32
  let v77 : BitVec 1 := Scalar.cmpi .ne v76 c0_i32_41
  v77

def k0_off46 (v74 : BitVec 32) : Fin 3 → Nat :=
  let c0_i32_56 : BitVec 32 := 0#32
  let v102 : BitVec 32 := Scalar.maxsi v74 c0_i32_56
  let v108 : Index := Scalar.indexCast v102
  let c0_60 : Index := 0#32
  let c0_61 : Index := 0#32
  ![v108.toNat, 0, 0]

def k0_chk23 (i : grid0.Coords) (v74 : BitVec 32) : Prop :=
  (∀ (k0_h28 : k0_cond28 i = 1#1), ∀ (k0_h47 : k0_cond47 v74 = 1#1), ∀ a, (k0_off45 v74) a + S1x3584x512.size a ≤ S3x3584x512.size a) ∧
  (∀ (k0_h28 : k0_cond28 i = 1#1), ∀ (k0_h47 : k0_cond47 v74 = 1#1), ∀ a, (k0_off46 v74) a + S1x1x512.size a ≤ S3x1x512.size a)
theorem k0_off45_inb : ∀ (i : grid0.Coords) (v74 : BitVec 32) (k0_hw23 : k0_chk23 i v74), ∀ (k0_h28 : k0_cond28 i = 1#1), ∀ (k0_h47 : k0_cond47 v74 = 1#1), ∀ a, (k0_off45 v74) a + S1x3584x512.size a ≤ S3x3584x512.size a := fun i v74 k0_hw23 k0_h28 k0_h47 => k0_hw23.1 k0_h28 k0_h47
theorem k0_off46_inb : ∀ (i : grid0.Coords) (v74 : BitVec 32) (k0_hw23 : k0_chk23 i v74), ∀ (k0_h28 : k0_cond28 i = 1#1), ∀ (k0_h47 : k0_cond47 v74 = 1#1), ∀ a, (k0_off46 v74) a + S1x1x512.size a ≤ S3x1x512.size a := fun i v74 k0_hw23 k0_h28 k0_h47 => k0_hw23.2 k0_h28 k0_h47

def k0_off47 (v81 : BitVec 32) : Fin 3 → Nat :=
  let c0_i32_56 : BitVec 32 := 0#32
  let v102 : BitVec 32 := Scalar.maxsi v81 c0_i32_56
  let v104 : Index := Scalar.indexCast v102
  let c0_58 : Index := 0#32
  let c0_59 : Index := 0#32
  ![v104.toNat, 0, 0]
def k0_cond49 (v81 : BitVec 32) : BitVec 1 :=
  let c0_i32_44 : BitVec 32 := 0#32
  let v82 : BitVec 1 := Scalar.cmpi .sge v81 c0_i32_44
  let v83 : BitVec 32 := Scalar.extui v82
  let c0_i32_45 : BitVec 32 := 0#32
  let v84 : BitVec 1 := Scalar.cmpi .ne v83 c0_i32_45
  v84

def k0_off48 (v81 : BitVec 32) : Fin 3 → Nat :=
  let c0_i32_56 : BitVec 32 := 0#32
  let v102 : BitVec 32 := Scalar.maxsi v81 c0_i32_56
  let v108 : Index := Scalar.indexCast v102
  let c0_60 : Index := 0#32
  let c0_61 : Index := 0#32
  ![v108.toNat, 0, 0]

def k0_chk24 (i : grid0.Coords) (v81 : BitVec 32) : Prop :=
  (∀ (k0_h28 : k0_cond28 i = 1#1), ∀ (k0_h49 : k0_cond49 v81 = 1#1), ∀ a, (k0_off47 v81) a + S1x3584x512.size a ≤ S3x3584x512.size a) ∧
  (∀ (k0_h28 : k0_cond28 i = 1#1), ∀ (k0_h49 : k0_cond49 v81 = 1#1), ∀ a, (k0_off48 v81) a + S1x1x512.size a ≤ S3x1x512.size a)
theorem k0_off47_inb : ∀ (i : grid0.Coords) (v81 : BitVec 32) (k0_hw24 : k0_chk24 i v81), ∀ (k0_h28 : k0_cond28 i = 1#1), ∀ (k0_h49 : k0_cond49 v81 = 1#1), ∀ a, (k0_off47 v81) a + S1x3584x512.size a ≤ S3x3584x512.size a := fun i v81 k0_hw24 k0_h28 k0_h49 => k0_hw24.1 k0_h28 k0_h49
theorem k0_off48_inb : ∀ (i : grid0.Coords) (v81 : BitVec 32) (k0_hw24 : k0_chk24 i v81), ∀ (k0_h28 : k0_cond28 i = 1#1), ∀ (k0_h49 : k0_cond49 v81 = 1#1), ∀ a, (k0_off48 v81) a + S1x1x512.size a ≤ S3x1x512.size a := fun i v81 k0_hw24 k0_h28 k0_h49 => k0_hw24.2 k0_h28 k0_h49

def k0_off49 (v88 : BitVec 32) : Fin 3 → Nat :=
  let c0_i32_56 : BitVec 32 := 0#32
  let v102 : BitVec 32 := Scalar.maxsi v88 c0_i32_56
  let v104 : Index := Scalar.indexCast v102
  let c0_58 : Index := 0#32
  let c0_59 : Index := 0#32
  ![v104.toNat, 0, 0]
def k0_cond51 (v88 : BitVec 32) : BitVec 1 :=
  let c0_i32_48 : BitVec 32 := 0#32
  let v89 : BitVec 1 := Scalar.cmpi .sge v88 c0_i32_48
  let v90 : BitVec 32 := Scalar.extui v89
  let c0_i32_49 : BitVec 32 := 0#32
  let v91 : BitVec 1 := Scalar.cmpi .ne v90 c0_i32_49
  v91

def k0_off50 (v88 : BitVec 32) : Fin 3 → Nat :=
  let c0_i32_56 : BitVec 32 := 0#32
  let v102 : BitVec 32 := Scalar.maxsi v88 c0_i32_56
  let v108 : Index := Scalar.indexCast v102
  let c0_60 : Index := 0#32
  let c0_61 : Index := 0#32
  ![v108.toNat, 0, 0]

def k0_chk25 (i : grid0.Coords) (v88 : BitVec 32) : Prop :=
  (∀ (k0_h28 : k0_cond28 i = 1#1), ∀ (k0_h51 : k0_cond51 v88 = 1#1), ∀ a, (k0_off49 v88) a + S1x3584x512.size a ≤ S3x3584x512.size a) ∧
  (∀ (k0_h28 : k0_cond28 i = 1#1), ∀ (k0_h51 : k0_cond51 v88 = 1#1), ∀ a, (k0_off50 v88) a + S1x1x512.size a ≤ S3x1x512.size a)
theorem k0_off49_inb : ∀ (i : grid0.Coords) (v88 : BitVec 32) (k0_hw25 : k0_chk25 i v88), ∀ (k0_h28 : k0_cond28 i = 1#1), ∀ (k0_h51 : k0_cond51 v88 = 1#1), ∀ a, (k0_off49 v88) a + S1x3584x512.size a ≤ S3x3584x512.size a := fun i v88 k0_hw25 k0_h28 k0_h51 => k0_hw25.1 k0_h28 k0_h51
theorem k0_off50_inb : ∀ (i : grid0.Coords) (v88 : BitVec 32) (k0_hw25 : k0_chk25 i v88), ∀ (k0_h28 : k0_cond28 i = 1#1), ∀ (k0_h51 : k0_cond51 v88 = 1#1), ∀ a, (k0_off50 v88) a + S1x1x512.size a ≤ S3x1x512.size a := fun i v88 k0_hw25 k0_h28 k0_h51 => k0_hw25.2 k0_h28 k0_h51

def k0_off51 (v95 : BitVec 32) : Fin 3 → Nat :=
  let c0_i32_56 : BitVec 32 := 0#32
  let v102 : BitVec 32 := Scalar.maxsi v95 c0_i32_56
  let v104 : Index := Scalar.indexCast v102
  let c0_58 : Index := 0#32
  let c0_59 : Index := 0#32
  ![v104.toNat, 0, 0]
def k0_cond53 (v95 : BitVec 32) : BitVec 1 :=
  let c0_i32_52 : BitVec 32 := 0#32
  let v96 : BitVec 1 := Scalar.cmpi .sge v95 c0_i32_52
  let v97 : BitVec 32 := Scalar.extui v96
  let c0_i32_53 : BitVec 32 := 0#32
  let v98 : BitVec 1 := Scalar.cmpi .ne v97 c0_i32_53
  v98

def k0_off52 (v95 : BitVec 32) : Fin 3 → Nat :=
  let c0_i32_56 : BitVec 32 := 0#32
  let v102 : BitVec 32 := Scalar.maxsi v95 c0_i32_56
  let v108 : Index := Scalar.indexCast v102
  let c0_60 : Index := 0#32
  let c0_61 : Index := 0#32
  ![v108.toNat, 0, 0]

def k0_chk26 (i : grid0.Coords) (v95 : BitVec 32) : Prop :=
  (∀ (k0_h28 : k0_cond28 i = 1#1), ∀ (k0_h53 : k0_cond53 v95 = 1#1), ∀ a, (k0_off51 v95) a + S1x3584x512.size a ≤ S3x3584x512.size a) ∧
  (∀ (k0_h28 : k0_cond28 i = 1#1), ∀ (k0_h53 : k0_cond53 v95 = 1#1), ∀ a, (k0_off52 v95) a + S1x1x512.size a ≤ S3x1x512.size a)
theorem k0_off51_inb : ∀ (i : grid0.Coords) (v95 : BitVec 32) (k0_hw26 : k0_chk26 i v95), ∀ (k0_h28 : k0_cond28 i = 1#1), ∀ (k0_h53 : k0_cond53 v95 = 1#1), ∀ a, (k0_off51 v95) a + S1x3584x512.size a ≤ S3x3584x512.size a := fun i v95 k0_hw26 k0_h28 k0_h53 => k0_hw26.1 k0_h28 k0_h53
theorem k0_off52_inb : ∀ (i : grid0.Coords) (v95 : BitVec 32) (k0_hw26 : k0_chk26 i v95), ∀ (k0_h28 : k0_cond28 i = 1#1), ∀ (k0_h53 : k0_cond53 v95 = 1#1), ∀ a, (k0_off52 v95) a + S1x1x512.size a ≤ S3x1x512.size a := fun i v95 k0_hw26 k0_h28 k0_h53 => k0_hw26.2 k0_h28 k0_h53

def k0_cond55 (i : grid0.Coords) : BitVec 1 :=
  let arg0 : BitVec 32 := BitVec.ofNat 32 (i 0).val
  let c14_i32_2 : BitVec 32 := 14#32
  let v8 : BitVec 1 := Scalar.cmpi .sge arg0 c14_i32_2
  let v9 : BitVec 32 := Scalar.extui v8
  let c0_i32_3 : BitVec 32 := 0#32
  let v10 : BitVec 1 := Scalar.cmpi .ne v9 c0_i32_3
  v10

def k0_off53 (v11 : BitVec 32) : Fin 3 → Nat :=
  let c0_i32_56 : BitVec 32 := 0#32
  let v102 : BitVec 32 := Scalar.maxsi v11 c0_i32_56
  let v104 : Index := Scalar.indexCast v102
  let c0_59 : Index := 0#32
  let c0_60 : Index := 0#32
  ![v104.toNat, 0, 0]
def k0_cond56 (v11 : BitVec 32) : BitVec 1 :=
  let c0_i32_4 : BitVec 32 := 0#32
  let v12 : BitVec 1 := Scalar.cmpi .sge v11 c0_i32_4
  let v13 : BitVec 32 := Scalar.extui v12
  let c0_i32_5 : BitVec 32 := 0#32
  let v14 : BitVec 1 := Scalar.cmpi .ne v13 c0_i32_5
  v14

def k0_off54 (v11 : BitVec 32) : Fin 3 → Nat :=
  let c0_i32_56 : BitVec 32 := 0#32
  let v102 : BitVec 32 := Scalar.maxsi v11 c0_i32_56
  let v108 : Index := Scalar.indexCast v102
  let c0_61 : Index := 0#32
  let c0_62 : Index := 0#32
  ![v108.toNat, 0, 0]

def k0_chk27 (i : grid0.Coords) (v11 : BitVec 32) : Prop :=
  (∀ (k0_h55 : k0_cond55 i = 1#1), ∀ (k0_h56 : k0_cond56 v11 = 1#1), ∀ a, (k0_off53 v11) a + S1x3584x512.size a ≤ S3x3584x512.size a) ∧
  (∀ (k0_h55 : k0_cond55 i = 1#1), ∀ (k0_h56 : k0_cond56 v11 = 1#1), ∀ a, (k0_off54 v11) a + S1x1x512.size a ≤ S3x1x512.size a)
theorem k0_off53_inb : ∀ (i : grid0.Coords) (v11 : BitVec 32) (k0_hw27 : k0_chk27 i v11), ∀ (k0_h55 : k0_cond55 i = 1#1), ∀ (k0_h56 : k0_cond56 v11 = 1#1), ∀ a, (k0_off53 v11) a + S1x3584x512.size a ≤ S3x3584x512.size a := fun i v11 k0_hw27 k0_h55 k0_h56 => k0_hw27.1 k0_h55 k0_h56
theorem k0_off54_inb : ∀ (i : grid0.Coords) (v11 : BitVec 32) (k0_hw27 : k0_chk27 i v11), ∀ (k0_h55 : k0_cond55 i = 1#1), ∀ (k0_h56 : k0_cond56 v11 = 1#1), ∀ a, (k0_off54 v11) a + S1x1x512.size a ≤ S3x1x512.size a := fun i v11 k0_hw27 k0_h55 k0_h56 => k0_hw27.2 k0_h55 k0_h56

def k0_off55 (v18 : BitVec 32) : Fin 3 → Nat :=
  let c0_i32_56 : BitVec 32 := 0#32
  let v102 : BitVec 32 := Scalar.maxsi v18 c0_i32_56
  let v104 : Index := Scalar.indexCast v102
  let c0_58 : Index := 0#32
  let c0_59 : Index := 0#32
  ![v104.toNat, 0, 0]
def k0_cond58 (v18 : BitVec 32) : BitVec 1 :=
  let c0_i32_8 : BitVec 32 := 0#32
  let v19 : BitVec 1 := Scalar.cmpi .sge v18 c0_i32_8
  let v20 : BitVec 32 := Scalar.extui v19
  let c0_i32_9 : BitVec 32 := 0#32
  let v21 : BitVec 1 := Scalar.cmpi .ne v20 c0_i32_9
  v21

def k0_off56 (v18 : BitVec 32) : Fin 3 → Nat :=
  let c0_i32_56 : BitVec 32 := 0#32
  let v102 : BitVec 32 := Scalar.maxsi v18 c0_i32_56
  let v108 : Index := Scalar.indexCast v102
  let c0_60 : Index := 0#32
  let c0_61 : Index := 0#32
  ![v108.toNat, 0, 0]

def k0_chk28 (i : grid0.Coords) (v18 : BitVec 32) : Prop :=
  (∀ (k0_h55 : k0_cond55 i = 1#1), ∀ (k0_h58 : k0_cond58 v18 = 1#1), ∀ a, (k0_off55 v18) a + S1x3584x512.size a ≤ S3x3584x512.size a) ∧
  (∀ (k0_h55 : k0_cond55 i = 1#1), ∀ (k0_h58 : k0_cond58 v18 = 1#1), ∀ a, (k0_off56 v18) a + S1x1x512.size a ≤ S3x1x512.size a)
theorem k0_off55_inb : ∀ (i : grid0.Coords) (v18 : BitVec 32) (k0_hw28 : k0_chk28 i v18), ∀ (k0_h55 : k0_cond55 i = 1#1), ∀ (k0_h58 : k0_cond58 v18 = 1#1), ∀ a, (k0_off55 v18) a + S1x3584x512.size a ≤ S3x3584x512.size a := fun i v18 k0_hw28 k0_h55 k0_h58 => k0_hw28.1 k0_h55 k0_h58
theorem k0_off56_inb : ∀ (i : grid0.Coords) (v18 : BitVec 32) (k0_hw28 : k0_chk28 i v18), ∀ (k0_h55 : k0_cond55 i = 1#1), ∀ (k0_h58 : k0_cond58 v18 = 1#1), ∀ a, (k0_off56 v18) a + S1x1x512.size a ≤ S3x1x512.size a := fun i v18 k0_hw28 k0_h55 k0_h58 => k0_hw28.2 k0_h55 k0_h58

def k0_off57 (v25 : BitVec 32) : Fin 3 → Nat :=
  let c0_i32_56 : BitVec 32 := 0#32
  let v102 : BitVec 32 := Scalar.maxsi v25 c0_i32_56
  let v104 : Index := Scalar.indexCast v102
  let c0_58 : Index := 0#32
  let c0_59 : Index := 0#32
  ![v104.toNat, 0, 0]
def k0_cond60 (v25 : BitVec 32) : BitVec 1 :=
  let c0_i32_12 : BitVec 32 := 0#32
  let v26 : BitVec 1 := Scalar.cmpi .sge v25 c0_i32_12
  let v27 : BitVec 32 := Scalar.extui v26
  let c0_i32_13 : BitVec 32 := 0#32
  let v28 : BitVec 1 := Scalar.cmpi .ne v27 c0_i32_13
  v28

def k0_off58 (v25 : BitVec 32) : Fin 3 → Nat :=
  let c0_i32_56 : BitVec 32 := 0#32
  let v102 : BitVec 32 := Scalar.maxsi v25 c0_i32_56
  let v108 : Index := Scalar.indexCast v102
  let c0_60 : Index := 0#32
  let c0_61 : Index := 0#32
  ![v108.toNat, 0, 0]

def k0_chk29 (i : grid0.Coords) (v25 : BitVec 32) : Prop :=
  (∀ (k0_h55 : k0_cond55 i = 1#1), ∀ (k0_h60 : k0_cond60 v25 = 1#1), ∀ a, (k0_off57 v25) a + S1x3584x512.size a ≤ S3x3584x512.size a) ∧
  (∀ (k0_h55 : k0_cond55 i = 1#1), ∀ (k0_h60 : k0_cond60 v25 = 1#1), ∀ a, (k0_off58 v25) a + S1x1x512.size a ≤ S3x1x512.size a)
theorem k0_off57_inb : ∀ (i : grid0.Coords) (v25 : BitVec 32) (k0_hw29 : k0_chk29 i v25), ∀ (k0_h55 : k0_cond55 i = 1#1), ∀ (k0_h60 : k0_cond60 v25 = 1#1), ∀ a, (k0_off57 v25) a + S1x3584x512.size a ≤ S3x3584x512.size a := fun i v25 k0_hw29 k0_h55 k0_h60 => k0_hw29.1 k0_h55 k0_h60
theorem k0_off58_inb : ∀ (i : grid0.Coords) (v25 : BitVec 32) (k0_hw29 : k0_chk29 i v25), ∀ (k0_h55 : k0_cond55 i = 1#1), ∀ (k0_h60 : k0_cond60 v25 = 1#1), ∀ a, (k0_off58 v25) a + S1x1x512.size a ≤ S3x1x512.size a := fun i v25 k0_hw29 k0_h55 k0_h60 => k0_hw29.2 k0_h55 k0_h60

def k0_off59 (v32 : BitVec 32) : Fin 3 → Nat :=
  let c0_i32_56 : BitVec 32 := 0#32
  let v102 : BitVec 32 := Scalar.maxsi v32 c0_i32_56
  let v104 : Index := Scalar.indexCast v102
  let c0_58 : Index := 0#32
  let c0_59 : Index := 0#32
  ![v104.toNat, 0, 0]
def k0_cond62 (v32 : BitVec 32) : BitVec 1 :=
  let c0_i32_16 : BitVec 32 := 0#32
  let v33 : BitVec 1 := Scalar.cmpi .sge v32 c0_i32_16
  let v34 : BitVec 32 := Scalar.extui v33
  let c0_i32_17 : BitVec 32 := 0#32
  let v35 : BitVec 1 := Scalar.cmpi .ne v34 c0_i32_17
  v35

def k0_off60 (v32 : BitVec 32) : Fin 3 → Nat :=
  let c0_i32_56 : BitVec 32 := 0#32
  let v102 : BitVec 32 := Scalar.maxsi v32 c0_i32_56
  let v108 : Index := Scalar.indexCast v102
  let c0_60 : Index := 0#32
  let c0_61 : Index := 0#32
  ![v108.toNat, 0, 0]

def k0_chk30 (i : grid0.Coords) (v32 : BitVec 32) : Prop :=
  (∀ (k0_h55 : k0_cond55 i = 1#1), ∀ (k0_h62 : k0_cond62 v32 = 1#1), ∀ a, (k0_off59 v32) a + S1x3584x512.size a ≤ S3x3584x512.size a) ∧
  (∀ (k0_h55 : k0_cond55 i = 1#1), ∀ (k0_h62 : k0_cond62 v32 = 1#1), ∀ a, (k0_off60 v32) a + S1x1x512.size a ≤ S3x1x512.size a)
theorem k0_off59_inb : ∀ (i : grid0.Coords) (v32 : BitVec 32) (k0_hw30 : k0_chk30 i v32), ∀ (k0_h55 : k0_cond55 i = 1#1), ∀ (k0_h62 : k0_cond62 v32 = 1#1), ∀ a, (k0_off59 v32) a + S1x3584x512.size a ≤ S3x3584x512.size a := fun i v32 k0_hw30 k0_h55 k0_h62 => k0_hw30.1 k0_h55 k0_h62
theorem k0_off60_inb : ∀ (i : grid0.Coords) (v32 : BitVec 32) (k0_hw30 : k0_chk30 i v32), ∀ (k0_h55 : k0_cond55 i = 1#1), ∀ (k0_h62 : k0_cond62 v32 = 1#1), ∀ a, (k0_off60 v32) a + S1x1x512.size a ≤ S3x1x512.size a := fun i v32 k0_hw30 k0_h55 k0_h62 => k0_hw30.2 k0_h55 k0_h62

def k0_off61 (v39 : BitVec 32) : Fin 3 → Nat :=
  let c0_i32_56 : BitVec 32 := 0#32
  let v102 : BitVec 32 := Scalar.maxsi v39 c0_i32_56
  let v104 : Index := Scalar.indexCast v102
  let c0_58 : Index := 0#32
  let c0_59 : Index := 0#32
  ![v104.toNat, 0, 0]
def k0_cond64 (v39 : BitVec 32) : BitVec 1 :=
  let c0_i32_20 : BitVec 32 := 0#32
  let v40 : BitVec 1 := Scalar.cmpi .sge v39 c0_i32_20
  let v41 : BitVec 32 := Scalar.extui v40
  let c0_i32_21 : BitVec 32 := 0#32
  let v42 : BitVec 1 := Scalar.cmpi .ne v41 c0_i32_21
  v42

def k0_off62 (v39 : BitVec 32) : Fin 3 → Nat :=
  let c0_i32_56 : BitVec 32 := 0#32
  let v102 : BitVec 32 := Scalar.maxsi v39 c0_i32_56
  let v108 : Index := Scalar.indexCast v102
  let c0_60 : Index := 0#32
  let c0_61 : Index := 0#32
  ![v108.toNat, 0, 0]

def k0_chk31 (i : grid0.Coords) (v39 : BitVec 32) : Prop :=
  (∀ (k0_h55 : k0_cond55 i = 1#1), ∀ (k0_h64 : k0_cond64 v39 = 1#1), ∀ a, (k0_off61 v39) a + S1x3584x512.size a ≤ S3x3584x512.size a) ∧
  (∀ (k0_h55 : k0_cond55 i = 1#1), ∀ (k0_h64 : k0_cond64 v39 = 1#1), ∀ a, (k0_off62 v39) a + S1x1x512.size a ≤ S3x1x512.size a)
theorem k0_off61_inb : ∀ (i : grid0.Coords) (v39 : BitVec 32) (k0_hw31 : k0_chk31 i v39), ∀ (k0_h55 : k0_cond55 i = 1#1), ∀ (k0_h64 : k0_cond64 v39 = 1#1), ∀ a, (k0_off61 v39) a + S1x3584x512.size a ≤ S3x3584x512.size a := fun i v39 k0_hw31 k0_h55 k0_h64 => k0_hw31.1 k0_h55 k0_h64
theorem k0_off62_inb : ∀ (i : grid0.Coords) (v39 : BitVec 32) (k0_hw31 : k0_chk31 i v39), ∀ (k0_h55 : k0_cond55 i = 1#1), ∀ (k0_h64 : k0_cond64 v39 = 1#1), ∀ a, (k0_off62 v39) a + S1x1x512.size a ≤ S3x1x512.size a := fun i v39 k0_hw31 k0_h55 k0_h64 => k0_hw31.2 k0_h55 k0_h64

def k0_off63 (v46 : BitVec 32) : Fin 3 → Nat :=
  let c0_i32_56 : BitVec 32 := 0#32
  let v102 : BitVec 32 := Scalar.maxsi v46 c0_i32_56
  let v104 : Index := Scalar.indexCast v102
  let c0_58 : Index := 0#32
  let c0_59 : Index := 0#32
  ![v104.toNat, 0, 0]
def k0_cond66 (v46 : BitVec 32) : BitVec 1 :=
  let c0_i32_24 : BitVec 32 := 0#32
  let v47 : BitVec 1 := Scalar.cmpi .sge v46 c0_i32_24
  let v48 : BitVec 32 := Scalar.extui v47
  let c0_i32_25 : BitVec 32 := 0#32
  let v49 : BitVec 1 := Scalar.cmpi .ne v48 c0_i32_25
  v49

def k0_off64 (v46 : BitVec 32) : Fin 3 → Nat :=
  let c0_i32_56 : BitVec 32 := 0#32
  let v102 : BitVec 32 := Scalar.maxsi v46 c0_i32_56
  let v108 : Index := Scalar.indexCast v102
  let c0_60 : Index := 0#32
  let c0_61 : Index := 0#32
  ![v108.toNat, 0, 0]

def k0_chk32 (i : grid0.Coords) (v46 : BitVec 32) : Prop :=
  (∀ (k0_h55 : k0_cond55 i = 1#1), ∀ (k0_h66 : k0_cond66 v46 = 1#1), ∀ a, (k0_off63 v46) a + S1x3584x512.size a ≤ S3x3584x512.size a) ∧
  (∀ (k0_h55 : k0_cond55 i = 1#1), ∀ (k0_h66 : k0_cond66 v46 = 1#1), ∀ a, (k0_off64 v46) a + S1x1x512.size a ≤ S3x1x512.size a)
theorem k0_off63_inb : ∀ (i : grid0.Coords) (v46 : BitVec 32) (k0_hw32 : k0_chk32 i v46), ∀ (k0_h55 : k0_cond55 i = 1#1), ∀ (k0_h66 : k0_cond66 v46 = 1#1), ∀ a, (k0_off63 v46) a + S1x3584x512.size a ≤ S3x3584x512.size a := fun i v46 k0_hw32 k0_h55 k0_h66 => k0_hw32.1 k0_h55 k0_h66
theorem k0_off64_inb : ∀ (i : grid0.Coords) (v46 : BitVec 32) (k0_hw32 : k0_chk32 i v46), ∀ (k0_h55 : k0_cond55 i = 1#1), ∀ (k0_h66 : k0_cond66 v46 = 1#1), ∀ a, (k0_off64 v46) a + S1x1x512.size a ≤ S3x1x512.size a := fun i v46 k0_hw32 k0_h55 k0_h66 => k0_hw32.2 k0_h55 k0_h66

def k0_off65 (v53 : BitVec 32) : Fin 3 → Nat :=
  let c0_i32_56 : BitVec 32 := 0#32
  let v102 : BitVec 32 := Scalar.maxsi v53 c0_i32_56
  let v104 : Index := Scalar.indexCast v102
  let c0_58 : Index := 0#32
  let c0_59 : Index := 0#32
  ![v104.toNat, 0, 0]
def k0_cond68 (v53 : BitVec 32) : BitVec 1 :=
  let c0_i32_28 : BitVec 32 := 0#32
  let v54 : BitVec 1 := Scalar.cmpi .sge v53 c0_i32_28
  let v55 : BitVec 32 := Scalar.extui v54
  let c0_i32_29 : BitVec 32 := 0#32
  let v56 : BitVec 1 := Scalar.cmpi .ne v55 c0_i32_29
  v56

def k0_off66 (v53 : BitVec 32) : Fin 3 → Nat :=
  let c0_i32_56 : BitVec 32 := 0#32
  let v102 : BitVec 32 := Scalar.maxsi v53 c0_i32_56
  let v108 : Index := Scalar.indexCast v102
  let c0_60 : Index := 0#32
  let c0_61 : Index := 0#32
  ![v108.toNat, 0, 0]

def k0_chk33 (i : grid0.Coords) (v53 : BitVec 32) : Prop :=
  (∀ (k0_h55 : k0_cond55 i = 1#1), ∀ (k0_h68 : k0_cond68 v53 = 1#1), ∀ a, (k0_off65 v53) a + S1x3584x512.size a ≤ S3x3584x512.size a) ∧
  (∀ (k0_h55 : k0_cond55 i = 1#1), ∀ (k0_h68 : k0_cond68 v53 = 1#1), ∀ a, (k0_off66 v53) a + S1x1x512.size a ≤ S3x1x512.size a)
theorem k0_off65_inb : ∀ (i : grid0.Coords) (v53 : BitVec 32) (k0_hw33 : k0_chk33 i v53), ∀ (k0_h55 : k0_cond55 i = 1#1), ∀ (k0_h68 : k0_cond68 v53 = 1#1), ∀ a, (k0_off65 v53) a + S1x3584x512.size a ≤ S3x3584x512.size a := fun i v53 k0_hw33 k0_h55 k0_h68 => k0_hw33.1 k0_h55 k0_h68
theorem k0_off66_inb : ∀ (i : grid0.Coords) (v53 : BitVec 32) (k0_hw33 : k0_chk33 i v53), ∀ (k0_h55 : k0_cond55 i = 1#1), ∀ (k0_h68 : k0_cond68 v53 = 1#1), ∀ a, (k0_off66 v53) a + S1x1x512.size a ≤ S3x1x512.size a := fun i v53 k0_hw33 k0_h55 k0_h68 => k0_hw33.2 k0_h55 k0_h68

def k0_off67 (v60 : BitVec 32) : Fin 3 → Nat :=
  let c0_i32_56 : BitVec 32 := 0#32
  let v102 : BitVec 32 := Scalar.maxsi v60 c0_i32_56
  let v104 : Index := Scalar.indexCast v102
  let c0_58 : Index := 0#32
  let c0_59 : Index := 0#32
  ![v104.toNat, 0, 0]
def k0_cond70 (v60 : BitVec 32) : BitVec 1 :=
  let c0_i32_32 : BitVec 32 := 0#32
  let v61 : BitVec 1 := Scalar.cmpi .sge v60 c0_i32_32
  let v62 : BitVec 32 := Scalar.extui v61
  let c0_i32_33 : BitVec 32 := 0#32
  let v63 : BitVec 1 := Scalar.cmpi .ne v62 c0_i32_33
  v63

def k0_off68 (v60 : BitVec 32) : Fin 3 → Nat :=
  let c0_i32_56 : BitVec 32 := 0#32
  let v102 : BitVec 32 := Scalar.maxsi v60 c0_i32_56
  let v108 : Index := Scalar.indexCast v102
  let c0_60 : Index := 0#32
  let c0_61 : Index := 0#32
  ![v108.toNat, 0, 0]

def k0_chk34 (i : grid0.Coords) (v60 : BitVec 32) : Prop :=
  (∀ (k0_h55 : k0_cond55 i = 1#1), ∀ (k0_h70 : k0_cond70 v60 = 1#1), ∀ a, (k0_off67 v60) a + S1x3584x512.size a ≤ S3x3584x512.size a) ∧
  (∀ (k0_h55 : k0_cond55 i = 1#1), ∀ (k0_h70 : k0_cond70 v60 = 1#1), ∀ a, (k0_off68 v60) a + S1x1x512.size a ≤ S3x1x512.size a)
theorem k0_off67_inb : ∀ (i : grid0.Coords) (v60 : BitVec 32) (k0_hw34 : k0_chk34 i v60), ∀ (k0_h55 : k0_cond55 i = 1#1), ∀ (k0_h70 : k0_cond70 v60 = 1#1), ∀ a, (k0_off67 v60) a + S1x3584x512.size a ≤ S3x3584x512.size a := fun i v60 k0_hw34 k0_h55 k0_h70 => k0_hw34.1 k0_h55 k0_h70
theorem k0_off68_inb : ∀ (i : grid0.Coords) (v60 : BitVec 32) (k0_hw34 : k0_chk34 i v60), ∀ (k0_h55 : k0_cond55 i = 1#1), ∀ (k0_h70 : k0_cond70 v60 = 1#1), ∀ a, (k0_off68 v60) a + S1x1x512.size a ≤ S3x1x512.size a := fun i v60 k0_hw34 k0_h55 k0_h70 => k0_hw34.2 k0_h55 k0_h70

def k0_off69 (v67 : BitVec 32) : Fin 3 → Nat :=
  let c0_i32_56 : BitVec 32 := 0#32
  let v102 : BitVec 32 := Scalar.maxsi v67 c0_i32_56
  let v104 : Index := Scalar.indexCast v102
  let c0_58 : Index := 0#32
  let c0_59 : Index := 0#32
  ![v104.toNat, 0, 0]
def k0_cond72 (v67 : BitVec 32) : BitVec 1 :=
  let c0_i32_36 : BitVec 32 := 0#32
  let v68 : BitVec 1 := Scalar.cmpi .sge v67 c0_i32_36
  let v69 : BitVec 32 := Scalar.extui v68
  let c0_i32_37 : BitVec 32 := 0#32
  let v70 : BitVec 1 := Scalar.cmpi .ne v69 c0_i32_37
  v70

def k0_off70 (v67 : BitVec 32) : Fin 3 → Nat :=
  let c0_i32_56 : BitVec 32 := 0#32
  let v102 : BitVec 32 := Scalar.maxsi v67 c0_i32_56
  let v108 : Index := Scalar.indexCast v102
  let c0_60 : Index := 0#32
  let c0_61 : Index := 0#32
  ![v108.toNat, 0, 0]

def k0_chk35 (i : grid0.Coords) (v67 : BitVec 32) : Prop :=
  (∀ (k0_h55 : k0_cond55 i = 1#1), ∀ (k0_h72 : k0_cond72 v67 = 1#1), ∀ a, (k0_off69 v67) a + S1x3584x512.size a ≤ S3x3584x512.size a) ∧
  (∀ (k0_h55 : k0_cond55 i = 1#1), ∀ (k0_h72 : k0_cond72 v67 = 1#1), ∀ a, (k0_off70 v67) a + S1x1x512.size a ≤ S3x1x512.size a)
theorem k0_off69_inb : ∀ (i : grid0.Coords) (v67 : BitVec 32) (k0_hw35 : k0_chk35 i v67), ∀ (k0_h55 : k0_cond55 i = 1#1), ∀ (k0_h72 : k0_cond72 v67 = 1#1), ∀ a, (k0_off69 v67) a + S1x3584x512.size a ≤ S3x3584x512.size a := fun i v67 k0_hw35 k0_h55 k0_h72 => k0_hw35.1 k0_h55 k0_h72
theorem k0_off70_inb : ∀ (i : grid0.Coords) (v67 : BitVec 32) (k0_hw35 : k0_chk35 i v67), ∀ (k0_h55 : k0_cond55 i = 1#1), ∀ (k0_h72 : k0_cond72 v67 = 1#1), ∀ a, (k0_off70 v67) a + S1x1x512.size a ≤ S3x1x512.size a := fun i v67 k0_hw35 k0_h55 k0_h72 => k0_hw35.2 k0_h55 k0_h72

def k0_off71 (v74 : BitVec 32) : Fin 3 → Nat :=
  let c0_i32_56 : BitVec 32 := 0#32
  let v102 : BitVec 32 := Scalar.maxsi v74 c0_i32_56
  let v104 : Index := Scalar.indexCast v102
  let c0_58 : Index := 0#32
  let c0_59 : Index := 0#32
  ![v104.toNat, 0, 0]
def k0_cond74 (v74 : BitVec 32) : BitVec 1 :=
  let c0_i32_40 : BitVec 32 := 0#32
  let v75 : BitVec 1 := Scalar.cmpi .sge v74 c0_i32_40
  let v76 : BitVec 32 := Scalar.extui v75
  let c0_i32_41 : BitVec 32 := 0#32
  let v77 : BitVec 1 := Scalar.cmpi .ne v76 c0_i32_41
  v77

def k0_off72 (v74 : BitVec 32) : Fin 3 → Nat :=
  let c0_i32_56 : BitVec 32 := 0#32
  let v102 : BitVec 32 := Scalar.maxsi v74 c0_i32_56
  let v108 : Index := Scalar.indexCast v102
  let c0_60 : Index := 0#32
  let c0_61 : Index := 0#32
  ![v108.toNat, 0, 0]

def k0_chk36 (i : grid0.Coords) (v74 : BitVec 32) : Prop :=
  (∀ (k0_h55 : k0_cond55 i = 1#1), ∀ (k0_h74 : k0_cond74 v74 = 1#1), ∀ a, (k0_off71 v74) a + S1x3584x512.size a ≤ S3x3584x512.size a) ∧
  (∀ (k0_h55 : k0_cond55 i = 1#1), ∀ (k0_h74 : k0_cond74 v74 = 1#1), ∀ a, (k0_off72 v74) a + S1x1x512.size a ≤ S3x1x512.size a)
theorem k0_off71_inb : ∀ (i : grid0.Coords) (v74 : BitVec 32) (k0_hw36 : k0_chk36 i v74), ∀ (k0_h55 : k0_cond55 i = 1#1), ∀ (k0_h74 : k0_cond74 v74 = 1#1), ∀ a, (k0_off71 v74) a + S1x3584x512.size a ≤ S3x3584x512.size a := fun i v74 k0_hw36 k0_h55 k0_h74 => k0_hw36.1 k0_h55 k0_h74
theorem k0_off72_inb : ∀ (i : grid0.Coords) (v74 : BitVec 32) (k0_hw36 : k0_chk36 i v74), ∀ (k0_h55 : k0_cond55 i = 1#1), ∀ (k0_h74 : k0_cond74 v74 = 1#1), ∀ a, (k0_off72 v74) a + S1x1x512.size a ≤ S3x1x512.size a := fun i v74 k0_hw36 k0_h55 k0_h74 => k0_hw36.2 k0_h55 k0_h74

def k0_off73 (v81 : BitVec 32) : Fin 3 → Nat :=
  let c0_i32_56 : BitVec 32 := 0#32
  let v102 : BitVec 32 := Scalar.maxsi v81 c0_i32_56
  let v104 : Index := Scalar.indexCast v102
  let c0_58 : Index := 0#32
  let c0_59 : Index := 0#32
  ![v104.toNat, 0, 0]
def k0_cond76 (v81 : BitVec 32) : BitVec 1 :=
  let c0_i32_44 : BitVec 32 := 0#32
  let v82 : BitVec 1 := Scalar.cmpi .sge v81 c0_i32_44
  let v83 : BitVec 32 := Scalar.extui v82
  let c0_i32_45 : BitVec 32 := 0#32
  let v84 : BitVec 1 := Scalar.cmpi .ne v83 c0_i32_45
  v84

def k0_off74 (v81 : BitVec 32) : Fin 3 → Nat :=
  let c0_i32_56 : BitVec 32 := 0#32
  let v102 : BitVec 32 := Scalar.maxsi v81 c0_i32_56
  let v108 : Index := Scalar.indexCast v102
  let c0_60 : Index := 0#32
  let c0_61 : Index := 0#32
  ![v108.toNat, 0, 0]

def k0_chk37 (i : grid0.Coords) (v81 : BitVec 32) : Prop :=
  (∀ (k0_h55 : k0_cond55 i = 1#1), ∀ (k0_h76 : k0_cond76 v81 = 1#1), ∀ a, (k0_off73 v81) a + S1x3584x512.size a ≤ S3x3584x512.size a) ∧
  (∀ (k0_h55 : k0_cond55 i = 1#1), ∀ (k0_h76 : k0_cond76 v81 = 1#1), ∀ a, (k0_off74 v81) a + S1x1x512.size a ≤ S3x1x512.size a)
theorem k0_off73_inb : ∀ (i : grid0.Coords) (v81 : BitVec 32) (k0_hw37 : k0_chk37 i v81), ∀ (k0_h55 : k0_cond55 i = 1#1), ∀ (k0_h76 : k0_cond76 v81 = 1#1), ∀ a, (k0_off73 v81) a + S1x3584x512.size a ≤ S3x3584x512.size a := fun i v81 k0_hw37 k0_h55 k0_h76 => k0_hw37.1 k0_h55 k0_h76
theorem k0_off74_inb : ∀ (i : grid0.Coords) (v81 : BitVec 32) (k0_hw37 : k0_chk37 i v81), ∀ (k0_h55 : k0_cond55 i = 1#1), ∀ (k0_h76 : k0_cond76 v81 = 1#1), ∀ a, (k0_off74 v81) a + S1x1x512.size a ≤ S3x1x512.size a := fun i v81 k0_hw37 k0_h55 k0_h76 => k0_hw37.2 k0_h55 k0_h76

def k0_off75 (v88 : BitVec 32) : Fin 3 → Nat :=
  let c0_i32_56 : BitVec 32 := 0#32
  let v102 : BitVec 32 := Scalar.maxsi v88 c0_i32_56
  let v104 : Index := Scalar.indexCast v102
  let c0_58 : Index := 0#32
  let c0_59 : Index := 0#32
  ![v104.toNat, 0, 0]
def k0_cond78 (v88 : BitVec 32) : BitVec 1 :=
  let c0_i32_48 : BitVec 32 := 0#32
  let v89 : BitVec 1 := Scalar.cmpi .sge v88 c0_i32_48
  let v90 : BitVec 32 := Scalar.extui v89
  let c0_i32_49 : BitVec 32 := 0#32
  let v91 : BitVec 1 := Scalar.cmpi .ne v90 c0_i32_49
  v91

def k0_off76 (v88 : BitVec 32) : Fin 3 → Nat :=
  let c0_i32_56 : BitVec 32 := 0#32
  let v102 : BitVec 32 := Scalar.maxsi v88 c0_i32_56
  let v108 : Index := Scalar.indexCast v102
  let c0_60 : Index := 0#32
  let c0_61 : Index := 0#32
  ![v108.toNat, 0, 0]

def k0_chk38 (i : grid0.Coords) (v88 : BitVec 32) : Prop :=
  (∀ (k0_h55 : k0_cond55 i = 1#1), ∀ (k0_h78 : k0_cond78 v88 = 1#1), ∀ a, (k0_off75 v88) a + S1x3584x512.size a ≤ S3x3584x512.size a) ∧
  (∀ (k0_h55 : k0_cond55 i = 1#1), ∀ (k0_h78 : k0_cond78 v88 = 1#1), ∀ a, (k0_off76 v88) a + S1x1x512.size a ≤ S3x1x512.size a)
theorem k0_off75_inb : ∀ (i : grid0.Coords) (v88 : BitVec 32) (k0_hw38 : k0_chk38 i v88), ∀ (k0_h55 : k0_cond55 i = 1#1), ∀ (k0_h78 : k0_cond78 v88 = 1#1), ∀ a, (k0_off75 v88) a + S1x3584x512.size a ≤ S3x3584x512.size a := fun i v88 k0_hw38 k0_h55 k0_h78 => k0_hw38.1 k0_h55 k0_h78
theorem k0_off76_inb : ∀ (i : grid0.Coords) (v88 : BitVec 32) (k0_hw38 : k0_chk38 i v88), ∀ (k0_h55 : k0_cond55 i = 1#1), ∀ (k0_h78 : k0_cond78 v88 = 1#1), ∀ a, (k0_off76 v88) a + S1x1x512.size a ≤ S3x1x512.size a := fun i v88 k0_hw38 k0_h55 k0_h78 => k0_hw38.2 k0_h55 k0_h78

def k0_off77 (v95 : BitVec 32) : Fin 3 → Nat :=
  let c0_i32_56 : BitVec 32 := 0#32
  let v102 : BitVec 32 := Scalar.maxsi v95 c0_i32_56
  let v104 : Index := Scalar.indexCast v102
  let c0_58 : Index := 0#32
  let c0_59 : Index := 0#32
  ![v104.toNat, 0, 0]
def k0_cond80 (v95 : BitVec 32) : BitVec 1 :=
  let c0_i32_52 : BitVec 32 := 0#32
  let v96 : BitVec 1 := Scalar.cmpi .sge v95 c0_i32_52
  let v97 : BitVec 32 := Scalar.extui v96
  let c0_i32_53 : BitVec 32 := 0#32
  let v98 : BitVec 1 := Scalar.cmpi .ne v97 c0_i32_53
  v98

def k0_off78 (v95 : BitVec 32) : Fin 3 → Nat :=
  let c0_i32_56 : BitVec 32 := 0#32
  let v102 : BitVec 32 := Scalar.maxsi v95 c0_i32_56
  let v108 : Index := Scalar.indexCast v102
  let c0_60 : Index := 0#32
  let c0_61 : Index := 0#32
  ![v108.toNat, 0, 0]

def k0_chk39 (i : grid0.Coords) (v95 : BitVec 32) : Prop :=
  (∀ (k0_h55 : k0_cond55 i = 1#1), ∀ (k0_h80 : k0_cond80 v95 = 1#1), ∀ a, (k0_off77 v95) a + S1x3584x512.size a ≤ S3x3584x512.size a) ∧
  (∀ (k0_h55 : k0_cond55 i = 1#1), ∀ (k0_h80 : k0_cond80 v95 = 1#1), ∀ a, (k0_off78 v95) a + S1x1x512.size a ≤ S3x1x512.size a)
theorem k0_off77_inb : ∀ (i : grid0.Coords) (v95 : BitVec 32) (k0_hw39 : k0_chk39 i v95), ∀ (k0_h55 : k0_cond55 i = 1#1), ∀ (k0_h80 : k0_cond80 v95 = 1#1), ∀ a, (k0_off77 v95) a + S1x3584x512.size a ≤ S3x3584x512.size a := fun i v95 k0_hw39 k0_h55 k0_h80 => k0_hw39.1 k0_h55 k0_h80
theorem k0_off78_inb : ∀ (i : grid0.Coords) (v95 : BitVec 32) (k0_hw39 : k0_chk39 i v95), ∀ (k0_h55 : k0_cond55 i = 1#1), ∀ (k0_h80 : k0_cond80 v95 = 1#1), ∀ a, (k0_off78 v95) a + S1x1x512.size a ≤ S3x1x512.size a := fun i v95 k0_hw39 k0_h55 k0_h80 => k0_hw39.2 k0_h55 k0_h80

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c6_i32 : BitVec 32 := 6#32
  let v0 : BitVec 32 := Scalar.minsi arg0 c6_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c7_i32 : BitVec 32 := 7#32
  let v0 : BitVec 32 := Scalar.subi arg0 c7_i32
  let c0_i32 : BitVec 32 := 0#32
  let c6_i32 : BitVec 32 := 6#32
  let v1 : BitVec 32 := Scalar.maxsi c0_i32 v0
  let v2 : BitVec 32 := Scalar.minsi c6_i32 v1
  let c0_i32_0 : BitVec 32 := 0#32
  let c0_i32_1 : BitVec 32 := 0#32
  ![c0_i32_0.toNat, v2.toNat]

def cc0_transform_7 (i : grid0.Coords) : Fin 2 → Nat :=
  let arg0 : BitVec 32 := BitVec.ofNat 32 (i 0).val
  let c14_i32 : BitVec 32 := 14#32
  let v0 : BitVec 32 := Scalar.subi arg0 c14_i32
  let c0_i32 : BitVec 32 := 0#32
  let c6_i32 : BitVec 32 := 6#32
  let v1 : BitVec 32 := Scalar.maxsi c0_i32 v0
  let v2 : BitVec 32 := Scalar.minsi c6_i32 v1
  let c0_i32_0 : BitVec 32 := 0#32
  let c0_i32_1 : BitVec 32 := 0#32
  ![c0_i32_0.toNat, v2.toNat]

abbrev stage0_0 : Fin 1 → Memref sig .tc .smem S13 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1248x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1248x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1248x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1248x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvRefIdeal.lean ====
abbrev S4 : Shape := ⟨1, ![4]⟩
abbrev S1248x3584 : Shape := ⟨2, ![1248, 3584]⟩
abbrev S3x3584x10752 : Shape := ⟨3, ![3, 3584, 10752]⟩
abbrev S3x10752 : Shape := ⟨2, ![3, 10752]⟩
abbrev S3 : Shape := ⟨1, ![3]⟩
abbrev S_ : Shape := ⟨0, ![]⟩
abbrev S1248 : Shape := ⟨1, ![1248]⟩
abbrev S1248x1 : Shape := ⟨2, ![1248, 1]⟩
abbrev S1x3 : Shape := ⟨2, ![1, 3]⟩
abbrev S1248x3 : Shape := ⟨2, ![1248, 3]⟩
abbrev S3x1x10752 : Shape := ⟨3, ![3, 1, 10752]⟩
abbrev S1248x10752 : Shape := ⟨2, ![1248, 10752]⟩
abbrev S1x3584x10752 : Shape := ⟨3, ![1, 3584, 10752]⟩
abbrev S3584x10752 : Shape := ⟨2, ![3584, 10752]⟩
abbrev S1x1x10752 : Shape := ⟨3, ![1, 1, 10752]⟩
abbrev S1x10752 : Shape := ⟨2, ![1, 10752]⟩

abbrev nBuf : Space → Nat
  | .hbm => 65
  | .vmem => 8
  | .smem => 0
  | _ => 0

abbrev bufTy : (tb : Table) → Fin (tcTables nBuf tb) → BufTy
  | .hbm, ⟨0, _⟩ => ⟨S4, .i32⟩
  | .hbm, ⟨1, _⟩ => ⟨S1248x3584, .bf16⟩
  | .hbm, ⟨2, _⟩ => ⟨S3x3584x10752, .fp8e4m3⟩
  | .hbm, ⟨3, _⟩ => ⟨S3x10752, .f32⟩
  | .hbm, ⟨4, _⟩ => ⟨S3x10752, .f32⟩
  | .hbm, ⟨5, _⟩ => ⟨S3, .i32⟩
  | .hbm, ⟨6, _⟩ => ⟨S3, .i32⟩
  | .hbm, ⟨7, _⟩ => ⟨S3, .i32⟩
  | .hbm, ⟨8, _⟩ => ⟨S_, .i32⟩
  | .hbm, ⟨9, _⟩ => ⟨S3, .i32⟩
  | .hbm, ⟨10, _⟩ => ⟨S3, .i32⟩
  | .hbm, ⟨11, _⟩ => ⟨S_, .i32⟩
  | .hbm, ⟨12, _⟩ => ⟨S_, .i32⟩
  | .hbm, ⟨13, _⟩ => ⟨S3, .i32⟩
  | .hbm, ⟨14, _⟩ => ⟨S3, .i32⟩
  | .hbm, ⟨15, _⟩ => ⟨S3, .i32⟩
  | .hbm, ⟨16, _⟩ => ⟨S_, .i32⟩
  | .hbm, ⟨17, _⟩ => ⟨S3, .i32⟩
  | .hbm, ⟨18, _⟩ => ⟨S3, .i1⟩
  | .hbm, ⟨19, _⟩ => ⟨S3, .i32⟩
  | .hbm, ⟨20, _⟩ => ⟨S3, .i32⟩
  | .hbm, ⟨21, _⟩ => ⟨S_, .i32⟩
  | .hbm, ⟨22, _⟩ => ⟨S3, .i32⟩
  | .hbm, ⟨23, _⟩ => ⟨S3, .i1⟩
  | .hbm, ⟨24, _⟩ => ⟨S3, .i1⟩
  | .hbm, ⟨25, _⟩ => ⟨S_, .i32⟩
  | .hbm, ⟨26, _⟩ => ⟨S3, .i32⟩
  | .hbm, ⟨27, _⟩ => ⟨S3, .i32⟩
  | .hbm, ⟨28, _⟩ => ⟨S3, .i32⟩
  | .hbm, ⟨29, _⟩ => ⟨S_, .i32⟩
  | .hbm, ⟨30, _⟩ => ⟨S_, .i32⟩
  | .hbm, ⟨31, _⟩ => ⟨S3, .i32⟩
  | .hbm, ⟨32, _⟩ => ⟨S1248, .i32⟩
  | .hbm, ⟨33, _⟩ => ⟨S_, .i32⟩
  | .hbm, ⟨34, _⟩ => ⟨S_, .i32⟩
  | .hbm, ⟨35, _⟩ => ⟨S1248, .i32⟩
  | .hbm, ⟨36, _⟩ => ⟨S1248, .i32⟩
  | .hbm, ⟨37, _⟩ => ⟨S1248, .i32⟩
  | .hbm, ⟨38, _⟩ => ⟨S_, .i32⟩
  | .hbm, ⟨39, _⟩ => ⟨S1248, .i32⟩
  | .hbm, ⟨40, _⟩ => ⟨S1248, .i1⟩
  | .hbm, ⟨41, _⟩ => ⟨S1248, .i32⟩
  | .hbm, ⟨42, _⟩ => ⟨S1248, .i32⟩
  | .hbm, ⟨43, _⟩ => ⟨S_, .i32⟩
  | .hbm, ⟨44, _⟩ => ⟨S1248, .i32⟩
  | .hbm, ⟨45, _⟩ => ⟨S1248, .i1⟩
  | .hbm, ⟨46, _⟩ => ⟨S1248, .i1⟩
  | .hbm, ⟨47, _⟩ => ⟨S_, .i32⟩
  | .hbm, ⟨48, _⟩ => ⟨S1248, .i32⟩
  | .hbm, ⟨49, _⟩ => ⟨S1248, .i32⟩
  | .hbm, ⟨50, _⟩ => ⟨S1248, .i32⟩
  | .hbm, ⟨51, _⟩ => ⟨S1248x1, .i32⟩
  | .hbm, ⟨52, _⟩ => ⟨S1x3, .i32⟩
  | .hbm, ⟨53, _⟩ => ⟨S1248x3, .i32⟩
  | .hbm, ⟨54, _⟩ => ⟨S1248x3, .i32⟩
  | .hbm, ⟨55, _⟩ => ⟨S1248x3, .i1⟩
  | .hbm, ⟨56, _⟩ => ⟨S1248x3, .i32⟩
  | .hbm, ⟨57, _⟩ => ⟨S_, .i32⟩
  | .hbm, ⟨58, _⟩ => ⟨S1248, .i32⟩
  | .hbm, ⟨59, _⟩ => ⟨S1248x1, .i32⟩
  | .hbm, ⟨60, _⟩ => ⟨S3x1x10752, .f32⟩
  | .hbm, ⟨61, _⟩ => ⟨S3x1x10752, .f32⟩
  | .hbm, ⟨62, _⟩ => ⟨S1248x3584, .f32⟩
  | .hbm, ⟨63, _⟩ => ⟨S1248x3584, .bf16⟩
  | .hbm, ⟨64, _⟩ => ⟨S1248x3584, .bf16⟩
  | .local _ .vmem, ⟨0, _⟩ => ⟨S1248x1, .i32⟩
  | .local _ .vmem, ⟨1, _⟩ => ⟨S1248x3584, .bf16⟩
  | .local _ .vmem, ⟨2, _⟩ => ⟨S3x3584x10752, .fp8e4m3⟩
  | .local _ .vmem, ⟨3, _⟩ => ⟨S3x1x10752, .f32⟩
  | .local _ .vmem, ⟨4, _⟩ => ⟨S3x1x10752, .f32⟩
  | .local _ .vmem, ⟨5, _⟩ => ⟨S1248x3584, .f32⟩
  | .local _ .vmem, ⟨6, _⟩ => ⟨S1248x3584, .bf16⟩
  | .local _ .vmem, ⟨7, _⟩ => ⟨S1248x3584, .bf16⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_c : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_0 : Ref sig .tc := ⟨.hbm, 25, rfl⟩
abbrev main_call1_v12 : Ref sig .tc := ⟨.hbm, 26, rfl⟩
abbrev main_call1_v13 : Ref sig .tc := ⟨.hbm, 27, rfl⟩
abbrev main_v3 : Ref sig .tc := ⟨.hbm, 28, rfl⟩
abbrev main_call2_call0_c : Ref sig .tc := ⟨.hbm, 29, rfl⟩
abbrev main_call2_call0_v0 : Ref sig .tc := ⟨.hbm, 30, rfl⟩
abbrev main_v4 : Ref sig .tc := ⟨.hbm, 31, rfl⟩
abbrev main_v5 : Ref sig .tc := ⟨.hbm, 32, rfl⟩
abbrev main_c_1 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_v8 : Ref sig .tc := ⟨.hbm, 42, rfl⟩
abbrev main_call3_c : Ref sig .tc := ⟨.hbm, 43, rfl⟩
abbrev main_call3_v9 : Ref sig .tc := ⟨.hbm, 44, rfl⟩
abbrev main_call3_v10 : Ref sig .tc := ⟨.hbm, 45, rfl⟩
abbrev main_call3_v11 : Ref sig .tc := ⟨.hbm, 46, rfl⟩
abbrev main_call3_c_0 : Ref sig .tc := ⟨.hbm, 47, rfl⟩
abbrev main_call3_v12 : Ref sig .tc := ⟨.hbm, 48, rfl⟩
abbrev main_call3_v13 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_c_2 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17_0 : Ref sig .tc := ⟨.hbm, 62, rfl⟩
abbrev main_v17_1 : Ref sig .tc := ⟨.hbm, 63, rfl⟩
abbrev main_v17_2 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1248x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1248x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3584x10752 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1x10752 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1x10752 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1248x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1248x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1248x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Out.lean ====
abbrev S4 : Shape := ⟨1, ![4]⟩
abbrev S1248x3584 : Shape := ⟨2, ![1248, 3584]⟩
abbrev S3x3584x3584 : Shape := ⟨3, ![3, 3584, 3584]⟩
abbrev S3x3584 : Shape := ⟨2, ![3, 3584]⟩
abbrev S3 : Shape := ⟨1, ![3]⟩
abbrev S1024x3584 : Shape := ⟨2, ![1024, 3584]⟩
abbrev S_ : Shape := ⟨0, ![]⟩
abbrev S1 : Shape := ⟨1, ![1]⟩
abbrev S13 : Shape := ⟨1, ![13]⟩
abbrev S13x1 : Shape := ⟨2, ![13, 1]⟩
abbrev S1x3 : Shape := ⟨2, ![1, 3]⟩
abbrev S13x3 : Shape := ⟨2, ![13, 3]⟩
abbrev S3x1x3584 : Shape := ⟨3, ![3, 1, 3584]⟩
abbrev S3x3584x512 : Shape := ⟨3, ![3, 3584, 512]⟩
abbrev S3x1x512 : Shape := ⟨3, ![3, 1, 512]⟩
abbrev S1024x512 : Shape := ⟨2, ![1024, 512]⟩
abbrev S4x1248x128 : Shape := ⟨3, ![4, 1248, 128]⟩
abbrev S96x3584 : Shape := ⟨2, ![96, 3584]⟩
abbrev S1x3584x512 : Shape := ⟨3, ![1, 3584, 512]⟩
abbrev S3584x512 : Shape := ⟨2, ![3584, 512]⟩
abbrev S96x512 : Shape := ⟨2, ![96, 512]⟩
abbrev S1x1x512 : Shape := ⟨3, ![1, 1, 512]⟩
abbrev S1x512 : Shape := ⟨2, ![1, 512]⟩
abbrev S96x128 : Shape := ⟨2, ![96, 128]⟩
abbrev S1x96x128 : Shape := ⟨3, ![1, 96, 128]⟩
abbrev S1x128 : Shape := ⟨2, ![1, 128]⟩
abbrev S64x128 : Shape := ⟨2, ![64, 128]⟩
abbrev S1x64x128 : Shape := ⟨3, ![1, 64, 128]⟩

abbrev nBuf : Space → Nat
  | .hbm => 66
  | .vmem => 12
  | .smem => 4
  | _ => 0

abbrev bufTy : (tb : Table) → Fin (tcTables nBuf tb) → BufTy
  | .hbm, ⟨0, _⟩ => ⟨S4, .i32⟩
  | .hbm, ⟨1, _⟩ => ⟨S1248x3584, .bf16⟩
  | .hbm, ⟨2, _⟩ => ⟨S3x3584x3584, .fp8e4m3⟩
  | .hbm, ⟨3, _⟩ => ⟨S3x3584, .f32⟩
  | .hbm, ⟨4, _⟩ => ⟨S3x3584, .f32⟩
  | .hbm, ⟨5, _⟩ => ⟨S3, .f32⟩
  | .hbm, ⟨6, _⟩ => ⟨S1024x3584, .bf16⟩
  | .hbm, ⟨7, _⟩ => ⟨S3, .i32⟩
  | .hbm, ⟨8, _⟩ => ⟨S3, .i32⟩
  | .hbm, ⟨9, _⟩ => ⟨S3, .i32⟩
  | .hbm, ⟨10, _⟩ => ⟨S_, .i32⟩
  | .hbm, ⟨11, _⟩ => ⟨S3, .i32⟩
  | .hbm, ⟨12, _⟩ => ⟨S3, .i32⟩
  | .hbm, ⟨13, _⟩ => ⟨S_, .i32⟩
  | .hbm, ⟨14, _⟩ => ⟨S3, .i32⟩
  | .hbm, ⟨15, _⟩ => ⟨S3, .i32⟩
  | .hbm, ⟨16, _⟩ => ⟨S_, .i32⟩
  | .hbm, ⟨17, _⟩ => ⟨S_, .i32⟩
  | .hbm, ⟨18, _⟩ => ⟨S3, .i32⟩
  | .hbm, ⟨19, _⟩ => ⟨S3, .i32⟩
  | .hbm, ⟨20, _⟩ => ⟨S3, .i32⟩
  | .hbm, ⟨21, _⟩ => ⟨S_, .i32⟩
  | .hbm, ⟨22, _⟩ => ⟨S3, .i32⟩
  | .hbm, ⟨23, _⟩ => ⟨S3, .i1⟩
  | .hbm, ⟨24, _⟩ => ⟨S3, .i32⟩
  | .hbm, ⟨25, _⟩ => ⟨S3, .i32⟩
  | .hbm, ⟨26, _⟩ => ⟨S_, .i32⟩
  | .hbm, ⟨27, _⟩ => ⟨S3, .i32⟩
  | .hbm, ⟨28, _⟩ => ⟨S3, .i1⟩
  | .hbm, ⟨29, _⟩ => ⟨S3, .i1⟩
  | .hbm, ⟨30, _⟩ => ⟨S_, .i32⟩
  | .hbm, ⟨31, _⟩ => ⟨S3, .i32⟩
  | .hbm, ⟨32, _⟩ => ⟨S3, .i32⟩
  | .hbm, ⟨33, _⟩ => ⟨S3, .i32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S3, .i32⟩
  | .hbm, ⟨39, _⟩ => ⟨S4, .i32⟩
  | .hbm, ⟨40, _⟩ => ⟨S13, .i32⟩
  | .hbm, ⟨41, _⟩ => ⟨S13x1, .i32⟩
  | .hbm, ⟨42, _⟩ => ⟨S3, .i32⟩
  | .hbm, ⟨43, _⟩ => ⟨S1x3, .i32⟩
  | .hbm, ⟨44, _⟩ => ⟨S13x3, .i32⟩
  | .hbm, ⟨45, _⟩ => ⟨S13x3, .i32⟩
  | .hbm, ⟨46, _⟩ => ⟨S13x3, .i1⟩
  | .hbm, ⟨47, _⟩ => ⟨S13x3, .i32⟩
  | .hbm, ⟨48, _⟩ => ⟨S_, .i32⟩
  | .hbm, ⟨49, _⟩ => ⟨S13, .i32⟩
  | .hbm, ⟨50, _⟩ => ⟨S_, .i32⟩
  | .hbm, ⟨51, _⟩ => ⟨S13, .i32⟩
  | .hbm, ⟨52, _⟩ => ⟨S13, .i1⟩
  | .hbm, ⟨53, _⟩ => ⟨S_, .i32⟩
  | .hbm, ⟨54, _⟩ => ⟨S_, .i32⟩
  | .hbm, ⟨55, _⟩ => ⟨S13, .i32⟩
  | .hbm, ⟨56, _⟩ => ⟨S13, .i32⟩
  | .hbm, ⟨57, _⟩ => ⟨S3, .i32⟩
  | .hbm, ⟨58, _⟩ => ⟨S_, .i32⟩
  | .hbm, ⟨59, _⟩ => ⟨S3, .i32⟩
  | .hbm, ⟨60, _⟩ => ⟨S3, .i32⟩
  | .hbm, ⟨61, _⟩ => ⟨S3, .i32⟩
  | .hbm, ⟨62, _⟩ => ⟨S3, .i32⟩
  | .hbm, ⟨63, _⟩ => ⟨S3x1x3584, .f32⟩
  | .hbm, ⟨64, _⟩ => ⟨S3x1x3584, .f32⟩
  | .hbm, ⟨65, _⟩ => ⟨S1024x3584, .bf16⟩
  | .local _ .vmem, ⟨0, _⟩ => ⟨S1248x3584, .bf16⟩
  | .local _ .vmem, ⟨1, _⟩ => ⟨S3x3584x512, .fp8e4m3⟩
  | .local _ .vmem, ⟨2, _⟩ => ⟨S3x3584x512, .fp8e4m3⟩
  | .local _ .vmem, ⟨3, _⟩ => ⟨S3x1x512, .f32⟩
  | .local _ .vmem, ⟨4, _⟩ => ⟨S3x1x512, .f32⟩
  | .local _ .vmem, ⟨5, _⟩ => ⟨S3x1x512, .f32⟩
  | .local _ .vmem, ⟨6, _⟩ => ⟨S3x1x512, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S4x1248x128, .f32⟩
  | .local _ .smem, ⟨0, _⟩ => ⟨S13, .i32⟩
  | .local _ .smem, ⟨1, _⟩ => ⟨S4, .i32⟩
  | .local _ .smem, ⟨2, _⟩ => ⟨S3, .i32⟩
  | .local _ .smem, ⟨3, _⟩ => ⟨S3, .f32⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_c : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_0 : Ref sig .tc := ⟨.hbm, 30, rfl⟩
abbrev main_call1_v12 : Ref sig .tc := ⟨.hbm, 31, rfl⟩
abbrev main_call1_v13 : Ref sig .tc := ⟨.hbm, 32, rfl⟩
abbrev main_v5 : Ref sig .tc := ⟨.hbm, 33, rfl⟩
abbrev main_c_2 : Ref sig .tc := ⟨.hbm, 34, rfl⟩
abbrev main_v6 : Ref sig .tc := ⟨.hbm, 35, rfl⟩
abbrev main_call2_call0_c : Ref sig .tc := ⟨.hbm, 36, rfl⟩
abbrev main_call2_call0_v0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_c_3 : Ref sig .tc := ⟨.hbm, 48, rfl⟩
abbrev main_v17 : Ref sig .tc := ⟨.hbm, 49, rfl⟩
abbrev main_c_4 : Ref sig .tc := ⟨.hbm, 50, rfl⟩
abbrev main_v18 : Ref sig .tc := ⟨.hbm, 51, rfl⟩
abbrev main_v19 : Ref sig .tc := ⟨.hbm, 52, rfl⟩
abbrev main_c_5 : Ref sig .tc := ⟨.hbm, 53, rfl⟩
abbrev main_call3_v0 : Ref sig .tc := ⟨.hbm, 54, rfl⟩
abbrev main_call3_v1 : Ref sig .tc := ⟨.hbm, 55, rfl⟩
abbrev main_v20 : Ref sig .tc := ⟨.hbm, 56, rfl⟩
abbrev main_v21 : Ref sig .tc := ⟨.hbm, 57, rfl⟩
abbrev main_c_6 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev cc0_stg4_0 : Ref sig .tc := ⟨.vmem, 0, rfl⟩
abbrev cc0_stg5_0 : Ref sig .tc := ⟨.vmem, 1, rfl⟩
abbrev cc0_stg5_1 : Ref sig .tc := ⟨.vmem, 2, rfl⟩
abbrev cc0_stg6_0 : Ref sig .tc := ⟨.vmem, 3, rfl⟩
abbrev cc0_stg6_1 : Ref sig .tc := ⟨.vmem, 4, rfl⟩
abbrev cc0_stg7_0 : Ref sig .tc := ⟨.vmem, 5, rfl⟩
abbrev cc0_stg7_1 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg9_0 : Ref sig .tc := ⟨.vmem, 9, rfl⟩
abbrev cc0_stg9_1 : Ref sig .tc := ⟨.vmem, 10, rfl⟩
abbrev cc0_scratch0 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![7], ![false]⟩

def k0_off1 (v0 : BitVec 32) : Fin 3 → Nat :=
  let c0_i32_41 : BitVec 32 := 0#32
  let v86 : BitVec 32 := Scalar.maxsi v0 c0_i32_41
  let v88 : Index := Scalar.indexCast v86
  let c0_44 : Index := 0#32
  let c0_45 : Index := 0#32
  ![v88.toNat, 0, 0]
def k0_cond1 (v0 : BitVec 32) : BitVec 1 :=
  let c0_i32 : BitVec 32 := 0#32
  let v1 : BitVec 1 := Scalar.cmpi .sge v0 c0_i32
  let v2 : BitVec 32 := Scalar.extui v1
  let c0_i32_0 : BitVec 32 := 0#32
  let v3 : BitVec 1 := Scalar.cmpi .ne v2 c0_i32_0
  v3

def k0_off2 (v0 : BitVec 32) : Fin 3 → Nat :=
  let c0_i32_41 : BitVec 32 := 0#32
  let v86 : BitVec 32 := Scalar.maxsi v0 c0_i32_41
  let v92 : Index := Scalar.indexCast v86
  let c0_47 : Index := 0#32
  let c0_48 : Index := 0#32
  ![v92.toNat, 0, 0]

def k0_chk1 (v0 : BitVec 32) : Prop :=
  (∀ (k0_h1 : k0_cond1 v0 = 1#1), ∀ a, (k0_off1 v0) a + S1x3584x512.size a ≤ S3x3584x512.size a) ∧
  (∀ (k0_h1 : k0_cond1 v0 = 1#1), ∀ a, (k0_off2 v0) a + S1x1x512.size a ≤ S3x1x512.size a)
theorem k0_off1_inb : ∀ (v0 : BitVec 32) (k0_hw1 : k0_chk1 v0), ∀ (k0_h1 : k0_cond1 v0 = 1#1), ∀ a, (k0_off1 v0) a + S1x3584x512.size a ≤ S3x3584x512.size a := fun v0 k0_hw1 k0_h1 => k0_hw1.1 k0_h1
theorem k0_off2_inb : ∀ (v0 : BitVec 32) (k0_hw1 : k0_chk1 v0), ∀ (k0_h1 : k0_cond1 v0 = 1#1), ∀ a, (k0_off2 v0) a + S1x1x512.size a ≤ S3x1x512.size a := fun v0 k0_hw1 k0_h1 => k0_hw1.2 k0_h1

def k0_off3 (v4 : BitVec 32) : Fin 3 → Nat :=
  let c0_i32_41 : BitVec 32 := 0#32
  let v86 : BitVec 32 := Scalar.maxsi v4 c0_i32_41
  let v88 : Index := Scalar.indexCast v86
  let c0_43 : Index := 0#32
  let c0_44 : Index := 0#32
  ![v88.toNat, 0, 0]
def k0_cond2 (v4 : BitVec 32) : BitVec 1 :=
  let c0_i32_1 : BitVec 32 := 0#32
  let v5 : BitVec 1 := Scalar.cmpi .sge v4 c0_i32_1
  let v6 : BitVec 32 := Scalar.extui v5
  let c0_i32_2 : BitVec 32 := 0#32
  let v7 : BitVec 1 := Scalar.cmpi .ne v6 c0_i32_2
  v7

def k0_off4 (v4 : BitVec 32) : Fin 3 → Nat :=
  let c0_i32_41 : BitVec 32 := 0#32
  let v86 : BitVec 32 := Scalar.maxsi v4 c0_i32_41
  let v92 : Index := Scalar.indexCast v86
  let c0_46 : Index := 0#32
  let c0_47 : Index := 0#32
  ![v92.toNat, 0, 0]

def k0_chk2 (v4 : BitVec 32) : Prop :=
  (∀ (k0_h2 : k0_cond2 v4 = 1#1), ∀ a, (k0_off3 v4) a + S1x3584x512.size a ≤ S3x3584x512.size a) ∧
  (∀ (k0_h2 : k0_cond2 v4 = 1#1), ∀ a, (k0_off4 v4) a + S1x1x512.size a ≤ S3x1x512.size a)
theorem k0_off3_inb : ∀ (v4 : BitVec 32) (k0_hw2 : k0_chk2 v4), ∀ (k0_h2 : k0_cond2 v4 = 1#1), ∀ a, (k0_off3 v4) a + S1x3584x512.size a ≤ S3x3584x512.size a := fun v4 k0_hw2 k0_h2 => k0_hw2.1 k0_h2
theorem k0_off4_inb : ∀ (v4 : BitVec 32) (k0_hw2 : k0_chk2 v4), ∀ (k0_h2 : k0_cond2 v4 = 1#1), ∀ a, (k0_off4 v4) a + S1x1x512.size a ≤ S3x1x512.size a := fun v4 k0_hw2 k0_h2 => k0_hw2.2 k0_h2

def k0_off5 (v8 : BitVec 32) : Fin 3 → Nat :=
  let c0_i32_41 : BitVec 32 := 0#32
  let v86 : BitVec 32 := Scalar.maxsi v8 c0_i32_41
  let v88 : Index := Scalar.indexCast v86
  let c0_43 : Index := 0#32
  let c0_44 : Index := 0#32
  ![v88.toNat, 0, 0]
def k0_cond3 (v8 : BitVec 32) : BitVec 1 :=
  let c0_i32_3 : BitVec 32 := 0#32
  let v9 : BitVec 1 := Scalar.cmpi .sge v8 c0_i32_3
  let v10 : BitVec 32 := Scalar.extui v9
  let c0_i32_4 : BitVec 32 := 0#32
  let v11 : BitVec 1 := Scalar.cmpi .ne v10 c0_i32_4
  v11

def k0_off6 (v8 : BitVec 32) : Fin 3 → Nat :=
  let c0_i32_41 : BitVec 32 := 0#32
  let v86 : BitVec 32 := Scalar.maxsi v8 c0_i32_41
  let v92 : Index := Scalar.indexCast v86
  let c0_46 : Index := 0#32
  let c0_47 : Index := 0#32
  ![v92.toNat, 0, 0]

def k0_chk3 (v8 : BitVec 32) : Prop :=
  (∀ (k0_h3 : k0_cond3 v8 = 1#1), ∀ a, (k0_off5 v8) a + S1x3584x512.size a ≤ S3x3584x512.size a) ∧
  (∀ (k0_h3 : k0_cond3 v8 = 1#1), ∀ a, (k0_off6 v8) a + S1x1x512.size a ≤ S3x1x512.size a)
theorem k0_off5_inb : ∀ (v8 : BitVec 32) (k0_hw3 : k0_chk3 v8), ∀ (k0_h3 : k0_cond3 v8 = 1#1), ∀ a, (k0_off5 v8) a + S1x3584x512.size a ≤ S3x3584x512.size a := fun v8 k0_hw3 k0_h3 => k0_hw3.1 k0_h3
theorem k0_off6_inb : ∀ (v8 : BitVec 32) (k0_hw3 : k0_chk3 v8), ∀ (k0_h3 : k0_cond3 v8 = 1#1), ∀ a, (k0_off6 v8) a + S1x1x512.size a ≤ S3x1x512.size a := fun v8 k0_hw3 k0_h3 => k0_hw3.2 k0_h3

def k0_off7 (v12 : BitVec 32) : Fin 3 → Nat :=
  let c0_i32_41 : BitVec 32 := 0#32
  let v86 : BitVec 32 := Scalar.maxsi v12 c0_i32_41
  let v88 : Index := Scalar.indexCast v86
  let c0_43 : Index := 0#32
  let c0_44 : Index := 0#32
  ![v88.toNat, 0, 0]
def k0_cond4 (v12 : BitVec 32) : BitVec 1 :=
  let c0_i32_5 : BitVec 32 := 0#32
  let v13 : BitVec 1 := Scalar.cmpi .sge v12 c0_i32_5
  let v14 : BitVec 32 := Scalar.extui v13
  let c0_i32_6 : BitVec 32 := 0#32
  let v15 : BitVec 1 := Scalar.cmpi .ne v14 c0_i32_6
  v15

def k0_off8 (v12 : BitVec 32) : Fin 3 → Nat :=
  let c0_i32_41 : BitVec 32 := 0#32
  let v86 : BitVec 32 := Scalar.maxsi v12 c0_i32_41
  let v92 : Index := Scalar.indexCast v86
  let c0_46 : Index := 0#32
  let c0_47 : Index := 0#32
  ![v92.toNat, 0, 0]

def k0_chk4 (v12 : BitVec 32) : Prop :=
  (∀ (k0_h4 : k0_cond4 v12 = 1#1), ∀ a, (k0_off7 v12) a + S1x3584x512.size a ≤ S3x3584x512.size a) ∧
  (∀ (k0_h4 : k0_cond4 v12 = 1#1), ∀ a, (k0_off8 v12) a + S1x1x512.size a ≤ S3x1x512.size a)
theorem k0_off7_inb : ∀ (v12 : BitVec 32) (k0_hw4 : k0_chk4 v12), ∀ (k0_h4 : k0_cond4 v12 = 1#1), ∀ a, (k0_off7 v12) a + S1x3584x512.size a ≤ S3x3584x512.size a := fun v12 k0_hw4 k0_h4 => k0_hw4.1 k0_h4
theorem k0_off8_inb : ∀ (v12 : BitVec 32) (k0_hw4 : k0_chk4 v12), ∀ (k0_h4 : k0_cond4 v12 = 1#1), ∀ a, (k0_off8 v12) a + S1x1x512.size a ≤ S3x1x512.size a := fun v12 k0_hw4 k0_h4 => k0_hw4.2 k0_h4

def k0_off9 (v16 : BitVec 32) : Fin 3 → Nat :=
  let c0_i32_41 : BitVec 32 := 0#32
  let v86 : BitVec 32 := Scalar.maxsi v16 c0_i32_41
  let v88 : Index := Scalar.indexCast v86
  let c0_43 : Index := 0#32
  let c0_44 : Index := 0#32
  ![v88.toNat, 0, 0]
def k0_cond5 (v16 : BitVec 32) : BitVec 1 :=
  let c0_i32_7 : BitVec 32 := 0#32
  let v17 : BitVec 1 := Scalar.cmpi .sge v16 c0_i32_7
  let v18 : BitVec 32 := Scalar.extui v17
  let c0_i32_8 : BitVec 32 := 0#32
  let v19 : BitVec 1 := Scalar.cmpi .ne v18 c0_i32_8
  v19

def k0_off10 (v16 : BitVec 32) : Fin 3 → Nat :=
  let c0_i32_41 : BitVec 32 := 0#32
  let v86 : BitVec 32 := Scalar.maxsi v16 c0_i32_41
  let v92 : Index := Scalar.indexCast v86
  let c0_46 : Index := 0#32
  let c0_47 : Index := 0#32
  ![v92.toNat, 0, 0]

def k0_chk5 (v16 : BitVec 32) : Prop :=
  (∀ (k0_h5 : k0_cond5 v16 = 1#1), ∀ a, (k0_off9 v16) a + S1x3584x512.size a ≤ S3x3584x512.size a) ∧
  (∀ (k0_h5 : k0_cond5 v16 = 1#1), ∀ a, (k0_off10 v16) a + S1x1x512.size a ≤ S3x1x512.size a)
theorem k0_off9_inb : ∀ (v16 : BitVec 32) (k0_hw5 : k0_chk5 v16), ∀ (k0_h5 : k0_cond5 v16 = 1#1), ∀ a, (k0_off9 v16) a + S1x3584x512.size a ≤ S3x3584x512.size a := fun v16 k0_hw5 k0_h5 => k0_hw5.1 k0_h5
theorem k0_off10_inb : ∀ (v16 : BitVec 32) (k0_hw5 : k0_chk5 v16), ∀ (k0_h5 : k0_cond5 v16 = 1#1), ∀ a, (k0_off10 v16) a + S1x1x512.size a ≤ S3x1x512.size a := fun v16 k0_hw5 k0_h5 => k0_hw5.2 k0_h5

def k0_off11 (v20 : BitVec 32) : Fin 3 → Nat :=
  let c0_i32_41 : BitVec 32 := 0#32
  let v86 : BitVec 32 := Scalar.maxsi v20 c0_i32_41
  let v88 : Index := Scalar.indexCast v86
  let c0_43 : Index := 0#32
  let c0_44 : Index := 0#32
  ![v88.toNat, 0, 0]
def k0_cond6 (v20 : BitVec 32) : BitVec 1 :=
  let c0_i32_9 : BitVec 32 := 0#32
  let v21 : BitVec 1 := Scalar.cmpi .sge v20 c0_i32_9
  let v22 : BitVec 32 := Scalar.extui v21
  let c0_i32_10 : BitVec 32 := 0#32
  let v23 : BitVec 1 := Scalar.cmpi .ne v22 c0_i32_10
  v23

def k0_off12 (v20 : BitVec 32) : Fin 3 → Nat :=
  let c0_i32_41 : BitVec 32 := 0#32
  let v86 : BitVec 32 := Scalar.maxsi v20 c0_i32_41
  let v92 : Index := Scalar.indexCast v86
  let c0_46 : Index := 0#32
  let c0_47 : Index := 0#32
  ![v92.toNat, 0, 0]

def k0_chk6 (v20 : BitVec 32) : Prop :=
  (∀ (k0_h6 : k0_cond6 v20 = 1#1), ∀ a, (k0_off11 v20) a + S1x3584x512.size a ≤ S3x3584x512.size a) ∧
  (∀ (k0_h6 : k0_cond6 v20 = 1#1), ∀ a, (k0_off12 v20) a + S1x1x512.size a ≤ S3x1x512.size a)
theorem k0_off11_inb : ∀ (v20 : BitVec 32) (k0_hw6 : k0_chk6 v20), ∀ (k0_h6 : k0_cond6 v20 = 1#1), ∀ a, (k0_off11 v20) a + S1x3584x512.size a ≤ S3x3584x512.size a := fun v20 k0_hw6 k0_h6 => k0_hw6.1 k0_h6
theorem k0_off12_inb : ∀ (v20 : BitVec 32) (k0_hw6 : k0_chk6 v20), ∀ (k0_h6 : k0_cond6 v20 = 1#1), ∀ a, (k0_off12 v20) a + S1x1x512.size a ≤ S3x1x512.size a := fun v20 k0_hw6 k0_h6 => k0_hw6.2 k0_h6

def k0_off13 (v24 : BitVec 32) : Fin 3 → Nat :=
  let c0_i32_41 : BitVec 32 := 0#32
  let v86 : BitVec 32 := Scalar.maxsi v24 c0_i32_41
  let v88 : Index := Scalar.indexCast v86
  let c0_43 : Index := 0#32
  let c0_44 : Index := 0#32
  ![v88.toNat, 0, 0]
def k0_cond7 (v24 : BitVec 32) : BitVec 1 :=
  let c0_i32_11 : BitVec 32 := 0#32
  let v25 : BitVec 1 := Scalar.cmpi .sge v24 c0_i32_11
  let v26 : BitVec 32 := Scalar.extui v25
  let c0_i32_12 : BitVec 32 := 0#32
  let v27 : BitVec 1 := Scalar.cmpi .ne v26 c0_i32_12
  v27

def k0_off14 (v24 : BitVec 32) : Fin 3 → Nat :=
  let c0_i32_41 : BitVec 32 := 0#32
  let v86 : BitVec 32 := Scalar.maxsi v24 c0_i32_41
  let v92 : Index := Scalar.indexCast v86
  let c0_46 : Index := 0#32
  let c0_47 : Index := 0#32
  ![v92.toNat, 0, 0]

def k0_chk7 (v24 : BitVec 32) : Prop :=
  (∀ (k0_h7 : k0_cond7 v24 = 1#1), ∀ a, (k0_off13 v24) a + S1x3584x512.size a ≤ S3x3584x512.size a) ∧
  (∀ (k0_h7 : k0_cond7 v24 = 1#1), ∀ a, (k0_off14 v24) a + S1x1x512.size a ≤ S3x1x512.size a)
theorem k0_off13_inb : ∀ (v24 : BitVec 32) (k0_hw7 : k0_chk7 v24), ∀ (k0_h7 : k0_cond7 v24 = 1#1), ∀ a, (k0_off13 v24) a + S1x3584x512.size a ≤ S3x3584x512.size a := fun v24 k0_hw7 k0_h7 => k0_hw7.1 k0_h7
theorem k0_off14_inb : ∀ (v24 : BitVec 32) (k0_hw7 : k0_chk7 v24), ∀ (k0_h7 : k0_cond7 v24 = 1#1), ∀ a, (k0_off14 v24) a + S1x1x512.size a ≤ S3x1x512.size a := fun v24 k0_hw7 k0_h7 => k0_hw7.2 k0_h7

def k0_off15 (v28 : BitVec 32) : Fin 3 → Nat :=
  let c0_i32_41 : BitVec 32 := 0#32
  let v86 : BitVec 32 := Scalar.maxsi v28 c0_i32_41
  let v88 : Index := Scalar.indexCast v86
  let c0_43 : Index := 0#32
  let c0_44 : Index := 0#32
  ![v88.toNat, 0, 0]
def k0_cond8 (v28 : BitVec 32) : BitVec 1 :=
  let c0_i32_13 : BitVec 32 := 0#32
  let v29 : BitVec 1 := Scalar.cmpi .sge v28 c0_i32_13
  let v30 : BitVec 32 := Scalar.extui v29
  let c0_i32_14 : BitVec 32 := 0#32
  let v31 : BitVec 1 := Scalar.cmpi .ne v30 c0_i32_14
  v31

def k0_off16 (v28 : BitVec 32) : Fin 3 → Nat :=
  let c0_i32_41 : BitVec 32 := 0#32
  let v86 : BitVec 32 := Scalar.maxsi v28 c0_i32_41
  let v92 : Index := Scalar.indexCast v86
  let c0_46 : Index := 0#32
  let c0_47 : Index := 0#32
  ![v92.toNat, 0, 0]

def k0_chk8 (v28 : BitVec 32) : Prop :=
  (∀ (k0_h8 : k0_cond8 v28 = 1#1), ∀ a, (k0_off15 v28) a + S1x3584x512.size a ≤ S3x3584x512.size a) ∧
  (∀ (k0_h8 : k0_cond8 v28 = 1#1), ∀ a, (k0_off16 v28) a + S1x1x512.size a ≤ S3x1x512.size a)
theorem k0_off15_inb : ∀ (v28 : BitVec 32) (k0_hw8 : k0_chk8 v28), ∀ (k0_h8 : k0_cond8 v28 = 1#1), ∀ a, (k0_off15 v28) a + S1x3584x512.size a ≤ S3x3584x512.size a := fun v28 k0_hw8 k0_h8 => k0_hw8.1 k0_h8
theorem k0_off16_inb : ∀ (v28 : BitVec 32) (k0_hw8 : k0_chk8 v28), ∀ (k0_h8 : k0_cond8 v28 = 1#1), ∀ a, (k0_off16 v28) a + S1x1x512.size a ≤ S3x1x512.size a := fun v28 k0_hw8 k0_h8 => k0_hw8.2 k0_h8

def k0_off17 (v32 : BitVec 32) : Fin 3 → Nat :=
  let c0_i32_41 : BitVec 32 := 0#32
  let v86 : BitVec 32 := Scalar.maxsi v32 c0_i32_41
  let v88 : Index := Scalar.indexCast v86
  let c0_43 : Index := 0#32
  let c0_44 : Index := 0#32
  ![v88.toNat, 0, 0]
def k0_cond9 (v32 : BitVec 32) : BitVec 1 :=
  let c0_i32_15 : BitVec 32 := 0#32
  let v33 : BitVec 1 := Scalar.cmpi .sge v32 c0_i32_15
  let v34 : BitVec 32 := Scalar.extui v33
  let c0_i32_16 : BitVec 32 := 0#32
  let v35 : BitVec 1 := Scalar.cmpi .ne v34 c0_i32_16
  v35

def k0_off18 (v32 : BitVec 32) : Fin 3 → Nat :=
  let c0_i32_41 : BitVec 32 := 0#32
  let v86 : BitVec 32 := Scalar.maxsi v32 c0_i32_41
  let v92 : Index := Scalar.indexCast v86
  let c0_46 : Index := 0#32
  let c0_47 : Index := 0#32
  ![v92.toNat, 0, 0]

def k0_chk9 (v32 : BitVec 32) : Prop :=
  (∀ (k0_h9 : k0_cond9 v32 = 1#1), ∀ a, (k0_off17 v32) a + S1x3584x512.size a ≤ S3x3584x512.size a) ∧
  (∀ (k0_h9 : k0_cond9 v32 = 1#1), ∀ a, (k0_off18 v32) a + S1x1x512.size a ≤ S3x1x512.size a)
theorem k0_off17_inb : ∀ (v32 : BitVec 32) (k0_hw9 : k0_chk9 v32), ∀ (k0_h9 : k0_cond9 v32 = 1#1), ∀ a, (k0_off17 v32) a + S1x3584x512.size a ≤ S3x3584x512.size a := fun v32 k0_hw9 k0_h9 => k0_hw9.1 k0_h9
theorem k0_off18_inb : ∀ (v32 : BitVec 32) (k0_hw9 : k0_chk9 v32), ∀ (k0_h9 : k0_cond9 v32 = 1#1), ∀ a, (k0_off18 v32) a + S1x1x512.size a ≤ S3x1x512.size a := fun v32 k0_hw9 k0_h9 => k0_hw9.2 k0_h9

def k0_off19 (v36 : BitVec 32) : Fin 3 → Nat :=
  let c0_i32_41 : BitVec 32 := 0#32
  let v86 : BitVec 32 := Scalar.maxsi v36 c0_i32_41
  let v88 : Index := Scalar.indexCast v86
  let c0_43 : Index := 0#32
  let c0_44 : Index := 0#32
  ![v88.toNat, 0, 0]
def k0_cond10 (v36 : BitVec 32) : BitVec 1 :=
  let c0_i32_17 : BitVec 32 := 0#32
  let v37 : BitVec 1 := Scalar.cmpi .sge v36 c0_i32_17
  let v38 : BitVec 32 := Scalar.extui v37
  let c0_i32_18 : BitVec 32 := 0#32
  let v39 : BitVec 1 := Scalar.cmpi .ne v38 c0_i32_18
  v39

def k0_off20 (v36 : BitVec 32) : Fin 3 → Nat :=
  let c0_i32_41 : BitVec 32 := 0#32
  let v86 : BitVec 32 := Scalar.maxsi v36 c0_i32_41
  let v92 : Index := Scalar.indexCast v86
  let c0_46 : Index := 0#32
  let c0_47 : Index := 0#32
  ![v92.toNat, 0, 0]

def k0_chk10 (v36 : BitVec 32) : Prop :=
  (∀ (k0_h10 : k0_cond10 v36 = 1#1), ∀ a, (k0_off19 v36) a + S1x3584x512.size a ≤ S3x3584x512.size a) ∧
  (∀ (k0_h10 : k0_cond10 v36 = 1#1), ∀ a, (k0_off20 v36) a + S1x1x512.size a ≤ S3x1x512.size a)
theorem k0_off19_inb : ∀ (v36 : BitVec 32) (k0_hw10 : k0_chk10 v36), ∀ (k0_h10 : k0_cond10 v36 = 1#1), ∀ a, (k0_off19 v36) a + S1x3584x512.size a ≤ S3x3584x512.size a := fun v36 k0_hw10 k0_h10 => k0_hw10.1 k0_h10
theorem k0_off20_inb : ∀ (v36 : BitVec 32) (k0_hw10 : k0_chk10 v36), ∀ (k0_h10 : k0_cond10 v36 = 1#1), ∀ a, (k0_off20 v36) a + S1x1x512.size a ≤ S3x1x512.size a := fun v36 k0_hw10 k0_h10 => k0_hw10.2 k0_h10

def k0_off21 (v40 : BitVec 32) : Fin 3 → Nat :=
  let c0_i32_41 : BitVec 32 := 0#32
  let v86 : BitVec 32 := Scalar.maxsi v40 c0_i32_41
  let v88 : Index := Scalar.indexCast v86
  let c0_43 : Index := 0#32
  let c0_44 : Index := 0#32
  ![v88.toNat, 0, 0]
def k0_cond11 (v40 : BitVec 32) : BitVec 1 :=
  let c0_i32_19 : BitVec 32 := 0#32
  let v41 : BitVec 1 := Scalar.cmpi .sge v40 c0_i32_19
  let v42 : BitVec 32 := Scalar.extui v41
  let c0_i32_20 : BitVec 32 := 0#32
  let v43 : BitVec 1 := Scalar.cmpi .ne v42 c0_i32_20
  v43

def k0_off22 (v40 : BitVec 32) : Fin 3 → Nat :=
  let c0_i32_41 : BitVec 32 := 0#32
  let v86 : BitVec 32 := Scalar.maxsi v40 c0_i32_41
  let v92 : Index := Scalar.indexCast v86
  let c0_46 : Index := 0#32
  let c0_47 : Index := 0#32
  ![v92.toNat, 0, 0]

def k0_chk11 (v40 : BitVec 32) : Prop :=
  (∀ (k0_h11 : k0_cond11 v40 = 1#1), ∀ a, (k0_off21 v40) a + S1x3584x512.size a ≤ S3x3584x512.size a) ∧
  (∀ (k0_h11 : k0_cond11 v40 = 1#1), ∀ a, (k0_off22 v40) a + S1x1x512.size a ≤ S3x1x512.size a)
theorem k0_off21_inb : ∀ (v40 : BitVec 32) (k0_hw11 : k0_chk11 v40), ∀ (k0_h11 : k0_cond11 v40 = 1#1), ∀ a, (k0_off21 v40) a + S1x3584x512.size a ≤ S3x3584x512.size a := fun v40 k0_hw11 k0_h11 => k0_hw11.1 k0_h11
theorem k0_off22_inb : ∀ (v40 : BitVec 32) (k0_hw11 : k0_chk11 v40), ∀ (k0_h11 : k0_cond11 v40 = 1#1), ∀ a, (k0_off22 v40) a + S1x1x512.size a ≤ S3x1x512.size a := fun v40 k0_hw11 k0_h11 => k0_hw11.2 k0_h11

def k0_off23 (v44 : BitVec 32) : Fin 3 → Nat :=
  let c0_i32_41 : BitVec 32 := 0#32
  let v86 : BitVec 32 := Scalar.maxsi v44 c0_i32_41
  let v88 : Index := Scalar.indexCast v86
  let c0_43 : Index := 0#32
  let c0_44 : Index := 0#32
  ![v88.toNat, 0, 0]
def k0_cond12 (v44 : BitVec 32) : BitVec 1 :=
  let c0_i32_21 : BitVec 32 := 0#32
  let v45 : BitVec 1 := Scalar.cmpi .sge v44 c0_i32_21
  let v46 : BitVec 32 := Scalar.extui v45
  let c0_i32_22 : BitVec 32 := 0#32
  let v47 : BitVec 1 := Scalar.cmpi .ne v46 c0_i32_22
  v47

def k0_off24 (v44 : BitVec 32) : Fin 3 → Nat :=
  let c0_i32_41 : BitVec 32 := 0#32
  let v86 : BitVec 32 := Scalar.maxsi v44 c0_i32_41
  let v92 : Index := Scalar.indexCast v86
  let c0_46 : Index := 0#32
  let c0_47 : Index := 0#32
  ![v92.toNat, 0, 0]

def k0_chk12 (v44 : BitVec 32) : Prop :=
  (∀ (k0_h12 : k0_cond12 v44 = 1#1), ∀ a, (k0_off23 v44) a + S1x3584x512.size a ≤ S3x3584x512.size a) ∧
  (∀ (k0_h12 : k0_cond12 v44 = 1#1), ∀ a, (k0_off24 v44) a + S1x1x512.size a ≤ S3x1x512.size a)
theorem k0_off23_inb : ∀ (v44 : BitVec 32) (k0_hw12 : k0_chk12 v44), ∀ (k0_h12 : k0_cond12 v44 = 1#1), ∀ a, (k0_off23 v44) a + S1x3584x512.size a ≤ S3x3584x512.size a := fun v44 k0_hw12 k0_h12 => k0_hw12.1 k0_h12
theorem k0_off24_inb : ∀ (v44 : BitVec 32) (k0_hw12 : k0_chk12 v44), ∀ (k0_h12 : k0_cond12 v44 = 1#1), ∀ a, (k0_off24 v44) a + S1x1x512.size a ≤ S3x1x512.size a := fun v44 k0_hw12 k0_h12 => k0_hw12.2 k0_h12

def k0_off25 (v48 : BitVec 32) : Fin 3 → Nat :=
  let c0_i32_41 : BitVec 32 := 0#32
  let v86 : BitVec 32 := Scalar.maxsi v48 c0_i32_41
  let v88 : Index := Scalar.indexCast v86
  let c0_43 : Index := 0#32
  let c0_44 : Index := 0#32
  ![v88.toNat, 0, 0]
def k0_cond13 (v48 : BitVec 32) : BitVec 1 :=
  let c0_i32_23 : BitVec 32 := 0#32
  let v49 : BitVec 1 := Scalar.cmpi .sge v48 c0_i32_23
  let v50 : BitVec 32 := Scalar.extui v49
  let c0_i32_24 : BitVec 32 := 0#32
  let v51 : BitVec 1 := Scalar.cmpi .ne v50 c0_i32_24
  v51

def k0_off26 (v48 : BitVec 32) : Fin 3 → Nat :=
  let c0_i32_41 : BitVec 32 := 0#32
  let v86 : BitVec 32 := Scalar.maxsi v48 c0_i32_41
  let v92 : Index := Scalar.indexCast v86
  let c0_46 : Index := 0#32
  let c0_47 : Index := 0#32
  ![v92.toNat, 0, 0]

def k0_chk13 (v48 : BitVec 32) : Prop :=
  (∀ (k0_h13 : k0_cond13 v48 = 1#1), ∀ a, (k0_off25 v48) a + S1x3584x512.size a ≤ S3x3584x512.size a) ∧
  (∀ (k0_h13 : k0_cond13 v48 = 1#1), ∀ a, (k0_off26 v48) a + S1x1x512.size a ≤ S3x1x512.size a)
theorem k0_off25_inb : ∀ (v48 : BitVec 32) (k0_hw13 : k0_chk13 v48), ∀ (k0_h13 : k0_cond13 v48 = 1#1), ∀ a, (k0_off25 v48) a + S1x3584x512.size a ≤ S3x3584x512.size a := fun v48 k0_hw13 k0_h13 => k0_hw13.1 k0_h13
theorem k0_off26_inb : ∀ (v48 : BitVec 32) (k0_hw13 : k0_chk13 v48), ∀ (k0_h13 : k0_cond13 v48 = 1#1), ∀ a, (k0_off26 v48) a + S1x1x512.size a ≤ S3x1x512.size a := fun v48 k0_hw13 k0_h13 => k0_hw13.2 k0_h13

@[reducible] def k0_t1_loop : Scf.Loop 32 :=
  let c0_i32_39 : BitVec 32 := 0#32
  let c16_i32 : BitVec 32 := 16#32
  let v85 : BitVec 32 := Scalar.addi c0_i32_39 c16_i32
  let c1_i32 : BitVec 32 := 1#32
  ⟨c0_i32_39, v85, c1_i32⟩
def k0_mult1 (k0_t1 : Fin k0_t1_loop.trips) : BitVec 32 :=
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  v88
def k0_off27 (k0_t1 : Fin k0_t1_loop.trips) (v107 : BitVec 32) : Fin 3 → Nat :=
  let c0_47 : Index := 0#32
  let c1184_i32 : BitVec 32 := 1184#32
  let c0_i32_46 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v108 : BitVec 32 := Scalar.addi v89 v107
  let v109 : BitVec 32 := Scalar.maxsi c0_i32_46 v108
  let v110 : BitVec 32 := Scalar.minsi c1184_i32 v109
  let v111 : Index := Scalar.indexCast v110
  let c0_48 : Index := 0#32
  ![0, v111.toNat, 0]

def k0_chk14 (k0_t1 : Fin k0_t1_loop.trips) (v107 : BitVec 32) : Prop :=
  (∀ a, (k0_off27 k0_t1 v107) a + S1x64x128.size a ≤ S4x1248x128.size a)
theorem k0_off27_inb : ∀ (k0_t1 : Fin k0_t1_loop.trips) (v107 : BitVec 32) (k0_hw14 : k0_chk14 k0_t1 v107), ∀ a, (k0_off27 k0_t1 v107) a + S1x64x128.size a ≤ S4x1248x128.size a := fun k0_t1 v107 k0_hw14 => k0_hw14

def k0_off28 (k0_t1 : Fin k0_t1_loop.trips) (v114 : BitVec 32) : Fin 3 → Nat :=
  let c0_52 : Index := 0#32
  let c1184_i32_51 : BitVec 32 := 1184#32
  let c0_i32_50 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v115 : BitVec 32 := Scalar.addi v89 v114
  let v116 : BitVec 32 := Scalar.maxsi c0_i32_50 v115
  let v117 : BitVec 32 := Scalar.minsi c1184_i32_51 v116
  let v118 : Index := Scalar.indexCast v117
  let c0_53 : Index := 0#32
  ![0, v118.toNat, 0]

def k0_chk15 (k0_t1 : Fin k0_t1_loop.trips) (v114 : BitVec 32) : Prop :=
  (∀ a, (k0_off28 k0_t1 v114) a + S1x64x128.size a ≤ S4x1248x128.size a)
theorem k0_off28_inb : ∀ (k0_t1 : Fin k0_t1_loop.trips) (v114 : BitVec 32) (k0_hw15 : k0_chk15 k0_t1 v114), ∀ a, (k0_off28 k0_t1 v114) a + S1x64x128.size a ≤ S4x1248x128.size a := fun k0_t1 v114 k0_hw15 => k0_hw15

def k0_off29 (k0_t1 : Fin k0_t1_loop.trips) (v121 : BitVec 32) : Fin 3 → Nat :=
  let c0_57 : Index := 0#32
  let c1184_i32_56 : BitVec 32 := 1184#32
  let c0_i32_55 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v122 : BitVec 32 := Scalar.addi v89 v121
  let v123 : BitVec 32 := Scalar.maxsi c0_i32_55 v122
  let v124 : BitVec 32 := Scalar.minsi c1184_i32_56 v123
  let v125 : Index := Scalar.indexCast v124
  let c0_58 : Index := 0#32
  ![0, v125.toNat, 0]

def k0_chk16 (k0_t1 : Fin k0_t1_loop.trips) (v121 : BitVec 32) : Prop :=
  (∀ a, (k0_off29 k0_t1 v121) a + S1x64x128.size a ≤ S4x1248x128.size a)
theorem k0_off29_inb : ∀ (k0_t1 : Fin k0_t1_loop.trips) (v121 : BitVec 32) (k0_hw16 : k0_chk16 k0_t1 v121), ∀ a, (k0_off29 k0_t1 v121) a + S1x64x128.size a ≤ S4x1248x128.size a := fun k0_t1 v121 k0_hw16 => k0_hw16

def k0_off30 (k0_t1 : Fin k0_t1_loop.trips) : Fin 2 → Nat :=
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v133 : Index := Scalar.indexCast v89
  let c0_60 : Index := 0#32
  ![v133.toNat, 0]
def k0_off31 (k0_t1 : Fin k0_t1_loop.trips) (v141 : BitVec 32) : Fin 3 → Nat :=
  let c1_65 : Index := 1#32
  let c1184_i32_64 : BitVec 32 := 1184#32
  let c0_i32_63 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v142 : BitVec 32 := Scalar.addi v89 v141
  let v143 : BitVec 32 := Scalar.maxsi c0_i32_63 v142
  let v144 : BitVec 32 := Scalar.minsi c1184_i32_64 v143
  let v145 : Index := Scalar.indexCast v144
  let c0_66 : Index := 0#32
  ![1, v145.toNat, 0]

def k0_chk17 (k0_t1 : Fin k0_t1_loop.trips) (v141 : BitVec 32) : Prop :=
  (∀ a, (k0_off31 k0_t1 v141) a + S1x64x128.size a ≤ S4x1248x128.size a)
theorem k0_off31_inb : ∀ (k0_t1 : Fin k0_t1_loop.trips) (v141 : BitVec 32) (k0_hw17 : k0_chk17 k0_t1 v141), ∀ a, (k0_off31 k0_t1 v141) a + S1x64x128.size a ≤ S4x1248x128.size a := fun k0_t1 v141 k0_hw17 => k0_hw17

def k0_off32 (k0_t1 : Fin k0_t1_loop.trips) (v148 : BitVec 32) : Fin 3 → Nat :=
  let c1_70 : Index := 1#32
  let c1184_i32_69 : BitVec 32 := 1184#32
  let c0_i32_68 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v149 : BitVec 32 := Scalar.addi v89 v148
  let v150 : BitVec 32 := Scalar.maxsi c0_i32_68 v149
  let v151 : BitVec 32 := Scalar.minsi c1184_i32_69 v150
  let v152 : Index := Scalar.indexCast v151
  let c0_71 : Index := 0#32
  ![1, v152.toNat, 0]

def k0_chk18 (k0_t1 : Fin k0_t1_loop.trips) (v148 : BitVec 32) : Prop :=
  (∀ a, (k0_off32 k0_t1 v148) a + S1x64x128.size a ≤ S4x1248x128.size a)
theorem k0_off32_inb : ∀ (k0_t1 : Fin k0_t1_loop.trips) (v148 : BitVec 32) (k0_hw18 : k0_chk18 k0_t1 v148), ∀ a, (k0_off32 k0_t1 v148) a + S1x64x128.size a ≤ S4x1248x128.size a := fun k0_t1 v148 k0_hw18 => k0_hw18

def k0_off33 (k0_t1 : Fin k0_t1_loop.trips) (v155 : BitVec 32) : Fin 3 → Nat :=
  let c1_75 : Index := 1#32
  let c1184_i32_74 : BitVec 32 := 1184#32
  let c0_i32_73 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v156 : BitVec 32 := Scalar.addi v89 v155
  let v157 : BitVec 32 := Scalar.maxsi c0_i32_73 v156
  let v158 : BitVec 32 := Scalar.minsi c1184_i32_74 v157
  let v159 : Index := Scalar.indexCast v158
  let c0_76 : Index := 0#32
  ![1, v159.toNat, 0]

def k0_chk19 (k0_t1 : Fin k0_t1_loop.trips) (v155 : BitVec 32) : Prop :=
  (∀ a, (k0_off33 k0_t1 v155) a + S1x64x128.size a ≤ S4x1248x128.size a)
theorem k0_off33_inb : ∀ (k0_t1 : Fin k0_t1_loop.trips) (v155 : BitVec 32) (k0_hw19 : k0_chk19 k0_t1 v155), ∀ a, (k0_off33 k0_t1 v155) a + S1x64x128.size a ≤ S4x1248x128.size a := fun k0_t1 v155 k0_hw19 => k0_hw19

def k0_off34 (k0_t1 : Fin k0_t1_loop.trips) : Fin 2 → Nat :=
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v167 : Index := Scalar.indexCast v89
  let c128 : Index := 128#32
  ![v167.toNat, 128]
def k0_off35 (k0_t1 : Fin k0_t1_loop.trips) (v175 : BitVec 32) : Fin 3 → Nat :=
  let c2_82 : Index := 2#32
  let c1184_i32_81 : BitVec 32 := 1184#32
  let c0_i32_80 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v176 : BitVec 32 := Scalar.addi v89 v175
  let v177 : BitVec 32 := Scalar.maxsi c0_i32_80 v176
  let v178 : BitVec 32 := Scalar.minsi c1184_i32_81 v177
  let v179 : Index := Scalar.indexCast v178
  let c0_83 : Index := 0#32
  ![2, v179.toNat, 0]

def k0_chk20 (k0_t1 : Fin k0_t1_loop.trips) (v175 : BitVec 32) : Prop :=
  (∀ a, (k0_off35 k0_t1 v175) a + S1x64x128.size a ≤ S4x1248x128.size a)
theorem k0_off35_inb : ∀ (k0_t1 : Fin k0_t1_loop.trips) (v175 : BitVec 32) (k0_hw20 : k0_chk20 k0_t1 v175), ∀ a, (k0_off35 k0_t1 v175) a + S1x64x128.size a ≤ S4x1248x128.size a := fun k0_t1 v175 k0_hw20 => k0_hw20

def k0_off36 (k0_t1 : Fin k0_t1_loop.trips) (v182 : BitVec 32) : Fin 3 → Nat :=
  let c2_87 : Index := 2#32
  let c1184_i32_86 : BitVec 32 := 1184#32
  let c0_i32_85 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v183 : BitVec 32 := Scalar.addi v89 v182
  let v184 : BitVec 32 := Scalar.maxsi c0_i32_85 v183
  let v185 : BitVec 32 := Scalar.minsi c1184_i32_86 v184
  let v186 : Index := Scalar.indexCast v185
  let c0_88 : Index := 0#32
  ![2, v186.toNat, 0]

def k0_chk21 (k0_t1 : Fin k0_t1_loop.trips) (v182 : BitVec 32) : Prop :=
  (∀ a, (k0_off36 k0_t1 v182) a + S1x64x128.size a ≤ S4x1248x128.size a)
theorem k0_off36_inb : ∀ (k0_t1 : Fin k0_t1_loop.trips) (v182 : BitVec 32) (k0_hw21 : k0_chk21 k0_t1 v182), ∀ a, (k0_off36 k0_t1 v182) a + S1x64x128.size a ≤ S4x1248x128.size a := fun k0_t1 v182 k0_hw21 => k0_hw21

def k0_off37 (k0_t1 : Fin k0_t1_loop.trips) (v189 : BitVec 32) : Fin 3 → Nat :=
  let c2_92 : Index := 2#32
  let c1184_i32_91 : BitVec 32 := 1184#32
  let c0_i32_90 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v190 : BitVec 32 := Scalar.addi v89 v189
  let v191 : BitVec 32 := Scalar.maxsi c0_i32_90 v190
  let v192 : BitVec 32 := Scalar.minsi c1184_i32_91 v191
  let v193 : Index := Scalar.indexCast v192
  let c0_93 : Index := 0#32
  ![2, v193.toNat, 0]

def k0_chk22 (k0_t1 : Fin k0_t1_loop.trips) (v189 : BitVec 32) : Prop :=
  (∀ a, (k0_off37 k0_t1 v189) a + S1x64x128.size a ≤ S4x1248x128.size a)
theorem k0_off37_inb : ∀ (k0_t1 : Fin k0_t1_loop.trips) (v189 : BitVec 32) (k0_hw22 : k0_chk22 k0_t1 v189), ∀ a, (k0_off37 k0_t1 v189) a + S1x64x128.size a ≤ S4x1248x128.size a := fun k0_t1 v189 k0_hw22 => k0_hw22

def k0_off38 (k0_t1 : Fin k0_t1_loop.trips) : Fin 2 → Nat :=
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v201 : Index := Scalar.indexCast v89
  let c256 : Index := 256#32
  ![v201.toNat, 256]
def k0_off39 (k0_t1 : Fin k0_t1_loop.trips) (v209 : BitVec 32) : Fin 3 → Nat :=
  let c3_99 : Index := 3#32
  let c1184_i32_98 : BitVec 32 := 1184#32
  let c0_i32_97 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v210 : BitVec 32 := Scalar.addi v89 v209
  let v211 : BitVec 32 := Scalar.maxsi c0_i32_97 v210
  let v212 : BitVec 32 := Scalar.minsi c1184_i32_98 v211
  let v213 : Index := Scalar.indexCast v212
  let c0_100 : Index := 0#32
  ![3, v213.toNat, 0]

def k0_chk23 (k0_t1 : Fin k0_t1_loop.trips) (v209 : BitVec 32) : Prop :=
  (∀ a, (k0_off39 k0_t1 v209) a + S1x64x128.size a ≤ S4x1248x128.size a)
theorem k0_off39_inb : ∀ (k0_t1 : Fin k0_t1_loop.trips) (v209 : BitVec 32) (k0_hw23 : k0_chk23 k0_t1 v209), ∀ a, (k0_off39 k0_t1 v209) a + S1x64x128.size a ≤ S4x1248x128.size a := fun k0_t1 v209 k0_hw23 => k0_hw23

def k0_off40 (k0_t1 : Fin k0_t1_loop.trips) (v216 : BitVec 32) : Fin 3 → Nat :=
  let c3_104 : Index := 3#32
  let c1184_i32_103 : BitVec 32 := 1184#32
  let c0_i32_102 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v217 : BitVec 32 := Scalar.addi v89 v216
  let v218 : BitVec 32 := Scalar.maxsi c0_i32_102 v217
  let v219 : BitVec 32 := Scalar.minsi c1184_i32_103 v218
  let v220 : Index := Scalar.indexCast v219
  let c0_105 : Index := 0#32
  ![3, v220.toNat, 0]

def k0_chk24 (k0_t1 : Fin k0_t1_loop.trips) (v216 : BitVec 32) : Prop :=
  (∀ a, (k0_off40 k0_t1 v216) a + S1x64x128.size a ≤ S4x1248x128.size a)
theorem k0_off40_inb : ∀ (k0_t1 : Fin k0_t1_loop.trips) (v216 : BitVec 32) (k0_hw24 : k0_chk24 k0_t1 v216), ∀ a, (k0_off40 k0_t1 v216) a + S1x64x128.size a ≤ S4x1248x128.size a := fun k0_t1 v216 k0_hw24 => k0_hw24

def k0_off41 (k0_t1 : Fin k0_t1_loop.trips) (v223 : BitVec 32) : Fin 3 → Nat :=
  let c3_109 : Index := 3#32
  let c1184_i32_108 : BitVec 32 := 1184#32
  let c0_i32_107 : BitVec 32 := 0#32
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v224 : BitVec 32 := Scalar.addi v89 v223
  let v225 : BitVec 32 := Scalar.maxsi c0_i32_107 v224
  let v226 : BitVec 32 := Scalar.minsi c1184_i32_108 v225
  let v227 : Index := Scalar.indexCast v226
  let c0_110 : Index := 0#32
  ![3, v227.toNat, 0]

def k0_chk25 (k0_t1 : Fin k0_t1_loop.trips) (v223 : BitVec 32) : Prop :=
  (∀ a, (k0_off41 k0_t1 v223) a + S1x64x128.size a ≤ S4x1248x128.size a)
theorem k0_off41_inb : ∀ (k0_t1 : Fin k0_t1_loop.trips) (v223 : BitVec 32) (k0_hw25 : k0_chk25 k0_t1 v223), ∀ a, (k0_off41 k0_t1 v223) a + S1x64x128.size a ≤ S4x1248x128.size a := fun k0_t1 v223 k0_hw25 => k0_hw25

def k0_off42 (k0_t1 : Fin k0_t1_loop.trips) : Fin 2 → Nat :=
  let c0_i32_42 : BitVec 32 := 0#32
  let c0_i32_39 : BitVec 32 := 0#32
  let c1_i32 : BitVec 32 := 1#32
  let arg12 : BitVec 32 := Scf.iv c0_i32_39 c1_i32 k0_t1
  let c1_i32_41 : BitVec 32 := 1#32
  let v86 : BitVec 32 := Scalar.muli arg12 c1_i32_41
  let v87 : BitVec 32 := Scalar.addi c0_i32_42 v86
  let c64_i32 : BitVec 32 := 64#32
  let v88 : BitVec 32 := Scalar.muli v87 c64_i32
  let v89 : BitVec 32 := v88
  let v235 : Index := Scalar.indexCast v89
  let c384 : Index := 384#32
  ![v235.toNat, 384]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S13 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S3 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1248x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x3584x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S4 : Shape := ⟨1, ![4]⟩
abbrev S1248x3584 : Shape := ⟨2, ![1248, 3584]⟩
abbrev S3x3584x3584 : Shape := ⟨3, ![3, 3584, 3584]⟩
abbrev S3x3584 : Shape := ⟨2, ![3, 3584]⟩
abbrev S3 : Shape := ⟨1, ![3]⟩
abbrev S1024x3584 : Shape := ⟨2, ![1024, 3584]⟩
abbrev S_ : Shape := ⟨0, ![]⟩
abbrev S1024 : Shape := ⟨1, ![1024]⟩
abbrev S1024x1 : Shape := ⟨2, ![1024, 1]⟩
abbrev S2 : Shape := ⟨1, ![2]⟩
abbrev S1x2 : Shape := ⟨2, ![1, 2]⟩
abbrev S1024x2 : Shape := ⟨2, ![1024, 2]⟩
abbrev S3x1x3584 : Shape := ⟨3, ![3, 1, 3584]⟩
abbrev S1x3584x3584 : Shape := ⟨3, ![1, 3584, 3584]⟩
abbrev S3584x3584 : Shape := ⟨2, ![3584, 3584]⟩
abbrev S1x1x3584 : Shape := ⟨3, ![1, 1, 3584]⟩
abbrev S1x3584 : Shape := ⟨2, ![1, 3584]⟩

abbrev nBuf : Space → Nat
  | .hbm => 70
  | .vmem => 8
  | .smem => 0
  | _ => 0

abbrev bufTy : (tb : Table) → Fin (tcTables nBuf tb) → BufTy
  | .hbm, ⟨0, _⟩ => ⟨S4, .i32⟩
  | .hbm, ⟨1, _⟩ => ⟨S1248x3584, .bf16⟩
  | .hbm, ⟨2, _⟩ => ⟨S3x3584x3584, .fp8e4m3⟩
  | .hbm, ⟨3, _⟩ => ⟨S3x3584, .f32⟩
  | .hbm, ⟨4, _⟩ => ⟨S3x3584, .f32⟩
  | .hbm, ⟨5, _⟩ => ⟨S3, .f32⟩
  | .hbm, ⟨6, _⟩ => ⟨S1024x3584, .bf16⟩
  | .hbm, ⟨7, _⟩ => ⟨S3, .i32⟩
  | .hbm, ⟨8, _⟩ => ⟨S3, .i32⟩
  | .hbm, ⟨9, _⟩ => ⟨S3, .i32⟩
  | .hbm, ⟨10, _⟩ => ⟨S_, .i32⟩
  | .hbm, ⟨11, _⟩ => ⟨S3, .i32⟩
  | .hbm, ⟨12, _⟩ => ⟨S3, .i32⟩
  | .hbm, ⟨13, _⟩ => ⟨S_, .i32⟩
  | .hbm, ⟨14, _⟩ => ⟨S_, .i32⟩
  | .hbm, ⟨15, _⟩ => ⟨S3, .i32⟩
  | .hbm, ⟨16, _⟩ => ⟨S3, .i32⟩
  | .hbm, ⟨17, _⟩ => ⟨S3, .i32⟩
  | .hbm, ⟨18, _⟩ => ⟨S_, .i32⟩
  | .hbm, ⟨19, _⟩ => ⟨S3, .i32⟩
  | .hbm, ⟨20, _⟩ => ⟨S3, .i1⟩
  | .hbm, ⟨21, _⟩ => ⟨S3, .i32⟩
  | .hbm, ⟨22, _⟩ => ⟨S3, .i32⟩
  | .hbm, ⟨23, _⟩ => ⟨S_, .i32⟩
  | .hbm, ⟨24, _⟩ => ⟨S3, .i32⟩
  | .hbm, ⟨25, _⟩ => ⟨S3, .i1⟩
  | .hbm, ⟨26, _⟩ => ⟨S3, .i1⟩
  | .hbm, ⟨27, _⟩ => ⟨S_, .i32⟩
  | .hbm, ⟨28, _⟩ => ⟨S3, .i32⟩
  | .hbm, ⟨29, _⟩ => ⟨S3, .i32⟩
  | .hbm, ⟨30, _⟩ => ⟨S3, .i32⟩
  | .hbm, ⟨31, _⟩ => ⟨S_, .i32⟩
  | .hbm, ⟨32, _⟩ => ⟨S_, .i32⟩
  | .hbm, ⟨33, _⟩ => ⟨S3, .i32⟩
  | .hbm, ⟨34, _⟩ => ⟨S3, .i32⟩
  | .hbm, ⟨35, _⟩ => ⟨S_, .i32⟩
  | .hbm, ⟨36, _⟩ => ⟨S3, .i32⟩
  | .hbm, ⟨37, _⟩ => ⟨S3, .i32⟩
  | .hbm, ⟨38, _⟩ => ⟨S1024, .i32⟩
  | .hbm, ⟨39, _⟩ => ⟨S1024x1, .i32⟩
  | .hbm, ⟨40, _⟩ => ⟨S2, .i32⟩
  | .hbm, ⟨41, _⟩ => ⟨S1x2, .i32⟩
  | .hbm, ⟨42, _⟩ => ⟨S1024x2, .i32⟩
  | .hbm, ⟨43, _⟩ => ⟨S1024x2, .i32⟩
  | .hbm, ⟨44, _⟩ => ⟨S1024x2, .i1⟩
  | .hbm, ⟨45, _⟩ => ⟨S1024x2, .i32⟩
  | .hbm, ⟨46, _⟩ => ⟨S_, .i32⟩
  | .hbm, ⟨47, _⟩ => ⟨S1024, .i32⟩
  | .hbm, ⟨48, _⟩ => ⟨S3, .i32⟩
  | .hbm, ⟨49, _⟩ => ⟨S3, .i32⟩
  | .hbm, ⟨50, _⟩ => ⟨S1024x1, .i32⟩
  | .hbm, ⟨51, _⟩ => ⟨S1024, .i32⟩
  | .hbm, ⟨52, _⟩ => ⟨S1024, .i32⟩
  | .hbm, ⟨53, _⟩ => ⟨S1024x1, .i32⟩
  | .hbm, ⟨54, _⟩ => ⟨S1024x3584, .bf16⟩
  | .hbm, ⟨55, _⟩ => ⟨S3, .f32⟩
  | .hbm, ⟨56, _⟩ => ⟨S3, .f32⟩
  | .hbm, ⟨57, _⟩ => ⟨S_, .f32⟩
  | .hbm, ⟨58, _⟩ => ⟨S3, .f32⟩
  | .hbm, ⟨59, _⟩ => ⟨S3, .f32⟩
  | .hbm, ⟨60, _⟩ => ⟨S_, .f32⟩
  | .hbm, ⟨61, _⟩ => ⟨S3, .f32⟩
  | .hbm, ⟨62, _⟩ => ⟨S3, .f32⟩
  | .hbm, ⟨63, _⟩ => ⟨S1024x1, .i32⟩
  | .hbm, ⟨64, _⟩ => ⟨S1024, .f32⟩
  | .hbm, ⟨65, _⟩ => ⟨S1024x1, .i32⟩
  | .hbm, ⟨66, _⟩ => ⟨S3x1x3584, .f32⟩
  | .hbm, ⟨67, _⟩ => ⟨S3x1x3584, .f32⟩
  | .hbm, ⟨68, _⟩ => ⟨S1024x1, .f32⟩
  | .hbm, ⟨69, _⟩ => ⟨S1024x3584, .bf16⟩
  | .local _ .vmem, ⟨0, _⟩ => ⟨S1024x1, .i32⟩
  | .local _ .vmem, ⟨1, _⟩ => ⟨S1024x3584, .bf16⟩
  | .local _ .vmem, ⟨2, _⟩ => ⟨S3x3584x3584, .fp8e4m3⟩
  | .local _ .vmem, ⟨3, _⟩ => ⟨S3x1x3584, .f32⟩
  | .local _ .vmem, ⟨4, _⟩ => ⟨S3x1x3584, .f32⟩
  | .local _ .vmem, ⟨5, _⟩ => ⟨S1024x1, .f32⟩
  | .local _ .vmem, ⟨6, _⟩ => ⟨S1024x3584, .bf16⟩
  | .local _ .vmem, ⟨7, _⟩ => ⟨S1024x3584, .bf16⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_c : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_0 : Ref sig .tc := ⟨.hbm, 27, rfl⟩
abbrev main_call1_v12 : Ref sig .tc := ⟨.hbm, 28, rfl⟩
abbrev main_call1_v13 : Ref sig .tc := ⟨.hbm, 29, rfl⟩
abbrev main_v3 : Ref sig .tc := ⟨.hbm, 30, rfl⟩
abbrev main_call2_call0_c : Ref sig .tc := ⟨.hbm, 31, rfl⟩
abbrev main_call2_call0_v0 : Ref sig .tc := ⟨.hbm, 32, rfl⟩
abbrev main_v4 : Ref sig .tc := ⟨.hbm, 33, rfl⟩
abbrev main_v5 : Ref sig .tc := ⟨.hbm, 34, rfl⟩
abbrev main_c_1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call3_v0 : Ref sig .tc := ⟨.hbm, 50, rfl⟩
abbrev main_v19 : Ref sig .tc := ⟨.hbm, 51, rfl⟩
abbrev main_v20 : Ref sig .tc := ⟨.hbm, 52, rfl⟩
abbrev main_call4_v0 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_cst : Ref sig .tc := ⟨.hbm, 57, rfl⟩
abbrev main_v24 : Ref sig .tc := ⟨.hbm, 58, rfl⟩
abbrev main_v25 : Ref sig .tc := ⟨.hbm, 59, rfl⟩
abbrev main_cst_3 : Ref sig .tc := ⟨.hbm, 60, rfl⟩
abbrev main_v26 : Ref sig .tc := ⟨.hbm, 61, rfl⟩
abbrev main_v27 : Ref sig .tc := ⟨.hbm, 62, rfl⟩
abbrev main_call5_v0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3584x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.QkvChunk.lean ====
/-
  One chunk of 96 rows of the QKV projection's body, for the program `Qkv`: the chunk's program as one definition with
  what follows it as an argument, and the rule that runs it, whatever the chunk's type is.
-/
module

public import proofs.«01_k».proof.Proof.Gen.Qkv.Frame
public import proofs.«01_k».proof.Proof.Gen.Qkv.Skeleton
public import Idealize.ShloMosaic.Lib.WritesUnit
public import Idealize.ShloMosaic.Lib.WholeRead
public import Idealize.ShloMosaic.Lib.ValueIdx

@[expose] public section

set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table word a chunk is for, signed: whether it is at least zero, as the body tests it, -/
abbrev isType (v : BitVec 32) : BitVec 1 := k0_cond2 v
/-- and whether it is below zero. -/
abbrev isPad (v : BitVec 32) : BitVec 1 := Scalar.cmpi .ne (Scalar.extui (Scalar.cmpi .slt v 0#32)) 0#32

/-- The two tests of a chunk are each other's negation. -/
theorem isPad_iff (v : BitVec 32) : isPad v = 1#1 ↔ ¬ isType v = 1#1 := by
  show IntOp.cmpi .ne ((IntOp.cmpi .slt v 0#32).setWidth 32) 0#32 = 1#1 ↔ ¬ IntOp.cmpi .ne ((IntOp.cmpi .sge v 0#32).setWidth 32) 0#32 = 1#1
  rw [WordCmp.cmpi_sge_zero, WordCmp.cmpi_slt_zero]
  by_cases h : v.toNat < 2 ^ (32 - 1)
  · rw [decide_eq_true h, decide_eq_false (Nat.not_le.mpr h)]; decide
  · rw [decide_eq_false h, decide_eq_true (Nat.not_lt.mp h)]; decide

theorem rowsX_inb {c : ℕ} (hc : c < 13) : ∀ a, (![96 * c, 0] : Fin 2 → ℕ) a + S96x3584.size a ≤ S1248x3584.size a :=
  Rect.inb₂ (by show 96 * c + 96 ≤ 1248; omega) (Nat.le_refl _)
theorem rowsY_inb {c : ℕ} (hc : c < 13) : ∀ a, (![96 * c, 0] : Fin 2 → ℕ) a + S96x512.size a ≤ S1248x512.size a :=
  Rect.inb₂ (by show 96 * c + 96 ≤ 1248; omega) (Nat.le_refl _)
theorem word_inb {c : ℕ} (hc : c < 13) : ∀ a, (![c] : Fin 1 → ℕ) a + S1.size a ≤ S13.size a :=
  Rect.inb₁ (by show c + 1 ≤ 13; omega)

/-- Chunk `c`'s program once its word `v` is read, `kk` after it: where the word is a type, store the projection of the
    chunk's rows by that type's weights; where it is not, store zeros. -/
def chunkRest (e : EltTy) (v : BitVec 32)
    (hw : isType v = 1#1 → ∀ a, (k0_off1 v) a + S1x3584x512.size a ≤ S3x3584x512.size a)
    (hs : isType v = 1#1 → ∀ a, (k0_off2 v) a + S1x1x512.size a ≤ S3x1x512.size a)
    (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e) (c : ℕ) (hc : c < 13)
    (hld : arg6.view.LoadsAt (Rect.unit (s := S1248x512) ![96 * c, 0] S96x512.size (rowsY_inb hc)).toLoadRect)
    (hst : (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) (kk : PUnit.{1} → Prog (TpuEff nD τ sig (Elt F) Λ₀ .tc) PUnit) :
    Prog (TpuEff nD τ sig (Elt F) Λ₀ .tc) PUnit := do
  if h : isType v = 1#1 then do
    let v103 : Vec F S96x3584 .bf16 ← Prog.lift (.load arg2 (Rect.unit (s := S1248x3584) ![96 * c, 0] S96x3584.size (rowsX_inb hc)).toLoadRect (View.loadsAt_vmem h_S96x3584))
    let v105 : Vec F S1x3584x512 .fp8e4m3 ← Prog.lift (.load arg3 (Rect.unit (s := S3x3584x512) (k0_off1 v) S1x3584x512.size (hw h)).toLoadRect (View.loadsAt_vmem h_S1x3584x512))
    let v109 : Vec F S1x1x512 .f32 ← Prog.lift (.load arg4 (Rect.unit (s := S3x1x512) (k0_off2 v) S1x1x512.size (hs h)).toLoadRect (View.loadsAt_vmem h_S1x1x512))
    let v114 : Vec F S1x1x512 .f32 ← Prog.lift (.load arg5 (Rect.unit (s := S3x1x512) (k0_off2 v) S1x1x512.size (hs h)).toLoadRect (View.loadsAt_vmem h_S1x1x512))
    let v118 : Vec F S96x512 e ← Prog.lift (.load arg6 (Rect.unit (s := S1248x512) ![96 * c, 0] S96x512.size (rowsY_inb hc)).toLoadRect hld)
    Prog.lift (.store arg6 (Rect.unit (s := S1248x512) ![96 * c, 0] S96x512.size (rowsY_inb hc)) (pay v103 v105 v109 v114) Finset.univ hst (.inl rfl))
    pure ⟨⟩
  else do
    pure ⟨⟩
  let v15 : BitVec 1 := Scalar.cmpi .slt v 0#32
  let v16 : BitVec 32 := Scalar.extui v15
  let v17 : BitVec 1 := Scalar.cmpi .ne v16 0#32
  if v17 = 1#1 then do
    let v103 : Vec F S96x512 e ← Prog.lift (.load arg6 (Rect.unit (s := S1248x512) ![96 * c, 0] S96x512.size (rowsY_inb hc)).toLoadRect hld)
    Prog.lift (.store arg6 (Rect.unit (s := S1248x512) ![96 * c, 0] S96x512.size (rowsY_inb hc)) pad Finset.univ hst (.inl rfl))
    pure ⟨⟩
  else do
    pure ⟨⟩
  kk ⟨⟩

/-- Chunk `c`'s program, `kk` after it: read the chunk's type word; where it is a type, store the projection of the
    chunk's rows by that type's weights; where it is not, store zeros. -/
def chunk (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e) (c : ℕ) (hc : c < 13)
    (hld : arg6.view.LoadsAt (Rect.unit (s := S1248x512) ![96 * c, 0] S96x512.size (rowsY_inb hc)).toLoadRect)
    (hst : (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) (kk : PUnit.{1} → Prog (TpuEff nD τ sig (Elt F) Λ₀ .tc) PUnit) :
    Prog (TpuEff nD τ sig (Elt F) Λ₀ .tc) PUnit := do
  let v : Elt F .i32 ← smemLoad arg1 (Rect.unit (s := S13) ![c] S1.size (word_inb hc)) numel1_S1 rfl
  have k0_hw1 : chk v := (← Prog.lift (TpuEff.assume (chk v) (dec v))).down
  chunkRest e v (hw v k0_hw1) (hs v k0_hw1) arg2 arg3 arg4 arg5 arg6 c hc hld hst pay pad kk

/-- Chunk `c`'s word of the chunk table. -/
abbrev wordAt (x1 : Vec F S13 .i32) (c : ℕ) (hc : c < 13) : BitVec 32 := x1 (ValueIdx.ix1 (n := 13) ⟨c, hc⟩)

/-- What chunk `c` stores: its rows' projection by its word's type, or zeros. -/
def chunkVal (e : EltTy)
    (pay : Vec F S96x3584 .bf16 → Vec F S1x3584x512 .fp8e4m3 → Vec F S1x1x512 .f32 → Vec F S1x1x512 .f32 → Vec F S96x512 e)
    (pad : Vec F S96x512 e) (v : BitVec 32)
    (hw : isType v = 1#1 → ∀ a, (k0_off1 v) a + S1x3584x512.size a ≤ S3x3584x512.size a)
    (hs : isType v = 1#1 → ∀ a, (k0_off2 v) a + S1x1x512.size a ≤ S3x1x512.size a)
    (x2 : Vec F S1248x3584 .bf16) (x3 : Vec F S3x3584x512 .fp8e4m3) (x4 x5 : Vec F S3x1x512 .f32) (c : ℕ) (hc : c < 13) : Vec F S96x512 e :=
  if h : isType v = 1#1 then
    pay (View.ld x2 (Rect.unit (s := S1248x3584) ![96 * c, 0] S96x3584.size (rowsX_inb hc)))
      (View.ld x3 (Rect.unit (s := S3x3584x512) (k0_off1 v) S1x3584x512.size (hw h)))
      (View.ld x4 (Rect.unit (s := S3x1x512) (k0_off2 v) S1x1x512.size (hs h)))
      (View.ld x5 (Rect.unit (s := S3x1x512) (k0_off2 v) S1x1x512.size (hs h)))
  else pad

theorem chunkVal_congr (e : EltTy)
    (pay : Vec F S96x3584 .bf16 → Vec F S1x3584x512 .fp8e4m3 → Vec F S1x1x512 .f32 → Vec F S1x1x512 .f32 → Vec F S96x512 e)
    (pad : Vec F S96x512 e) {v v' : BitVec 32} (hv : v = v') (hw hs hw' hs')
    (x2 : Vec F S1248x3584 .bf16) (x3 : Vec F S3x3584x512 .fp8e4m3) (x4 x5 : Vec F S3x1x512 .f32) (c : ℕ) (hc : c < 13) :
    chunkVal e pay pad v hw hs x2 x3 x4 x5 c hc = chunkVal e pay pad v' hw' hs' x2 x3 x4 x5 c hc := by
  subst hv; rfl

/-- `y` with rows `96 c` to `96 c + 95` replaced by `B`. -/
def putRows {e : EltTy} (y : Vec F S1248x512 e) (c : ℕ) (B : Vec F S96x512 e) : Vec F S1248x512 e := fun i =>
  if h : 96 * c ≤ (i 0).val ∧ (i 0).val < 96 * c + 96 then
    B (ValueIdx.ix2 (n0 := 96) (n1 := 512) ⟨(i 0).val - 96 * c, by omega⟩ (i 1))
  else y i

theorem read_put {e : EltTy} (arg6 : Memref sig .tc .vmem S1248x512 e) (f : arg6.view.ty.Contents (Elt F)) (c : ℕ) (hc : c < 13) (B : Vec F S96x512 e) :
    arg6.view.read (Elt F) ((arg6.access (Rect.unit (s := S1248x512) ![96 * c, 0] S96x512.size (rowsY_inb hc))).write (Elt F) f B Finset.univ)
      = putRows (arg6.view.read (Elt F) f) c B := by
  funext y
  unfold putRows
  split
  · rename_i h
    exact View.read_writes_cons_unit_of_mem arg6.view f (rowsY_inb hc) B [] y _ rfl (by
      intro a
      fin_cases a
      · show (y 0).val = 96 * c + ((y 0).val - 96 * c); omega
      · show (y 1).val = 0 + (y 1).val; omega)
  · rename_i h
    exact View.read_writes_cons_unit_of_not_mem arg6.view f (rowsY_inb hc) B [] y rfl 0 (by
      show (y 0).val < 96 * c ∨ 96 * c + 96 ≤ (y 0).val; omega)

theorem first_pos (c : ℕ) (hc : c < 13) : 0 < (Rect.unit (s := S13) ![c] S1.size (word_inb hc)).shape.numel := Nat.le_of_eq numel1_S1.symm

/-- The table word the body reads for chunk `c`. -/
theorem read_word (arg1 : Memref sig .tc .smem S13 .i32) (f : arg1.view.ty.Contents (Elt F)) (c : ℕ) (hc : c < 13) (x) :
    (arg1.access (Rect.unit (s := S13) ![c] S1.size (word_inb hc))).read (Elt F) f x = wordAt (arg1.view.read (Elt F) f) c hc := by
  show arg1.view.read (Elt F) f ((Rect.unit (s := S13) ![c] S1.size (word_inb hc)).idx x) = _
  refine congrArg (arg1.view.read (Elt F) f) (funext fun a => ?_)
  have ha : a = 0 := Subsingleton.elim _ _
  subst ha
  refine Fin.ext ?_
  show c + 1 * (x 0).val = c
  have : (x 0).val < 1 := (x 0).isLt
  omega

set_option maxHeartbeats 1000000 in
/-- The rest of chunk `c` of the body, run: it leaves its rows of the output at `chunkVal` and everything else as it was. -/
theorem wp_chunkRest (co : Dev nD) (e : EltTy) (v : BitVec 32)
    (hw : isType v = 1#1 → ∀ a, (k0_off1 v) a + S1x3584x512.size a ≤ S3x3584x512.size a)
    (hs : isType v = 1#1 → ∀ a, (k0_off2 v) a + S1x1x512.size a ≤ S3x1x512.size a)
    (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e) (c : ℕ) (hc : c < 13)
    (hld : arg6.view.LoadsAt (Rect.unit (s := S1248x512) ![96 * c, 0] S96x512.size (rowsY_inb hc)).toLoadRect)
    (hst : (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) (kk : PUnit.{1} → Prog (TpuEff nD τ sig (Elt F) Λ₀ .tc) PUnit)
    (x2 : Vec F S1248x3584 .bf16) (x3 : Vec F S3x3584x512 .fp8e4m3) (x4 x5 : Vec F S3x1x512 .f32)
    (y : Vec F S1248x512 e) (E : Set ℕ) (Q : PUnit → sProp 𝕄) :
    iprop(owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare y
      ∗ (iprop(owns (co : Thread nD τ) arg2 fullShare x2 ∗ owns (co : Thread nD τ) arg3 fullShare x3
          ∗ owns (co : Thread nD τ) arg4 fullShare x4 ∗ owns (co : Thread nD τ) arg5 fullShare x5
          ∗ owns (co : Thread nD τ) arg6 fullShare (putRows y c (chunkVal e pay pad v hw hs x2 x3 x4 x5 c hc)))
          -∗ wp frame (wpE (defs₀ (F := F)) Variants.none co none) E (kk ⟨⟩) Q))
    ⊢ wp frame (wpE (defs₀ (F := F)) Variants.none co none) E
        (chunkRest e v hw hs arg2 arg3 arg4 arg5 arg6 c hc hld hst pay pad kk) Q := by
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  unfold chunkRest chunkVal
  by_cases h : isType v = 1#1
  · have hp : ¬ isPad v = 1#1 := fun h' => (isPad_iff v).mp h' h
    simp only [dif_pos h]
    sl_exec
    iapply Hk
    isplitl [H2]; · iexists _; isplitr; · ipureintro; exact rfl
                    iexact H2
    isplitl [H3]; · iexists _; isplitr; · ipureintro; exact rfl
                    iexact H3
    isplitl [H4]; · iexists _; isplitr; · ipureintro; exact rfl
                    iexact H4
    isplitl [H5]; · iexists _; isplitr; · ipureintro; exact rfl
                    iexact H5
    iexists _; isplitr; · ipureintro; exact read_put arg6 f6 c hc _
    iexact H6
  · have hp : isPad v = 1#1 := (isPad_iff v).mpr h
    simp only [dif_neg h]
    sl_exec
    iapply Hk
    isplitl [H2]; · iexists _; isplitr; · ipureintro; exact rfl
                    iexact H2
    isplitl [H3]; · iexists _; isplitr; · ipureintro; exact rfl
                    iexact H3
    isplitl [H4]; · iexists _; isplitr; · ipureintro; exact rfl
                    iexact H4
    isplitl [H5]; · iexists _; isplitr; · ipureintro; exact rfl
                    iexact H5
    iexists _; isplitr; · ipureintro; exact read_put arg6 f6 c hc _
    iexact H6

set_option maxHeartbeats 1000000 in
/-- Chunk `c` of the body, run: it leaves its rows of the output at `chunkVal` and everything else as it was. -/
theorem wp_chunk (co : Dev nD) (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e) (c : ℕ) (hc : c < 13)
    (hld : arg6.view.LoadsAt (Rect.unit (s := S1248x512) ![96 * c, 0] S96x512.size (rowsY_inb hc)).toLoadRect)
    (hst : (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) (kk : PUnit.{1} → Prog (TpuEff nD τ sig (Elt F) Λ₀ .tc) PUnit)
    (x1 : Vec F S13 .i32) (x2 : Vec F S1248x3584 .bf16) (x3 : Vec F S3x3584x512 .fp8e4m3) (x4 x5 : Vec F S3x1x512 .f32)
    (y : Vec F S1248x512 e) (hchk : chk (wordAt x1 c hc)) (E : Set ℕ) (Q : PUnit → sProp 𝕄) :
    iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare y
      ∗ (iprop(owns (co : Thread nD τ) arg1 fullShare x1 ∗ owns (co : Thread nD τ) arg2 fullShare x2 ∗ owns (co : Thread nD τ) arg3 fullShare x3
          ∗ owns (co : Thread nD τ) arg4 fullShare x4 ∗ owns (co : Thread nD τ) arg5 fullShare x5
          ∗ owns (co : Thread nD τ) arg6 fullShare (putRows y c (chunkVal e pay pad (wordAt x1 c hc) (hw _ hchk) (hs _ hchk) x2 x3 x4 x5 c hc)))
          -∗ wp frame (wpE (defs₀ (F := F)) Variants.none co none) E (kk ⟨⟩) Q))
    ⊢ wp frame (wpE (defs₀ (F := F)) Variants.none co none) E
        (chunk e chk dec hw hs arg1 arg2 arg3 arg4 arg5 arg6 c hc hld hst pay pad kk) Q := by
  unfold owns
  iintro ⟨⟨%f1, %hf1, H1⟩, Hr⟩
  subst hf1
  have hv := read_word arg1 f1 c hc (Shape.Idx.first (first_pos c hc))
  have hchk' : chk ((arg1.access (Rect.unit (s := S13) ![c] S1.size (word_inb hc))).read (Elt F) f1 (Shape.Idx.first (first_pos c hc))) := hv ▸ hchk
  have hval := chunkVal_congr e pay pad hv (hw _ hchk') (hs _ hchk') (hw _ hchk) (hs _ hchk) x2 x3 x4 x5 c hc
  have hrest := And.intro trivial (wp_chunkRest co e _ (hw _ hchk') (hs _ hchk') arg2 arg3 arg4 arg5 arg6 c hc hld hst pay pad kk x2 x3 x4 x5 y E Q)
  rw [hval] at hrest
  unfold owns at hrest
  unfold chunk
  sl_exec (disch := exact hchk')
  iapply hrest.2
  icases Hr with ⟨H2, H3, H4, H5, H6, Hk⟩
  isplitl [H2]; · iexact H2
  isplitl [H3]; · iexact H3
  isplitl [H4]; · iexact H4
  isplitl [H5]; · iexact H5
  isplitl [H6]; · iexact H6
  iintro Hr
  iapply Hk
  isplitl [H1]
  · iexists _; isplitr; · ipureintro; exact rfl
    iexact H1
  iexact Hr

end Cert.Qkv.Hand

end
-- ==== Proof.QkvBody.lean ====
/-
  The QKV projection's body as a whole, for the program `Qkv`: thirteen chunks in a row fill the output block, and the
  printed body is such a row for the one of its three outputs that the grid point is for.
-/
module

public import proofs.«01_k».proof.Proof.QkvChunk

@[expose] public section

set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Four chunks in a row. -/
def four (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e)
    (hld : ∀ (c : ℕ) (hc : c < 13), arg6.view.LoadsAt (Rect.unit (s := S1248x512) ![96 * c, 0] S96x512.size (rowsY_inb hc)).toLoadRect)
    (hst : ∀ (c : ℕ) (hc : c < 13), (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) (c : ℕ) (hc : c + 3 < 13) : Prog (TpuEff nD τ sig (Elt F) Λ₀ .tc) PUnit :=
  chunk e chk dec hw hs arg1 arg2 arg3 arg4 arg5 arg6 c (by omega) (hld c (by omega)) (hst c (by omega)) pay pad fun _ =>
  chunk e chk dec hw hs arg1 arg2 arg3 arg4 arg5 arg6 (c + 1) (by omega) (hld (c + 1) (by omega)) (hst (c + 1) (by omega)) pay pad fun _ =>
  chunk e chk dec hw hs arg1 arg2 arg3 arg4 arg5 arg6 (c + 2) (by omega) (hld (c + 2) (by omega)) (hst (c + 2) (by omega)) pay pad fun _ =>
  chunk e chk dec hw hs arg1 arg2 arg3 arg4 arg5 arg6 (c + 3) hc (hld (c + 3) hc) (hst (c + 3) hc) pay pad fun _ => pure ⟨⟩

/-- All thirteen chunks. -/
def region (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e)
    (hld : ∀ (c : ℕ) (hc : c < 13), arg6.view.LoadsAt (Rect.unit (s := S1248x512) ![96 * c, 0] S96x512.size (rowsY_inb hc)).toLoadRect)
    (hst : ∀ (c : ℕ) (hc : c < 13), (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) : Prog (TpuEff nD τ sig (Elt F) Λ₀ .tc) PUnit := do
  four e chk dec hw hs arg1 arg2 arg3 arg4 arg5 arg6 hld hst pay pad 0 (by omega)
  four e chk dec hw hs arg1 arg2 arg3 arg4 arg5 arg6 hld hst pay pad 4 (by omega)
  four e chk dec hw hs arg1 arg2 arg3 arg4 arg5 arg6 hld hst pay pad 8 (by omega)
  chunk e chk dec hw hs arg1 arg2 arg3 arg4 arg5 arg6 12 (by omega) (hld 12 (by omega)) (hst 12 (by omega)) pay pad fun _ => pure ⟨⟩

/-- What the thirteen chunks fill the block with: row `r` from chunk `r / 96`. -/
def tgt (e : EltTy) (chk : BitVec 32 → Prop)
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (pay : Vec F S96x3584 .bf16 → Vec F S1x3584x512 .fp8e4m3 → Vec F S1x1x512 .f32 → Vec F S1x1x512 .f32 → Vec F S96x512 e)
    (pad : Vec F S96x512 e) (x1 : Vec F S13 .i32) (x2 : Vec F S1248x3584 .bf16) (x3 : Vec F S3x3584x512 .fp8e4m3) (x4 x5 : Vec F S3x1x512 .f32)
    (hchk : ∀ (c : ℕ) (hc : c < 13), chk (wordAt x1 c hc)) : Vec F S1248x512 e := fun i =>
  have hc : (i 0).val / 96 < 13 := by have : (i 0).val < 1248 := (i 0).isLt; omega
  chunkVal e pay pad (wordAt x1 ((i 0).val / 96) hc) (hw _ (hchk _ hc)) (hs _ (hchk _ hc)) x2 x3 x4 x5 ((i 0).val / 96) hc
    (ValueIdx.ix2 (n0 := 96) (n1 := 512) ⟨(i 0).val % 96, Nat.mod_lt _ (by omega)⟩ (i 1))

/-- The rows below `96 c` are as `t` has them. -/
def Agree {e : EltTy} (t y : Vec F S1248x512 e) (c : ℕ) : Prop := ∀ i, (i 0).val < 96 * c → y i = t i

theorem Agree.all {e : EltTy} {t y : Vec F S1248x512 e} (h : Agree t y 13) : y = t := funext fun i => h i (i 0).isLt

theorem Agree.zero {e : EltTy} (t y : Vec F S1248x512 e) : Agree t y 0 := fun i h => absurd h (by omega)

theorem agree_put (e : EltTy) (chk : BitVec 32 → Prop) (hw hs pay pad) (x1 : Vec F S13 .i32) (x2 : Vec F S1248x3584 .bf16) (x3 : Vec F S3x3584x512 .fp8e4m3) (x4 x5 : Vec F S3x1x512 .f32)
    (hchk : ∀ (c : ℕ) (hc : c < 13), chk (wordAt x1 c hc)) (y : Vec F S1248x512 e) (c : ℕ) (hc : c < 13)
    (h : Agree (tgt e chk hw hs pay pad x1 x2 x3 x4 x5 hchk) y c) :
    Agree (tgt e chk hw hs pay pad x1 x2 x3 x4 x5 hchk) (putRows y c (chunkVal e pay pad (wordAt x1 c hc) (hw _ (hchk c hc)) (hs _ (hchk c hc)) x2 x3 x4 x5 c hc)) (c + 1) := by
  intro i hi
  unfold putRows
  split
  · rename_i hr
    obtain rfl : c = (i 0).val / 96 := by omega
    unfold tgt
    refine congrArg _ ?_
    refine congrArg (fun k => ValueIdx.ix2 (n0 := 96) (n1 := 512) k (i 1)) (Fin.ext ?_)
    show (i 0).val - 96 * ((i 0).val / 96) = (i 0).val % 96
    omega
  · exact h i (by omega)

/-- One chunk over a block that is right so far. -/
theorem wp_chunk_agree (co : Dev nD) (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e)
    (hld : ∀ (c : ℕ) (hc : c < 13), arg6.view.LoadsAt (Rect.unit (s := S1248x512) ![96 * c, 0] S96x512.size (rowsY_inb hc)).toLoadRect)
    (hst : ∀ (c : ℕ) (hc : c < 13), (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e)
    (x1 : Vec F S13 .i32) (x2 : Vec F S1248x3584 .bf16) (x3 : Vec F S3x3584x512 .fp8e4m3) (x4 x5 : Vec F S3x1x512 .f32)
    (hchk : ∀ (c : ℕ) (hc : c < 13), chk (wordAt x1 c hc)) (E : Set ℕ) (Q : PUnit → sProp 𝕄) (Fr : sProp 𝕄) (kk : PUnit.{1} → Prog (TpuEff nD τ sig (Elt F) Λ₀ .tc) PUnit) (y : Vec F S1248x512 e) (c : ℕ) (hc : c < 13) (hy : Agree (tgt e chk hw hs pay pad x1 x2 x3 x4 x5 hchk) y c)
    (hk : ∀ y', Agree (tgt e chk hw hs pay pad x1 x2 x3 x4 x5 hchk) y' (c + 1) →
      iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (y') ∗ Fr) ⊢ wp frame (wpE (defs₀ (F := F)) Variants.none co none) E (kk ⟨⟩) Q) :
    iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (y) ∗ Fr) ⊢ wp frame (wpE (defs₀ (F := F)) Variants.none co none) E (chunk e chk dec hw hs arg1 arg2 arg3 arg4 arg5 arg6 c hc (hld c hc) (hst c hc) pay pad kk) Q := by
  have hrun := wp_chunk co e chk dec hw hs arg1 arg2 arg3 arg4 arg5 arg6 c hc (hld c hc) (hst c hc) pay pad kk x1 x2 x3 x4 x5 y (hchk c hc) E Q
  have hnext := hk _ (agree_put e chk hw hs pay pad x1 x2 x3 x4 x5 hchk y c hc hy)
  iintro ⟨H1, H2, H3, H4, H5, H6, HF⟩
  iapply hrun
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply hnext
  isplitl [H1]; · iexact H1
  isplitl [H2]; · iexact H2
  isplitl [H3]; · iexact H3
  isplitl [H4]; · iexact H4
  isplitl [H5]; · iexact H5
  isplitl [H6]; · iexact H6
  iexact HF

/-- Four chunks over a block that is right so far. -/
theorem wp_four (co : Dev nD) (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e)
    (hld : ∀ (c : ℕ) (hc : c < 13), arg6.view.LoadsAt (Rect.unit (s := S1248x512) ![96 * c, 0] S96x512.size (rowsY_inb hc)).toLoadRect)
    (hst : ∀ (c : ℕ) (hc : c < 13), (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e)
    (x1 : Vec F S13 .i32) (x2 : Vec F S1248x3584 .bf16) (x3 : Vec F S3x3584x512 .fp8e4m3) (x4 x5 : Vec F S3x1x512 .f32)
    (hchk : ∀ (c : ℕ) (hc : c < 13), chk (wordAt x1 c hc)) (E : Set ℕ) (Q : PUnit → sProp 𝕄) (Fr : sProp 𝕄) (y : Vec F S1248x512 e) (c : ℕ) (hc : c + 3 < 13) (hy : Agree (tgt e chk hw hs pay pad x1 x2 x3 x4 x5 hchk) y c)
    (hk : ∀ y', Agree (tgt e chk hw hs pay pad x1 x2 x3 x4 x5 hchk) y' (c + 4) →
      iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (y') ∗ Fr) ⊢ Q ⟨⟩) :
    iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (y) ∗ Fr) ⊢ wp frame (wpE (defs₀ (F := F)) Variants.none co none) E (four e chk dec hw hs arg1 arg2 arg3 arg4 arg5 arg6 hld hst pay pad c hc) Q := by
  unfold four
  refine wp_chunk_agree co e chk dec hw hs arg1 arg2 arg3 arg4 arg5 arg6 hld hst pay pad x1 x2 x3 x4 x5 hchk E Q Fr _ y c (by omega) hy fun y hy => ?_
  refine wp_chunk_agree co e chk dec hw hs arg1 arg2 arg3 arg4 arg5 arg6 hld hst pay pad x1 x2 x3 x4 x5 hchk E Q Fr _ y (c + 1) (by omega) hy fun y hy => ?_
  refine wp_chunk_agree co e chk dec hw hs arg1 arg2 arg3 arg4 arg5 arg6 hld hst pay pad x1 x2 x3 x4 x5 hchk E Q Fr _ y (c + 2) (by omega) hy fun y hy => ?_
  refine wp_chunk_agree co e chk dec hw hs arg1 arg2 arg3 arg4 arg5 arg6 hld hst pay pad x1 x2 x3 x4 x5 hchk E Q Fr _ y (c + 3) (by omega) hy fun y hy => ?_
  refine (hk y hy).trans ?_
  iintro H
  sl_step
  iexact H

/-- The thirteen chunks fill the block with `tgt`, whatever it held. -/
theorem wp_region (co : Dev nD) (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e)
    (hld : ∀ (c : ℕ) (hc : c < 13), arg6.view.LoadsAt (Rect.unit (s := S1248x512) ![96 * c, 0] S96x512.size (rowsY_inb hc)).toLoadRect)
    (hst : ∀ (c : ℕ) (hc : c < 13), (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e)
    (x1 : Vec F S13 .i32) (x2 : Vec F S1248x3584 .bf16) (x3 : Vec F S3x3584x512 .fp8e4m3) (x4 x5 : Vec F S3x1x512 .f32)
    (hchk : ∀ (c : ℕ) (hc : c < 13), chk (wordAt x1 c hc)) (E : Set ℕ) (Q : PUnit → sProp 𝕄) (Fr : sProp 𝕄) (y : Vec F S1248x512 e)
    (hk : iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (tgt e chk hw hs pay pad x1 x2 x3 x4 x5 hchk) ∗ Fr) ⊢ Q ⟨⟩) :
    iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (y) ∗ Fr) ⊢ wp frame (wpE (defs₀ (F := F)) Variants.none co none) E (region e chk dec hw hs arg1 arg2 arg3 arg4 arg5 arg6 hld hst pay pad) Q := by
  unfold region
  rw [wp_bind]
  refine wp_four co e chk dec hw hs arg1 arg2 arg3 arg4 arg5 arg6 hld hst pay pad x1 x2 x3 x4 x5 hchk E _ Fr y 0 (by omega) (Agree.zero _ y) fun y hy => ?_
  rw [wp_bind]
  refine wp_four co e chk dec hw hs arg1 arg2 arg3 arg4 arg5 arg6 hld hst pay pad x1 x2 x3 x4 x5 hchk E _ Fr y 4 (by omega) hy fun y hy => ?_
  rw [wp_bind]
  refine wp_four co e chk dec hw hs arg1 arg2 arg3 arg4 arg5 arg6 hld hst pay pad x1 x2 x3 x4 x5 hchk E _ Fr y 8 (by omega) hy fun y hy => ?_
  refine wp_chunk_agree co e chk dec hw hs arg1 arg2 arg3 arg4 arg5 arg6 hld hst pay pad x1 x2 x3 x4 x5 hchk E Q Fr _ y 12 (by omega) hy fun y hy => ?_
  obtain rfl := hy.all
  refine hk.trans ?_
  iintro H
  sl_step
  iexact H

set_option maxRecDepth 65536 in
theorem part1_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond1 i = 1#1) :
    k0_part1 (F := F) i arg1 harg1 arg2 harg2 arg3 harg3 arg4 harg4 arg5 harg5 arg6 harg6 arg7 harg7 arg8 harg8 hi = four .f32 (k0_chk1 i) (k0_chk1.dec i) (fun v h => h.1 hi) (fun v h => h.2 hi) arg1 arg2 arg3 arg4 arg5 arg6 (fun c hc => View.loadsAt_vmem h_S96x512) (fun c hc => View.stores_vmem_bits_univ h_S96x512 rfl) k0_pay7 k0_pay8 0 (by omega) := rfl

set_option maxRecDepth 65536 in
theorem part2_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond1 i = 1#1) :
    k0_part2 (F := F) i arg1 harg1 arg2 harg2 arg3 harg3 arg4 harg4 arg5 harg5 arg6 harg6 arg7 harg7 arg8 harg8 hi = four .f32 (k0_chk1 i) (k0_chk1.dec i) (fun v h => h.1 hi) (fun v h => h.2 hi) arg1 arg2 arg3 arg4 arg5 arg6 (fun c hc => View.loadsAt_vmem h_S96x512) (fun c hc => View.stores_vmem_bits_univ h_S96x512 rfl) k0_pay7 k0_pay8 4 (by omega) := rfl

set_option maxRecDepth 65536 in
theorem part3_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond1 i = 1#1) :
    k0_part3 (F := F) i arg1 harg1 arg2 harg2 arg3 harg3 arg4 harg4 arg5 harg5 arg6 harg6 arg7 harg7 arg8 harg8 hi = four .f32 (k0_chk1 i) (k0_chk1.dec i) (fun v h => h.1 hi) (fun v h => h.2 hi) arg1 arg2 arg3 arg4 arg5 arg6 (fun c hc => View.loadsAt_vmem h_S96x512) (fun c hc => View.stores_vmem_bits_univ h_S96x512 rfl) k0_pay7 k0_pay8 8 (by omega) := rfl

set_option maxRecDepth 65536 in
/-- At a grid point of the first output the body is the thirteen chunks over that output's block. -/
theorem body_q (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond1 i = 1#1) (hn1 : ¬ k0_cond28 i = 1#1) (hn2 : ¬ k0_cond55 i = 1#1) :
    cc0_qkv (F := F) i arg1 harg1 arg2 harg2 arg3 harg3 arg4 harg4 arg5 harg5 arg6 harg6 arg7 harg7 arg8 harg8 = region .f32 (k0_chk1 i) (k0_chk1.dec i) (fun v h => h.1 hi) (fun v h => h.2 hi) arg1 arg2 arg3 arg4 arg5 arg6 (fun c hc => View.loadsAt_vmem h_S96x512) (fun c hc => View.stores_vmem_bits_univ h_S96x512 rfl) k0_pay7 k0_pay8 := by
  rw [cc0_qkv_eq_skeleton]
  unfold cc0_qkv_skel region
  simp only [dif_pos hi, dif_neg hn1, dif_neg hn2]
  simp only [part1_eq, part2_eq, part3_eq]
  rfl

theorem stores_k (arg7 : Memref sig .tc .vmem S1248x512 .bf16) (harg7 : arg7.IsWhole) (c : ℕ) (hc : c < 13) :
    (arg7.access (Rect.unit (s := S1248x512) ![96 * c, 0] S96x512.size (rowsY_inb hc))).Stores Finset.univ := by
  interval_cases c
  · exact View.stores_vmem h_S96x512 (harg7.storeExact_slice rfl _ packedbf16_S1248x512_S96x512_0_0) (fun _ => rfl)
  · exact View.stores_vmem h_S96x512 (harg7.storeExact_slice rfl _ packedbf16_S1248x512_S96x512_96_0) (fun _ => rfl)
  · exact View.stores_vmem h_S96x512 (harg7.storeExact_slice rfl _ packedbf16_S1248x512_S96x512_192_0) (fun _ => rfl)
  · exact View.stores_vmem h_S96x512 (harg7.storeExact_slice rfl _ packedbf16_S1248x512_S96x512_288_0) (fun _ => rfl)
  · exact View.stores_vmem h_S96x512 (harg7.storeExact_slice rfl _ packedbf16_S1248x512_S96x512_384_0) (fun _ => rfl)
  · exact View.stores_vmem h_S96x512 (harg7.storeExact_slice rfl _ packedbf16_S1248x512_S96x512_480_0) (fun _ => rfl)
  · exact View.stores_vmem h_S96x512 (harg7.storeExact_slice rfl _ packedbf16_S1248x512_S96x512_576_0) (fun _ => rfl)
  · exact View.stores_vmem h_S96x512 (harg7.storeExact_slice rfl _ packedbf16_S1248x512_S96x512_672_0) (fun _ => rfl)
  · exact View.stores_vmem h_S96x512 (harg7.storeExact_slice rfl _ packedbf16_S1248x512_S96x512_768_0) (fun _ => rfl)
  · exact View.stores_vmem h_S96x512 (harg7.storeExact_slice rfl _ packedbf16_S1248x512_S96x512_864_0) (fun _ => rfl)
  · exact View.stores_vmem h_S96x512 (harg7.storeExact_slice rfl _ packedbf16_S1248x512_S96x512_960_0) (fun _ => rfl)
  · exact View.stores_vmem h_S96x512 (harg7.storeExact_slice rfl _ packedbf16_S1248x512_S96x512_1056_0) (fun _ => rfl)
  · exact View.stores_vmem h_S96x512 (harg7.storeExact_slice rfl _ packedbf16_S1248x512_S96x512_1152_0) (fun _ => rfl)

set_option maxRecDepth 65536 in
theorem part4_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond28 i = 1#1) :
    k0_part4 (F := F) i arg1 harg1 arg2 harg2 arg3 harg3 arg4 harg4 arg5 harg5 arg6 harg6 arg7 harg7 arg8 harg8 hi = four .bf16 (k0_chk14 i) (k0_chk14.dec i) (fun v h => h.1 hi) (fun v h => h.2 hi) arg1 arg2 arg3 arg4 arg5 arg7 (fun c hc => View.loadsAt_vmem h_S96x512) (stores_k arg7 harg7) k0_pay31 k0_pay32 0 (by omega) := rfl

set_option maxRecDepth 65536 in
theorem part5_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond28 i = 1#1) :
    k0_part5 (F := F) i arg1 harg1 arg2 harg2 arg3 harg3 arg4 harg4 arg5 harg5 arg6 harg6 arg7 harg7 arg8 harg8 hi = four .bf16 (k0_chk14 i) (k0_chk14.dec i) (fun v h => h.1 hi) (fun v h => h.2 hi) arg1 arg2 arg3 arg4 arg5 arg7 (fun c hc => View.loadsAt_vmem h_S96x512) (stores_k arg7 harg7) k0_pay31 k0_pay32 4 (by omega) := rfl

set_option maxRecDepth 65536 in
theorem part6_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond28 i = 1#1) :
    k0_part6 (F := F) i arg1 harg1 arg2 harg2 arg3 harg3 arg4 harg4 arg5 harg5 arg6 harg6 arg7 harg7 arg8 harg8 hi = four .bf16 (k0_chk14 i) (k0_chk14.dec i) (fun v h => h.1 hi) (fun v h => h.2 hi) arg1 arg2 arg3 arg4 arg5 arg7 (fun c hc => View.loadsAt_vmem h_S96x512) (stores_k arg7 harg7) k0_pay31 k0_pay32 8 (by omega) := rfl

set_option maxRecDepth 65536 in
/-- At a grid point of the second output the body is the thirteen chunks over that output's block. -/
theorem body_k (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond28 i = 1#1) (hn0 : ¬ k0_cond1 i = 1#1) (hn2 : ¬ k0_cond55 i = 1#1) :
    cc0_qkv (F := F) i arg1 harg1 arg2 harg2 arg3 harg3 arg4 harg4 arg5 harg5 arg6 harg6 arg7 harg7 arg8 harg8 = region .bf16 (k0_chk14 i) (k0_chk14.dec i) (fun v h => h.1 hi) (fun v h => h.2 hi) arg1 arg2 arg3 arg4 arg5 arg7 (fun c hc => View.loadsAt_vmem h_S96x512) (stores_k arg7 harg7) k0_pay31 k0_pay32 := by
  rw [cc0_qkv_eq_skeleton]
  unfold cc0_qkv_skel region
  simp only [dif_pos hi, dif_neg hn0, dif_neg hn2]
  simp only [part4_eq, part5_eq, part6_eq]
  rfl

theorem stores_v (arg8 : Memref sig .tc .vmem S1248x512 .bf16) (harg8 : arg8.IsWhole) (c : ℕ) (hc : c < 13) :
    (arg8.access (Rect.unit (s := S1248x512) ![96 * c, 0] S96x512.size (rowsY_inb hc))).Stores Finset.univ := by
  interval_cases c
  · exact View.stores_vmem h_S96x512 (harg8.storeExact_slice rfl _ packedbf16_S1248x512_S96x512_0_0) (fun _ => rfl)
  · exact View.stores_vmem h_S96x512 (harg8.storeExact_slice rfl _ packedbf16_S1248x512_S96x512_96_0) (fun _ => rfl)
  · exact View.stores_vmem h_S96x512 (harg8.storeExact_slice rfl _ packedbf16_S1248x512_S96x512_192_0) (fun _ => rfl)
  · exact View.stores_vmem h_S96x512 (harg8.storeExact_slice rfl _ packedbf16_S1248x512_S96x512_288_0) (fun _ => rfl)
  · exact View.stores_vmem h_S96x512 (harg8.storeExact_slice rfl _ packedbf16_S1248x512_S96x512_384_0) (fun _ => rfl)
  · exact View.stores_vmem h_S96x512 (harg8.storeExact_slice rfl _ packedbf16_S1248x512_S96x512_480_0) (fun _ => rfl)
  · exact View.stores_vmem h_S96x512 (harg8.storeExact_slice rfl _ packedbf16_S1248x512_S96x512_576_0) (fun _ => rfl)
  · exact View.stores_vmem h_S96x512 (harg8.storeExact_slice rfl _ packedbf16_S1248x512_S96x512_672_0) (fun _ => rfl)
  · exact View.stores_vmem h_S96x512 (harg8.storeExact_slice rfl _ packedbf16_S1248x512_S96x512_768_0) (fun _ => rfl)
  · exact View.stores_vmem h_S96x512 (harg8.storeExact_slice rfl _ packedbf16_S1248x512_S96x512_864_0) (fun _ => rfl)
  · exact View.stores_vmem h_S96x512 (harg8.storeExact_slice rfl _ packedbf16_S1248x512_S96x512_960_0) (fun _ => rfl)
  · exact View.stores_vmem h_S96x512 (harg8.storeExact_slice rfl _ packedbf16_S1248x512_S96x512_1056_0) (fun _ => rfl)
  · exact View.stores_vmem h_S96x512 (harg8.storeExact_slice rfl _ packedbf16_S1248x512_S96x512_1152_0) (fun _ => rfl)

set_option maxRecDepth 65536 in
theorem part7_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond55 i = 1#1) :
    k0_part7 (F := F) i arg1 harg1 arg2 harg2 arg3 harg3 arg4 harg4 arg5 harg5 arg6 harg6 arg7 harg7 arg8 harg8 hi = four .bf16 (k0_chk27 i) (k0_chk27.dec i) (fun v h => h.1 hi) (fun v h => h.2 hi) arg1 arg2 arg3 arg4 arg5 arg8 (fun c hc => View.loadsAt_vmem h_S96x512) (stores_v arg8 harg8) k0_pay55 k0_pay56 0 (by omega) := rfl

set_option maxRecDepth 65536 in
theorem part8_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond55 i = 1#1) :
    k0_part8 (F := F) i arg1 harg1 arg2 harg2 arg3 harg3 arg4 harg4 arg5 harg5 arg6 harg6 arg7 harg7 arg8 harg8 hi = four .bf16 (k0_chk27 i) (k0_chk27.dec i) (fun v h => h.1 hi) (fun v h => h.2 hi) arg1 arg2 arg3 arg4 arg5 arg8 (fun c hc => View.loadsAt_vmem h_S96x512) (stores_v arg8 harg8) k0_pay55 k0_pay56 4 (by omega) := rfl

set_option maxRecDepth 65536 in
theorem part9_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond55 i = 1#1) :
    k0_part9 (F := F) i arg1 harg1 arg2 harg2 arg3 harg3 arg4 harg4 arg5 harg5 arg6 harg6 arg7 harg7 arg8 harg8 hi = four .bf16 (k0_chk27 i) (k0_chk27.dec i) (fun v h => h.1 hi) (fun v h => h.2 hi) arg1 arg2 arg3 arg4 arg5 arg8 (fun c hc => View.loadsAt_vmem h_S96x512) (stores_v arg8 harg8) k0_pay55 k0_pay56 8 (by omega) := rfl

set_option maxRecDepth 65536 in
/-- At a grid point of the third output the body is the thirteen chunks over that output's block. -/
theorem body_v (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond55 i = 1#1) (hn0 : ¬ k0_cond1 i = 1#1) (hn1 : ¬ k0_cond28 i = 1#1) :
    cc0_qkv (F := F) i arg1 harg1 arg2 harg2 arg3 harg3 arg4 harg4 arg5 harg5 arg6 harg6 arg7 harg7 arg8 harg8 = region .bf16 (k0_chk27 i) (k0_chk27.dec i) (fun v h => h.1 hi) (fun v h => h.2 hi) arg1 arg2 arg3 arg4 arg5 arg8 (fun c hc => View.loadsAt_vmem h_S96x512) (stores_v arg8 harg8) k0_pay55 k0_pay56 := by
  rw [cc0_qkv_eq_skeleton]
  unfold cc0_qkv_skel region
  simp only [dif_pos hi, dif_neg hn0, dif_neg hn1]
  simp only [part7_eq, part8_eq, part9_eq]
  rfl

end Cert.Qkv.Hand

end
-- ==== Proof.QkvHost.lean ====
/-
  What the operations before the pallas_call of `Qkv` compute: the word that names each chunk's node type, as a function
  of the type offsets, and the range of that word.
-/
module

public import proofs.«01_k».proof.Proof.Gen.Qkv.Frame

@[expose] public section

set_option maxRecDepth 16384

noncomputable section

namespace Cert.Qkv.Hand

open Cert.Qkv Cert.Qkv.Gen
open Idealize.ShloMosaic Idealize.ShloMosaic.TcCoe Idealize.ShloMosaic.Tactic

variable {F : FTy → Type} [FloatOps F]
variable (m : (ℓ : Loc nD τ sig) → Buf (Elt F) ℓ)

/-- The quotient of `x` by 96, rounded down. -/
def floor96 (x : IVec S3 32) : IVec S3 32 :=
  select
    (andi (cmpi .ne (signi x) (broadcastInDim S3 ![] bcast_S_S3 (signi (id (constantI S_ 32 96#32)))))
      (cmpi .ne (Host.remsi x (broadcastInDim S3 ![] bcast_S_S3 (id (constantI S_ 32 96#32)))) (broadcastInDim S3 ![] bcast_S_S3 (constantI S_ 32 0#32))))
    (subi (Host.divsi x (broadcastInDim S3 ![] bcast_S_S3 (id (constantI S_ 32 96#32)))) (broadcastInDim S3 ![] bcast_S_S3 (constantI S_ 32 1#32)))
    (Host.divsi x (broadcastInDim S3 ![] bcast_S_S3 (id (constantI S_ 32 96#32))))

/-- The number of nodes of each type, from the type offsets. -/
def counts (off : IVec S4 32) : IVec S3 32 :=
  subi (extractStridedSlice S3 ![1] off slices_S4_S3_1) (extractStridedSlice S3 ![0] off slices_S4_S3_0)

/-- The running sums of the numbers of chunks. -/
def endsOf (blocks : IVec S3 32) : IVec S3 32 :=
  Host.reduceWindow IntOp.addi ![3] ![1] ![2] ![0] blocks (broadcastInDim S_ ![] bcast_S_S_ (constantI S_ 32 0#32)) reduceWindows_S3_S3_w3s1p2_0 h_S_

/-- The first chunk of each type, and the number of chunks in use. -/
def firstOf (off : IVec S4 32) : IVec S4 32 :=
  concatenate S4 0 [⟨S1, broadcastInDim S1 ![] bcast_S_S1 (constantI S_ 32 0#32)⟩, ⟨S3, endsOf (floor96 (subi (addi (counts off) (broadcastInDim S3 ![] bcast_S_S3 (constantI S_ 32 96#32))) (broadcastInDim S3 ![] bcast_S_S3 (constantI S_ 32 1#32))))⟩] concatenates_S1_S3_S4_d0

/-- How many of the three words `ends` are at or below each chunk's number. -/
def rankIn (first : IVec S4 32) : IVec S13 32 :=
  Host.reduce IntOp.addi (extui 32 (cmpi .sge
    (broadcastInDim S13x3 ![0, 1] bcast_S13x1_S13x3_0_1 (broadcastInDim S13x1 ![0] bcast_S13_S13x1_0 (iotaInDim S13 32 0)))
    (broadcastInDim S13x3 ![0, 1] bcast_S1x3_S13x3_0_1 (broadcastInDim S1x3 ![1] bcast_S3_S1x3_1 (extractStridedSlice S3 ![1] first slices_S4_S3_1)))) natLt_1_32)
    (constantI S_ 32 0#32) reducesTo_S13x3_S13_d1 h_S_

/-- How many types end at or before each chunk. -/
def rankOf (off : IVec S4 32) : IVec S13 32 := rankIn (firstOf off)

/-- The word of each chunk: its type, or -1 for a chunk of padding. -/
def ctypeOf (off : IVec S4 32) : IVec S13 32 :=
  select (cmpi .slt (rankOf off) (broadcastInDim S13 ![] bcast_S_S13 (constantI S_ 32 3#32))) (rankOf off)
    (broadcastInDim S13 ![] bcast_S_S13 (id (constantI S_ 32 4294967295#32)))

/-- Two stretches of operations in a row. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons o l ih => exact ih _

section Steps
variable (W : Valuation τ sig (Elt F))

theorem step0 : StableHlo.after hostOps0 W main_v0 = counts (W main_arg0) := by
  unfold hostOps0; after_results; try rfl
theorem step1 : StableHlo.after hostOps0_1 W main_v4 = subi (addi (W main_v0) (broadcastInDim S3 ![] bcast_S_S3 (constantI S_ 32 96#32))) (broadcastInDim S3 ![] bcast_S_S3 (constantI S_ 32 1#32)) := by
  unfold hostOps0_1; after_results; try rfl
theorem step1' : StableHlo.after hostOps0_1 W main_c_1 = constantI S_ 32 96#32 := by
  unfold hostOps0_1; after_results; try rfl
theorem step2 (h : W main_c_1 = constantI S_ 32 96#32) : StableHlo.after hostOps0_2 W main_v5 = floor96 (W main_v4) := by
  unfold hostOps0_2; after_results; simp only [h]; try rfl
theorem step3 : StableHlo.after hostOps0_3 W main_v6 = broadcastInDim S1 ![] bcast_S_S1 (constantI S_ 32 0#32) := by
  unfold hostOps0_3; after_results; try rfl
theorem step3' : StableHlo.after hostOps0_3 W main_v5 = W main_v5 := by
  unfold hostOps0_3; after_results; try rfl
theorem step4 : StableHlo.after hostOps0_4 W main_v7 = endsOf (W main_v5) := by
  unfold hostOps0_4; after_results; try rfl
theorem step4' : StableHlo.after hostOps0_4 W main_v6 = W main_v6 := by
  unfold hostOps0_4; after_results; try rfl
theorem step5 : StableHlo.after hostOps0_5 W main_v17 = rankIn (concatenate S4 0 [⟨S1, W main_v6⟩, ⟨S3, W main_v7⟩] concatenates_S1_S3_S4_d0) := by
  unfold hostOps0_5; after_results; try rfl
theorem step5' : StableHlo.after hostOps0_5 W main_v19 = cmpi .slt (rankIn (concatenate S4 0 [⟨S1, W main_v6⟩, ⟨S3, W main_v7⟩] concatenates_S1_S3_S4_d0)) (broadcastInDim S13 ![] bcast_S_S13 (constantI S_ 32 3#32)) := by
  unfold hostOps0_5; after_results; try rfl
theorem step5'' : StableHlo.after hostOps0_5 W main_c_5 = constantI S_ 32 4294967295#32 := by
  unfold hostOps0_5; after_results; try rfl
theorem step6 : StableHlo.after hostOps0_6 W main_v20 = select (W main_v19) (W main_v17) (broadcastInDim S13 ![] bcast_S_S13 (id (W main_c_5))) := by
  unfold hostOps0_6; after_results; try rfl
theorem step7 : StableHlo.after hostOps0_7 W main_v20 = W main_v20 := by
  unfold hostOps0_7; after_results; try rfl

end Steps

/-- The array of chunk words as the pallas_call finds it. -/
theorem V_ctype (c : Dev nD) : V m c main_v20 = ctypeOf (m ((c : Thread nD τ).loc main_arg0)) := by
  unfold V
  simp only [List.flatten_cons, List.flatten_nil, after_append, StableHlo.after_nil]
  rw [step7, step6, step5, step5', step5'', step4, step4', step3, step3', step2 _ (step1' _), step1, step0]
  rfl

/-- The scales as the pallas_call finds them. -/
theorem V_scale (c : Dev nD) : V m c main_v21 = broadcastInDim S3x1x10752 ![0, 2] bcast_S3x10752_S3x1x10752_0_2 (m ((c : Thread nD τ).loc main_arg3)) := by
  unfold V
  simp only [hostOps0, hostOps0_1, hostOps0_2, hostOps0_3, hostOps0_4, hostOps0_5, hostOps0_6, hostOps0_7, List.flatten_cons, List.flatten_nil, List.append_nil, List.cons_append,
      List.nil_append]
  after_results_simp

/-- The biases as the pallas_call finds them. -/
theorem V_bias (c : Dev nD) : V m c main_v22 = broadcastInDim S3x1x10752 ![0, 2] bcast_S3x10752_S3x1x10752_0_2 (m ((c : Thread nD τ).loc main_arg4)) := by
  unfold V
  simp only [hostOps0, hostOps0_1, hostOps0_2, hostOps0_3, hostOps0_4, hostOps0_5, hostOps0_6, hostOps0_7, List.flatten_cons, List.flatten_nil, List.append_nil, List.cons_append,
      List.nil_append]
  after_results_simp

/-- A word below three, read as a type, is at most two. -/
def Small (v : BitVec 32) : Prop := v.slt 3#32 = true

theorem small_ctypeOf (off : IVec S4 32) (i : S13.Idx) : Small (ctypeOf off i) := by
  unfold ctypeOf Small
  show BitVec.slt (if (BitVec.ofBool ((rankOf off i).slt 3#32)) = 1#1 then rankOf off i else 4294967295#32) 3#32 = true
  split
  · rename_i h
    exact (WordCmp.ofBool_eq_one_iff _).mp h
  · decide

theorem Small.lt {v : BitVec 32} (h : Small v) : (Scalar.maxsi v 0#32).toNat < 3 := by
  have h' : v.toInt < 3 := by
    have := h; unfold Small at this
    rw [BitVec.slt_iff_toInt_lt] at this
    exact this
  show (if (0#32 : BitVec 32).slt v then v else 0#32).toNat < 3
  split
  · rename_i h0
    rw [BitVec.slt_iff_toInt_lt] at h0
    have h0' : (0 : Int) < v.toInt := h0
    rw [BitVec.toInt_eq_toNat_cond] at h' h0'
    split at h' <;> omega
  · decide

end Cert.Qkv.Hand

end
-- ==== Proof.QkvFrame.lean ====
/-
  The frame of the program `Qkv`: what each of its three outputs' staging buffers holds at every grid point, the body's
  obligation at a point, and the run of the whole program.
-/
module

public import proofs.«01_k».proof.Proof.QkvBody
public import proofs.«01_k».proof.Proof.QkvHost
public import Idealize.ShloMosaic.Lib.Pipeline.TableIdle
public import Idealize.ShloMosaic.Lib.Claim

@[expose] public section

set_option maxRecDepth 16384

noncomputable section

namespace Cert.Qkv.Hand

open Cert.Qkv Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The chunk words are in range -/

theorem small_off1 (v : BitVec 32) (h : Small v) (_ : isType v = 1#1) (a : Fin 3) : (k0_off1 v) a + S1x3584x512.size a ≤ S3x3584x512.size a := by
  have h3 := h.lt
  fin_cases a
  · show (Scalar.maxsi v 0#32).toNat + 1 ≤ 3
    omega
  · exact Nat.le_refl _
  · exact Nat.le_refl _

theorem small_off2 (v : BitVec 32) (h : Small v) (_ : isType v = 1#1) (a : Fin 3) : (k0_off2 v) a + S1x1x512.size a ≤ S3x1x512.size a := by
  have h3 := h.lt
  fin_cases a
  · show (Scalar.maxsi v 0#32).toNat + 1 ≤ 3
    omega
  · exact Nat.le_refl _
  · exact Nat.le_refl _

theorem chk1_of_small (i : grid0.Coords) (v : BitVec 32) (h : Small v) : k0_chk1 i v := ⟨fun _ h2 => small_off1 v h h2, fun _ h2 => small_off2 v h h2⟩
theorem chk14_of_small (i : grid0.Coords) (v : BitVec 32) (h : Small v) : k0_chk14 i v := ⟨fun _ h2 => small_off1 v h h2, fun _ h2 => small_off2 v h h2⟩
theorem chk27_of_small (i : grid0.Coords) (v : BitVec 32) (h : Small v) : k0_chk27 i v := ⟨fun _ h2 => small_off1 v h h2, fun _ h2 => small_off2 v h h2⟩

/-- Every chunk word that the body reads is below three. -/
theorem words_small (c : Dev nD) (t : Fin cfg0.N) (k : ℕ) (hk : k < 13) : Small (wordAt (iblk m c 0 t) k hk) := by
  show Small (V m c main_v20 _)
  rw [V_ctype]
  exact small_ctypeOf _ _

/-! ## What the outputs' buffers hold -/

/-- A block of 512 columns of one output: every chunk's rows by the weights of the chunk's type, as grid point `t` computes it. -/
def outAt (e : EltTy) (pay : Vec F S96x3584 .bf16 → Vec F S1x3584x512 .fp8e4m3 → Vec F S1x1x512 .f32 → Vec F S1x1x512 .f32 → Vec F S96x512 e)
    (pad : Vec F S96x512 e) (c : Dev nD) (t : Fin cfg0.N) : Vec F S1248x512 e :=
  tgt e Small small_off1 small_off2 pay pad (iblk m c 0 t) (iblk m c 1 t) (iblk m c 2 t) (iblk m c 3 t) (iblk m c 4 t) (words_small m c t)

theorem N_eq : cfg0.N = 21 := N_0

/-- The last grid point up to `t` that computes a block of the first output, or the first such. -/
def pq (t : Fin cfg0.N) : Fin cfg0.N := ⟨min t.val 6, by have := N_eq; omega⟩
/-- The same for the second output, -/
def pk (t : Fin cfg0.N) : Fin cfg0.N := ⟨max 7 (min t.val 13), by have := N_eq; omega⟩
/-- and for the third. -/
def pv (t : Fin cfg0.N) : Fin cfg0.N := ⟨max 14 t.val, by have := N_eq; have := t.isLt; omega⟩

/-- What the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m .f32 k0_pay7 k0_pay8 c (pq t)
    | ⟨6, _⟩ => outAt m .bf16 k0_pay31 k0_pay32 c (pk t)
    | ⟨7, _⟩ => outAt m .bf16 k0_pay55 k0_pay56 c (pv t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m .f32 k0_pay7 k0_pay8 c (pq t) := by dsimp only [dats]
theorem after0_6 (c : Dev nD) (t : Fin cfg0.N) : (dats m 0 c).after 6 t = outAt m .bf16 k0_pay31 k0_pay32 c (pk t) := by dsimp only [dats]
theorem after0_7 (c : Dev nD) (t : Fin cfg0.N) : (dats m 0 c).after 7 t = outAt m .bf16 k0_pay55 k0_pay56 c (pv t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Which output a grid point is for, and when each is written back -/

theorem cond_q : ∀ t : Fin cfg0.N, k0_cond1 (grid0.coords t) = 1#1 ↔ t.val < 7 :=
  (by decide +kernel : ∀ t : Fin grid0.N, k0_cond1 (grid0.coords t) = 1#1 ↔ t.val < 7)
theorem cond_k : ∀ t : Fin cfg0.N, k0_cond28 (grid0.coords t) = 1#1 ↔ 7 ≤ t.val ∧ t.val < 14 :=
  (by decide +kernel : ∀ t : Fin grid0.N, k0_cond28 (grid0.coords t) = 1#1 ↔ 7 ≤ t.val ∧ t.val < 14)
theorem cond_v : ∀ t : Fin cfg0.N, k0_cond55 (grid0.coords t) = 1#1 ↔ 14 ≤ t.val :=
  (by decide +kernel : ∀ t : Fin grid0.N, k0_cond55 (grid0.coords t) = 1#1 ↔ 14 ≤ t.val)

theorem idle_q : ∀ t : Fin cfg0.N, cfg0.idle 5 (cfg0.grid.coords t) = decide (7 ≤ t.val) :=
  (by decide +kernel : ∀ t : Fin grid0.N, idle0 5 (grid0.coords t) = decide (7 ≤ t.val))
theorem idle_k : ∀ t : Fin cfg0.N, cfg0.idle 6 (cfg0.grid.coords t) = decide (t.val < 7 ∨ 14 ≤ t.val) :=
  (by decide +kernel : ∀ t : Fin grid0.N, idle0 6 (grid0.coords t) = decide (t.val < 7 ∨ 14 ≤ t.val))
theorem idle_v : ∀ t : Fin cfg0.N, cfg0.idle 7 (cfg0.grid.coords t) = decide (t.val < 14) :=
  (by decide +kernel : ∀ t : Fin grid0.N, idle0 7 (grid0.coords t) = decide (t.val < 14))

theorem flush_q : ∀ t : Fin cfg0.N, (cfg0.win 5).flush t = decide (t.val < 6 ∨ t.val = 20) :=
  (by decide +kernel : ∀ t : Fin grid0.N, win0_5.flush t = decide (t.val < 6 ∨ t.val = 20))
theorem flush_k : ∀ t : Fin cfg0.N, (cfg0.win 6).flush t = decide ((7 ≤ t.val ∧ t.val < 13) ∨ t.val = 20) :=
  (by decide +kernel : ∀ t : Fin grid0.N, win0_6.flush t = decide ((7 ≤ t.val ∧ t.val < 13) ∨ t.val = 20))
theorem flush_v : ∀ t : Fin cfg0.N, (cfg0.win 7).flush t = decide (14 ≤ t.val) :=
  (by decide +kernel : ∀ t : Fin grid0.N, win0_7.flush t = decide (14 ≤ t.val))

theorem fresh_q : ∀ t : Fin cfg0.N, t.val = 20 → cfg0.fresh 5 t.val = false :=
  (by decide +kernel : ∀ t : Fin grid0.N, t.val = 20 → cfg0.fresh 5 t.val = false)
theorem fresh_k : ∀ t : Fin cfg0.N, t.val = 20 → cfg0.fresh 6 t.val = false :=
  (by decide +kernel : ∀ t : Fin grid0.N, t.val = 20 → cfg0.fresh 6 t.val = false)

/-- Before the last point the first output's buffer holds its last block, -/
theorem before_q (c : Dev nD) (t : Fin cfg0.N) (ht : t.val = 20) (d) : (dats m 0 c).before 5 t d = (dats m 0 c).after 5 t := by
  rw [(dats m 0 c).before_out_traj 5 rfl (fun _ _ => rfl) (fun t h0 hi _ => ?_) t.val t rfl d, fresh_q t ht, if_neg Bool.false_ne_true]
  · rw [after0_5, after0_5]
    congr 1
    apply Fin.ext
    show min (t.val - 1) 6 = min t.val 6
    omega
  · rw [idle_q, decide_eq_true_iff] at hi
    rw [after0_5, after0_5]
    congr 1
    apply Fin.ext
    show min t.val 6 = min (t.val - 1) 6
    omega

/-- and the second output's buffer its last one. -/
theorem before_k (c : Dev nD) (t : Fin cfg0.N) (ht : t.val = 20) (d) : (dats m 0 c).before 6 t d = (dats m 0 c).after 6 t := by
  rw [(dats m 0 c).before_out_traj 6 rfl (fun _ _ => rfl) (fun t h0 hi _ => ?_) t.val t rfl d, fresh_k t ht, if_neg Bool.false_ne_true]
  · rw [after0_6, after0_6]
    congr 1
    apply Fin.ext
    show max 7 (min (t.val - 1) 13) = max 7 (min t.val 13)
    omega
  · rw [idle_k, decide_eq_true_iff] at hi
    rw [after0_6, after0_6]
    congr 1
    apply Fin.ext
    show max 7 (min t.val 13) = max 7 (min (t.val - 1) 13)
    omega

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t ∗ (dats m 0 c).leavesExact 7 t)

/-- At a point where a window is live, its buffer is left at what the body computed. -/
theorem live_intro (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- At a point where a window is idle and written back, likewise. -/
theorem flushed_intro (c : Dev nD) (w : Fin cfg0.W) (t : Fin cfg0.N) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

/-- The first output's buffer, found and left at a point that is not for it. -/
theorem idle_q_intro (c : Dev nD) (t : Fin cfg0.N) (ht : 7 ≤ t.val) (d) :
    owns (c : Thread nD τ) (st0_5 t) fullShare ((dats m 0 c).before 5 t d) ⊢ (dats m 0 c).leavesExact 5 t := by
  have hi : cfg0.idle 5 (cfg0.grid.coords t) = true := by rw [idle_q]; exact decide_eq_true ht
  by_cases h : t.val = 20
  · rw [before_q m c t h, flushed_intro m c 5 t hi (by rw [flush_q]; exact decide_eq_true (Or.inr h))]
  · rw [(dats m 0 c).leavesExact_idle 5 t hi (by rw [flush_q]; exact decide_eq_false (by omega))]
    iintro H; iexists d; iexact H

/-- The second output's, -/
theorem idle_k_intro (c : Dev nD) (t : Fin cfg0.N) (ht : t.val < 7 ∨ 14 ≤ t.val) (d) :
    owns (c : Thread nD τ) (st0_6 t) fullShare ((dats m 0 c).before 6 t d) ⊢ (dats m 0 c).leavesExact 6 t := by
  have hi : cfg0.idle 6 (cfg0.grid.coords t) = true := by rw [idle_k]; exact decide_eq_true ht
  by_cases h : t.val = 20
  · rw [before_k m c t h, flushed_intro m c 6 t hi (by rw [flush_k]; exact decide_eq_true (Or.inr h))]
  · rw [(dats m 0 c).leavesExact_idle 6 t hi (by rw [flush_k]; exact decide_eq_false (by omega))]
    iintro H; iexists d; iexact H

/-- and the third's. -/
theorem idle_v_intro (c : Dev nD) (t : Fin cfg0.N) (ht : t.val < 14) (d) :
    owns (c : Thread nD τ) (st0_7 t) fullShare ((dats m 0 c).before 7 t d) ⊢ (dats m 0 c).leavesExact 7 t := by
  have hi : cfg0.idle 7 (cfg0.grid.coords t) = true := by rw [idle_v]; exact decide_eq_true ht
  rw [(dats m 0 c).leavesExact_idle 7 t hi (by rw [flush_v]; exact decide_eq_false (by omega))]
  iintro H; iexists d; iexact H

/-- The body at a point for output q. -/
theorem sound_q (c : Dev nD) (t : Fin cfg0.N) (ht : t.val < 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [body_q (grid0.coords t) _ _ _ _ _ _ _ _ _ _ _ _ _ _ _ _ ((cond_q t).mpr ht) (fun h => by have := (cond_k t).mp h; omega) (fun h => by have := (cond_v t).mp h; omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_region c .f32 (k0_chk1 (grid0.coords t)) (k0_chk1.dec (grid0.coords t)) _ _ (st0_0 t) (st0_1 t) (st0_2 t) (st0_3 t) (st0_4 t) (st0_5 t) _ _ k0_pay7 k0_pay8
    (iblk m c 0 t) (iblk m c 1 t) (iblk m c 2 t) (iblk m c 3 t) (iblk m c 4 t) (fun k hk => chk1_of_small _ _ (words_small m c t k hk)) Set.univ _
    iprop((dats m 0 c).Φ t.castSucc ∗ (dats m 0 c).owesAt () t.castSucc
      ∗ owns (c : Thread nD τ) (st0_6 t) fullShare ((dats m 0 c).before 6 t d6)
      ∗ owns (c : Thread nD τ) (st0_7 t) fullShare ((dats m 0 c).before 7 t d7)) ((dats m 0 c).before 5 t d5) ?_)
  swap
  · isplitl [H0]; · iexact H0
    isplitl [H1]; · iexact H1
    isplitl [H2]; · iexact H2
    isplitl [H3]; · iexact H3
    isplitl [H4]; · iexact H4
    isplitl [H5]; · iexact H5
    isplitl [HΦ]; · iexact HΦ
    isplitl [Ho]; · iexact Ho
    isplitl [H6]; · iexact H6
    iexact H7
  rw [live_intro m c 5 t (by rw [idle_q]; exact decide_eq_false (by omega)), after0_5, show pq t = t from Fin.ext (by show min t.val 6 = t.val; omega)]
  iintro ⟨H0, H1, H2, H3, H4, H5, HΦ, Ho, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (idle_k_intro m c t (Or.inl ht) d6); iexact H6
  iapply (idle_v_intro m c t (by omega) d7); iexact H7

/-- The body at a point for output k. -/
theorem sound_k (c : Dev nD) (t : Fin cfg0.N) (h1 : 7 ≤ t.val) (h2 : t.val < 14) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [body_k (grid0.coords t) _ _ _ _ _ _ _ _ _ _ _ _ _ _ _ _ ((cond_k t).mpr ⟨h1, h2⟩) (fun h => by have := (cond_q t).mp h; omega) (fun h => by have := (cond_v t).mp h; omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_region c .bf16 (k0_chk14 (grid0.coords t)) (k0_chk14.dec (grid0.coords t)) _ _ (st0_0 t) (st0_1 t) (st0_2 t) (st0_3 t) (st0_4 t) (st0_6 t) _ _ k0_pay31 k0_pay32
    (iblk m c 0 t) (iblk m c 1 t) (iblk m c 2 t) (iblk m c 3 t) (iblk m c 4 t) (fun k hk => chk14_of_small _ _ (words_small m c t k hk)) Set.univ _
    iprop((dats m 0 c).Φ t.castSucc ∗ (dats m 0 c).owesAt () t.castSucc
      ∗ owns (c : Thread nD τ) (st0_5 t) fullShare ((dats m 0 c).before 5 t d5)
      ∗ owns (c : Thread nD τ) (st0_7 t) fullShare ((dats m 0 c).before 7 t d7)) ((dats m 0 c).before 6 t d6) ?_)
  swap
  · isplitl [H0]; · iexact H0
    isplitl [H1]; · iexact H1
    isplitl [H2]; · iexact H2
    isplitl [H3]; · iexact H3
    isplitl [H4]; · iexact H4
    isplitl [H6]; · iexact H6
    isplitl [HΦ]; · iexact HΦ
    isplitl [Ho]; · iexact Ho
    isplitl [H5]; · iexact H5
    iexact H7
  rw [live_intro m c 6 t (by rw [idle_k]; exact decide_eq_false (by omega)), after0_6, show pk t = t from Fin.ext (by show max 7 (min t.val 13) = t.val; omega)]
  iintro ⟨H0, H1, H2, H3, H4, H6, HΦ, Ho, H5, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (idle_q_intro m c t h1 d5); iexact H5
  isplitl [H6]; · iexact H6
  iapply (idle_v_intro m c t h2 d7); iexact H7

/-- The body at a point for output v. -/
theorem sound_v (c : Dev nD) (t : Fin cfg0.N) (ht : 14 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [body_v (grid0.coords t) _ _ _ _ _ _ _ _ _ _ _ _ _ _ _ _ ((cond_v t).mpr ht) (fun h => by have := (cond_q t).mp h; omega) (fun h => by have := (cond_k t).mp h; omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_region c .bf16 (k0_chk27 (grid0.coords t)) (k0_chk27.dec (grid0.coords t)) _ _ (st0_0 t) (st0_1 t) (st0_2 t) (st0_3 t) (st0_4 t) (st0_7 t) _ _ k0_pay55 k0_pay56
    (iblk m c 0 t) (iblk m c 1 t) (iblk m c 2 t) (iblk m c 3 t) (iblk m c 4 t) (fun k hk => chk27_of_small _ _ (words_small m c t k hk)) Set.univ _
    iprop((dats m 0 c).Φ t.castSucc ∗ (dats m 0 c).owesAt () t.castSucc
      ∗ owns (c : Thread nD τ) (st0_5 t) fullShare ((dats m 0 c).before 5 t d5)
      ∗ owns (c : Thread nD τ) (st0_6 t) fullShare ((dats m 0 c).before 6 t d6)) ((dats m 0 c).before 7 t d7) ?_)
  swap
  · isplitl [H0]; · iexact H0
    isplitl [H1]; · iexact H1
    isplitl [H2]; · iexact H2
    isplitl [H3]; · iexact H3
    isplitl [H4]; · iexact H4
    isplitl [H7]; · iexact H7
    isplitl [HΦ]; · iexact HΦ
    isplitl [Ho]; · iexact Ho
    isplitl [H5]; · iexact H5
    iexact H6
  rw [live_intro m c 7 t (by rw [idle_v]; exact decide_eq_false (by omega)), after0_7, show pv t = t from Fin.ext (by show max 14 t.val = t.val; omega)]
  iintro ⟨H0, H1, H2, H3, H4, H7, HΦ, Ho, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (idle_q_intro m c t (by omega) d5); iexact H5
  isplitl [H6]; · iapply (idle_k_intro m c t (Or.inr ht) d6); iexact H6
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val < 7
  · exact sound_q m c t h1
  by_cases h2 : t.val < 14
  · exact sound_k m c t (by omega) h2
  · exact sound_v m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- From any memory with zero counters every weakly fair execution ends with the arrays at what the blocks give and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every argument array ends as it was, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Qkv.Hand

end
-- ==== Proof.QkvIdealChunk.lean ====
/-
  One chunk of 96 rows of the QKV projection's body, for the program `QkvIdeal`: the chunk's program as one definition with
  what follows it as an argument, and the rule that runs it, whatever the chunk's type is.
-/
module

public import proofs.«01_k».proof.Proof.Gen.QkvIdeal.Frame
public import proofs.«01_k».proof.Proof.Gen.QkvIdeal.Skeleton
public import Idealize.ShloMosaic.Lib.WritesUnit
public import Idealize.ShloMosaic.Lib.WholeRead
public import Idealize.ShloMosaic.Lib.ValueIdx

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table word a chunk is for, signed: whether it is at least zero, as the body tests it, -/
abbrev isType (v : BitVec 32) : BitVec 1 := k0_cond2 v
/-- and whether it is below zero. -/
abbrev isPad (v : BitVec 32) : BitVec 1 := Scalar.cmpi .ne (Scalar.extui (Scalar.cmpi .slt v 0#32)) 0#32

/-- The two tests of a chunk are each other's negation. -/
theorem isPad_iff (v : BitVec 32) : isPad v = 1#1 ↔ ¬ isType v = 1#1 := by
  show IntOp.cmpi .ne ((IntOp.cmpi .slt v 0#32).setWidth 32) 0#32 = 1#1 ↔ ¬ IntOp.cmpi .ne ((IntOp.cmpi .sge v 0#32).setWidth 32) 0#32 = 1#1
  rw [WordCmp.cmpi_sge_zero, WordCmp.cmpi_slt_zero]
  by_cases h : v.toNat < 2 ^ (32 - 1)
  · rw [decide_eq_true h, decide_eq_false (Nat.not_le.mpr h)]; decide
  · rw [decide_eq_false h, decide_eq_true (Nat.not_lt.mp h)]; decide

theorem rowsX_inb {c : ℕ} (hc : c < 13) : ∀ a, (![96 * c, 0] : Fin 2 → ℕ) a + S96x3584.size a ≤ S1248x3584.size a :=
  Rect.inb₂ (by show 96 * c + 96 ≤ 1248; omega) (Nat.le_refl _)
theorem rowsY_inb {c : ℕ} (hc : c < 13) : ∀ a, (![96 * c, 0] : Fin 2 → ℕ) a + S96x512.size a ≤ S1248x512.size a :=
  Rect.inb₂ (by show 96 * c + 96 ≤ 1248; omega) (Nat.le_refl _)
theorem word_inb {c : ℕ} (hc : c < 13) : ∀ a, (![c] : Fin 1 → ℕ) a + S1.size a ≤ S13.size a :=
  Rect.inb₁ (by show c + 1 ≤ 13; omega)

/-- Chunk `c`'s program once its word `v` is read, `kk` after it: where the word is a type, store the projection of the
    chunk's rows by that type's weights; where it is not, store zeros. -/
def chunkRest (e : EltTy) (v : BitVec 32)
    (hw : isType v = 1#1 → ∀ a, (k0_off1 v) a + S1x3584x512.size a ≤ S3x3584x512.size a)
    (hs : isType v = 1#1 → ∀ a, (k0_off2 v) a + S1x1x512.size a ≤ S3x1x512.size a)
    (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e) (c : ℕ) (hc : c < 13)
    (hld : arg6.view.LoadsAt (Rect.unit (s := S1248x512) ![96 * c, 0] S96x512.size (rowsY_inb hc)).toLoadRect)
    (hst : (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) (kk : PUnit.{1} → Prog (TpuEff nD τ sig (Elt F) Λ₀ .tc) PUnit) :
    Prog (TpuEff nD τ sig (Elt F) Λ₀ .tc) PUnit := do
  if h : isType v = 1#1 then do
    let v103 : Vec F S96x3584 .bf16 ← Prog.lift (.load arg2 (Rect.unit (s := S1248x3584) ![96 * c, 0] S96x3584.size (rowsX_inb hc)).toLoadRect (View.loadsAt_vmem h_S96x3584))
    let v105 : Vec F S1x3584x512 .fp8e4m3 ← Prog.lift (.load arg3 (Rect.unit (s := S3x3584x512) (k0_off1 v) S1x3584x512.size (hw h)).toLoadRect (View.loadsAt_vmem h_S1x3584x512))
    let v109 : Vec F S1x1x512 .f32 ← Prog.lift (.load arg4 (Rect.unit (s := S3x1x512) (k0_off2 v) S1x1x512.size (hs h)).toLoadRect (View.loadsAt_vmem h_S1x1x512))
    let v114 : Vec F S1x1x512 .f32 ← Prog.lift (.load arg5 (Rect.unit (s := S3x1x512) (k0_off2 v) S1x1x512.size (hs h)).toLoadRect (View.loadsAt_vmem h_S1x1x512))
    let v118 : Vec F S96x512 e ← Prog.lift (.load arg6 (Rect.unit (s := S1248x512) ![96 * c, 0] S96x512.size (rowsY_inb hc)).toLoadRect hld)
    Prog.lift (.store arg6 (Rect.unit (s := S1248x512) ![96 * c, 0] S96x512.size (rowsY_inb hc)) (pay v103 v105 v109 v114) Finset.univ hst (.inl rfl))
    pure ⟨⟩
  else do
    pure ⟨⟩
  let v15 : BitVec 1 := Scalar.cmpi .slt v 0#32
  let v16 : BitVec 32 := Scalar.extui v15
  let v17 : BitVec 1 := Scalar.cmpi .ne v16 0#32
  if v17 = 1#1 then do
    let v103 : Vec F S96x512 e ← Prog.lift (.load arg6 (Rect.unit (s := S1248x512) ![96 * c, 0] S96x512.size (rowsY_inb hc)).toLoadRect hld)
    Prog.lift (.store arg6 (Rect.unit (s := S1248x512) ![96 * c, 0] S96x512.size (rowsY_inb hc)) pad Finset.univ hst (.inl rfl))
    pure ⟨⟩
  else do
    pure ⟨⟩
  kk ⟨⟩

/-- Chunk `c`'s program, `kk` after it: read the chunk's type word; where it is a type, store the projection of the
    chunk's rows by that type's weights; where it is not, store zeros. -/
def chunk (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e) (c : ℕ) (hc : c < 13)
    (hld : arg6.view.LoadsAt (Rect.unit (s := S1248x512) ![96 * c, 0] S96x512.size (rowsY_inb hc)).toLoadRect)
    (hst : (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) (kk : PUnit.{1} → Prog (TpuEff nD τ sig (Elt F) Λ₀ .tc) PUnit) :
    Prog (TpuEff nD τ sig (Elt F) Λ₀ .tc) PUnit := do
  let v : Elt F .i32 ← smemLoad arg1 (Rect.unit (s := S13) ![c] S1.size (word_inb hc)) numel1_S1 rfl
  have k0_hw1 : chk v := (← Prog.lift (TpuEff.assume (chk v) (dec v))).down
  chunkRest e v (hw v k0_hw1) (hs v k0_hw1) arg2 arg3 arg4 arg5 arg6 c hc hld hst pay pad kk

/-- Chunk `c`'s word of the chunk table. -/
abbrev wordAt (x1 : Vec F S13 .i32) (c : ℕ) (hc : c < 13) : BitVec 32 := x1 (ValueIdx.ix1 (n := 13) ⟨c, hc⟩)

/-- What chunk `c` stores: its rows' projection by its word's type, or zeros. -/
def chunkVal (e : EltTy)
    (pay : Vec F S96x3584 .bf16 → Vec F S1x3584x512 .fp8e4m3 → Vec F S1x1x512 .f32 → Vec F S1x1x512 .f32 → Vec F S96x512 e)
    (pad : Vec F S96x512 e) (v : BitVec 32)
    (hw : isType v = 1#1 → ∀ a, (k0_off1 v) a + S1x3584x512.size a ≤ S3x3584x512.size a)
    (hs : isType v = 1#1 → ∀ a, (k0_off2 v) a + S1x1x512.size a ≤ S3x1x512.size a)
    (x2 : Vec F S1248x3584 .bf16) (x3 : Vec F S3x3584x512 .fp8e4m3) (x4 x5 : Vec F S3x1x512 .f32) (c : ℕ) (hc : c < 13) : Vec F S96x512 e :=
  if h : isType v = 1#1 then
    pay (View.ld x2 (Rect.unit (s := S1248x3584) ![96 * c, 0] S96x3584.size (rowsX_inb hc)))
      (View.ld x3 (Rect.unit (s := S3x3584x512) (k0_off1 v) S1x3584x512.size (hw h)))
      (View.ld x4 (Rect.unit (s := S3x1x512) (k0_off2 v) S1x1x512.size (hs h)))
      (View.ld x5 (Rect.unit (s := S3x1x512) (k0_off2 v) S1x1x512.size (hs h)))
  else pad

theorem chunkVal_congr (e : EltTy)
    (pay : Vec F S96x3584 .bf16 → Vec F S1x3584x512 .fp8e4m3 → Vec F S1x1x512 .f32 → Vec F S1x1x512 .f32 → Vec F S96x512 e)
    (pad : Vec F S96x512 e) {v v' : BitVec 32} (hv : v = v') (hw hs hw' hs')
    (x2 : Vec F S1248x3584 .bf16) (x3 : Vec F S3x3584x512 .fp8e4m3) (x4 x5 : Vec F S3x1x512 .f32) (c : ℕ) (hc : c < 13) :
    chunkVal e pay pad v hw hs x2 x3 x4 x5 c hc = chunkVal e pay pad v' hw' hs' x2 x3 x4 x5 c hc := by
  subst hv; rfl

/-- `y` with rows `96 c` to `96 c + 95` replaced by `B`. -/
def putRows {e : EltTy} (y : Vec F S1248x512 e) (c : ℕ) (B : Vec F S96x512 e) : Vec F S1248x512 e := fun i =>
  if h : 96 * c ≤ (i 0).val ∧ (i 0).val < 96 * c + 96 then
    B (ValueIdx.ix2 (n0 := 96) (n1 := 512) ⟨(i 0).val - 96 * c, by omega⟩ (i 1))
  else y i

theorem read_put {e : EltTy} (arg6 : Memref sig .tc .vmem S1248x512 e) (f : arg6.view.ty.Contents (Elt F)) (c : ℕ) (hc : c < 13) (B : Vec F S96x512 e) :
    arg6.view.read (Elt F) ((arg6.access (Rect.unit (s := S1248x512) ![96 * c, 0] S96x512.size (rowsY_inb hc))).write (Elt F) f B Finset.univ)
      = putRows (arg6.view.read (Elt F) f) c B := by
  funext y
  unfold putRows
  split
  · rename_i h
    exact View.read_writes_cons_unit_of_mem arg6.view f (rowsY_inb hc) B [] y _ rfl (by
      intro a
      fin_cases a
      · show (y 0).val = 96 * c + ((y 0).val - 96 * c); omega
      · show (y 1).val = 0 + (y 1).val; omega)
  · rename_i h
    exact View.read_writes_cons_unit_of_not_mem arg6.view f (rowsY_inb hc) B [] y rfl 0 (by
      show (y 0).val < 96 * c ∨ 96 * c + 96 ≤ (y 0).val; omega)

theorem first_pos (c : ℕ) (hc : c < 13) : 0 < (Rect.unit (s := S13) ![c] S1.size (word_inb hc)).shape.numel := Nat.le_of_eq numel1_S1.symm

/-- The table word the body reads for chunk `c`. -/
theorem read_word (arg1 : Memref sig .tc .smem S13 .i32) (f : arg1.view.ty.Contents (Elt F)) (c : ℕ) (hc : c < 13) (x) :
    (arg1.access (Rect.unit (s := S13) ![c] S1.size (word_inb hc))).read (Elt F) f x = wordAt (arg1.view.read (Elt F) f) c hc := by
  show arg1.view.read (Elt F) f ((Rect.unit (s := S13) ![c] S1.size (word_inb hc)).idx x) = _
  refine congrArg (arg1.view.read (Elt F) f) (funext fun a => ?_)
  have ha : a = 0 := Subsingleton.elim _ _
  subst ha
  refine Fin.ext ?_
  show c + 1 * (x 0).val = c
  have : (x 0).val < 1 := (x 0).isLt
  omega

set_option maxHeartbeats 1000000 in
/-- The rest of chunk `c` of the body, run: it leaves its rows of the output at `chunkVal` and everything else as it was. -/
theorem wp_chunkRest (co : Dev nD) (e : EltTy) (v : BitVec 32)
    (hw : isType v = 1#1 → ∀ a, (k0_off1 v) a + S1x3584x512.size a ≤ S3x3584x512.size a)
    (hs : isType v = 1#1 → ∀ a, (k0_off2 v) a + S1x1x512.size a ≤ S3x1x512.size a)
    (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e) (c : ℕ) (hc : c < 13)
    (hld : arg6.view.LoadsAt (Rect.unit (s := S1248x512) ![96 * c, 0] S96x512.size (rowsY_inb hc)).toLoadRect)
    (hst : (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) (kk : PUnit.{1} → Prog (TpuEff nD τ sig (Elt F) Λ₀ .tc) PUnit)
    (x2 : Vec F S1248x3584 .bf16) (x3 : Vec F S3x3584x512 .fp8e4m3) (x4 x5 : Vec F S3x1x512 .f32)
    (y : Vec F S1248x512 e) (E : Set ℕ) (Q : PUnit → sProp 𝕄) :
    iprop(owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare y
      ∗ (iprop(owns (co : Thread nD τ) arg2 fullShare x2 ∗ owns (co : Thread nD τ) arg3 fullShare x3
          ∗ owns (co : Thread nD τ) arg4 fullShare x4 ∗ owns (co : Thread nD τ) arg5 fullShare x5
          ∗ owns (co : Thread nD τ) arg6 fullShare (putRows y c (chunkVal e pay pad v hw hs x2 x3 x4 x5 c hc)))
          -∗ wp frame (wpE (defs₀ (F := F)) Variants.none co none) E (kk ⟨⟩) Q))
    ⊢ wp frame (wpE (defs₀ (F := F)) Variants.none co none) E
        (chunkRest e v hw hs arg2 arg3 arg4 arg5 arg6 c hc hld hst pay pad kk) Q := by
  unfold owns
  iintro ⟨⟨%f2, %hf2, H2⟩, ⟨%f3, %hf3, H3⟩, ⟨%f4, %hf4, H4⟩, ⟨%f5, %hf5, H5⟩, ⟨%f6, %hf6, H6⟩, Hk⟩
  subst hf2 hf3 hf4 hf5 hf6
  unfold chunkRest chunkVal
  by_cases h : isType v = 1#1
  · have hp : ¬ isPad v = 1#1 := fun h' => (isPad_iff v).mp h' h
    simp only [dif_pos h]
    sl_exec
    iapply Hk
    isplitl [H2]; · iexists _; isplitr; · ipureintro; exact rfl
                    iexact H2
    isplitl [H3]; · iexists _; isplitr; · ipureintro; exact rfl
                    iexact H3
    isplitl [H4]; · iexists _; isplitr; · ipureintro; exact rfl
                    iexact H4
    isplitl [H5]; · iexists _; isplitr; · ipureintro; exact rfl
                    iexact H5
    iexists _; isplitr; · ipureintro; exact read_put arg6 f6 c hc _
    iexact H6
  · have hp : isPad v = 1#1 := (isPad_iff v).mpr h
    simp only [dif_neg h]
    sl_exec
    iapply Hk
    isplitl [H2]; · iexists _; isplitr; · ipureintro; exact rfl
                    iexact H2
    isplitl [H3]; · iexists _; isplitr; · ipureintro; exact rfl
                    iexact H3
    isplitl [H4]; · iexists _; isplitr; · ipureintro; exact rfl
                    iexact H4
    isplitl [H5]; · iexists _; isplitr; · ipureintro; exact rfl
                    iexact H5
    iexists _; isplitr; · ipureintro; exact read_put arg6 f6 c hc _
    iexact H6

set_option maxHeartbeats 1000000 in
/-- Chunk `c` of the body, run: it leaves its rows of the output at `chunkVal` and everything else as it was. -/
theorem wp_chunk (co : Dev nD) (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e) (c : ℕ) (hc : c < 13)
    (hld : arg6.view.LoadsAt (Rect.unit (s := S1248x512) ![96 * c, 0] S96x512.size (rowsY_inb hc)).toLoadRect)
    (hst : (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) (kk : PUnit.{1} → Prog (TpuEff nD τ sig (Elt F) Λ₀ .tc) PUnit)
    (x1 : Vec F S13 .i32) (x2 : Vec F S1248x3584 .bf16) (x3 : Vec F S3x3584x512 .fp8e4m3) (x4 x5 : Vec F S3x1x512 .f32)
    (y : Vec F S1248x512 e) (hchk : chk (wordAt x1 c hc)) (E : Set ℕ) (Q : PUnit → sProp 𝕄) :
    iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare y
      ∗ (iprop(owns (co : Thread nD τ) arg1 fullShare x1 ∗ owns (co : Thread nD τ) arg2 fullShare x2 ∗ owns (co : Thread nD τ) arg3 fullShare x3
          ∗ owns (co : Thread nD τ) arg4 fullShare x4 ∗ owns (co : Thread nD τ) arg5 fullShare x5
          ∗ owns (co : Thread nD τ) arg6 fullShare (putRows y c (chunkVal e pay pad (wordAt x1 c hc) (hw _ hchk) (hs _ hchk) x2 x3 x4 x5 c hc)))
          -∗ wp frame (wpE (defs₀ (F := F)) Variants.none co none) E (kk ⟨⟩) Q))
    ⊢ wp frame (wpE (defs₀ (F := F)) Variants.none co none) E
        (chunk e chk dec hw hs arg1 arg2 arg3 arg4 arg5 arg6 c hc hld hst pay pad kk) Q := by
  unfold owns
  iintro ⟨⟨%f1, %hf1, H1⟩, Hr⟩
  subst hf1
  have hv := read_word arg1 f1 c hc (Shape.Idx.first (first_pos c hc))
  have hchk' : chk ((arg1.access (Rect.unit (s := S13) ![c] S1.size (word_inb hc))).read (Elt F) f1 (Shape.Idx.first (first_pos c hc))) := hv ▸ hchk
  have hval := chunkVal_congr e pay pad hv (hw _ hchk') (hs _ hchk') (hw _ hchk) (hs _ hchk) x2 x3 x4 x5 c hc
  have hrest := And.intro trivial (wp_chunkRest co e _ (hw _ hchk') (hs _ hchk') arg2 arg3 arg4 arg5 arg6 c hc hld hst pay pad kk x2 x3 x4 x5 y E Q)
  rw [hval] at hrest
  unfold owns at hrest
  unfold chunk
  sl_exec (disch := exact hchk')
  iapply hrest.2
  icases Hr with ⟨H2, H3, H4, H5, H6, Hk⟩
  isplitl [H2]; · iexact H2
  isplitl [H3]; · iexact H3
  isplitl [H4]; · iexact H4
  isplitl [H5]; · iexact H5
  isplitl [H6]; · iexact H6
  iintro Hr
  iapply Hk
  isplitl [H1]
  · iexists _; isplitr; · ipureintro; exact rfl
    iexact H1
  iexact Hr

end Cert.QkvIdeal.Hand

end
-- ==== Proof.QkvIdealBody.lean ====
/-
  The QKV projection's body as a whole, for the program `QkvIdeal`: thirteen chunks in a row fill the output block, and the
  printed body is such a row for the one of its three outputs that the grid point is for.
-/
module

public import proofs.«01_k».proof.Proof.QkvIdealChunk

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Four chunks in a row. -/
def four (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e)
    (hld : ∀ (c : ℕ) (hc : c < 13), arg6.view.LoadsAt (Rect.unit (s := S1248x512) ![96 * c, 0] S96x512.size (rowsY_inb hc)).toLoadRect)
    (hst : ∀ (c : ℕ) (hc : c < 13), (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) (c : ℕ) (hc : c + 3 < 13) : Prog (TpuEff nD τ sig (Elt F) Λ₀ .tc) PUnit :=
  chunk e chk dec hw hs arg1 arg2 arg3 arg4 arg5 arg6 c (by omega) (hld c (by omega)) (hst c (by omega)) pay pad fun _ =>
  chunk e chk dec hw hs arg1 arg2 arg3 arg4 arg5 arg6 (c + 1) (by omega) (hld (c + 1) (by omega)) (hst (c + 1) (by omega)) pay pad fun _ =>
  chunk e chk dec hw hs arg1 arg2 arg3 arg4 arg5 arg6 (c + 2) (by omega) (hld (c + 2) (by omega)) (hst (c + 2) (by omega)) pay pad fun _ =>
  chunk e chk dec hw hs arg1 arg2 arg3 arg4 arg5 arg6 (c + 3) hc (hld (c + 3) hc) (hst (c + 3) hc) pay pad fun _ => pure ⟨⟩

/-- All thirteen chunks. -/
def region (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e)
    (hld : ∀ (c : ℕ) (hc : c < 13), arg6.view.LoadsAt (Rect.unit (s := S1248x512) ![96 * c, 0] S96x512.size (rowsY_inb hc)).toLoadRect)
    (hst : ∀ (c : ℕ) (hc : c < 13), (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e) : Prog (TpuEff nD τ sig (Elt F) Λ₀ .tc) PUnit := do
  four e chk dec hw hs arg1 arg2 arg3 arg4 arg5 arg6 hld hst pay pad 0 (by omega)
  four e chk dec hw hs arg1 arg2 arg3 arg4 arg5 arg6 hld hst pay pad 4 (by omega)
  four e chk dec hw hs arg1 arg2 arg3 arg4 arg5 arg6 hld hst pay pad 8 (by omega)
  chunk e chk dec hw hs arg1 arg2 arg3 arg4 arg5 arg6 12 (by omega) (hld 12 (by omega)) (hst 12 (by omega)) pay pad fun _ => pure ⟨⟩

/-- What the thirteen chunks fill the block with: row `r` from chunk `r / 96`. -/
def tgt (e : EltTy) (chk : BitVec 32 → Prop)
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (pay : Vec F S96x3584 .bf16 → Vec F S1x3584x512 .fp8e4m3 → Vec F S1x1x512 .f32 → Vec F S1x1x512 .f32 → Vec F S96x512 e)
    (pad : Vec F S96x512 e) (x1 : Vec F S13 .i32) (x2 : Vec F S1248x3584 .bf16) (x3 : Vec F S3x3584x512 .fp8e4m3) (x4 x5 : Vec F S3x1x512 .f32)
    (hchk : ∀ (c : ℕ) (hc : c < 13), chk (wordAt x1 c hc)) : Vec F S1248x512 e := fun i =>
  have hc : (i 0).val / 96 < 13 := by have : (i 0).val < 1248 := (i 0).isLt; omega
  chunkVal e pay pad (wordAt x1 ((i 0).val / 96) hc) (hw _ (hchk _ hc)) (hs _ (hchk _ hc)) x2 x3 x4 x5 ((i 0).val / 96) hc
    (ValueIdx.ix2 (n0 := 96) (n1 := 512) ⟨(i 0).val % 96, Nat.mod_lt _ (by omega)⟩ (i 1))

/-- The rows below `96 c` are as `t` has them. -/
def Agree {e : EltTy} (t y : Vec F S1248x512 e) (c : ℕ) : Prop := ∀ i, (i 0).val < 96 * c → y i = t i

theorem Agree.all {e : EltTy} {t y : Vec F S1248x512 e} (h : Agree t y 13) : y = t := funext fun i => h i (i 0).isLt

theorem Agree.zero {e : EltTy} (t y : Vec F S1248x512 e) : Agree t y 0 := fun i h => absurd h (by omega)

theorem agree_put (e : EltTy) (chk : BitVec 32 → Prop) (hw hs pay pad) (x1 : Vec F S13 .i32) (x2 : Vec F S1248x3584 .bf16) (x3 : Vec F S3x3584x512 .fp8e4m3) (x4 x5 : Vec F S3x1x512 .f32)
    (hchk : ∀ (c : ℕ) (hc : c < 13), chk (wordAt x1 c hc)) (y : Vec F S1248x512 e) (c : ℕ) (hc : c < 13)
    (h : Agree (tgt e chk hw hs pay pad x1 x2 x3 x4 x5 hchk) y c) :
    Agree (tgt e chk hw hs pay pad x1 x2 x3 x4 x5 hchk) (putRows y c (chunkVal e pay pad (wordAt x1 c hc) (hw _ (hchk c hc)) (hs _ (hchk c hc)) x2 x3 x4 x5 c hc)) (c + 1) := by
  intro i hi
  unfold putRows
  split
  · rename_i hr
    obtain rfl : c = (i 0).val / 96 := by omega
    unfold tgt
    refine congrArg _ ?_
    refine congrArg (fun k => ValueIdx.ix2 (n0 := 96) (n1 := 512) k (i 1)) (Fin.ext ?_)
    show (i 0).val - 96 * ((i 0).val / 96) = (i 0).val % 96
    omega
  · exact h i (by omega)

/-- One chunk over a block that is right so far. -/
theorem wp_chunk_agree (co : Dev nD) (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e)
    (hld : ∀ (c : ℕ) (hc : c < 13), arg6.view.LoadsAt (Rect.unit (s := S1248x512) ![96 * c, 0] S96x512.size (rowsY_inb hc)).toLoadRect)
    (hst : ∀ (c : ℕ) (hc : c < 13), (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e)
    (x1 : Vec F S13 .i32) (x2 : Vec F S1248x3584 .bf16) (x3 : Vec F S3x3584x512 .fp8e4m3) (x4 x5 : Vec F S3x1x512 .f32)
    (hchk : ∀ (c : ℕ) (hc : c < 13), chk (wordAt x1 c hc)) (E : Set ℕ) (Q : PUnit → sProp 𝕄) (Fr : sProp 𝕄) (kk : PUnit.{1} → Prog (TpuEff nD τ sig (Elt F) Λ₀ .tc) PUnit) (y : Vec F S1248x512 e) (c : ℕ) (hc : c < 13) (hy : Agree (tgt e chk hw hs pay pad x1 x2 x3 x4 x5 hchk) y c)
    (hk : ∀ y', Agree (tgt e chk hw hs pay pad x1 x2 x3 x4 x5 hchk) y' (c + 1) →
      iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (y') ∗ Fr) ⊢ wp frame (wpE (defs₀ (F := F)) Variants.none co none) E (kk ⟨⟩) Q) :
    iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (y) ∗ Fr) ⊢ wp frame (wpE (defs₀ (F := F)) Variants.none co none) E (chunk e chk dec hw hs arg1 arg2 arg3 arg4 arg5 arg6 c hc (hld c hc) (hst c hc) pay pad kk) Q := by
  have hrun := wp_chunk co e chk dec hw hs arg1 arg2 arg3 arg4 arg5 arg6 c hc (hld c hc) (hst c hc) pay pad kk x1 x2 x3 x4 x5 y (hchk c hc) E Q
  have hnext := hk _ (agree_put e chk hw hs pay pad x1 x2 x3 x4 x5 hchk y c hc hy)
  iintro ⟨H1, H2, H3, H4, H5, H6, HF⟩
  iapply hrun
  isplitl [H1]; · iexact H1
  isplitl [H2]; · iexact H2
  isplitl [H3]; · iexact H3
  isplitl [H4]; · iexact H4
  isplitl [H5]; · iexact H5
  isplitl [H6]; · iexact H6
  iintro ⟨H1, H2, H3, H4, H5, H6⟩
  iapply hnext
  isplitl [H1]; · iexact H1
  isplitl [H2]; · iexact H2
  isplitl [H3]; · iexact H3
  isplitl [H4]; · iexact H4
  isplitl [H5]; · iexact H5
  isplitl [H6]; · iexact H6
  iexact HF

/-- Four chunks over a block that is right so far. -/
theorem wp_four (co : Dev nD) (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e)
    (hld : ∀ (c : ℕ) (hc : c < 13), arg6.view.LoadsAt (Rect.unit (s := S1248x512) ![96 * c, 0] S96x512.size (rowsY_inb hc)).toLoadRect)
    (hst : ∀ (c : ℕ) (hc : c < 13), (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e)
    (x1 : Vec F S13 .i32) (x2 : Vec F S1248x3584 .bf16) (x3 : Vec F S3x3584x512 .fp8e4m3) (x4 x5 : Vec F S3x1x512 .f32)
    (hchk : ∀ (c : ℕ) (hc : c < 13), chk (wordAt x1 c hc)) (E : Set ℕ) (Q : PUnit → sProp 𝕄) (Fr : sProp 𝕄) (y : Vec F S1248x512 e) (c : ℕ) (hc : c + 3 < 13) (hy : Agree (tgt e chk hw hs pay pad x1 x2 x3 x4 x5 hchk) y c)
    (hk : ∀ y', Agree (tgt e chk hw hs pay pad x1 x2 x3 x4 x5 hchk) y' (c + 4) →
      iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (y') ∗ Fr) ⊢ Q ⟨⟩) :
    iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (y) ∗ Fr) ⊢ wp frame (wpE (defs₀ (F := F)) Variants.none co none) E (four e chk dec hw hs arg1 arg2 arg3 arg4 arg5 arg6 hld hst pay pad c hc) Q := by
  unfold four
  refine wp_chunk_agree co e chk dec hw hs arg1 arg2 arg3 arg4 arg5 arg6 hld hst pay pad x1 x2 x3 x4 x5 hchk E Q Fr _ y c (by omega) hy fun y hy => ?_
  refine wp_chunk_agree co e chk dec hw hs arg1 arg2 arg3 arg4 arg5 arg6 hld hst pay pad x1 x2 x3 x4 x5 hchk E Q Fr _ y (c + 1) (by omega) hy fun y hy => ?_
  refine wp_chunk_agree co e chk dec hw hs arg1 arg2 arg3 arg4 arg5 arg6 hld hst pay pad x1 x2 x3 x4 x5 hchk E Q Fr _ y (c + 2) (by omega) hy fun y hy => ?_
  refine wp_chunk_agree co e chk dec hw hs arg1 arg2 arg3 arg4 arg5 arg6 hld hst pay pad x1 x2 x3 x4 x5 hchk E Q Fr _ y (c + 3) (by omega) hy fun y hy => ?_
  refine (hk y hy).trans ?_
  iintro H
  sl_step
  iexact H

/-- The thirteen chunks fill the block with `tgt`, whatever it held. -/
theorem wp_region (co : Dev nD) (e : EltTy) (chk : BitVec 32 → Prop) (dec : ∀ v, Decidable (chk v))
    (hw : ∀ v, chk v → isType v = 1#1 → ∀ a, (k0_off1 v) a + S1x3584x512.size a ≤ S3x3584x512.size a)
    (hs : ∀ v, chk v → isType v = 1#1 → ∀ a, (k0_off2 v) a + S1x1x512.size a ≤ S3x1x512.size a)
    (arg1 : Memref sig .tc .smem S13 .i32) (arg2 : Memref sig .tc .vmem S1248x3584 .bf16) (arg3 : Memref sig .tc .vmem S3x3584x512 .fp8e4m3)
    (arg4 arg5 : Memref sig .tc .vmem S3x1x512 .f32) (arg6 : Memref sig .tc .vmem S1248x512 e)
    (hld : ∀ (c : ℕ) (hc : c < 13), arg6.view.LoadsAt (Rect.unit (s := S1248x512) ![96 * c, 0] S96x512.size (rowsY_inb hc)).toLoadRect)
    (hst : ∀ (c : ℕ) (hc : c < 13), (arg6.access (Rect.unit (s := S1248x512) ![96 * c, 0] S96x512.size (rowsY_inb hc))).Stores Finset.univ)
    (pay : Vec F S96x3584 .bf16 → Vec F S1x3584x512 .fp8e4m3 → Vec F S1x1x512 .f32 → Vec F S1x1x512 .f32 → Vec F S96x512 e)
    (pad : Vec F S96x512 e)
    (x1 : Vec F S13 .i32) (x2 : Vec F S1248x3584 .bf16) (x3 : Vec F S3x3584x512 .fp8e4m3) (x4 x5 : Vec F S3x1x512 .f32)
    (hchk : ∀ (c : ℕ) (hc : c < 13), chk (wordAt x1 c hc)) (E : Set ℕ) (Q : PUnit → sProp 𝕄) (Fr : sProp 𝕄) (y : Vec F S1248x512 e)
    (hk : iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (tgt e chk hw hs pay pad x1 x2 x3 x4 x5 hchk) ∗ Fr) ⊢ Q ⟨⟩) :
    iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare (y) ∗ Fr) ⊢ wp frame (wpE (defs₀ (F := F)) Variants.none co none) E (region e chk dec hw hs arg1 arg2 arg3 arg4 arg5 arg6 hld hst pay pad) Q := by
  unfold region
  rw [wp_bind]
  refine wp_four co e chk dec hw hs arg1 arg2 arg3 arg4 arg5 arg6 hld hst pay pad x1 x2 x3 x4 x5 hchk E _ Fr y 0 (by omega) (Agree.zero _ y) fun y hy => ?_
  rw [wp_bind]
  refine wp_four co e chk dec hw hs arg1 arg2 arg3 arg4 arg5 arg6 hld hst pay pad x1 x2 x3 x4 x5 hchk E _ Fr y 4 (by omega) hy fun y hy => ?_
  rw [wp_bind]
  refine wp_four co e chk dec hw hs arg1 arg2 arg3 arg4 arg5 arg6 hld hst pay pad x1 x2 x3 x4 x5 hchk E _ Fr y 8 (by omega) hy fun y hy => ?_
  refine wp_chunk_agree co e chk dec hw hs arg1 arg2 arg3 arg4 arg5 arg6 hld hst pay pad x1 x2 x3 x4 x5 hchk E Q Fr _ y 12 (by omega) hy fun y hy => ?_
  obtain rfl := hy.all
  refine hk.trans ?_
  iintro H
  sl_step
  iexact H

set_option maxRecDepth 65536 in
theorem part1_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond1 i = 1#1) :
    k0_part1 (F := F) i arg1 harg1 arg2 harg2 arg3 harg3 arg4 harg4 arg5 harg5 arg6 harg6 arg7 harg7 arg8 harg8 hi = four .f32 (k0_chk1 i) (k0_chk1.dec i) (fun v h => h.1 hi) (fun v h => h.2 hi) arg1 arg2 arg3 arg4 arg5 arg6 (fun c hc => View.loadsAt_vmem h_S96x512) (fun c hc => View.stores_vmem_bits_univ h_S96x512 rfl) k0_pay7 k0_pay8 0 (by omega) := rfl

set_option maxRecDepth 65536 in
theorem part2_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond1 i = 1#1) :
    k0_part2 (F := F) i arg1 harg1 arg2 harg2 arg3 harg3 arg4 harg4 arg5 harg5 arg6 harg6 arg7 harg7 arg8 harg8 hi = four .f32 (k0_chk1 i) (k0_chk1.dec i) (fun v h => h.1 hi) (fun v h => h.2 hi) arg1 arg2 arg3 arg4 arg5 arg6 (fun c hc => View.loadsAt_vmem h_S96x512) (fun c hc => View.stores_vmem_bits_univ h_S96x512 rfl) k0_pay7 k0_pay8 4 (by omega) := rfl

set_option maxRecDepth 65536 in
theorem part3_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond1 i = 1#1) :
    k0_part3 (F := F) i arg1 harg1 arg2 harg2 arg3 harg3 arg4 harg4 arg5 harg5 arg6 harg6 arg7 harg7 arg8 harg8 hi = four .f32 (k0_chk1 i) (k0_chk1.dec i) (fun v h => h.1 hi) (fun v h => h.2 hi) arg1 arg2 arg3 arg4 arg5 arg6 (fun c hc => View.loadsAt_vmem h_S96x512) (fun c hc => View.stores_vmem_bits_univ h_S96x512 rfl) k0_pay7 k0_pay8 8 (by omega) := rfl

set_option maxRecDepth 65536 in
/-- At a grid point of the first output the body is the thirteen chunks over that output's block. -/
theorem body_q (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond1 i = 1#1) (hn1 : ¬ k0_cond28 i = 1#1) (hn2 : ¬ k0_cond55 i = 1#1) :
    cc0_qkv (F := F) i arg1 harg1 arg2 harg2 arg3 harg3 arg4 harg4 arg5 harg5 arg6 harg6 arg7 harg7 arg8 harg8 = region .f32 (k0_chk1 i) (k0_chk1.dec i) (fun v h => h.1 hi) (fun v h => h.2 hi) arg1 arg2 arg3 arg4 arg5 arg6 (fun c hc => View.loadsAt_vmem h_S96x512) (fun c hc => View.stores_vmem_bits_univ h_S96x512 rfl) k0_pay7 k0_pay8 := by
  rw [cc0_qkv_eq_skeleton]
  unfold cc0_qkv_skel region
  simp only [dif_pos hi, dif_neg hn1, dif_neg hn2]
  simp only [part1_eq, part2_eq, part3_eq]
  rfl

theorem stores_k (arg7 : Memref sig .tc .vmem S1248x512 .bf16) (harg7 : arg7.IsWhole) (c : ℕ) (hc : c < 13) :
    (arg7.access (Rect.unit (s := S1248x512) ![96 * c, 0] S96x512.size (rowsY_inb hc))).Stores Finset.univ := by
  interval_cases c
  · exact View.stores_vmem h_S96x512 (harg7.storeExact_slice rfl _ packedbf16_S1248x512_S96x512_0_0) (fun _ => rfl)
  · exact View.stores_vmem h_S96x512 (harg7.storeExact_slice rfl _ packedbf16_S1248x512_S96x512_96_0) (fun _ => rfl)
  · exact View.stores_vmem h_S96x512 (harg7.storeExact_slice rfl _ packedbf16_S1248x512_S96x512_192_0) (fun _ => rfl)
  · exact View.stores_vmem h_S96x512 (harg7.storeExact_slice rfl _ packedbf16_S1248x512_S96x512_288_0) (fun _ => rfl)
  · exact View.stores_vmem h_S96x512 (harg7.storeExact_slice rfl _ packedbf16_S1248x512_S96x512_384_0) (fun _ => rfl)
  · exact View.stores_vmem h_S96x512 (harg7.storeExact_slice rfl _ packedbf16_S1248x512_S96x512_480_0) (fun _ => rfl)
  · exact View.stores_vmem h_S96x512 (harg7.storeExact_slice rfl _ packedbf16_S1248x512_S96x512_576_0) (fun _ => rfl)
  · exact View.stores_vmem h_S96x512 (harg7.storeExact_slice rfl _ packedbf16_S1248x512_S96x512_672_0) (fun _ => rfl)
  · exact View.stores_vmem h_S96x512 (harg7.storeExact_slice rfl _ packedbf16_S1248x512_S96x512_768_0) (fun _ => rfl)
  · exact View.stores_vmem h_S96x512 (harg7.storeExact_slice rfl _ packedbf16_S1248x512_S96x512_864_0) (fun _ => rfl)
  · exact View.stores_vmem h_S96x512 (harg7.storeExact_slice rfl _ packedbf16_S1248x512_S96x512_960_0) (fun _ => rfl)
  · exact View.stores_vmem h_S96x512 (harg7.storeExact_slice rfl _ packedbf16_S1248x512_S96x512_1056_0) (fun _ => rfl)
  · exact View.stores_vmem h_S96x512 (harg7.storeExact_slice rfl _ packedbf16_S1248x512_S96x512_1152_0) (fun _ => rfl)

set_option maxRecDepth 65536 in
theorem part4_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond28 i = 1#1) :
    k0_part4 (F := F) i arg1 harg1 arg2 harg2 arg3 harg3 arg4 harg4 arg5 harg5 arg6 harg6 arg7 harg7 arg8 harg8 hi = four .bf16 (k0_chk14 i) (k0_chk14.dec i) (fun v h => h.1 hi) (fun v h => h.2 hi) arg1 arg2 arg3 arg4 arg5 arg7 (fun c hc => View.loadsAt_vmem h_S96x512) (stores_k arg7 harg7) k0_pay31 k0_pay32 0 (by omega) := rfl

set_option maxRecDepth 65536 in
theorem part5_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond28 i = 1#1) :
    k0_part5 (F := F) i arg1 harg1 arg2 harg2 arg3 harg3 arg4 harg4 arg5 harg5 arg6 harg6 arg7 harg7 arg8 harg8 hi = four .bf16 (k0_chk14 i) (k0_chk14.dec i) (fun v h => h.1 hi) (fun v h => h.2 hi) arg1 arg2 arg3 arg4 arg5 arg7 (fun c hc => View.loadsAt_vmem h_S96x512) (stores_k arg7 harg7) k0_pay31 k0_pay32 4 (by omega) := rfl

set_option maxRecDepth 65536 in
theorem part6_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond28 i = 1#1) :
    k0_part6 (F := F) i arg1 harg1 arg2 harg2 arg3 harg3 arg4 harg4 arg5 harg5 arg6 harg6 arg7 harg7 arg8 harg8 hi = four .bf16 (k0_chk14 i) (k0_chk14.dec i) (fun v h => h.1 hi) (fun v h => h.2 hi) arg1 arg2 arg3 arg4 arg5 arg7 (fun c hc => View.loadsAt_vmem h_S96x512) (stores_k arg7 harg7) k0_pay31 k0_pay32 8 (by omega) := rfl

set_option maxRecDepth 65536 in
/-- At a grid point of the second output the body is the thirteen chunks over that output's block. -/
theorem body_k (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond28 i = 1#1) (hn0 : ¬ k0_cond1 i = 1#1) (hn2 : ¬ k0_cond55 i = 1#1) :
    cc0_qkv (F := F) i arg1 harg1 arg2 harg2 arg3 harg3 arg4 harg4 arg5 harg5 arg6 harg6 arg7 harg7 arg8 harg8 = region .bf16 (k0_chk14 i) (k0_chk14.dec i) (fun v h => h.1 hi) (fun v h => h.2 hi) arg1 arg2 arg3 arg4 arg5 arg7 (fun c hc => View.loadsAt_vmem h_S96x512) (stores_k arg7 harg7) k0_pay31 k0_pay32 := by
  rw [cc0_qkv_eq_skeleton]
  unfold cc0_qkv_skel region
  simp only [dif_pos hi, dif_neg hn0, dif_neg hn2]
  simp only [part4_eq, part5_eq, part6_eq]
  rfl

theorem stores_v (arg8 : Memref sig .tc .vmem S1248x512 .bf16) (harg8 : arg8.IsWhole) (c : ℕ) (hc : c < 13) :
    (arg8.access (Rect.unit (s := S1248x512) ![96 * c, 0] S96x512.size (rowsY_inb hc))).Stores Finset.univ := by
  interval_cases c
  · exact View.stores_vmem h_S96x512 (harg8.storeExact_slice rfl _ packedbf16_S1248x512_S96x512_0_0) (fun _ => rfl)
  · exact View.stores_vmem h_S96x512 (harg8.storeExact_slice rfl _ packedbf16_S1248x512_S96x512_96_0) (fun _ => rfl)
  · exact View.stores_vmem h_S96x512 (harg8.storeExact_slice rfl _ packedbf16_S1248x512_S96x512_192_0) (fun _ => rfl)
  · exact View.stores_vmem h_S96x512 (harg8.storeExact_slice rfl _ packedbf16_S1248x512_S96x512_288_0) (fun _ => rfl)
  · exact View.stores_vmem h_S96x512 (harg8.storeExact_slice rfl _ packedbf16_S1248x512_S96x512_384_0) (fun _ => rfl)
  · exact View.stores_vmem h_S96x512 (harg8.storeExact_slice rfl _ packedbf16_S1248x512_S96x512_480_0) (fun _ => rfl)
  · exact View.stores_vmem h_S96x512 (harg8.storeExact_slice rfl _ packedbf16_S1248x512_S96x512_576_0) (fun _ => rfl)
  · exact View.stores_vmem h_S96x512 (harg8.storeExact_slice rfl _ packedbf16_S1248x512_S96x512_672_0) (fun _ => rfl)
  · exact View.stores_vmem h_S96x512 (harg8.storeExact_slice rfl _ packedbf16_S1248x512_S96x512_768_0) (fun _ => rfl)
  · exact View.stores_vmem h_S96x512 (harg8.storeExact_slice rfl _ packedbf16_S1248x512_S96x512_864_0) (fun _ => rfl)
  · exact View.stores_vmem h_S96x512 (harg8.storeExact_slice rfl _ packedbf16_S1248x512_S96x512_960_0) (fun _ => rfl)
  · exact View.stores_vmem h_S96x512 (harg8.storeExact_slice rfl _ packedbf16_S1248x512_S96x512_1056_0) (fun _ => rfl)
  · exact View.stores_vmem h_S96x512 (harg8.storeExact_slice rfl _ packedbf16_S1248x512_S96x512_1152_0) (fun _ => rfl)

set_option maxRecDepth 65536 in
theorem part7_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond55 i = 1#1) :
    k0_part7 (F := F) i arg1 harg1 arg2 harg2 arg3 harg3 arg4 harg4 arg5 harg5 arg6 harg6 arg7 harg7 arg8 harg8 hi = four .bf16 (k0_chk27 i) (k0_chk27.dec i) (fun v h => h.1 hi) (fun v h => h.2 hi) arg1 arg2 arg3 arg4 arg5 arg8 (fun c hc => View.loadsAt_vmem h_S96x512) (stores_v arg8 harg8) k0_pay55 k0_pay56 0 (by omega) := rfl

set_option maxRecDepth 65536 in
theorem part8_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond55 i = 1#1) :
    k0_part8 (F := F) i arg1 harg1 arg2 harg2 arg3 harg3 arg4 harg4 arg5 harg5 arg6 harg6 arg7 harg7 arg8 harg8 hi = four .bf16 (k0_chk27 i) (k0_chk27.dec i) (fun v h => h.1 hi) (fun v h => h.2 hi) arg1 arg2 arg3 arg4 arg5 arg8 (fun c hc => View.loadsAt_vmem h_S96x512) (stores_v arg8 harg8) k0_pay55 k0_pay56 4 (by omega) := rfl

set_option maxRecDepth 65536 in
theorem part9_eq (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond55 i = 1#1) :
    k0_part9 (F := F) i arg1 harg1 arg2 harg2 arg3 harg3 arg4 harg4 arg5 harg5 arg6 harg6 arg7 harg7 arg8 harg8 hi = four .bf16 (k0_chk27 i) (k0_chk27.dec i) (fun v h => h.1 hi) (fun v h => h.2 hi) arg1 arg2 arg3 arg4 arg5 arg8 (fun c hc => View.loadsAt_vmem h_S96x512) (stores_v arg8 harg8) k0_pay55 k0_pay56 8 (by omega) := rfl

set_option maxRecDepth 65536 in
/-- At a grid point of the third output the body is the thirteen chunks over that output's block. -/
theorem body_v (i : grid0.Coords) (arg1 : Memref sig .tc .smem S13 .i32) (harg1 : arg1.IsWhole) (arg2 : Memref sig .tc .vmem S1248x3584 .bf16) (harg2 : arg2.IsWhole)
    (arg3 : Memref sig .tc .vmem S3x3584x512 .fp8e4m3) (harg3 : arg3.IsWhole) (arg4 : Memref sig .tc .vmem S3x1x512 .f32) (harg4 : arg4.IsWhole)
    (arg5 : Memref sig .tc .vmem S3x1x512 .f32) (harg5 : arg5.IsWhole) (arg6 : Memref sig .tc .vmem S1248x512 .f32) (harg6 : arg6.IsWhole)
    (arg7 : Memref sig .tc .vmem S1248x512 .bf16) (harg7 : arg7.IsWhole) (arg8 : Memref sig .tc .vmem S1248x512 .bf16) (harg8 : arg8.IsWhole) (hi : k0_cond55 i = 1#1) (hn0 : ¬ k0_cond1 i = 1#1) (hn1 : ¬ k0_cond28 i = 1#1) :
    cc0_qkv (F := F) i arg1 harg1 arg2 harg2 arg3 harg3 arg4 harg4 arg5 harg5 arg6 harg6 arg7 harg7 arg8 harg8 = region .bf16 (k0_chk27 i) (k0_chk27.dec i) (fun v h => h.1 hi) (fun v h => h.2 hi) arg1 arg2 arg3 arg4 arg5 arg8 (fun c hc => View.loadsAt_vmem h_S96x512) (stores_v arg8 harg8) k0_pay55 k0_pay56 := by
  rw [cc0_qkv_eq_skeleton]
  unfold cc0_qkv_skel region
  simp only [dif_pos hi, dif_neg hn0, dif_neg hn1]
  simp only [part7_eq, part8_eq, part9_eq]
  rfl

end Cert.QkvIdeal.Hand

end
-- ==== Proof.QkvIdealHost.lean ====
/-
  What the operations before the pallas_call of `Qkv` compute: the word that names each chunk's node type, as a function
  of the type offsets, and the range of that word.
-/
module

public import proofs.«01_k».proof.Proof.Gen.QkvIdeal.Frame

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic

variable {F : FTy → Type} [FloatOps F]
variable (m : (ℓ : Loc nD τ sig) → Buf (Elt F) ℓ)

/-- The quotient of `x` by 96, rounded down. -/
def floor96 (x : IVec S3 32) : IVec S3 32 :=
  select
    (andi (cmpi .ne (signi x) (broadcastInDim S3 ![] bcast_S_S3 (signi (id (constantI S_ 32 96#32)))))
      (cmpi .ne (Host.remsi x (broadcastInDim S3 ![] bcast_S_S3 (id (constantI S_ 32 96#32)))) (broadcastInDim S3 ![] bcast_S_S3 (constantI S_ 32 0#32))))
    (subi (Host.divsi x (broadcastInDim S3 ![] bcast_S_S3 (id (constantI S_ 32 96#32)))) (broadcastInDim S3 ![] bcast_S_S3 (constantI S_ 32 1#32)))
    (Host.divsi x (broadcastInDim S3 ![] bcast_S_S3 (id (constantI S_ 32 96#32))))

/-- The number of nodes of each type, from the type offsets. -/
def counts (off : IVec S4 32) : IVec S3 32 :=
  subi (extractStridedSlice S3 ![1] off slices_S4_S3_1) (extractStridedSlice S3 ![0] off slices_S4_S3_0)

/-- The running sums of the numbers of chunks. -/
def endsOf (blocks : IVec S3 32) : IVec S3 32 :=
  Host.reduceWindow IntOp.addi ![3] ![1] ![2] ![0] blocks (broadcastInDim S_ ![] bcast_S_S_ (constantI S_ 32 0#32)) reduceWindows_S3_S3_w3s1p2_0 h_S_

/-- The first chunk of each type, and the number of chunks in use. -/
def firstOf (off : IVec S4 32) : IVec S4 32 :=
  concatenate S4 0 [⟨S1, broadcastInDim S1 ![] bcast_S_S1 (constantI S_ 32 0#32)⟩, ⟨S3, endsOf (floor96 (subi (addi (counts off) (broadcastInDim S3 ![] bcast_S_S3 (constantI S_ 32 96#32))) (broadcastInDim S3 ![] bcast_S_S3 (constantI S_ 32 1#32))))⟩] concatenates_S1_S3_S4_d0

/-- How many of the three words `ends` are at or below each chunk's number. -/
def rankIn (first : IVec S4 32) : IVec S13 32 :=
  Host.reduce IntOp.addi (extui 32 (cmpi .sge
    (broadcastInDim S13x3 ![0, 1] bcast_S13x1_S13x3_0_1 (broadcastInDim S13x1 ![0] bcast_S13_S13x1_0 (iotaInDim S13 32 0)))
    (broadcastInDim S13x3 ![0, 1] bcast_S1x3_S13x3_0_1 (broadcastInDim S1x3 ![1] bcast_S3_S1x3_1 (extractStridedSlice S3 ![1] first slices_S4_S3_1)))) natLt_1_32)
    (constantI S_ 32 0#32) reducesTo_S13x3_S13_d1 h_S_

/-- How many types end at or before each chunk. -/
def rankOf (off : IVec S4 32) : IVec S13 32 := rankIn (firstOf off)

/-- The word of each chunk: its type, or -1 for a chunk of padding. -/
def ctypeOf (off : IVec S4 32) : IVec S13 32 :=
  select (cmpi .slt (rankOf off) (broadcastInDim S13 ![] bcast_S_S13 (constantI S_ 32 3#32))) (rankOf off)
    (broadcastInDim S13 ![] bcast_S_S13 (id (constantI S_ 32 4294967295#32)))

/-- Two stretches of operations in a row. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons o l ih => exact ih _

section Steps
variable (W : Valuation τ sig (Elt F))

theorem step0 : StableHlo.after hostOps0 W main_v0 = counts (W main_arg0) := by
  unfold hostOps0; after_results; try rfl
theorem step1 : StableHlo.after hostOps0_1 W main_v4 = subi (addi (W main_v0) (broadcastInDim S3 ![] bcast_S_S3 (constantI S_ 32 96#32))) (broadcastInDim S3 ![] bcast_S_S3 (constantI S_ 32 1#32)) := by
  unfold hostOps0_1; after_results; try rfl
theorem step1' : StableHlo.after hostOps0_1 W main_c_1 = constantI S_ 32 96#32 := by
  unfold hostOps0_1; after_results; try rfl
theorem step2 (h : W main_c_1 = constantI S_ 32 96#32) : StableHlo.after hostOps0_2 W main_v5 = floor96 (W main_v4) := by
  unfold hostOps0_2; after_results; simp only [h]; try rfl
theorem step3 : StableHlo.after hostOps0_3 W main_v6 = broadcastInDim S1 ![] bcast_S_S1 (constantI S_ 32 0#32) := by
  unfold hostOps0_3; after_results; try rfl
theorem step3' : StableHlo.after hostOps0_3 W main_v5 = W main_v5 := by
  unfold hostOps0_3; after_results; try rfl
theorem step4 : StableHlo.after hostOps0_4 W main_v7 = endsOf (W main_v5) := by
  unfold hostOps0_4; after_results; try rfl
theorem step4' : StableHlo.after hostOps0_4 W main_v6 = W main_v6 := by
  unfold hostOps0_4; after_results; try rfl
theorem step5 : StableHlo.after hostOps0_5 W main_v17 = rankIn (concatenate S4 0 [⟨S1, W main_v6⟩, ⟨S3, W main_v7⟩] concatenates_S1_S3_S4_d0) := by
  unfold hostOps0_5; after_results; try rfl
theorem step5' : StableHlo.after hostOps0_5 W main_v19 = cmpi .slt (rankIn (concatenate S4 0 [⟨S1, W main_v6⟩, ⟨S3, W main_v7⟩] concatenates_S1_S3_S4_d0)) (broadcastInDim S13 ![] bcast_S_S13 (constantI S_ 32 3#32)) := by
  unfold hostOps0_5; after_results; try rfl
theorem step5'' : StableHlo.after hostOps0_5 W main_c_5 = constantI S_ 32 4294967295#32 := by
  unfold hostOps0_5; after_results; try rfl
theorem step6 : StableHlo.after hostOps0_6 W main_v20 = select (W main_v19) (W main_v17) (broadcastInDim S13 ![] bcast_S_S13 (id (W main_c_5))) := by
  unfold hostOps0_6; after_results; try rfl
theorem step7 : StableHlo.after hostOps0_7 W main_v20 = W main_v20 := by
  unfold hostOps0_7; after_results; try rfl

end Steps

/-- The array of chunk words as the pallas_call finds it. -/
theorem V_ctype (c : Dev nD) : V m c main_v20 = ctypeOf (m ((c : Thread nD τ).loc main_arg0)) := by
  unfold V
  simp only [List.flatten_cons, List.flatten_nil, after_append, StableHlo.after_nil]
  rw [step7, step6, step5, step5', step5'', step4, step4', step3, step3', step2 _ (step1' _), step1, step0]
  rfl

/-- The scales as the pallas_call finds them. -/
theorem V_scale (c : Dev nD) : V m c main_v21 = broadcastInDim S3x1x10752 ![0, 2] bcast_S3x10752_S3x1x10752_0_2 (m ((c : Thread nD τ).loc main_arg3)) := by
  unfold V
  simp only [hostOps0, hostOps0_1, hostOps0_2, hostOps0_3, hostOps0_4, hostOps0_5, hostOps0_6, hostOps0_7, List.flatten_cons, List.flatten_nil, List.append_nil, List.cons_append,
      List.nil_append]
  after_results_simp

/-- The biases as the pallas_call finds them. -/
theorem V_bias (c : Dev nD) : V m c main_v22 = broadcastInDim S3x1x10752 ![0, 2] bcast_S3x10752_S3x1x10752_0_2 (m ((c : Thread nD τ).loc main_arg4)) := by
  unfold V
  simp only [hostOps0, hostOps0_1, hostOps0_2, hostOps0_3, hostOps0_4, hostOps0_5, hostOps0_6, hostOps0_7, List.flatten_cons, List.flatten_nil, List.append_nil, List.cons_append,
      List.nil_append]
  after_results_simp

/-- A word below three, read as a type, is at most two. -/
def Small (v : BitVec 32) : Prop := v.slt 3#32 = true

theorem small_ctypeOf (off : IVec S4 32) (i : S13.Idx) : Small (ctypeOf off i) := by
  unfold ctypeOf Small
  show BitVec.slt (if (BitVec.ofBool ((rankOf off i).slt 3#32)) = 1#1 then rankOf off i else 4294967295#32) 3#32 = true
  split
  · rename_i h
    exact (WordCmp.ofBool_eq_one_iff _).mp h
  · decide

theorem Small.lt {v : BitVec 32} (h : Small v) : (Scalar.maxsi v 0#32).toNat < 3 := by
  have h' : v.toInt < 3 := by
    have := h; unfold Small at this
    rw [BitVec.slt_iff_toInt_lt] at this
    exact this
  show (if (0#32 : BitVec 32).slt v then v else 0#32).toNat < 3
  split
  · rename_i h0
    rw [BitVec.slt_iff_toInt_lt] at h0
    have h0' : (0 : Int) < v.toInt := h0
    rw [BitVec.toInt_eq_toNat_cond] at h' h0'
    split at h' <;> omega
  · decide

end Cert.QkvIdeal.Hand

end
-- ==== Proof.QkvIdealFrame.lean ====
/-
  The frame of the program `QkvIdeal`: what each of its three outputs' staging buffers holds at every grid point, the body's
  obligation at a point, and the run of the whole program.
-/
module

public import proofs.«01_k».proof.Proof.QkvIdealBody
public import proofs.«01_k».proof.Proof.QkvIdealHost
public import Idealize.ShloMosaic.Lib.Pipeline.TableIdle
public import Idealize.ShloMosaic.Lib.Claim

@[expose] public section

set_option maxRecDepth 16384

noncomputable section

namespace Cert.QkvIdeal.Hand

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The chunk words are in range -/

theorem small_off1 (v : BitVec 32) (h : Small v) (_ : isType v = 1#1) (a : Fin 3) : (k0_off1 v) a + S1x3584x512.size a ≤ S3x3584x512.size a := by
  have h3 := h.lt
  fin_cases a
  · show (Scalar.maxsi v 0#32).toNat + 1 ≤ 3
    omega
  · exact Nat.le_refl _
  · exact Nat.le_refl _

theorem small_off2 (v : BitVec 32) (h : Small v) (_ : isType v = 1#1) (a : Fin 3) : (k0_off2 v) a + S1x1x512.size a ≤ S3x1x512.size a := by
  have h3 := h.lt
  fin_cases a
  · show (Scalar.maxsi v 0#32).toNat + 1 ≤ 3
    omega
  · exact Nat.le_refl _
  · exact Nat.le_refl _

theorem chk1_of_small (i : grid0.Coords) (v : BitVec 32) (h : Small v) : k0_chk1 i v := ⟨fun _ h2 => small_off1 v h h2, fun _ h2 => small_off2 v h h2⟩
theorem chk14_of_small (i : grid0.Coords) (v : BitVec 32) (h : Small v) : k0_chk14 i v := ⟨fun _ h2 => small_off1 v h h2, fun _ h2 => small_off2 v h h2⟩
theorem chk27_of_small (i : grid0.Coords) (v : BitVec 32) (h : Small v) : k0_chk27 i v := ⟨fun _ h2 => small_off1 v h h2, fun _ h2 => small_off2 v h h2⟩

/-- Every chunk word that the body reads is below three. -/
theorem words_small (c : Dev nD) (t : Fin cfg0.N) (k : ℕ) (hk : k < 13) : Small (wordAt (iblk m c 0 t) k hk) := by
  show Small (V m c main_v20 _)
  rw [V_ctype]
  exact small_ctypeOf _ _

/-! ## What the outputs' buffers hold -/

/-- A block of 512 columns of one output: every chunk's rows by the weights of the chunk's type, as grid point `t` computes it. -/
def outAt (e : EltTy) (pay : Vec F S96x3584 .bf16 → Vec F S1x3584x512 .fp8e4m3 → Vec F S1x1x512 .f32 → Vec F S1x1x512 .f32 → Vec F S96x512 e)
    (pad : Vec F S96x512 e) (c : Dev nD) (t : Fin cfg0.N) : Vec F S1248x512 e :=
  tgt e Small small_off1 small_off2 pay pad (iblk m c 0 t) (iblk m c 1 t) (iblk m c 2 t) (iblk m c 3 t) (iblk m c 4 t) (words_small m c t)

theorem N_eq : cfg0.N = 21 := N_0

/-- The last grid point up to `t` that computes a block of the first output, or the first such. -/
def pq (t : Fin cfg0.N) : Fin cfg0.N := ⟨min t.val 6, by have := N_eq; omega⟩
/-- The same for the second output, -/
def pk (t : Fin cfg0.N) : Fin cfg0.N := ⟨max 7 (min t.val 13), by have := N_eq; omega⟩
/-- and for the third. -/
def pv (t : Fin cfg0.N) : Fin cfg0.N := ⟨max 14 t.val, by have := N_eq; have := t.isLt; omega⟩

/-- What the body leaves in each window's buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m .f32 k0_pay7 k0_pay8 c (pq t)
    | ⟨6, _⟩ => outAt m .bf16 k0_pay31 k0_pay32 c (pk t)
    | ⟨7, _⟩ => outAt m .bf16 k0_pay55 k0_pay56 c (pv t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m .f32 k0_pay7 k0_pay8 c (pq t) := by dsimp only [dats]
theorem after0_6 (c : Dev nD) (t : Fin cfg0.N) : (dats m 0 c).after 6 t = outAt m .bf16 k0_pay31 k0_pay32 c (pk t) := by dsimp only [dats]
theorem after0_7 (c : Dev nD) (t : Fin cfg0.N) : (dats m 0 c).after 7 t = outAt m .bf16 k0_pay55 k0_pay56 c (pv t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Which output a grid point is for, and when each is written back -/

theorem cond_q : ∀ t : Fin cfg0.N, k0_cond1 (grid0.coords t) = 1#1 ↔ t.val < 7 :=
  (by decide +kernel : ∀ t : Fin grid0.N, k0_cond1 (grid0.coords t) = 1#1 ↔ t.val < 7)
theorem cond_k : ∀ t : Fin cfg0.N, k0_cond28 (grid0.coords t) = 1#1 ↔ 7 ≤ t.val ∧ t.val < 14 :=
  (by decide +kernel : ∀ t : Fin grid0.N, k0_cond28 (grid0.coords t) = 1#1 ↔ 7 ≤ t.val ∧ t.val < 14)
theorem cond_v : ∀ t : Fin cfg0.N, k0_cond55 (grid0.coords t) = 1#1 ↔ 14 ≤ t.val :=
  (by decide +kernel : ∀ t : Fin grid0.N, k0_cond55 (grid0.coords t) = 1#1 ↔ 14 ≤ t.val)

theorem idle_q : ∀ t : Fin cfg0.N, cfg0.idle 5 (cfg0.grid.coords t) = decide (7 ≤ t.val) :=
  (by decide +kernel : ∀ t : Fin grid0.N, idle0 5 (grid0.coords t) = decide (7 ≤ t.val))
theorem idle_k : ∀ t : Fin cfg0.N, cfg0.idle 6 (cfg0.grid.coords t) = decide (t.val < 7 ∨ 14 ≤ t.val) :=
  (by decide +kernel : ∀ t : Fin grid0.N, idle0 6 (grid0.coords t) = decide (t.val < 7 ∨ 14 ≤ t.val))
theorem idle_v : ∀ t : Fin cfg0.N, cfg0.idle 7 (cfg0.grid.coords t) = decide (t.val < 14) :=
  (by decide +kernel : ∀ t : Fin grid0.N, idle0 7 (grid0.coords t) = decide (t.val < 14))

theorem flush_q : ∀ t : Fin cfg0.N, (cfg0.win 5).flush t = decide (t.val < 6 ∨ t.val = 20) :=
  (by decide +kernel : ∀ t : Fin grid0.N, win0_5.flush t = decide (t.val < 6 ∨ t.val = 20))
theorem flush_k : ∀ t : Fin cfg0.N, (cfg0.win 6).flush t = decide ((7 ≤ t.val ∧ t.val < 13) ∨ t.val = 20) :=
  (by decide +kernel : ∀ t : Fin grid0.N, win0_6.flush t = decide ((7 ≤ t.val ∧ t.val < 13) ∨ t.val = 20))
theorem flush_v : ∀ t : Fin cfg0.N, (cfg0.win 7).flush t = decide (14 ≤ t.val) :=
  (by decide +kernel : ∀ t : Fin grid0.N, win0_7.flush t = decide (14 ≤ t.val))

theorem fresh_q : ∀ t : Fin cfg0.N, t.val = 20 → cfg0.fresh 5 t.val = false :=
  (by decide +kernel : ∀ t : Fin grid0.N, t.val = 20 → cfg0.fresh 5 t.val = false)
theorem fresh_k : ∀ t : Fin cfg0.N, t.val = 20 → cfg0.fresh 6 t.val = false :=
  (by decide +kernel : ∀ t : Fin grid0.N, t.val = 20 → cfg0.fresh 6 t.val = false)

/-- Before the last point the first output's buffer holds its last block, -/
theorem before_q (c : Dev nD) (t : Fin cfg0.N) (ht : t.val = 20) (d) : (dats m 0 c).before 5 t d = (dats m 0 c).after 5 t := by
  rw [(dats m 0 c).before_out_traj 5 rfl (fun _ _ => rfl) (fun t h0 hi _ => ?_) t.val t rfl d, fresh_q t ht, if_neg Bool.false_ne_true]
  · rw [after0_5, after0_5]
    congr 1
    apply Fin.ext
    show min (t.val - 1) 6 = min t.val 6
    omega
  · rw [idle_q, decide_eq_true_iff] at hi
    rw [after0_5, after0_5]
    congr 1
    apply Fin.ext
    show min t.val 6 = min (t.val - 1) 6
    omega

/-- and the second output's buffer its last one. -/
theorem before_k (c : Dev nD) (t : Fin cfg0.N) (ht : t.val = 20) (d) : (dats m 0 c).before 6 t d = (dats m 0 c).after 6 t := by
  rw [(dats m 0 c).before_out_traj 6 rfl (fun _ _ => rfl) (fun t h0 hi _ => ?_) t.val t rfl d, fresh_k t ht, if_neg Bool.false_ne_true]
  · rw [after0_6, after0_6]
    congr 1
    apply Fin.ext
    show max 7 (min (t.val - 1) 13) = max 7 (min t.val 13)
    omega
  · rw [idle_k, decide_eq_true_iff] at hi
    rw [after0_6, after0_6]
    congr 1
    apply Fin.ext
    show max 7 (min t.val 13) = max 7 (min (t.val - 1) 13)
    omega

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t ∗ (dats m 0 c).leavesExact 7 t)

/-- At a point where a window is live, its buffer is left at what the body computed. -/
theorem live_intro (c : Dev nD) (w : Fin cfg0.W) (t : Fin cfg0.N) (hi : cfg0.idle w (cfg0.grid.coords t) = false) :
    (dats m 0 c).leavesExact w t = owns (c : Thread nD τ) ((cfg0.win w).stage (cfg0.slots t w)) fullShare ((dats m 0 c).after w t) := by
  unfold Dat.leavesExact; rw [hi]

/-- At a point where a window is idle and written back, likewise. -/
theorem flushed_intro (c : Dev nD) (w : Fin cfg0.W) (t : Fin cfg0.N) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

/-- The first output's buffer, found and left at a point that is not for it. -/
theorem idle_q_intro (c : Dev nD) (t : Fin cfg0.N) (ht : 7 ≤ t.val) (d) :
    owns (c : Thread nD τ) (st0_5 t) fullShare ((dats m 0 c).before 5 t d) ⊢ (dats m 0 c).leavesExact 5 t := by
  have hi : cfg0.idle 5 (cfg0.grid.coords t) = true := by rw [idle_q]; exact decide_eq_true ht
  by_cases h : t.val = 20
  · rw [before_q m c t h, flushed_intro m c 5 t hi (by rw [flush_q]; exact decide_eq_true (Or.inr h))]
  · rw [(dats m 0 c).leavesExact_idle 5 t hi (by rw [flush_q]; exact decide_eq_false (by omega))]
    iintro H; iexists d; iexact H

/-- The second output's, -/
theorem idle_k_intro (c : Dev nD) (t : Fin cfg0.N) (ht : t.val < 7 ∨ 14 ≤ t.val) (d) :
    owns (c : Thread nD τ) (st0_6 t) fullShare ((dats m 0 c).before 6 t d) ⊢ (dats m 0 c).leavesExact 6 t := by
  have hi : cfg0.idle 6 (cfg0.grid.coords t) = true := by rw [idle_k]; exact decide_eq_true ht
  by_cases h : t.val = 20
  · rw [before_k m c t h, flushed_intro m c 6 t hi (by rw [flush_k]; exact decide_eq_true (Or.inr h))]
  · rw [(dats m 0 c).leavesExact_idle 6 t hi (by rw [flush_k]; exact decide_eq_false (by omega))]
    iintro H; iexists d; iexact H

/-- and the third's. -/
theorem idle_v_intro (c : Dev nD) (t : Fin cfg0.N) (ht : t.val < 14) (d) :
    owns (c : Thread nD τ) (st0_7 t) fullShare ((dats m 0 c).before 7 t d) ⊢ (dats m 0 c).leavesExact 7 t := by
  have hi : cfg0.idle 7 (cfg0.grid.coords t) = true := by rw [idle_v]; exact decide_eq_true ht
  rw [(dats m 0 c).leavesExact_idle 7 t hi (by rw [flush_v]; exact decide_eq_false (by omega))]
  iintro H; iexists d; iexact H

/-- The body at a point for output q. -/
theorem sound_q (c : Dev nD) (t : Fin cfg0.N) (ht : t.val < 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [body_q (grid0.coords t) _ _ _ _ _ _ _ _ _ _ _ _ _ _ _ _ ((cond_q t).mpr ht) (fun h => by have := (cond_k t).mp h; omega) (fun h => by have := (cond_v t).mp h; omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_region c .f32 (k0_chk1 (grid0.coords t)) (k0_chk1.dec (grid0.coords t)) _ _ (st0_0 t) (st0_1 t) (st0_2 t) (st0_3 t) (st0_4 t) (st0_5 t) _ _ k0_pay7 k0_pay8
    (iblk m c 0 t) (iblk m c 1 t) (iblk m c 2 t) (iblk m c 3 t) (iblk m c 4 t) (fun k hk => chk1_of_small _ _ (words_small m c t k hk)) Set.univ _
    iprop((dats m 0 c).Φ t.castSucc ∗ (dats m 0 c).owesAt () t.castSucc
      ∗ owns (c : Thread nD τ) (st0_6 t) fullShare ((dats m 0 c).before 6 t d6)
      ∗ owns (c : Thread nD τ) (st0_7 t) fullShare ((dats m 0 c).before 7 t d7)) ((dats m 0 c).before 5 t d5) ?_)
  swap
  · isplitl [H0]; · iexact H0
    isplitl [H1]; · iexact H1
    isplitl [H2]; · iexact H2
    isplitl [H3]; · iexact H3
    isplitl [H4]; · iexact H4
    isplitl [H5]; · iexact H5
    isplitl [HΦ]; · iexact HΦ
    isplitl [Ho]; · iexact Ho
    isplitl [H6]; · iexact H6
    iexact H7
  rw [live_intro m c 5 t (by rw [idle_q]; exact decide_eq_false (by omega)), after0_5, show pq t = t from Fin.ext (by show min t.val 6 = t.val; omega)]
  iintro ⟨H0, H1, H2, H3, H4, H5, HΦ, Ho, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (idle_k_intro m c t (Or.inl ht) d6); iexact H6
  iapply (idle_v_intro m c t (by omega) d7); iexact H7

/-- The body at a point for output k. -/
theorem sound_k (c : Dev nD) (t : Fin cfg0.N) (h1 : 7 ≤ t.val) (h2 : t.val < 14) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [body_k (grid0.coords t) _ _ _ _ _ _ _ _ _ _ _ _ _ _ _ _ ((cond_k t).mpr ⟨h1, h2⟩) (fun h => by have := (cond_q t).mp h; omega) (fun h => by have := (cond_v t).mp h; omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_region c .bf16 (k0_chk14 (grid0.coords t)) (k0_chk14.dec (grid0.coords t)) _ _ (st0_0 t) (st0_1 t) (st0_2 t) (st0_3 t) (st0_4 t) (st0_6 t) _ _ k0_pay31 k0_pay32
    (iblk m c 0 t) (iblk m c 1 t) (iblk m c 2 t) (iblk m c 3 t) (iblk m c 4 t) (fun k hk => chk14_of_small _ _ (words_small m c t k hk)) Set.univ _
    iprop((dats m 0 c).Φ t.castSucc ∗ (dats m 0 c).owesAt () t.castSucc
      ∗ owns (c : Thread nD τ) (st0_5 t) fullShare ((dats m 0 c).before 5 t d5)
      ∗ owns (c : Thread nD τ) (st0_7 t) fullShare ((dats m 0 c).before 7 t d7)) ((dats m 0 c).before 6 t d6) ?_)
  swap
  · isplitl [H0]; · iexact H0
    isplitl [H1]; · iexact H1
    isplitl [H2]; · iexact H2
    isplitl [H3]; · iexact H3
    isplitl [H4]; · iexact H4
    isplitl [H6]; · iexact H6
    isplitl [HΦ]; · iexact HΦ
    isplitl [Ho]; · iexact Ho
    isplitl [H5]; · iexact H5
    iexact H7
  rw [live_intro m c 6 t (by rw [idle_k]; exact decide_eq_false (by omega)), after0_6, show pk t = t from Fin.ext (by show max 7 (min t.val 13) = t.val; omega)]
  iintro ⟨H0, H1, H2, H3, H4, H6, HΦ, Ho, H5, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (idle_q_intro m c t h1 d5); iexact H5
  isplitl [H6]; · iexact H6
  iapply (idle_v_intro m c t h2 d7); iexact H7

/-- The body at a point for output v. -/
theorem sound_v (c : Dev nD) (t : Fin cfg0.N) (ht : 14 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [body_v (grid0.coords t) _ _ _ _ _ _ _ _ _ _ _ _ _ _ _ _ ((cond_v t).mpr ht) (fun h => by have := (cond_q t).mp h; omega) (fun h => by have := (cond_k t).mp h; omega)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_region c .bf16 (k0_chk27 (grid0.coords t)) (k0_chk27.dec (grid0.coords t)) _ _ (st0_0 t) (st0_1 t) (st0_2 t) (st0_3 t) (st0_4 t) (st0_7 t) _ _ k0_pay55 k0_pay56
    (iblk m c 0 t) (iblk m c 1 t) (iblk m c 2 t) (iblk m c 3 t) (iblk m c 4 t) (fun k hk => chk27_of_small _ _ (words_small m c t k hk)) Set.univ _
    iprop((dats m 0 c).Φ t.castSucc ∗ (dats m 0 c).owesAt () t.castSucc
      ∗ owns (c : Thread nD τ) (st0_5 t) fullShare ((dats m 0 c).before 5 t d5)
      ∗ owns (c : Thread nD τ) (st0_6 t) fullShare ((dats m 0 c).before 6 t d6)) ((dats m 0 c).before 7 t d7) ?_)
  swap
  · isplitl [H0]; · iexact H0
    isplitl [H1]; · iexact H1
    isplitl [H2]; · iexact H2
    isplitl [H3]; · iexact H3
    isplitl [H4]; · iexact H4
    isplitl [H7]; · iexact H7
    isplitl [HΦ]; · iexact HΦ
    isplitl [Ho]; · iexact Ho
    isplitl [H5]; · iexact H5
    iexact H6
  rw [live_intro m c 7 t (by rw [idle_v]; exact decide_eq_false (by omega)), after0_7, show pv t = t from Fin.ext (by show max 14 t.val = t.val; omega)]
  iintro ⟨H0, H1, H2, H3, H4, H7, HΦ, Ho, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iapply (idle_q_intro m c t (by omega) d5); iexact H5
  isplitl [H6]; · iapply (idle_k_intro m c t (Or.inr ht) d6); iexact H6
  iexact H7

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h1 : t.val < 7
  · exact sound_q m c t h1
  by_cases h2 : t.val < 14
  · exact sound_k m c t (by omega) h2
  · exact sound_v m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- From any memory with zero counters every weakly fair execution ends with the arrays at what the blocks give and every counter zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every argument array ends as it was, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.QkvIdeal.Hand

end
-- ==== Proof.QkvPay.lean ====
/-
  The QKV projection's payloads at the ideal instance, read at an index: what the kernel's body stores of one chunk of
  rows and one block of columns, and what the reference's body stores.
-/
module

public import proofs.«01_k».proof.Proof.Gen.QkvIdeal.Skeleton
public import proofs.«01_k».proof.Proof.Gen.QkvRefIdeal.Frame
public import Idealize.ShloMosaic.Lib.Pointwise

@[expose] public section

set_option maxRecDepth 16384

noncomputable section

namespace Cert.QkvEq

open Idealize.ShloMosaic

/-- A row times a column, scaled, with the bias added: the value that both programs compute. -/
def lin (x w : Fin 3584 → EReal) (s b : EReal) : EReal := (∑ k, x k * w k) * s + b

section Kernel

open Cert.QkvIdeal Cert.QkvIdeal.Gen

theorem pay7_apply (x : Vec Ideal S96x3584 .bf16) (w : Vec Ideal S1x3584x512 .fp8e4m3) (s b : Vec Ideal S1x1x512 .f32) (i : S96x512.Idx) :
    k0_pay7 x w s b i = lin (fun k => x (ix2 (i 0) k)) (fun k => w (ix3 0 k (i 1))) (s (ix3 0 0 (i 1))) (b (ix3 0 0 (i 1))) := by
  unfold k0_pay7 lin
  pointwise

theorem pay31_apply (x : Vec Ideal S96x3584 .bf16) (w : Vec Ideal S1x3584x512 .fp8e4m3) (s b : Vec Ideal S1x1x512 .f32) (i : S96x512.Idx) :
    k0_pay31 x w s b i = lin (fun k => x (ix2 (i 0) k)) (fun k => w (ix3 0 k (i 1))) (s (ix3 0 0 (i 1))) (b (ix3 0 0 (i 1))) := by
  unfold k0_pay31 lin
  pointwise

theorem pay55_apply (x : Vec Ideal S96x3584 .bf16) (w : Vec Ideal S1x3584x512 .fp8e4m3) (s b : Vec Ideal S1x1x512 .f32) (i : S96x512.Idx) :
    k0_pay55 x w s b i = lin (fun k => x (ix2 (i 0) k)) (fun k => w (ix3 0 k (i 1))) (s (ix3 0 0 (i 1))) (b (ix3 0 0 (i 1))) := by
  unfold k0_pay55 lin
  pointwise

theorem pay8_apply (i : S96x512.Idx) : k0_pay8 (F := Ideal) i = (0 : EReal) := by
  unfold k0_pay8
  pointwise

theorem pay32_apply (i : S96x512.Idx) : k0_pay32 (F := Ideal) i = (0 : EReal) := by
  unfold k0_pay32
  pointwise

theorem pay56_apply (i : S96x512.Idx) : k0_pay56 (F := Ideal) i = (0 : EReal) := by
  unfold k0_pay56
  pointwise

end Kernel

/-- The value for a row of type `T`: of its type's weights, or zero for a row of no type. -/
def pick (T : BitVec 32) (y : Fin 3 → EReal) : EReal :=
  if T = 2#32 then y 2 else if T = 1#32 then y 1 else if T = 0#32 then y 0 else 0

section Reference

open Cert.QkvRefIdeal Cert.QkvRefIdeal.Gen

theorem select_eq (a b : BitVec 32) (x y : EReal) : Scalar.select (IntOp.cmpi .eq a b) x y = if a = b then x else y := by
  by_cases h : a = b
  · subst h; simp [Scalar.select, IntOp.cmpi]
  · have h' : (a == b) = false := by simpa using h
    simp [Scalar.select, IntOp.cmpi, h, h']

/-- The reference's rows before they are cut into the three results. -/
theorem ref_apply (x0 : Vec Ideal S1248x1 .i32) (x1 : Vec Ideal S1248x3584 .bf16) (x2 : Vec Ideal S3x3584x10752 .fp8e4m3) (x3 x4 : Vec Ideal S3x1x10752 .f32) (i : S1248x10752.Idx) :
    k0_pay1 (View.ld x1 r0_0) (k0_pay8 x0 x1 x2 x3 x4) (k0_pay9 x0 x1 x2 x3 x4) (k0_pay10 x0 x1 x2 x3 x4) 1#32 (View.ld x2 r0_6) (View.ld x3 r0_7) (View.ld x4 r0_7) i
      = pick (x0 (ix2 (i 0) 0)) (fun t => lin (fun k => x1 (ix2 (i 0) k)) (fun k => x2 (ix3 t k (i 1))) (x3 (ix3 t 0 (i 1))) (x4 (ix3 t 0 (i 1)))) := by
  unfold k0_pay1 k0_pay8 k0_pay9 k0_pay10 k0_pay6 k0_pay5 k0_pay7 pick lin
  pointwise
  simp only [select_eq]

end Reference

end Cert.QkvEq

end
-- ==== Proof.QkvRefHost.lean ====
/-
  What the operations before the pallas_call of the reference `QkvRefIdeal` compute: each row's node type, as a
  function of the type offsets.
-/
module

public import proofs.«01_k».proof.Proof.Gen.QkvRefIdeal.Frame

@[expose] public section

set_option maxRecDepth 16384

noncomputable section

namespace Cert.QkvRefIdeal.Hand

open Cert.QkvRefIdeal Cert.QkvRefIdeal.Gen
open Idealize.ShloMosaic Idealize.ShloMosaic.TcCoe Idealize.ShloMosaic.Tactic

variable {F : FTy → Type} [FloatOps F]
variable (m : (ℓ : Loc nD τ sig) → Buf (Elt F) ℓ)

/-- The quotient of `x` by 96, rounded down. -/
def floor96 (x : IVec S3 32) : IVec S3 32 :=
  select
    (andi (cmpi .ne (signi x) (broadcastInDim S3 ![] bcast_S_S3 (signi (id (constantI S_ 32 96#32)))))
      (cmpi .ne (Host.remsi x (broadcastInDim S3 ![] bcast_S_S3 (id (constantI S_ 32 96#32)))) (broadcastInDim S3 ![] bcast_S_S3 (constantI S_ 32 0#32))))
    (subi (Host.divsi x (broadcastInDim S3 ![] bcast_S_S3 (id (constantI S_ 32 96#32)))) (broadcastInDim S3 ![] bcast_S_S3 (constantI S_ 32 1#32)))
    (Host.divsi x (broadcastInDim S3 ![] bcast_S_S3 (id (constantI S_ 32 96#32))))

/-- The same of 1248 numbers. -/
def floor96N (x : IVec S1248 32) : IVec S1248 32 :=
  select
    (andi (cmpi .ne (signi x) (broadcastInDim S1248 ![] bcast_S_S1248 (signi (id (constantI S_ 32 96#32)))))
      (cmpi .ne (Host.remsi x (broadcastInDim S1248 ![] bcast_S_S1248 (id (constantI S_ 32 96#32)))) (broadcastInDim S1248 ![] bcast_S_S1248 (constantI S_ 32 0#32))))
    (subi (Host.divsi x (broadcastInDim S1248 ![] bcast_S_S1248 (id (constantI S_ 32 96#32)))) (broadcastInDim S1248 ![] bcast_S_S1248 (constantI S_ 32 1#32)))
    (Host.divsi x (broadcastInDim S1248 ![] bcast_S_S1248 (id (constantI S_ 32 96#32))))

/-- The number of nodes of each type, from the type offsets. -/
def counts (off : IVec S4 32) : IVec S3 32 :=
  subi (extractStridedSlice S3 ![1] off slices_S4_S3_1) (extractStridedSlice S3 ![0] off slices_S4_S3_0)

/-- The running sums of the numbers of blocks. -/
def endsOf (blocks : IVec S3 32) : IVec S3 32 :=
  Host.reduceWindow IntOp.addi ![3] ![1] ![2] ![0] blocks (broadcastInDim S_ ![] bcast_S_S_ (constantI S_ 32 0#32)) reduceWindows_S3_S3_w3s1p2_0 h_S_

/-- Where each type's blocks end. -/
def endsAt (off : IVec S4 32) : IVec S3 32 :=
  endsOf (floor96 (addi (counts off) (broadcastInDim S3 ![] bcast_S_S3 (constantI S_ 32 95#32))))

/-- How many of the three words `ends` are at or below each row's block number. -/
def typeIn (block : IVec S1248 32) (ends : IVec S3 32) : IVec S1248 32 :=
  Host.reduce IntOp.addi (extui 32 (cmpi .sge
    (broadcastInDim S1248x3 ![0, 1] bcast_S1248x1_S1248x3_0_1 (broadcastInDim S1248x1 ![0] bcast_S1248_S1248x1_0 block))
    (broadcastInDim S1248x3 ![0, 1] bcast_S1x3_S1248x3_0_1 (broadcastInDim S1x3 ![1] bcast_S3_S1x3_1 ends))) natLt_1_32)
    (constantI S_ 32 0#32) reducesTo_S1248x3_S1248_d1 h_S_

/-- Each row's type, three for the rows past the last type. -/
def typeOf (off : IVec S4 32) : IVec S1248 32 := typeIn (floor96N (iotaInDim S1248 32 0)) (endsAt off)

/-- Two stretches of operations in a row. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons o l ih => exact ih _

section Steps
variable (W : Valuation τ sig (Elt F))

theorem step0 : StableHlo.after hostOps0 W main_v0 = counts (W main_arg0) := by
  unfold hostOps0; after_results; try rfl
theorem step1 : StableHlo.after hostOps0_1 W main_v2 = addi (W main_v0) (broadcastInDim S3 ![] bcast_S_S3 (constantI S_ 32 95#32)) := by
  unfold hostOps0_1; after_results; try rfl
theorem step1' : StableHlo.after hostOps0_1 W main_c_0 = constantI S_ 32 96#32 := by
  unfold hostOps0_1; after_results; try rfl
theorem step2 (h : W main_c_0 = constantI S_ 32 96#32) : StableHlo.after hostOps0_2 W main_v3 = floor96 (W main_v2) := by
  unfold hostOps0_2; after_results; simp only [h]; try rfl
theorem step3 : StableHlo.after hostOps0_3 W main_v4 = endsOf (W main_v3) := by
  unfold hostOps0_3; after_results; try rfl
theorem step4 : StableHlo.after hostOps0_4 W main_v5 = iotaInDim S1248 32 0 := by
  unfold hostOps0_4; after_results; try rfl
theorem step4' : StableHlo.after hostOps0_4 W main_c_1 = constantI S_ 32 96#32 := by
  unfold hostOps0_4; after_results; try rfl
theorem step4'' : StableHlo.after hostOps0_4 W main_v4 = W main_v4 := by
  unfold hostOps0_4; after_results; try rfl
theorem step5 (h : W main_c_1 = constantI S_ 32 96#32) : StableHlo.after hostOps0_5 W main_v6 = floor96N (W main_v5) := by
  unfold hostOps0_5; after_results; simp only [h]; try rfl
theorem step5' : StableHlo.after hostOps0_5 W main_v4 = W main_v4 := by
  unfold hostOps0_5; after_results; try rfl
theorem step6 : StableHlo.after hostOps0_6 W main_v14 = broadcastInDim S1248x1 ![0] bcast_S1248_S1248x1_0 (typeIn (W main_v6) (W main_v4)) := by
  unfold hostOps0_6; after_results; try rfl

end Steps

/-- The array of row types as the pallas_call finds it. -/
theorem V_type (c : Dev nD) : V m c main_v14 = broadcastInDim S1248x1 ![0] bcast_S1248_S1248x1_0 (typeOf (m ((c : Thread nD τ).loc main_arg0))) := by
  unfold V
  simp only [List.flatten_cons, List.flatten_nil, after_append, StableHlo.after_nil]
  rw [step6, step5 _ (step4' _), step5', step4, step4'', step3, step2 _ (step1' _), step1, step0]
  rfl

/-- The scales as the pallas_call finds them. -/
theorem V_scale (c : Dev nD) : V m c main_v15 = broadcastInDim S3x1x10752 ![0, 2] bcast_S3x10752_S3x1x10752_0_2 (m ((c : Thread nD τ).loc main_arg3)) := by
  unfold V
  simp only [hostOps0, hostOps0_1, hostOps0_2, hostOps0_3, hostOps0_4, hostOps0_5, hostOps0_6, List.flatten_cons, List.flatten_nil, List.append_nil, List.cons_append,
      List.nil_append]
  after_results_simp

/-- The biases as the pallas_call finds them. -/
theorem V_bias (c : Dev nD) : V m c main_v16 = broadcastInDim S3x1x10752 ![0, 2] bcast_S3x10752_S3x1x10752_0_2 (m ((c : Thread nD τ).loc main_arg4)) := by
  unfold V
  simp only [hostOps0, hostOps0_1, hostOps0_2, hostOps0_3, hostOps0_4, hostOps0_5, hostOps0_6, List.flatten_cons, List.flatten_nil, List.append_nil, List.cons_append,
      List.nil_append]
  after_results_simp

end Cert.QkvRefIdeal.Hand

end
-- ==== Proof.QkvRank.lean ====
/-
  The type of a row. The kernel finds one type for every chunk of 96 rows, the reference one for every row: they agree.
-/
module

public import proofs.«01_k».proof.Proof.QkvIdealHost
public import proofs.«01_k».proof.Proof.QkvRefHost
public import Idealize.ShloMosaic.Lib.Pointwise

@[expose] public section

set_option maxRecDepth 16384

noncomputable section

namespace Cert.QkvEq

open Idealize.ShloMosaic

theorem addi_sub (x : BitVec 32) : x + 96#32 - 1#32 = x + 95#32 := by bv_omega

/-- Adding 96 and taking 1 off adds 95. -/
theorem blocks_eq (d : IVec Cert.QkvIdeal.S3 32) :
    subi (addi d (broadcastInDim Cert.QkvIdeal.S3 ![] Cert.QkvIdeal.Gen.bcast_S_S3 (constantI Cert.QkvIdeal.S_ 32 96#32))) (broadcastInDim Cert.QkvIdeal.S3 ![] Cert.QkvIdeal.Gen.bcast_S_S3 (constantI Cert.QkvIdeal.S_ 32 1#32))
      = addi d (broadcastInDim Cert.QkvRefIdeal.S3 ![] Cert.QkvRefIdeal.Gen.bcast_S_S3 (constantI Cert.QkvRefIdeal.S_ 32 95#32)) :=
  funext fun i => addi_sub (d i)

/-- The block of 96 rows that a row lies in. -/
theorem floor96N_iota (r : Fin 1248) : Cert.QkvRefIdeal.Hand.floor96N (iotaInDim Cert.QkvRefIdeal.S1248 32 0) (ix1 r) = BitVec.ofNat 32 (r.val / 96) := by
  revert r
  unfold Cert.QkvRefIdeal.Hand.floor96N
  pointwise
  decide +kernel

theorem endsAt_eq (off : IVec Cert.QkvIdeal.S4 32) :
    Cert.QkvIdeal.Hand.endsOf (Cert.QkvIdeal.Hand.floor96 (subi (addi (Cert.QkvIdeal.Hand.counts off) (broadcastInDim Cert.QkvIdeal.S3 ![] Cert.QkvIdeal.Gen.bcast_S_S3 (constantI Cert.QkvIdeal.S_ 32 96#32))) (broadcastInDim Cert.QkvIdeal.S3 ![] Cert.QkvIdeal.Gen.bcast_S_S3 (constantI Cert.QkvIdeal.S_ 32 1#32))))
      = Cert.QkvRefIdeal.Hand.endsAt off := by
  rw [blocks_eq]
  rfl

theorem firstOf_succ (off : IVec Cert.QkvIdeal.S4 32) (k : Fin 3) :
    Cert.QkvIdeal.Hand.firstOf off (ix1 ⟨1 + k.val, by omega⟩) = Cert.QkvRefIdeal.Hand.endsAt off (ix1 k) := by
  unfold Cert.QkvIdeal.Hand.firstOf
  rw [endsAt_eq]
  generalize Cert.QkvRefIdeal.Hand.endsAt off = e
  pointwise

/-- The type of a row is that of its chunk. -/
theorem rank_eq (off : IVec Cert.QkvIdeal.S4 32) (r : Fin 1248) :
    Cert.QkvRefIdeal.Hand.typeOf off (ix1 r) = Cert.QkvIdeal.Hand.rankOf off (ix1 ⟨r.val / 96, by omega⟩) := by
  unfold Cert.QkvRefIdeal.Hand.typeOf Cert.QkvRefIdeal.Hand.typeIn Cert.QkvIdeal.Hand.rankOf Cert.QkvIdeal.Hand.rankIn
  have h1 := firstOf_succ off
  have h2 := floor96N_iota r
  generalize Cert.QkvIdeal.Hand.firstOf off = first at h1 ⊢
  generalize Cert.QkvRefIdeal.Hand.floor96N _ = blk at h2 ⊢
  generalize Cert.QkvRefIdeal.Hand.endsAt off = ends at h1 ⊢
  pointwise
  simp only [h1, h2]

end Cert.QkvEq

end
-- ==== Proof.QkvKerValue.lean ====
/-
  What the kernel of `QkvIdeal` computes, block by block: at grid point `t` the columns from `512 t` on of the rows by the
  weights of their chunk's type.
-/
module

public import proofs.«01_k».proof.Proof.QkvPay
public import proofs.«01_k».proof.Proof.QkvRank
public import proofs.«01_k».proof.Proof.QkvIdealFrame

@[expose] public section

set_option maxRecDepth 16384

noncomputable section

namespace Cert.QkvEq

open Idealize.ShloMosaic Idealize.ShloMosaic.TcCoe
open Cert.QkvIdeal Cert.QkvIdeal.Gen Cert.QkvIdeal.Hand

/-- A chunk word below three that selects weights is one of the three types. -/
theorem type_cases (v : BitVec 32) (hv : Small v) (h : isType v = 1#1) : ∃ t : Fin 3, v = BitVec.ofNat 32 t.val := by
  have hv' : v.toInt < 3 := by
    have e : v.slt 3#32 = true := hv
    rw [BitVec.slt_iff_toInt_lt] at e
    exact e
  have h' : IntOp.cmpi .ne ((IntOp.cmpi .sge v 0#32).setWidth 32) 0#32 = 1#1 := h
  rw [WordCmp.cmpi_sge_zero] at h'
  have hn : v.toNat < 2 ^ (32 - 1) := by
    by_contra hc
    rw [decide_eq_false hc] at h'
    exact absurd h' (by decide)
  have : v.toNat < 3 := by
    rw [BitVec.toInt_eq_toNat_cond] at hv'
    split at hv' <;> omega
  exact ⟨⟨v.toNat, this⟩, by simp⟩

theorem maxsi_type (t : Fin 3) : (Scalar.maxsi (BitVec.ofNat 32 t.val) 0#32).toNat = t.val := by
  revert t; decide

theorem not_type (v : BitVec 32) (h : ¬ isType v = 1#1) (t : Fin 3) : v ≠ BitVec.ofNat 32 t.val := by
  rintro rfl
  apply h
  revert t
  decide

/-- One element of a chunk: from the weights of the chunk's type, if it has one. -/
theorem chunk_cases (e : EltTy)
    (pay : Vec Ideal S96x3584 .bf16 → Vec Ideal S1x3584x512 .fp8e4m3 → Vec Ideal S1x1x512 .f32 → Vec Ideal S1x1x512 .f32 → Vec Ideal S96x512 e)
    (pad : Vec Ideal S96x512 e) (v : BitVec 32) (hv : Small v) (hw) (hs)
    (x2 : Vec Ideal S1248x3584 .bf16) (x3 : Vec Ideal S3x3584x512 .fp8e4m3) (x4 x5 : Vec Ideal S3x1x512 .f32) (c : ℕ) (hc : c < 13)
    (i : S96x512.Idx) (hr : 96 * c + (i 0).val < 1248) (Z : Elt Ideal e)
    (h1 : ∀ (t : Fin 3) X W S B, v = BitVec.ofNat 32 t.val → (∀ k, X (ix2 (i 0) k) = x2 (ix2 ⟨96 * c + (i 0).val, hr⟩ k))
      → (∀ k, W (ix3 0 k (i 1)) = x3 (ix3 t k (i 1))) → S (ix3 0 0 (i 1)) = x4 (ix3 t 0 (i 1)) → B (ix3 0 0 (i 1)) = x5 (ix3 t 0 (i 1)) → pay X W S B i = Z)
    (h0 : (∀ t : Fin 3, v ≠ BitVec.ofNat 32 t.val) → pad i = Z) :
    chunkVal e pay pad v hw hs x2 x3 x4 x5 c hc i = Z := by
  unfold chunkVal
  split
  · rename_i h
    obtain ⟨t, ht⟩ := type_cases v hv h
    have o : (Scalar.maxsi v 0#32).toNat = t.val := by rw [ht]; exact maxsi_type t
    have o1 : (k0_off1 v : Fin 3 → ℕ) = ![t.val, 0, 0] := by rw [← o]; rfl
    have o2 : (k0_off2 v : Fin 3 → ℕ) = ![t.val, 0, 0] := by rw [← o]; rfl
    refine h1 t _ _ _ _ ht (fun k => ?_) (fun k => ?_) ?_ ?_
    · refine congrArg x2 (funext fun a => Fin.ext ?_)
      match a with
      | ⟨0, _⟩ => show 96 * c + 1 * (i 0).val = 96 * c + (i 0).val; omega
      | ⟨1, _⟩ => show 0 + 1 * k.val = k.val; omega
    · refine congrArg x3 (funext fun a => Fin.ext ?_)
      have e1 : k0_off1 v 0 = t.val := o
      match a with
      | ⟨0, _⟩ => show k0_off1 v 0 + 1 * 0 = t.val; omega
      | ⟨1, _⟩ => show 0 + 1 * k.val = k.val; omega
      | ⟨2, _⟩ => show 0 + 1 * (i 1).val = (i 1).val; omega
    · refine congrArg x4 (funext fun a => Fin.ext ?_)
      have e1 : k0_off2 v 0 = t.val := o
      match a with
      | ⟨0, _⟩ => show k0_off2 v 0 + 1 * 0 = t.val; omega
      | ⟨1, _⟩ => rfl
      | ⟨2, _⟩ => show 0 + 1 * (i 1).val = (i 1).val; omega
    · refine congrArg x5 (funext fun a => Fin.ext ?_)
      have e1 : k0_off2 v 0 = t.val := o
      match a with
      | ⟨0, _⟩ => show k0_off2 v 0 + 1 * 0 = t.val; omega
      | ⟨1, _⟩ => rfl
      | ⟨2, _⟩ => show 0 + 1 * (i 1).val = (i 1).val; omega
  · rename_i h
    exact h0 (not_type v h)

theorem pick_type (t : Fin 3) (y : Fin 3 → EReal) : pick (BitVec.ofNat 32 t.val) y = y t := by
  unfold pick
  fin_cases t <;> rfl

theorem pick_none (v : BitVec 32) (h : ∀ t : Fin 3, v ≠ BitVec.ofNat 32 t.val) (y : Fin 3 → EReal) : pick v y = 0 := by
  unfold pick
  exact (if_neg (h 2)).trans ((if_neg (h 1)).trans (if_neg (h 0)))

theorem chunk_lt (y : S1248x512.Idx) : (y 0).val / 96 < 13 := by have : (y 0).val < 1248 := (y 0).isLt; omega

/-- The value of one element of a block by the weights of type `t`, from the blocks that the body reads, -/
def elemOf (x2 : Vec Ideal S1248x3584 .bf16) (x3 : Vec Ideal S3x3584x512 .fp8e4m3) (x4 x5 : Vec Ideal S3x1x512 .f32) (y : S1248x512.Idx) (t : Fin 3) : EReal :=
  lin (fun k => x2 (ix2 (y 0) k)) (fun k => x3 (ix3 t k (y 1))) (x4 (ix3 t 0 (y 1))) (x5 (ix3 t 0 (y 1)))

/-- and by those of the chunk's type. -/
def elem (x1 : Vec Ideal S13 .i32) (x2 : Vec Ideal S1248x3584 .bf16) (x3 : Vec Ideal S3x3584x512 .fp8e4m3) (x4 x5 : Vec Ideal S3x1x512 .f32) (y : S1248x512.Idx) : EReal :=
  pick (wordAt x1 ((y 0).val / 96) (chunk_lt y)) (elemOf x2 x3 x4 x5 y)

theorem row_eq (y : S1248x512.Idx) (h) : (⟨96 * ((y 0).val / 96) + (y 0).val % 96, h⟩ : Fin 1248) = y 0 := Fin.ext (Nat.div_add_mod _ _)

theorem lin_congr {x x' w w' : Fin 3584 → EReal} {s s' b b' : EReal} (hx : x = x') (hw : w = w') (hs : s = s') (hb : b = b') : lin x w s b = lin x' w' s' b' := by
  rw [hx, hw, hs, hb]

/-- The row number in the chunk. -/
theorem row_lt (y : S1248x512.Idx) : 96 * ((y 0).val / 96) + (y 0).val % 96 < 1248 := by have : (y 0).val < 1248 := (y 0).isLt; omega

theorem tgt_q (x1 : Vec Ideal S13 .i32) (x2 : Vec Ideal S1248x3584 .bf16) (x3 : Vec Ideal S3x3584x512 .fp8e4m3) (x4 x5 : Vec Ideal S3x1x512 .f32) (hchk) (y : S1248x512.Idx) :
    tgt .f32 Small small_off1 small_off2 k0_pay7 k0_pay8 x1 x2 x3 x4 x5 hchk y = elem x1 x2 x3 x4 x5 y := by
  refine chunk_cases .f32 _ _ _ (hchk _ (chunk_lt y)) _ _ x2 x3 x4 x5 _ (chunk_lt y) _ (row_lt y) _ (fun t X W S B ht hX hW hS hB => ?_) fun h => ?_
  · refine (pay7_apply X W S B _).trans ((lin_congr (funext fun k => (hX k).trans (congrArg (fun r => x2 (ix2 r k)) (row_eq y _))) (funext hW) hS hB).trans ?_)
    exact ((congrArg (fun v => pick v (elemOf x2 x3 x4 x5 y)) ht).trans (pick_type t _)).symm
  · exact (pay8_apply _).trans (pick_none _ h _).symm

theorem tgt_k (x1 : Vec Ideal S13 .i32) (x2 : Vec Ideal S1248x3584 .bf16) (x3 : Vec Ideal S3x3584x512 .fp8e4m3) (x4 x5 : Vec Ideal S3x1x512 .f32) (hchk) (y : S1248x512.Idx) :
    tgt .bf16 Small small_off1 small_off2 k0_pay31 k0_pay32 x1 x2 x3 x4 x5 hchk y = elem x1 x2 x3 x4 x5 y := by
  refine chunk_cases .bf16 _ _ _ (hchk _ (chunk_lt y)) _ _ x2 x3 x4 x5 _ (chunk_lt y) _ (row_lt y) _ (fun t X W S B ht hX hW hS hB => ?_) fun h => ?_
  · refine (pay31_apply X W S B _).trans ((lin_congr (funext fun k => (hX k).trans (congrArg (fun r => x2 (ix2 r k)) (row_eq y _))) (funext hW) hS hB).trans ?_)
    exact ((congrArg (fun v => pick v (elemOf x2 x3 x4 x5 y)) ht).trans (pick_type t _)).symm
  · exact (pay32_apply _).trans (pick_none _ h _).symm

theorem tgt_v (x1 : Vec Ideal S13 .i32) (x2 : Vec Ideal S1248x3584 .bf16) (x3 : Vec Ideal S3x3584x512 .fp8e4m3) (x4 x5 : Vec Ideal S3x1x512 .f32) (hchk) (y : S1248x512.Idx) :
    tgt .bf16 Small small_off1 small_off2 k0_pay55 k0_pay56 x1 x2 x3 x4 x5 hchk y = elem x1 x2 x3 x4 x5 y := by
  refine chunk_cases .bf16 _ _ _ (hchk _ (chunk_lt y)) _ _ x2 x3 x4 x5 _ (chunk_lt y) _ (row_lt y) _ (fun t X W S B ht hX hW hS hB => ?_) fun h => ?_
  · refine (pay55_apply X W S B _).trans ((lin_congr (funext fun k => (hX k).trans (congrArg (fun r => x2 (ix2 r k)) (row_eq y _))) (funext hW) hS hB).trans ?_)
    exact ((congrArg (fun v => pick v (elemOf x2 x3 x4 x5 y)) ht).trans (pick_type t _)).symm
  · exact (pay56_apply _).trans (pick_none _ h _).symm

end Cert.QkvEq

end
-- ==== Proof.QkvRefValue.lean ====
/-
  The value of the reference `QkvRefIdeal`: each of its three results, element by element, as a function of the
  arguments (`goal`).
-/
module

public import proofs.«01_k».proof.Proof.QkvPay
public import proofs.«01_k».proof.Proof.QkvRefHost
public import proofs.«01_k».proof.Proof.Gen.QkvRefIdeal.Value

@[expose] public section

set_option maxRecDepth 16384

noncomputable section

namespace Cert.QkvEq

open Idealize.ShloMosaic Idealize.ShloMosaic.TcCoe
open Cert.QkvRefIdeal Cert.QkvRefIdeal.Gen Cert.QkvRefIdeal.Hand

/-- Result `n` (0 the queries, 1 the keys, 2 the values) at row `i 0` and column `i 1`: the row by the weights of its type,
    the columns from `3584 n` on. -/
def goal (n : Fin 3) (off : IVec S4 32) (x : S1248x3584.Idx → EReal) (w : S3x3584x10752.Idx → EReal) (s b : S3x10752.Idx → EReal) : S1248x3584.Idx → EReal :=
  fun i =>
    have hj : 3584 * n.val + (i 1).val < 10752 := by have := n.isLt; have : (i 1).val < 3584 := (i 1).isLt; omega
    pick (typeOf off (ix1 (i 0))) fun t =>
      lin (fun k => x (ix2 (i 0) k)) (fun k => w (ix3 t k ⟨3584 * n.val + (i 1).val, hj⟩)) (s (ix2 t ⟨3584 * n.val + (i 1).val, hj⟩)) (b (ix2 t ⟨3584 * n.val + (i 1).val, hj⟩))

variable (m : (ℓ : Loc nD τ sig) → Buf (Elt Ideal) ℓ)

/-- The columns from `o` on of a matrix of 10752 columns. -/
theorem slice_apply (o : ℕ) (v : S1248x10752.Idx → EReal) (h) (i : S1248x3584.Idx) (hj : o + (i 1).val < 10752) :
    extractStridedSlice S1248x3584 ![0, o] v h i = v (ix2 (i 0) ⟨o + (i 1).val, hj⟩) := by
  unfold extractStridedSlice
  congr 1
  funext a
  match a with
  | ⟨0, _⟩ => apply Fin.ext; show 0 + (i 0).val = (i 0).val; omega
  | ⟨1, _⟩ => rfl

theorem idx0 : ∀ t : Fin cfg0.N, ∀ a : Fin 2, win0_0.index t a = 0 := (by decide +kernel : ∀ t : Fin grid0.N, ∀ a : Fin 2, win0_0.index t a = 0)
theorem idx1 : ∀ t : Fin cfg0.N, ∀ a : Fin 2, win0_1.index t a = 0 := (by decide +kernel : ∀ t : Fin grid0.N, ∀ a : Fin 2, win0_1.index t a = 0)
theorem idx2 : ∀ t : Fin cfg0.N, ∀ a : Fin 3, win0_2.index t a = 0 := (by decide +kernel : ∀ t : Fin grid0.N, ∀ a : Fin 3, win0_2.index t a = 0)
theorem idx3 : ∀ t : Fin cfg0.N, ∀ a : Fin 3, win0_3.index t a = 0 := (by decide +kernel : ∀ t : Fin grid0.N, ∀ a : Fin 3, win0_3.index t a = 0)
theorem idx4 : ∀ t : Fin cfg0.N, ∀ a : Fin 3, win0_4.index t a = 0 := (by decide +kernel : ∀ t : Fin grid0.N, ∀ a : Fin 3, win0_4.index t a = 0)
theorem idx5 : ∀ t : Fin cfg0.N, ∀ a : Fin 2, win0_5.index t a = 0 := (by decide +kernel : ∀ t : Fin grid0.N, ∀ a : Fin 2, win0_5.index t a = 0)
theorem idx6 : ∀ t : Fin cfg0.N, ∀ a : Fin 2, win0_6.index t a = 0 := (by decide +kernel : ∀ t : Fin grid0.N, ∀ a : Fin 2, win0_6.index t a = 0)
theorem idx7 : ∀ t : Fin cfg0.N, ∀ a : Fin 2, win0_7.index t a = 0 := (by decide +kernel : ∀ t : Fin grid0.N, ∀ a : Fin 2, win0_7.index t a = 0)

theorem emb0 (t : Fin cfg0.N) (y : S1248x1.Idx) : ((cfg0.win 0).blk t).view.emb y = y :=
  funext fun a => Fin.ext (by show win0_0.index t a * S1248x1.size a + 1 * (y a).val = (y a).val; rw [idx0]; omega)
theorem emb1 (t : Fin cfg0.N) (y : S1248x3584.Idx) : ((cfg0.win 1).blk t).view.emb y = y :=
  funext fun a => Fin.ext (by show win0_1.index t a * S1248x3584.size a + 1 * (y a).val = (y a).val; rw [idx1]; omega)
theorem emb2 (t : Fin cfg0.N) (y : S3x3584x10752.Idx) : ((cfg0.win 2).blk t).view.emb y = y :=
  funext fun a => Fin.ext (by show win0_2.index t a * S3x3584x10752.size a + 1 * (y a).val = (y a).val; rw [idx2]; omega)
theorem emb3 (t : Fin cfg0.N) (y : S3x1x10752.Idx) : ((cfg0.win 3).blk t).view.emb y = y :=
  funext fun a => Fin.ext (by show win0_3.index t a * S3x1x10752.size a + 1 * (y a).val = (y a).val; rw [idx3]; omega)
theorem emb4 (t : Fin cfg0.N) (y : S3x1x10752.Idx) : ((cfg0.win 4).blk t).view.emb y = y :=
  funext fun a => Fin.ext (by show win0_4.index t a * S3x1x10752.size a + 1 * (y a).val = (y a).val; rw [idx4]; omega)
theorem emb5 (t : Fin cfg0.N) (y : S1248x3584.Idx) : ((cfg0.win 5).blk t).view.emb y = y :=
  funext fun a => Fin.ext (by show win0_5.index t a * S1248x3584.size a + 1 * (y a).val = (y a).val; rw [idx5]; omega)
theorem emb6 (t : Fin cfg0.N) (y : S1248x3584.Idx) : ((cfg0.win 6).blk t).view.emb y = y :=
  funext fun a => Fin.ext (by show win0_6.index t a * S1248x3584.size a + 1 * (y a).val = (y a).val; rw [idx6]; omega)
theorem emb7 (t : Fin cfg0.N) (y : S1248x3584.Idx) : ((cfg0.win 7).blk t).view.emb y = y :=
  funext fun a => Fin.ext (by show win0_7.index t a * S1248x3584.size a + 1 * (y a).val = (y a).val; rw [idx7]; omega)

theorem blk0 (c : Dev nD) (t : Fin cfg0.N) (y : S1248x1.Idx) : iblk m c 0 t y = typeOf (m ((c : Thread nD τ).loc main_arg0)) (ix1 (y 0)) := by
  show V m c main_v14 (((cfg0.win 0).blk t).view.emb y) = _
  rw [emb0, V_type]
  pointwise
theorem blk1 (c : Dev nD) (t : Fin cfg0.N) (y : S1248x3584.Idx) : iblk m c 1 t y = m ((c : Thread nD τ).loc main_arg1) y := by
  show V m c main_arg1 (((cfg0.win 1).blk t).view.emb y) = _
  rw [emb1, V_main_arg1]
theorem blk2 (c : Dev nD) (t : Fin cfg0.N) (y : S3x3584x10752.Idx) : iblk m c 2 t y = m ((c : Thread nD τ).loc main_arg2) y := by
  show V m c main_arg2 (((cfg0.win 2).blk t).view.emb y) = _
  rw [emb2, V_main_arg2]
theorem blk3 (c : Dev nD) (t : Fin cfg0.N) (y : S3x1x10752.Idx) : iblk m c 3 t y = m ((c : Thread nD τ).loc main_arg3) (ix2 (y 0) (y 2)) := by
  show V m c main_v15 (((cfg0.win 3).blk t).view.emb y) = _
  rw [emb3, V_scale]
  pointwise
theorem blk4 (c : Dev nD) (t : Fin cfg0.N) (y : S3x1x10752.Idx) : iblk m c 4 t y = m ((c : Thread nD τ).loc main_arg4) (ix2 (y 0) (y 2)) := by
  show V m c main_v16 (((cfg0.win 4).blk t).view.emb y) = _
  rw [emb4, V_bias]
  pointwise

/-- The reference's rows, before the cut into results, at the blocks that its body reads. -/
theorem rows_eq (n : Fin 3) (c : Dev nD) (t : Fin cfg0.N) (i : S1248x3584.Idx) (hj : 3584 * n.val + (i 1).val < 10752) :
    k0_pay1 (View.ld (iblk m c 1 t) r0_0) (k0_pay8 (iblk m c 0 t) (iblk m c 1 t) (iblk m c 2 t) (iblk m c 3 t) (iblk m c 4 t))
        (k0_pay9 (iblk m c 0 t) (iblk m c 1 t) (iblk m c 2 t) (iblk m c 3 t) (iblk m c 4 t)) (k0_pay10 (iblk m c 0 t) (iblk m c 1 t) (iblk m c 2 t) (iblk m c 3 t) (iblk m c 4 t)) 1#32
        (View.ld (iblk m c 2 t) r0_6) (View.ld (iblk m c 3 t) r0_7) (View.ld (iblk m c 4 t) r0_7) (ix2 (i 0) ⟨3584 * n.val + (i 1).val, hj⟩)
      = goal n (m ((c : Thread nD τ).loc main_arg0)) (m ((c : Thread nD τ).loc main_arg1)) (m ((c : Thread nD τ).loc main_arg2)) (m ((c : Thread nD τ).loc main_arg3)) (m ((c : Thread nD τ).loc main_arg4)) i := by
  refine (ref_apply (iblk m c 0 t) (iblk m c 1 t) (iblk m c 2 t) (iblk m c 3 t) (iblk m c 4 t) _).trans ?_
  unfold goal
  simp only [blk0, blk1, blk2, blk3, blk4]
  rfl

/-- At the ideal instance rounding to bf16 is the identity. -/
theorem truncf_apply (v : FVec Ideal S1248x3584 .f32) (h) (i : S1248x3584.Idx) : truncf .bf16 v h i = v i := by pointwise

theorem cut5 (c : Dev nD) (t : Fin cfg0.N) (i : S1248x3584.Idx) : k0_pay2 (View.ld (iblk m c 1 t) r0_0) (k0_pay8 (iblk m c 0 t) (iblk m c 1 t) (iblk m c 2 t) (iblk m c 3 t) (iblk m c 4 t))
        (k0_pay9 (iblk m c 0 t) (iblk m c 1 t) (iblk m c 2 t) (iblk m c 3 t) (iblk m c 4 t)) (k0_pay10 (iblk m c 0 t) (iblk m c 1 t) (iblk m c 2 t) (iblk m c 3 t) (iblk m c 4 t)) 1#32
        (View.ld (iblk m c 2 t) r0_6) (View.ld (iblk m c 3 t) r0_7) (View.ld (iblk m c 4 t) r0_7) i
    = goal 0 (m ((c : Thread nD τ).loc main_arg0)) (m ((c : Thread nD τ).loc main_arg1)) (m ((c : Thread nD τ).loc main_arg2)) (m ((c : Thread nD τ).loc main_arg3)) (m ((c : Thread nD τ).loc main_arg4)) i := by
  have hj : 0 + (i 1).val < 10752 := by have : (i 1).val < 3584 := (i 1).isLt; omega
  have e := rows_eq m 0 c t i hj
  generalize goal 0 (m ((c : Thread nD τ).loc main_arg0)) (m ((c : Thread nD τ).loc main_arg1)) (m ((c : Thread nD τ).loc main_arg2)) (m ((c : Thread nD τ).loc main_arg3)) (m ((c : Thread nD τ).loc main_arg4)) i = z at e ⊢
  unfold k0_pay2
  generalize k0_pay1 (View.ld (iblk m c 1 t) r0_0) _ _ _ _ _ _ _ = v at e ⊢

  exact (slice_apply 0 v _ i hj).trans e

theorem out5 (c : Dev nD) (t : Fin cfg0.N) : out0_5 (iblk m c 0 t) (iblk m c 1 t) (iblk m c 2 t) (iblk m c 3 t) (iblk m c 4 t)
    = goal 0 (m ((c : Thread nD τ).loc main_arg0)) (m ((c : Thread nD τ).loc main_arg1)) (m ((c : Thread nD τ).loc main_arg2)) (m ((c : Thread nD τ).loc main_arg3)) (m ((c : Thread nD τ).loc main_arg4)) := by
  unfold out0_5
  exact (View.canon_unit_zero (by decide) _ _).trans (funext fun i => cut5 m c t i)

theorem flush5 : ∀ t : Fin cfg0.N, (cfg0.win 5).flush t = true := (by decide +kernel : ∀ t : Fin grid0.N, win0_5.flush t = true)

/-- Result 0 of the reference. -/
theorem ref5 (c : Dev nD) : (dats m 0 c).arrAt 5 cfg0.N = goal 0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 5 (goal 0 (m ((c : Thread nD τ).loc main_arg0)) (m ((c : Thread nD τ).loc main_arg1)) (m ((c : Thread nD τ).loc main_arg2)) (m ((c : Thread nD τ).loc main_arg3)) (m ((c : Thread nD τ).loc main_arg4))) (fun t _ => ?_) (fun i => ⟨⟨0, by show 0 < grid0.N; rw [N_0]; omega⟩, flush5 _, ?_⟩)
  · rw [Value.flushed5, out5]
    funext y
    exact congrArg (goal 0 (m ((c : Thread nD τ).loc main_arg0)) (m ((c : Thread nD τ).loc main_arg1)) (m ((c : Thread nD τ).loc main_arg2)) (m ((c : Thread nD τ).loc main_arg3)) (m ((c : Thread nD τ).loc main_arg4))) (emb5 t y).symm
  · have e := ((cfg0.win 5).blk ⟨0, by show 0 < grid0.N; rw [N_0]; omega⟩).view.emb_mem_set i
    rwa [emb5] at e

theorem cut6 (c : Dev nD) (t : Fin cfg0.N) (i : S1248x3584.Idx) : k0_pay3 (View.ld (iblk m c 1 t) r0_0) (k0_pay8 (iblk m c 0 t) (iblk m c 1 t) (iblk m c 2 t) (iblk m c 3 t) (iblk m c 4 t))
        (k0_pay9 (iblk m c 0 t) (iblk m c 1 t) (iblk m c 2 t) (iblk m c 3 t) (iblk m c 4 t)) (k0_pay10 (iblk m c 0 t) (iblk m c 1 t) (iblk m c 2 t) (iblk m c 3 t) (iblk m c 4 t)) 1#32
        (View.ld (iblk m c 2 t) r0_6) (View.ld (iblk m c 3 t) r0_7) (View.ld (iblk m c 4 t) r0_7) i
    = goal 1 (m ((c : Thread nD τ).loc main_arg0)) (m ((c : Thread nD τ).loc main_arg1)) (m ((c : Thread nD τ).loc main_arg2)) (m ((c : Thread nD τ).loc main_arg3)) (m ((c : Thread nD τ).loc main_arg4)) i := by
  have hj : 3584 + (i 1).val < 10752 := by have : (i 1).val < 3584 := (i 1).isLt; omega
  have e := rows_eq m 1 c t i hj
  generalize goal 1 (m ((c : Thread nD τ).loc main_arg0)) (m ((c : Thread nD τ).loc main_arg1)) (m ((c : Thread nD τ).loc main_arg2)) (m ((c : Thread nD τ).loc main_arg3)) (m ((c : Thread nD τ).loc main_arg4)) i = z at e ⊢
  unfold k0_pay3
  generalize k0_pay1 (View.ld (iblk m c 1 t) r0_0) _ _ _ _ _ _ _ = v at e ⊢
  refine (truncf_apply _ _ i).trans ?_
  exact (slice_apply 3584 v _ i hj).trans e

theorem out6 (c : Dev nD) (t : Fin cfg0.N) : out0_6 (iblk m c 0 t) (iblk m c 1 t) (iblk m c 2 t) (iblk m c 3 t) (iblk m c 4 t)
    = goal 1 (m ((c : Thread nD τ).loc main_arg0)) (m ((c : Thread nD τ).loc main_arg1)) (m ((c : Thread nD τ).loc main_arg2)) (m ((c : Thread nD τ).loc main_arg3)) (m ((c : Thread nD τ).loc main_arg4)) := by
  unfold out0_6
  exact (View.canon_unit_zero (by decide) _ _).trans (funext fun i => cut6 m c t i)

theorem flush6 : ∀ t : Fin cfg0.N, (cfg0.win 6).flush t = true := (by decide +kernel : ∀ t : Fin grid0.N, win0_6.flush t = true)

/-- Result 1 of the reference. -/
theorem ref6 (c : Dev nD) : (dats m 0 c).arrAt 6 cfg0.N = goal 1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 6 (goal 1 (m ((c : Thread nD τ).loc main_arg0)) (m ((c : Thread nD τ).loc main_arg1)) (m ((c : Thread nD τ).loc main_arg2)) (m ((c : Thread nD τ).loc main_arg3)) (m ((c : Thread nD τ).loc main_arg4))) (fun t _ => ?_) (fun i => ⟨⟨0, by show 0 < grid0.N; rw [N_0]; omega⟩, flush6 _, ?_⟩)
  · rw [Value.flushed6, out6]
    funext y
    exact congrArg (goal 1 (m ((c : Thread nD τ).loc main_arg0)) (m ((c : Thread nD τ).loc main_arg1)) (m ((c : Thread nD τ).loc main_arg2)) (m ((c : Thread nD τ).loc main_arg3)) (m ((c : Thread nD τ).loc main_arg4))) (emb6 t y).symm
  · have e := ((cfg0.win 6).blk ⟨0, by show 0 < grid0.N; rw [N_0]; omega⟩).view.emb_mem_set i
    rwa [emb6] at e

theorem cut7 (c : Dev nD) (t : Fin cfg0.N) (i : S1248x3584.Idx) : k0_pay4 (View.ld (iblk m c 1 t) r0_0) (k0_pay8 (iblk m c 0 t) (iblk m c 1 t) (iblk m c 2 t) (iblk m c 3 t) (iblk m c 4 t))
        (k0_pay9 (iblk m c 0 t) (iblk m c 1 t) (iblk m c 2 t) (iblk m c 3 t) (iblk m c 4 t)) (k0_pay10 (iblk m c 0 t) (iblk m c 1 t) (iblk m c 2 t) (iblk m c 3 t) (iblk m c 4 t)) 1#32
        (View.ld (iblk m c 2 t) r0_6) (View.ld (iblk m c 3 t) r0_7) (View.ld (iblk m c 4 t) r0_7) i
    = goal 2 (m ((c : Thread nD τ).loc main_arg0)) (m ((c : Thread nD τ).loc main_arg1)) (m ((c : Thread nD τ).loc main_arg2)) (m ((c : Thread nD τ).loc main_arg3)) (m ((c : Thread nD τ).loc main_arg4)) i := by
  have hj : 7168 + (i 1).val < 10752 := by have : (i 1).val < 3584 := (i 1).isLt; omega
  have e := rows_eq m 2 c t i hj
  generalize goal 2 (m ((c : Thread nD τ).loc main_arg0)) (m ((c : Thread nD τ).loc main_arg1)) (m ((c : Thread nD τ).loc main_arg2)) (m ((c : Thread nD τ).loc main_arg3)) (m ((c : Thread nD τ).loc main_arg4)) i = z at e ⊢
  unfold k0_pay4
  generalize k0_pay1 (View.ld (iblk m c 1 t) r0_0) _ _ _ _ _ _ _ = v at e ⊢
  refine (truncf_apply _ _ i).trans ?_
  exact (slice_apply 7168 v _ i hj).trans e

theorem out7 (c : Dev nD) (t : Fin cfg0.N) : out0_7 (iblk m c 0 t) (iblk m c 1 t) (iblk m c 2 t) (iblk m c 3 t) (iblk m c 4 t)
    = goal 2 (m ((c : Thread nD τ).loc main_arg0)) (m ((c : Thread nD τ).loc main_arg1)) (m ((c : Thread nD τ).loc main_arg2)) (m ((c : Thread nD τ).loc main_arg3)) (m ((c : Thread nD τ).loc main_arg4)) := by
  unfold out0_7
  exact (View.canon_unit_zero (by decide) _ _).trans (funext fun i => cut7 m c t i)

theorem flush7 : ∀ t : Fin cfg0.N, (cfg0.win 7).flush t = true := (by decide +kernel : ∀ t : Fin grid0.N, win0_7.flush t = true)

/-- Result 2 of the reference. -/
theorem ref7 (c : Dev nD) : (dats m 0 c).arrAt 7 cfg0.N = goal 2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 7 (goal 2 (m ((c : Thread nD τ).loc main_arg0)) (m ((c : Thread nD τ).loc main_arg1)) (m ((c : Thread nD τ).loc main_arg2)) (m ((c : Thread nD τ).loc main_arg3)) (m ((c : Thread nD τ).loc main_arg4))) (fun t _ => ?_) (fun i => ⟨⟨0, by show 0 < grid0.N; rw [N_0]; omega⟩, flush7 _, ?_⟩)
  · rw [Value.flushed7, out7]
    funext y
    exact congrArg (goal 2 (m ((c : Thread nD τ).loc main_arg0)) (m ((c : Thread nD τ).loc main_arg1)) (m ((c : Thread nD τ).loc main_arg2)) (m ((c : Thread nD τ).loc main_arg3)) (m ((c : Thread nD τ).loc main_arg4))) (emb7 t y).symm
  · have e := ((cfg0.win 7).blk ⟨0, by show 0 < grid0.N; rw [N_0]; omega⟩).view.emb_mem_set i
    rwa [emb7] at e

end Cert.QkvEq

end
-- ==== Proof.QkvIdealValue.lean ====
/-
  The value of the kernel `QkvIdeal`: each of its three results is the same function of the arguments as the reference's
  (`goal`). A grid point writes one block of 512 columns of one result, and the blocks cover the results.
-/
module

public import proofs.«01_k».proof.Proof.QkvKerValue
public import proofs.«01_k».proof.Proof.QkvRefValue

@[expose] public section

set_option maxRecDepth 16384

noncomputable section

namespace Cert.QkvEq.Ker

open Idealize.ShloMosaic Idealize.ShloMosaic.TcCoe
open Cert.QkvIdeal Cert.QkvIdeal.Gen Cert.QkvIdeal.Hand

variable (m : (ℓ : Loc nD τ sig) → Buf (Elt Ideal) ℓ)

/-! ## Where each window's blocks lie -/

theorem idx0 : ∀ t : Fin cfg0.N, ∀ a : Fin 1, win0_0.index t a = 0 := (by decide +kernel : ∀ t : Fin grid0.N, ∀ a : Fin 1, win0_0.index t a = 0)
theorem idx1 : ∀ t : Fin cfg0.N, ∀ a : Fin 2, win0_1.index t a = 0 := (by decide +kernel : ∀ t : Fin grid0.N, ∀ a : Fin 2, win0_1.index t a = 0)
theorem idx2 : ∀ t : Fin cfg0.N, win0_2.index t 0 = 0 ∧ win0_2.index t 1 = 0 ∧ win0_2.index t 2 = t.val := (by decide +kernel : ∀ t : Fin grid0.N, win0_2.index t 0 = 0 ∧ win0_2.index t 1 = 0 ∧ win0_2.index t 2 = t.val)
theorem idx3 : ∀ t : Fin cfg0.N, win0_3.index t 0 = 0 ∧ win0_3.index t 1 = 0 ∧ win0_3.index t 2 = t.val := (by decide +kernel : ∀ t : Fin grid0.N, win0_3.index t 0 = 0 ∧ win0_3.index t 1 = 0 ∧ win0_3.index t 2 = t.val)
theorem idx4 : ∀ t : Fin cfg0.N, win0_4.index t 0 = 0 ∧ win0_4.index t 1 = 0 ∧ win0_4.index t 2 = t.val := (by decide +kernel : ∀ t : Fin grid0.N, win0_4.index t 0 = 0 ∧ win0_4.index t 1 = 0 ∧ win0_4.index t 2 = t.val)
theorem idx5 : ∀ t : Fin cfg0.N, win0_5.index t 0 = 0 ∧ win0_5.index t 1 = (pq t).val := (by decide +kernel : ∀ t : Fin grid0.N, win0_5.index t 0 = 0 ∧ win0_5.index t 1 = min t.val 6)
theorem idx6 : ∀ t : Fin cfg0.N, win0_6.index t 0 = 0 ∧ win0_6.index t 1 + 7 = (pk t).val := (by decide +kernel : ∀ t : Fin grid0.N, win0_6.index t 0 = 0 ∧ win0_6.index t 1 + 7 = max 7 (min t.val 13))
theorem idx7 : ∀ t : Fin cfg0.N, win0_7.index t 0 = 0 ∧ win0_7.index t 1 + 14 = (pv t).val := (by decide +kernel : ∀ t : Fin grid0.N, win0_7.index t 0 = 0 ∧ win0_7.index t 1 + 14 = max 14 t.val)

theorem col_lt (t : Fin cfg0.N) (j : Fin 512) : 512 * t.val + j.val < 10752 := by have := t.isLt; have := N_eq; omega

theorem emb0 (t : Fin cfg0.N) (y : S13.Idx) : ((cfg0.win 0).blk t).view.emb y = y :=
  funext fun a => Fin.ext (by show win0_0.index t a * S13.size a + 1 * (y a).val = (y a).val; rw [idx0]; omega)
theorem emb1 (t : Fin cfg0.N) (y : S1248x3584.Idx) : ((cfg0.win 1).blk t).view.emb y = y :=
  funext fun a => Fin.ext (by show win0_1.index t a * S1248x3584.size a + 1 * (y a).val = (y a).val; rw [idx1]; omega)
theorem emb2 (t : Fin cfg0.N) (p : Fin 3) (k : Fin 3584) (j : Fin 512) : ((cfg0.win 2).blk t).view.emb (ix3 p k j : S3x3584x512.Idx) = (ix3 p k ⟨512 * t.val + j.val, col_lt t j⟩ : S3x3584x10752.Idx) := by
  obtain ⟨h0, h1, h2⟩ := idx2 t
  refine funext fun a => Fin.ext ?_
  match a with
  | ⟨0, _⟩ => show win0_2.index t 0 * 3 + 1 * p.val = p.val; omega
  | ⟨1, _⟩ => show win0_2.index t 1 * 3584 + 1 * k.val = k.val; omega
  | ⟨2, _⟩ => show win0_2.index t 2 * 512 + 1 * j.val = 512 * t.val + j.val; omega
theorem emb3 (t : Fin cfg0.N) (p : Fin 3) (j : Fin 512) : ((cfg0.win 3).blk t).view.emb (ix3 p 0 j : S3x1x512.Idx) = (ix3 p 0 ⟨512 * t.val + j.val, col_lt t j⟩ : S3x1x10752.Idx) := by
  obtain ⟨h0, h1, h2⟩ := idx3 t
  refine funext fun a => Fin.ext ?_
  match a with
  | ⟨0, _⟩ => show win0_3.index t 0 * 3 + 1 * p.val = p.val; omega
  | ⟨1, _⟩ => show win0_3.index t 1 * 1 + 1 * 0 = 0; omega
  | ⟨2, _⟩ => show win0_3.index t 2 * 512 + 1 * j.val = 512 * t.val + j.val; omega
theorem emb4 (t : Fin cfg0.N) (p : Fin 3) (j : Fin 512) : ((cfg0.win 4).blk t).view.emb (ix3 p 0 j : S3x1x512.Idx) = (ix3 p 0 ⟨512 * t.val + j.val, col_lt t j⟩ : S3x1x10752.Idx) := by
  obtain ⟨h0, h1, h2⟩ := idx4 t
  refine funext fun a => Fin.ext ?_
  match a with
  | ⟨0, _⟩ => show win0_4.index t 0 * 3 + 1 * p.val = p.val; omega
  | ⟨1, _⟩ => show win0_4.index t 1 * 1 + 1 * 0 = 0; omega
  | ⟨2, _⟩ => show win0_4.index t 2 * 512 + 1 * j.val = 512 * t.val + j.val; omega

/-! ## What each block holds -/

theorem blk0 (c : Dev nD) (t : Fin cfg0.N) (y : S13.Idx) : iblk m c 0 t y = ctypeOf (m ((c : Thread nD τ).loc main_arg0)) y := by
  show V m c main_v20 (((cfg0.win 0).blk t).view.emb y) = _
  rw [emb0, V_ctype]
theorem blk1 (c : Dev nD) (t : Fin cfg0.N) (y : S1248x3584.Idx) : iblk m c 1 t y = m ((c : Thread nD τ).loc main_arg1) y := by
  show V m c main_arg1 (((cfg0.win 1).blk t).view.emb y) = _
  rw [emb1, V_main_arg1]
theorem blk2 (c : Dev nD) (t : Fin cfg0.N) (p : Fin 3) (k : Fin 3584) (j : Fin 512) : iblk m c 2 t (ix3 p k j) = m ((c : Thread nD τ).loc main_arg2) (ix3 p k ⟨512 * t.val + j.val, col_lt t j⟩) := by
  show V m c main_arg2 (((cfg0.win 2).blk t).view.emb _) = _
  rw [emb2, V_main_arg2]
theorem blk3 (c : Dev nD) (t : Fin cfg0.N) (p : Fin 3) (j : Fin 512) : iblk m c 3 t (ix3 p 0 j) = m ((c : Thread nD τ).loc main_arg3) (ix2 p ⟨512 * t.val + j.val, col_lt t j⟩) := by
  show V m c main_v21 (((cfg0.win 3).blk t).view.emb _) = _
  rw [emb3, V_scale]
  pointwise
theorem blk4 (c : Dev nD) (t : Fin cfg0.N) (p : Fin 3) (j : Fin 512) : iblk m c 4 t (ix3 p 0 j) = m ((c : Thread nD τ).loc main_arg4) (ix2 p ⟨512 * t.val + j.val, col_lt t j⟩) := by
  show V m c main_v22 (((cfg0.win 4).blk t).view.emb _) = _
  rw [emb4, V_bias]
  pointwise

/-- A chunk's word picks what its row's type picks: it is the type, or -1 in place of a number that is no type. -/
theorem pick_word (R : BitVec 32) (y : Fin 3 → EReal) : pick (if BitVec.ofBool (R.slt 3#32) = 1#1 then R else 4294967295#32) y = pick R y := by
  split
  · rfl
  · rename_i h
    refine (pick_none _ (by decide) _).trans (pick_none _ (fun t ht => h ?_) _).symm
    subst ht
    revert t; decide

/-- One element of a block, as one of the result: column `j` of the block at grid point `t` is column `512 t + j` of the
    three results side by side. -/
theorem elem_eq (n : Fin 3) (c : Dev nD) (t : Fin cfg0.N) (y : S1248x512.Idx) (i : S1248x3584.Idx) (h0 : (i 0).val = (y 0).val)
    (h1 : 3584 * n.val + (i 1).val = 512 * t.val + (y 1).val) :
    elem (iblk m c 0 t) (iblk m c 1 t) (iblk m c 2 t) (iblk m c 3 t) (iblk m c 4 t) y = goal n (m ((c : Thread nD τ).loc main_arg0)) (m ((c : Thread nD τ).loc main_arg1)) (m ((c : Thread nD τ).loc main_arg2)) (m ((c : Thread nD τ).loc main_arg3)) (m ((c : Thread nD τ).loc main_arg4)) i := by
  have e0 : i 0 = y 0 := Fin.ext h0
  unfold goal elem
  have hw : wordAt (iblk m c 0 t) ((y 0).val / 96) (chunk_lt y) = (if BitVec.ofBool ((Cert.QkvRefIdeal.Hand.typeOf (m ((c : Thread nD τ).loc main_arg0)) (ix1 (i 0))).slt 3#32) = 1#1 then Cert.QkvRefIdeal.Hand.typeOf (m ((c : Thread nD τ).loc main_arg0)) (ix1 (i 0)) else 4294967295#32) := by
    refine (blk0 m c t _).trans ?_
    rw [e0]
    refine Eq.trans ?_ (congrArg (fun R : BitVec 32 => if BitVec.ofBool (R.slt 3#32) = 1#1 then R else 4294967295#32) (rank_eq _ (y 0)).symm)
    rfl
  rw [hw, pick_word]
  refine congrArg (pick _) (funext fun p => ?_)
  refine lin_congr (funext fun k => ?_) (funext fun k => ?_) ?_ ?_
  · rw [e0]; exact blk1 m c t _
  · exact (blk2 m c t p k (y 1)).trans (congrArg (fun j => m ((c : Thread nD τ).loc main_arg2) (ix3 p k j)) (Fin.ext h1.symm))
  · exact (blk3 m c t p (y 1)).trans (congrArg (fun j => m ((c : Thread nD τ).loc main_arg3) (ix2 p j)) (Fin.ext h1.symm))
  · exact (blk4 m c t p (y 1)).trans (congrArg (fun j => m ((c : Thread nD τ).loc main_arg4) (ix2 p j)) (Fin.ext h1.symm))

/-! ## Result 0 -/

theorem col5 (t : Fin cfg0.N) : 512 * win0_5.index t 1 + 0 = 512 * (pq t).val := by have := (idx5 t).2; omega

theorem emb5_0 (t : Fin cfg0.N) (y : S1248x512.Idx) : ((((cfg0.win 5).blk t).view.emb y : S1248x3584.Idx) 0).val = (y 0).val := by
  show win0_5.index t 0 * 1248 + 1 * (y 0).val = (y 0).val
  rw [(idx5 t).1]; omega
theorem emb5_1 (t : Fin cfg0.N) (y : S1248x512.Idx) : ((((cfg0.win 5).blk t).view.emb y : S1248x3584.Idx) 1).val = 512 * win0_5.index t 1 + (y 1).val := by
  show win0_5.index t 1 * 512 + 1 * (y 1).val = _
  omega

theorem flushed5 (c : Dev nD) (t : Fin cfg0.N) (y : S1248x512.Idx) : (dats m 0 c).flushed 5 t y = goal 0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  show (dats m 0 c).after 5 t y = _
  rw [after0_5]
  refine (tgt_q _ _ _ _ _ _ y).trans ?_
  refine elem_eq m 0 c (pq t) y _ (emb5_0 t y) ?_
  rw [emb5_1]
  have := col5 t
  show 3584 * 0 + _ = _
  omega

theorem flat5 (c : Dev nD) : (dats m 0 c).arrAt 5 cfg0.N = goal 0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 5 (goal 0 (m ((c : Thread nD τ).loc main_arg0)) (m ((c : Thread nD τ).loc main_arg1)) (m ((c : Thread nD τ).loc main_arg2)) (m ((c : Thread nD τ).loc main_arg3)) (m ((c : Thread nD τ).loc main_arg4))) (fun t _ => funext fun y => flushed5 m c t y) (fun i => ?_)
  have h1 : (i 1).val < 3584 := (i 1).isLt
  have h0 : (i 0).val < 1248 := (i 0).isLt
  have hN := N_eq
  have hp : (if (i 1).val / 512 = 6 then 20 else 0 + (i 1).val / 512) < cfg0.N := by split <;> omega
  refine ⟨⟨_, hp⟩, ?_, ?_⟩
  · rw [flush_q]; refine decide_eq_true ?_
    dsimp only
    split <;> omega
  · have e := ((cfg0.win 5).blk ⟨_, hp⟩).view.emb_mem_set (ix2 ⟨(i 0).val, h0⟩ ⟨(i 1).val % 512, by omega⟩ : S1248x512.Idx)
    convert e using 1
    refine funext fun a => Fin.ext ?_
    match a with
    | ⟨0, _⟩ => exact (emb5_0 _ (ix2 ⟨(i 0).val, h0⟩ ⟨(i 1).val % 512, Nat.mod_lt _ (by omega)⟩)).symm
    | ⟨1, _⟩ =>
      refine Eq.trans ?_ (emb5_1 _ _).symm
      have h2 := (idx5 ⟨_, hp⟩).2
      have h3 : (pq ⟨_, hp⟩).val = 0 + (i 1).val / 512 := by
        unfold pq; dsimp only
        split <;> omega
      rw [h3] at h2
      show (i 1).val = 512 * _ + (i 1).val % 512
      omega

/-! ## Result 1 -/

theorem col6 (t : Fin cfg0.N) : 512 * win0_6.index t 1 + 3584 = 512 * (pk t).val := by have := (idx6 t).2; omega

theorem emb6_0 (t : Fin cfg0.N) (y : S1248x512.Idx) : ((((cfg0.win 6).blk t).view.emb y : S1248x3584.Idx) 0).val = (y 0).val := by
  show win0_6.index t 0 * 1248 + 1 * (y 0).val = (y 0).val
  rw [(idx6 t).1]; omega
theorem emb6_1 (t : Fin cfg0.N) (y : S1248x512.Idx) : ((((cfg0.win 6).blk t).view.emb y : S1248x3584.Idx) 1).val = 512 * win0_6.index t 1 + (y 1).val := by
  show win0_6.index t 1 * 512 + 1 * (y 1).val = _
  omega

theorem flushed6 (c : Dev nD) (t : Fin cfg0.N) (y : S1248x512.Idx) : (dats m 0 c).flushed 6 t y = goal 1 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  show (dats m 0 c).after 6 t y = _
  rw [after0_6]
  refine (tgt_k _ _ _ _ _ _ y).trans ?_
  refine elem_eq m 1 c (pk t) y _ (emb6_0 t y) ?_
  rw [emb6_1]
  have := col6 t
  show 3584 * 1 + _ = _
  omega

theorem flat6 (c : Dev nD) : (dats m 0 c).arrAt 6 cfg0.N = goal 1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 6 (goal 1 (m ((c : Thread nD τ).loc main_arg0)) (m ((c : Thread nD τ).loc main_arg1)) (m ((c : Thread nD τ).loc main_arg2)) (m ((c : Thread nD τ).loc main_arg3)) (m ((c : Thread nD τ).loc main_arg4))) (fun t _ => funext fun y => flushed6 m c t y) (fun i => ?_)
  have h1 : (i 1).val < 3584 := (i 1).isLt
  have h0 : (i 0).val < 1248 := (i 0).isLt
  have hN := N_eq
  have hp : (if (i 1).val / 512 = 6 then 20 else 7 + (i 1).val / 512) < cfg0.N := by split <;> omega
  refine ⟨⟨_, hp⟩, ?_, ?_⟩
  · rw [flush_k]; refine decide_eq_true ?_
    dsimp only
    split <;> omega
  · have e := ((cfg0.win 6).blk ⟨_, hp⟩).view.emb_mem_set (ix2 ⟨(i 0).val, h0⟩ ⟨(i 1).val % 512, by omega⟩ : S1248x512.Idx)
    convert e using 1
    refine funext fun a => Fin.ext ?_
    match a with
    | ⟨0, _⟩ => exact (emb6_0 _ (ix2 ⟨(i 0).val, h0⟩ ⟨(i 1).val % 512, Nat.mod_lt _ (by omega)⟩)).symm
    | ⟨1, _⟩ =>
      refine Eq.trans ?_ (emb6_1 _ _).symm
      have h2 := (idx6 ⟨_, hp⟩).2
      have h3 : (pk ⟨_, hp⟩).val = 7 + (i 1).val / 512 := by
        unfold pk; dsimp only
        split <;> omega
      rw [h3] at h2
      show (i 1).val = 512 * _ + (i 1).val % 512
      omega

/-! ## Result 2 -/

theorem col7 (t : Fin cfg0.N) : 512 * win0_7.index t 1 + 7168 = 512 * (pv t).val := by have := (idx7 t).2; omega

theorem emb7_0 (t : Fin cfg0.N) (y : S1248x512.Idx) : ((((cfg0.win 7).blk t).view.emb y : S1248x3584.Idx) 0).val = (y 0).val := by
  show win0_7.index t 0 * 1248 + 1 * (y 0).val = (y 0).val
  rw [(idx7 t).1]; omega
theorem emb7_1 (t : Fin cfg0.N) (y : S1248x512.Idx) : ((((cfg0.win 7).blk t).view.emb y : S1248x3584.Idx) 1).val = 512 * win0_7.index t 1 + (y 1).val := by
  show win0_7.index t 1 * 512 + 1 * (y 1).val = _
  omega

theorem flushed7 (c : Dev nD) (t : Fin cfg0.N) (y : S1248x512.Idx) : (dats m 0 c).flushed 7 t y = goal 2 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  show (dats m 0 c).after 7 t y = _
  rw [after0_7]
  refine (tgt_v _ _ _ _ _ _ y).trans ?_
  refine elem_eq m 2 c (pv t) y _ (emb7_0 t y) ?_
  rw [emb7_1]
  have := col7 t
  show 3584 * 2 + _ = _
  omega

theorem flat7 (c : Dev nD) : (dats m 0 c).arrAt 7 cfg0.N = goal 2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 7 (goal 2 (m ((c : Thread nD τ).loc main_arg0)) (m ((c : Thread nD τ).loc main_arg1)) (m ((c : Thread nD τ).loc main_arg2)) (m ((c : Thread nD τ).loc main_arg3)) (m ((c : Thread nD τ).loc main_arg4))) (fun t _ => funext fun y => flushed7 m c t y) (fun i => ?_)
  have h1 : (i 1).val < 3584 := (i 1).isLt
  have h0 : (i 0).val < 1248 := (i 0).isLt
  have hN := N_eq
  refine ⟨⟨14 + (i 1).val / 512, by show _ < cfg0.N; omega⟩, ?_, ?_⟩
  · rw [flush_v]; exact decide_eq_true (by show 14 ≤ 14 + (i 1).val / 512; omega)
  · have e := ((cfg0.win 7).blk ⟨14 + (i 1).val / 512, by show _ < cfg0.N; omega⟩).view.emb_mem_set (ix2 ⟨(i 0).val, h0⟩ ⟨(i 1).val % 512, by omega⟩ : S1248x512.Idx)
    convert e using 1
    refine funext fun a => Fin.ext ?_
    match a with
    | ⟨0, _⟩ => exact (emb7_0 _ (ix2 ⟨(i 0).val, h0⟩ ⟨(i 1).val % 512, Nat.mod_lt _ (by omega)⟩)).symm
    | ⟨1, _⟩ =>
      refine Eq.trans ?_ (emb7_1 _ _).symm
      have h2 := (idx7 ⟨_, by show 14 + (i 1).val / 512 < cfg0.N; omega⟩).2
      have h3 : (pv ⟨_, by show 14 + (i 1).val / 512 < cfg0.N; omega⟩).val = 14 + (i 1).val / 512 := by
        unfold pv; dsimp only
        omega
      rw [h3] at h2
      show (i 1).val = 512 * _ + (i 1).val % 512
      omega

end Cert.QkvEq.Ker

end
-- ==== Proof.QkvClaim.lean ====
/-
  The kernel `QkvIdeal` and the reference `QkvRefIdeal` compute the same three arrays.
-/
module

public import proofs.«01_k».proof.Defs
public import proofs.«01_k».proof.Proof.Gen.QkvIdeal
public import proofs.«01_k».proof.Proof.Gen.QkvRefIdeal
public import proofs.«01_k».proof.Proof.QkvIdealValue

@[expose] public section

noncomputable section

namespace Cert.QkvEq

open Idealize.ShloMosaic Idealize.ShloMosaic.TcCoe Idealize.SL.Sem

namespace Ker

open Cert.QkvIdeal Cert.QkvIdeal.Gen Cert.QkvIdeal.Hand

variable (m : (ℓ : Loc nD τ sig) → Buf (Elt Ideal) ℓ) (ρ : Dev nD → PrngReg)

/-- The kernel's run: its three results are `goal`, its arguments are as they were. -/
theorem run : θ_run (defs (F := Ideal)) (onTc (τ := τ) (main (F := Ideal))) ⟨m, fun _ => 0, ρ⟩ fun r => ∀ c : Dev nD,
      r.2.mem ((c : Thread nD τ).loc main_v23_0) = goal 0 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v23_1) = goal 1 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v23_2) = goal 2 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (flat5 m c), ((h c).1 6).trans (flat6 m c), ((h c).1 7).trans (flat7 m c),
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m ρ)

end Ker

/-- The claim: from the same arguments both programs end with the same three arrays. -/
theorem algebraic : @Cert.algebraic_QkvIdeal_QkvRefIdeal Cert.QkvIdeal.Gen.facts Cert.QkvRefIdeal.Gen.facts := by
  intro m g m' g' _ hm
  refine ⟨_, _, _, Ker.run m g, (θ_run _ _ _).mono (fun r h c => ?_) (Cert.QkvRefIdeal.Value.run_blocks m' g')⟩
  obtain ⟨h0, h1, h2, ha⟩ := h c
  obtain ⟨e0, e1, e2, e3, e4⟩ := hm c
  have f0 := h0.trans (ref5 m' c)
  have f1 := h1.trans (ref6 m' c)
  have f2 := h2.trans (ref7 m' c)
  refine ⟨f0.trans ?_, f1.trans ?_, f2.trans ?_, ha⟩
  · exact congr (congr (congr (congr (congrArg (goal 0) e0) e1) e2) e3) e4
  · exact congr (congr (congr (congr (congrArg (goal 1) e0) e1) e2) e3) e4
  · exact congr (congr (congr (congr (congrArg (goal 2) e0) e1) e2) e3) e4

end Cert.QkvEq

end
-- ==== Proof.OutChunk.lean ====
/-
  One chunk of 96 rows of the output projection's first phase, for the program `Out`: the chunk's program as one definition
  with what follows it as an argument, and the rule that runs it, whatever the chunk's type and whatever the scratch holds.
-/
module

public import proofs.«01_k».proof.Proof.Gen.Out.Frame
public import proofs.«01_k».proof.Proof.Gen.Out.Skeleton
public import Idealize.ShloMosaic.Lib.WritesUnit
public import Idealize.ShloMosaic.Lib.WholeRead
public import Idealize.ShloMosaic.Lib.ValueIdx

@[expose] public section

set_option maxRecDepth 16384

noncomputable section

namespace Cert.Out.Hand

open Cert.Out Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the word of a chunk is a type, as the body tests it. -/
abbrev isType (v : BitVec 32) : BitVec 1 := k0_cond1 v

theorem rowsX_inb {c : ℕ} (hc : c < 13) : ∀ a, (![96 * c, 0] : Fin 2 → ℕ) a + S96x3584.size a ≤ S1248x3584.size a :=
  Rect.inb₂ (by show 96 * c + 96 ≤ 1248; omega) (Nat.le_refl _)
theorem rowsP_inb (j : ℕ) (hj : j < 4) {c : ℕ} (hc : c < 13) : ∀ a, (![j, 96 * c, 0] : Fin 3 → ℕ) a + S1x96x128.size a ≤ S4x1248x128.size a := by
  intro a
  fin_cases a
  · show j + 1 ≤ 4; omega
  · show 96 * c + 96 ≤ 1248; omega
  · show 0 + 128 ≤ 128; omega
theorem word_inb {c : ℕ} (hc : c < 13) : ∀ a, (![c] : Fin 1 → ℕ) a + S1.size a ≤ S13.size a :=
  Rect.inb₁ (by show c + 1 ≤ 13; omega)

/-- Chunk `c`'s program once its word `v` is read, `kk` after it: where the word is a type, store the projection of the
    chunk's rows by that type's weights into the chunk's rows of the four planes. -/
def chunkRest {α : Type} (v : BitVec 32) (hv : k0_chk1 v)
    (arg5 : Memref sig .tc .vmem S1248x3584 .bf16) (arg6 : Memref sig .tc .vmem S3x3584x512 .fp8e4m3)
    (arg7 arg8 : Memref sig .tc .vmem S3x1x512 .f32) (arg11 : Memref sig .tc .vmem S4x1248x128 .f32) (c : ℕ) (hc : c < 13)
    (kk : PUnit.{1} → Prog (TpuEff nD τ sig (Elt F) Λ₀ .tc) α) : Prog (TpuEff nD τ sig (Elt F) Λ₀ .tc) α := do
  if h : isType v = 1#1 then do
    let v87 : Vec F S96x3584 .bf16 ← Prog.lift (.load arg5 (Rect.unit (s := S1248x3584) ![96 * c, 0] S96x3584.size (rowsX_inb hc)).toLoadRect (View.loadsAt_vmem h_S96x3584))
    let v89 : Vec F S1x3584x512 .fp8e4m3 ← Prog.lift (.load arg6 (Rect.unit (s := S3x3584x512) (k0_off1 v) S1x3584x512.size (k0_off1_inb v hv h)).toLoadRect (View.loadsAt_vmem h_S1x3584x512))
    let v93 : Vec F S1x1x512 .f32 ← Prog.lift (.load arg7 (Rect.unit (s := S3x1x512) (k0_off2 v) S1x1x512.size (k0_off2_inb v hv h)).toLoadRect (View.loadsAt_vmem h_S1x1x512))
    let v98 : Vec F S1x1x512 .f32 ← Prog.lift (.load arg8 (Rect.unit (s := S3x1x512) (k0_off2 v) S1x1x512.size (k0_off2_inb v hv h)).toLoadRect (View.loadsAt_vmem h_S1x1x512))
    let _ ← Prog.lift (.load arg11 (Rect.unit (s := S4x1248x128) ![0, 96 * c, 0] S1x96x128.size (rowsP_inb 0 (by omega) hc)).toLoadRect (View.loadsAt_vmem h_S1x96x128) : TpuEff nD τ sig (Elt F) Λ₀ .tc (Vec F S1x96x128 .f32))
    Prog.lift (.store arg11 (Rect.unit (s := S4x1248x128) ![0, 96 * c, 0] S1x96x128.size (rowsP_inb 0 (by omega) hc)) (k0_pay20 v87 v89 v93 v98) Finset.univ (View.stores_vmem_bits_univ h_S1x96x128 rfl) (.inl rfl))
    let _ ← Prog.lift (.load arg11 (Rect.unit (s := S4x1248x128) ![1, 96 * c, 0] S1x96x128.size (rowsP_inb 1 (by omega) hc)).toLoadRect (View.loadsAt_vmem h_S1x96x128) : TpuEff nD τ sig (Elt F) Λ₀ .tc (Vec F S1x96x128 .f32))
    Prog.lift (.store arg11 (Rect.unit (s := S4x1248x128) ![1, 96 * c, 0] S1x96x128.size (rowsP_inb 1 (by omega) hc)) (k0_pay21 v87 v89 v93 v98) Finset.univ (View.stores_vmem_bits_univ h_S1x96x128 rfl) (.inl rfl))
    let _ ← Prog.lift (.load arg11 (Rect.unit (s := S4x1248x128) ![2, 96 * c, 0] S1x96x128.size (rowsP_inb 2 (by omega) hc)).toLoadRect (View.loadsAt_vmem h_S1x96x128) : TpuEff nD τ sig (Elt F) Λ₀ .tc (Vec F S1x96x128 .f32))
    Prog.lift (.store arg11 (Rect.unit (s := S4x1248x128) ![2, 96 * c, 0] S1x96x128.size (rowsP_inb 2 (by omega) hc)) (k0_pay22 v87 v89 v93 v98) Finset.univ (View.stores_vmem_bits_univ h_S1x96x128 rfl) (.inl rfl))
    let _ ← Prog.lift (.load arg11 (Rect.unit (s := S4x1248x128) ![3, 96 * c, 0] S1x96x128.size (rowsP_inb 3 (by omega) hc)).toLoadRect (View.loadsAt_vmem h_S1x96x128) : TpuEff nD τ sig (Elt F) Λ₀ .tc (Vec F S1x96x128 .f32))
    Prog.lift (.store arg11 (Rect.unit (s := S4x1248x128) ![3, 96 * c, 0] S1x96x128.size (rowsP_inb 3 (by omega) hc)) (k0_pay23 v87 v89 v93 v98) Finset.univ (View.stores_vmem_bits_univ h_S1x96x128 rfl) (.inl rfl))
    pure ⟨⟩
  else do
    pure ⟨⟩
  kk ⟨⟩

/-- Chunk `c`'s word, read and assumed to be in range, and handed on. -/
def readWord {α : Type} (arg1 : Memref sig .tc .smem S13 .i32) (c : ℕ) (hc : c < 13)
    (kk : (v : BitVec 32) → k0_chk1 v → Prog (TpuEff nD τ sig (Elt F) Λ₀ .tc) α) : Prog (TpuEff nD τ sig (Elt F) Λ₀ .tc) α := do
  let v : Elt F .i32 ← smemLoad arg1 (Rect.unit (s := S13) ![c] S1.size (word_inb hc)) numel1_S1 rfl
  have k0_hw1 : k0_chk1 v := (← Prog.lift (TpuEff.assume (k0_chk1 v) (k0_chk1.dec v))).down
  kk v k0_hw1

/-- Chunk `c`'s word of the chunk table. -/
abbrev wordAt (x1 : Vec F S13 .i32) (c : ℕ) (hc : c < 13) : BitVec 32 := x1 (ValueIdx.ix1 (n := 13) ⟨c, hc⟩)

/-- The four planes with rows `96 c` to `96 c + 95` replaced by `B`, plane by plane. -/
def putPlanes (P : Vec F S4x1248x128 .f32) (c : ℕ) (B : Fin 4 → Vec F S1x96x128 .f32) : Vec F S4x1248x128 .f32 := fun i =>
  if h : 96 * c ≤ (i 1).val ∧ (i 1).val < 96 * c + 96 then
    B (i 0) (ValueIdx.ix3 (n0 := 1) (n1 := 96) (n2 := 128) 0 ⟨(i 1).val - 96 * c, by omega⟩ (i 2))
  else P i

/-- The planes' rows of a chunk, of its 96 rows of `g` and its type's weights, scale and bias. -/
def planeRows (v87 : Vec F S96x3584 .bf16) (v89 : Vec F S1x3584x512 .fp8e4m3) (v93 v98 : Vec F S1x1x512 .f32) : Fin 4 → Vec F S1x96x128 .f32
  | ⟨0, _⟩ => k0_pay20 v87 v89 v93 v98
  | ⟨1, _⟩ => k0_pay21 v87 v89 v93 v98
  | ⟨2, _⟩ => k0_pay22 v87 v89 v93 v98
  | ⟨3, _⟩ => k0_pay23 v87 v89 v93 v98

theorem read_put (arg11 : Memref sig .tc .vmem S4x1248x128 .f32) (f : arg11.view.ty.Contents (Elt F)) (c : ℕ) (hc : c < 13) (B : Fin 4 → Vec F S1x96x128 .f32) :
    arg11.view.read (Elt F) (arg11.view.writes (Elt F) f
        [⟨Rect.unit (s := S4x1248x128) ![3, 96 * c, 0] S1x96x128.size (rowsP_inb 3 (by omega) hc), B 3⟩,
         ⟨Rect.unit (s := S4x1248x128) ![2, 96 * c, 0] S1x96x128.size (rowsP_inb 2 (by omega) hc), B 2⟩,
         ⟨Rect.unit (s := S4x1248x128) ![1, 96 * c, 0] S1x96x128.size (rowsP_inb 1 (by omega) hc), B 1⟩,
         ⟨Rect.unit (s := S4x1248x128) ![0, 96 * c, 0] S1x96x128.size (rowsP_inb 0 (by omega) hc), B 0⟩])
      = putPlanes (arg11.view.read (Elt F) f) c B := by
  funext y
  unfold putPlanes
  have h0 : (y 0).val < 4 := (y 0).isLt
  split
  · rename_i h
    have key : ∀ (j : ℕ) (hj : j < 4) (L : List (View.Piece (Elt F) S4x1248x128 .f32)), (y 0).val = j →
        arg11.view.read (Elt F) (arg11.view.writes (Elt F) f (⟨Rect.unit (s := S4x1248x128) ![j, 96 * c, 0] S1x96x128.size (rowsP_inb j hj hc), B ⟨j, hj⟩⟩ :: L)) y
          = B (y 0) (ValueIdx.ix3 (n0 := 1) (n1 := 96) (n2 := 128) 0 ⟨(y 1).val - 96 * c, by omega⟩ (y 2)) := by
      intro j hj L e
      have e' : (y 0 : Fin 4) = ⟨j, hj⟩ := Fin.ext e
      refine (View.read_writes_cons_unit_of_mem arg11.view f (rowsP_inb j hj hc) (B ⟨j, hj⟩) L y
        (ValueIdx.ix3 (n0 := 1) (n1 := 96) (n2 := 128) 0 ⟨(y 1).val - 96 * c, by omega⟩ (y 2)) rfl ?_).trans ?_
      · intro a
        fin_cases a
        · show (y 0).val = j + 0; omega
        · show (y 1).val = 96 * c + ((y 1).val - 96 * c); omega
        · show (y 2).val = 0 + (y 2).val; omega
      · exact congrFun (congrArg B e'.symm) _
    have skip : ∀ (j : ℕ) (hj : j < 4) (L : List (View.Piece (Elt F) S4x1248x128 .f32)), (y 0).val ≠ j →
        arg11.view.read (Elt F) (arg11.view.writes (Elt F) f (⟨Rect.unit (s := S4x1248x128) ![j, 96 * c, 0] S1x96x128.size (rowsP_inb j hj hc), B ⟨j, hj⟩⟩ :: L)) y
          = arg11.view.read (Elt F) (arg11.view.writes (Elt F) f L) y := fun j hj L e =>
      View.read_writes_cons_unit_of_not_mem arg11.view f (rowsP_inb j hj hc) (B ⟨j, hj⟩) L y rfl 0 (by
        show (y 0).val < j ∨ j + 1 ≤ (y 0).val; omega)
    by_cases h3 : (y 0).val = 3
    · exact key 3 (by omega) _ h3
    refine (skip 3 (by omega) _ h3).trans ?_
    by_cases h2 : (y 0).val = 2
    · exact key 2 (by omega) _ h2
    refine (skip 2 (by omega) _ h2).trans ?_
    by_cases h1 : (y 0).val = 1
    · exact key 1 (by omega) _ h1
    refine (skip 1 (by omega) _ h1).trans ?_
    exact key 0 (by omega) _ (by omega)
  · rename_i h
    have skip : ∀ (j : ℕ) (hj : j < 4) (L : List (View.Piece (Elt F) S4x1248x128 .f32)),
        arg11.view.read (Elt F) (arg11.view.writes (Elt F) f (⟨Rect.unit (s := S4x1248x128) ![j, 96 * c, 0] S1x96x128.size (rowsP_inb j hj hc), B ⟨j, hj⟩⟩ :: L)) y
          = arg11.view.read (Elt F) (arg11.view.writes (Elt F) f L) y := fun j hj L =>
      View.read_writes_cons_unit_of_not_mem arg11.view f (rowsP_inb j hj hc) (B ⟨j, hj⟩) L y rfl 1 (by
        show (y 1).val < 96 * c ∨ 96 * c + 96 ≤ (y 1).val; omega)
    exact (skip 3 (by omega) _).trans ((skip 2 (by omega) _).trans ((skip 1 (by omega) _).trans (skip 0 (by omega) _)))

theorem first_pos (c : ℕ) (hc : c < 13) : 0 < (Rect.unit (s := S13) ![c] S1.size (word_inb hc)).shape.numel := Nat.le_of_eq numel1_S1.symm

/-- The table word the body reads for chunk `c`. -/
theorem read_word (arg1 : Memref sig .tc .smem S13 .i32) (f : arg1.view.ty.Contents (Elt F)) (c : ℕ) (hc : c < 13) (x) :
    (arg1.access (Rect.unit (s := S13) ![c] S1.size (word_inb hc))).read (Elt F) f x = wordAt (arg1.view.read (Elt F) f) c hc := by
  show arg1.view.read (Elt F) f ((Rect.unit (s := S13) ![c] S1.size (word_inb hc)).idx x) = _
  refine congrArg (arg1.view.read (Elt F) f) (funext fun a => ?_)
  have ha : a = 0 := Subsingleton.elim _ _
  subst ha
  refine Fin.ext ?_
  show c + 1 * (x 0).val = c
  have : (x 0).val < 1 := (x 0).isLt
  omega

/-- The planes after chunk `c`: its rows the projection by its word's type, or as they were where the word is no type. -/
def fillOne (v : BitVec 32) (hv : k0_chk1 v) (x5 : Vec F S1248x3584 .bf16) (x6 : Vec F S3x3584x512 .fp8e4m3) (x7 x8 : Vec F S3x1x512 .f32)
    (c : ℕ) (hc : c < 13) (P : Vec F S4x1248x128 .f32) : Vec F S4x1248x128 .f32 :=
  if h : isType v = 1#1 then
    putPlanes P c (planeRows (View.ld x5 (Rect.unit (s := S1248x3584) ![96 * c, 0] S96x3584.size (rowsX_inb hc)))
      (View.ld x6 (Rect.unit (s := S3x3584x512) (k0_off1 v) S1x3584x512.size (k0_off1_inb v hv h)))
      (View.ld x7 (Rect.unit (s := S3x1x512) (k0_off2 v) S1x1x512.size (k0_off2_inb v hv h)))
      (View.ld x8 (Rect.unit (s := S3x1x512) (k0_off2 v) S1x1x512.size (k0_off2_inb v hv h))))
  else P

set_option maxHeartbeats 1000000 in
/-- The rest of chunk `c`, run: it leaves the planes at `fillOne` and everything else as it was. -/
theorem wp_chunkRest {α : Type} (co : Dev nD) (v : BitVec 32) (hv : k0_chk1 v)
    (arg5 : Memref sig .tc .vmem S1248x3584 .bf16) (arg6 : Memref sig .tc .vmem S3x3584x512 .fp8e4m3)
    (arg7 arg8 : Memref sig .tc .vmem S3x1x512 .f32) (arg11 : Memref sig .tc .vmem S4x1248x128 .f32) (c : ℕ) (hc : c < 13)
    (kk : PUnit.{1} → Prog (TpuEff nD τ sig (Elt F) Λ₀ .tc) α)
    (x5 : Vec F S1248x3584 .bf16) (x6 : Vec F S3x3584x512 .fp8e4m3) (x7 x8 : Vec F S3x1x512 .f32) (P : Vec F S4x1248x128 .f32)
    (E : Set ℕ) (Q : α → sProp 𝕄) :
    iprop(owns (co : Thread nD τ) arg5 fullShare x5 ∗ owns (co : Thread nD τ) arg6 fullShare x6
      ∗ owns (co : Thread nD τ) arg7 fullShare x7 ∗ owns (co : Thread nD τ) arg8 fullShare x8 ∗ owns (co : Thread nD τ) arg11 fullShare P
      ∗ (iprop(owns (co : Thread nD τ) arg5 fullShare x5 ∗ owns (co : Thread nD τ) arg6 fullShare x6
          ∗ owns (co : Thread nD τ) arg7 fullShare x7 ∗ owns (co : Thread nD τ) arg8 fullShare x8
          ∗ owns (co : Thread nD τ) arg11 fullShare (fillOne v hv x5 x6 x7 x8 c hc P))
          -∗ wp frame (wpE (defs₀ (F := F)) Variants.none co none) E (kk ⟨⟩) Q))
    ⊢ wp frame (wpE (defs₀ (F := F)) Variants.none co none) E
        (chunkRest v hv arg5 arg6 arg7 arg8 arg11 c hc kk) Q := by
  unfold owns
  iintro ⟨⟨%f5, %hf5, H5⟩, ⟨%f6, %hf6, H6⟩, ⟨%f7, %hf7, H7⟩, ⟨%f8, %hf8, H8⟩, ⟨%f11, %hf11, H11⟩, Hk⟩
  subst hf5 hf6 hf7 hf8 hf11
  unfold chunkRest fillOne
  by_cases h : isType v = 1#1
  · simp only [dif_pos h]
    sl_exec
    iapply Hk
    isplitl [H5]; · iexists _; isplitr; · ipureintro; exact rfl
                    iexact H5
    isplitl [H6]; · iexists _; isplitr; · ipureintro; exact rfl
                    iexact H6
    isplitl [H7]; · iexists _; isplitr; · ipureintro; exact rfl
                    iexact H7
    isplitl [H8]; · iexists _; isplitr; · ipureintro; exact rfl
                    iexact H8
    iexists _; isplitr; · ipureintro; exact read_put arg11 f11 c hc (planeRows _ _ _ _)
    iexact H11
  · simp only [dif_neg h, pure_bind]
    iapply Hk
    isplitl [H5]; · iexists _; isplitr; · ipureintro; exact rfl
                    iexact H5
    isplitl [H6]; · iexists _; isplitr; · ipureintro; exact rfl
                    iexact H6
    isplitl [H7]; · iexists _; isplitr; · ipureintro; exact rfl
                    iexact H7
    isplitl [H8]; · iexists _; isplitr; · ipureintro; exact rfl
                    iexact H8
    iexists _; isplitr; · ipureintro; exact rfl
    iexact H11

set_option maxHeartbeats 1000000 in
/-- Reading chunk `c`'s word, run: what follows runs at the chunk table's word. -/
theorem wp_readWord {α : Type} (co : Dev nD) (arg1 : Memref sig .tc .smem S13 .i32) (c : ℕ) (hc : c < 13)
    (kk : (v : BitVec 32) → k0_chk1 v → Prog (TpuEff nD τ sig (Elt F) Λ₀ .tc) α) (x1 : Vec F S13 .i32)
    (hchk : k0_chk1 (wordAt x1 c hc)) (E : Set ℕ) (Q : α → sProp 𝕄) :
    iprop(owns (co : Thread nD τ) arg1 fullShare x1
      ∗ (owns (co : Thread nD τ) arg1 fullShare x1 -∗ wp frame (wpE (defs₀ (F := F)) Variants.none co none) E (kk (wordAt x1 c hc) hchk) Q))
    ⊢ wp frame (wpE (defs₀ (F := F)) Variants.none co none) E (readWord arg1 c hc kk) Q := by
  unfold owns
  iintro ⟨⟨%f1, %hf1, H1⟩, Hk⟩
  subst hf1
  have hv := read_word arg1 f1 c hc (Shape.Idx.first (first_pos c hc))
  have hchk' : k0_chk1 ((arg1.access (Rect.unit (s := S13) ![c] S1.size (word_inb hc))).read (Elt F) f1 (Shape.Idx.first (first_pos c hc))) := hv ▸ hchk
  have hkk : kk _ hchk' = kk _ hchk := by
    generalize_proofs at hchk'
    revert hchk'
    rw [hv]
    intro _
    rfl
  have hrest : iprop(wp frame (wpE (defs₀ (F := F)) Variants.none co none) E (kk (wordAt (arg1.view.read (Elt F) f1) c hc) hchk) Q)
      ⊢ wp frame (wpE (defs₀ (F := F)) Variants.none co none) E (kk _ hchk') Q := by rw [hkk]
  have hrest := And.intro trivial hrest
  unfold readWord
  sl_exec (disch := exact hchk')
  iapply hrest.2
  iapply Hk
  iexists _; isplitr; · ipureintro; exact rfl
  iexact H1

end Cert.Out.Hand

end
-- ==== Proof.OutTrip.lean ====
/-
  One trip of the output projection's second phase, for the program `Out`: 64 rows of the output block, each blended from the
  rows of the planes that the three types' shifts point at, and the rule that runs it.
-/
module

public import proofs.«01_k».proof.Proof.OutChunk
public import Idealize.ShloMosaic.Lib.WordArith

@[expose] public section

set_option maxRecDepth 16384

noncomputable section

namespace Cert.Out.Hand

open Cert.Out Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips_eq : k0_t1_loop.trips = 16 := by decide

/-- The first row of trip `k`, as the body computes it. -/
def rowWord (k : ℕ) : BitVec 32 := Scalar.muli (Scalar.addi 0#32 (Scalar.muli (Scf.iv (0#32 : BitVec 32) 1#32 k) 1#32)) 64#32

theorem rowWord_eq : ∀ k, k < 16 → rowWord k = BitVec.ofNat 32 (64 * k) := by decide

theorem clip_eq (x : BitVec 32) : (Scalar.minsi 1184#32 (Scalar.maxsi 0#32 x)).toNat = min 1184 (if x.toNat < 2 ^ 31 then x.toNat else 0) := by
  have hx : (Scalar.maxsi 0#32 x).toNat = if x.toNat < 2 ^ 31 then x.toNat else 0 := by
    show (if x.slt 0#32 = true then 0#32 else x).toNat = _
    simp only [BitVec.slt, BitVec.toInt_eq_toNat_cond, decide_eq_true_eq]
    have := x.isLt
    by_cases h : x.toNat < 2 ^ 31
    · rw [if_neg, if_pos h]
      rw [if_pos (by omega)]; simp
    · rw [if_pos, if_neg h]
      · rfl
      · rw [if_neg (by omega)]; simp; omega
  have hlt : (Scalar.maxsi 0#32 x).toNat < 2 ^ 31 := by rw [hx]; split <;> omega
  show (IntOp.minsi 1184#32 (Scalar.maxsi 0#32 x)).toNat = _
  rw [WordArith.toNat_minsi_of_lt _ _ (by decide) hlt, hx]
  rfl

theorem clip_le (x : BitVec 32) : (Scalar.minsi 1184#32 (Scalar.maxsi 0#32 x)).toNat ≤ 1184 := by
  rw [clip_eq]; exact Nat.min_le_left _ _

theorem planeRow_inb (j : ℕ) (hj : j < 4) (x : BitVec 32) :
    ∀ a, (![j, (Scalar.minsi 1184#32 (Scalar.maxsi 0#32 x)).toNat, 0] : Fin 3 → ℕ) a + S1x64x128.size a ≤ S4x1248x128.size a := by
  intro a
  have := clip_le x
  fin_cases a
  · show j + 1 ≤ 4; omega
  · show (Scalar.minsi 1184#32 (Scalar.maxsi 0#32 x)).toNat + 64 ≤ 1248; omega
  · show 0 + 128 ≤ 128; omega

theorem chk14 (k) (v : BitVec 32) : k0_chk14 k v := planeRow_inb 0 (by omega) _
theorem chk15 (k) (v : BitVec 32) : k0_chk15 k v := planeRow_inb 0 (by omega) _
theorem chk16 (k) (v : BitVec 32) : k0_chk16 k v := planeRow_inb 0 (by omega) _
theorem chk17 (k) (v : BitVec 32) : k0_chk17 k v := planeRow_inb 1 (by omega) _
theorem chk18 (k) (v : BitVec 32) : k0_chk18 k v := planeRow_inb 1 (by omega) _
theorem chk19 (k) (v : BitVec 32) : k0_chk19 k v := planeRow_inb 1 (by omega) _
theorem chk20 (k) (v : BitVec 32) : k0_chk20 k v := planeRow_inb 2 (by omega) _
theorem chk21 (k) (v : BitVec 32) : k0_chk21 k v := planeRow_inb 2 (by omega) _
theorem chk22 (k) (v : BitVec 32) : k0_chk22 k v := planeRow_inb 2 (by omega) _
theorem chk23 (k) (v : BitVec 32) : k0_chk23 k v := planeRow_inb 3 (by omega) _
theorem chk24 (k) (v : BitVec 32) : k0_chk24 k v := planeRow_inb 3 (by omega) _
theorem chk25 (k) (v : BitVec 32) : k0_chk25 k v := planeRow_inb 3 (by omega) _

/-- Word `j` of the offsets, as the body reads it. -/
def offWord (x2 : Vec F S4 .i32) (j : ℕ) (h : ∀ a, (![j] : Fin 1 → ℕ) a + S1.size a ≤ S4.size a) : BitVec 32 :=
  x2 ((Rect.unit (s := S4) ![j] S1.size h).idx (Shape.Idx.first (Nat.le_of_eq numel1_S1.symm)))
/-- Word `j` of the shifts, as the body reads it. -/
def shiftWord (x3 : Vec F S3 .i32) (j : ℕ) (h : ∀ a, (![j] : Fin 1 → ℕ) a + S1.size a ≤ S3.size a) : BitVec 32 :=
  x3 ((Rect.unit (s := S3) ![j] S1.size h).idx (Shape.Idx.first (Nat.le_of_eq numel1_S1.symm)))
/-- Gate `j`, as the body reads it. -/
def skipWord (x4 : Vec F S3 .f32) (j : ℕ) (h : ∀ a, (![j] : Fin 1 → ℕ) a + S1.size a ≤ S3.size a) : Elt F .f32 :=
  x4 ((Rect.unit (s := S3) ![j] S1.size h).idx (Shape.Idx.first (Nat.le_of_eq numel1_S1.symm)))

/-- Where the rows of trip `k` are at or after the second type's first row. -/
abbrev is1 (x2 : Vec F S4 .i32) (k : Fin k0_t1_loop.trips) : IVec S64x128 1 := k0_pay6 (F := F) 0#32 1#32 k (offWord x2 1 inb_S4_S1_1)
/-- Where the rows of trip `k` are at or after the third type's first row. -/
abbrev is2 (x2 : Vec F S4 .i32) (k : Fin k0_t1_loop.trips) : IVec S64x128 1 := k0_pay7 (F := F) 0#32 1#32 k (offWord x2 2 inb_S4_S1_2)
/-- The gates of the rows of trip `k`. -/
abbrev gates (x2 : Vec F S4 .i32) (v52 : FVec F S1x128 .f32) (v53 v64 v75 : Elt F .f32) (k : Fin k0_t1_loop.trips) : FVec F S64x128 .f32 :=
  k0_pay8 (k0_pay1 v52 v53) (k0_pay2 v64) (k0_pay3 v75) 0#32 1#32 k (offWord x2 1 inb_S4_S1_1) (offWord x2 2 inb_S4_S1_2)

/-- What trip `k` stores, by blocks of 128 columns. -/
def tripVal (x2 : Vec F S4 .i32) (x3 : Vec F S3 .i32) (v52 : FVec F S1x128 .f32) (v53 v64 v75 : Elt F .f32) (x9 : Vec F S1024x512 .bf16)
    (P : Vec F S4x1248x128 .f32) (k : Fin k0_t1_loop.trips) : Fin 4 → Vec F S64x128 .bf16
  | ⟨0, _⟩ => k0_pay11 (is1 x2 k) (is2 x2 k) (gates x2 v52 v53 v64 v75 k)
      (k0_pay9 (View.ld P (Rect.unit (s := S4x1248x128) (k0_off27 k (shiftWord x3 0 inb_S3_S1_0)) S1x64x128.size (chk14 k _))))
      (k0_pay10 (View.ld P (Rect.unit (s := S4x1248x128) (k0_off28 k (shiftWord x3 1 inb_S3_S1_1)) S1x64x128.size (chk15 k _))))
      (View.ld P (Rect.unit (s := S4x1248x128) (k0_off29 k (shiftWord x3 2 inb_S3_S1_2)) S1x64x128.size (chk16 k _)))
      (View.ld x9 (Rect.unit (s := S1024x512) (k0_off30 k) S64x128.size (k0_off30_inb k)))
  | ⟨1, _⟩ => k0_pay14 (is1 x2 k) (is2 x2 k) (gates x2 v52 v53 v64 v75 k)
      (k0_pay12 (View.ld P (Rect.unit (s := S4x1248x128) (k0_off31 k (shiftWord x3 0 inb_S3_S1_0)) S1x64x128.size (chk17 k _))))
      (k0_pay13 (View.ld P (Rect.unit (s := S4x1248x128) (k0_off32 k (shiftWord x3 1 inb_S3_S1_1)) S1x64x128.size (chk18 k _))))
      (View.ld P (Rect.unit (s := S4x1248x128) (k0_off33 k (shiftWord x3 2 inb_S3_S1_2)) S1x64x128.size (chk19 k _)))
      (View.ld x9 (Rect.unit (s := S1024x512) (k0_off34 k) S64x128.size (k0_off34_inb k)))
  | ⟨2, _⟩ => k0_pay16 (gates x2 v52 v53 v64 v75 k) (k0_pay15 (is1 x2 k) (is2 x2 k)
      (View.ld P (Rect.unit (s := S4x1248x128) (k0_off35 k (shiftWord x3 0 inb_S3_S1_0)) S1x64x128.size (chk20 k _)))
      (View.ld P (Rect.unit (s := S4x1248x128) (k0_off36 k (shiftWord x3 1 inb_S3_S1_1)) S1x64x128.size (chk21 k _)))
      (View.ld P (Rect.unit (s := S4x1248x128) (k0_off37 k (shiftWord x3 2 inb_S3_S1_2)) S1x64x128.size (chk22 k _))))
      (View.ld x9 (Rect.unit (s := S1024x512) (k0_off38 k) S64x128.size (k0_off38_inb k)))
  | ⟨3, _⟩ => k0_pay4 (k0_pay17 (is1 x2 k) (is2 x2 k) (gates x2 v52 v53 v64 v75 k)
      (View.ld P (Rect.unit (s := S4x1248x128) (k0_off39 k (shiftWord x3 0 inb_S3_S1_0)) S1x64x128.size (chk23 k _)))
      (View.ld P (Rect.unit (s := S4x1248x128) (k0_off40 k (shiftWord x3 1 inb_S3_S1_1)) S1x64x128.size (chk24 k _)))
      (View.ld P (Rect.unit (s := S4x1248x128) (k0_off41 k (shiftWord x3 2 inb_S3_S1_2)) S1x64x128.size (chk25 k _))))
      (k0_pay18 (gates x2 v52 v53 v64 v75 k))
      (View.ld x9 (Rect.unit (s := S1024x512) (k0_off42 k) S64x128.size (k0_off42_inb k)))

/-- A block with rows `64 k` to `64 k + 63` replaced by `B`, by blocks of 128 columns. -/
def putTrip (y : Vec F S1024x512 .bf16) (k : ℕ) (B : Fin 4 → Vec F S64x128 .bf16) : Vec F S1024x512 .bf16 := fun i =>
  if h : 64 * k ≤ (i 0).val ∧ (i 0).val < 64 * k + 64 then
    B ⟨(i 1).val / 128, by have : (i 1).val < 512 := (i 1).isLt; omega⟩
      (ValueIdx.ix2 (n0 := 64) (n1 := 128) ⟨(i 0).val - 64 * k, by omega⟩ ⟨(i 1).val % 128, Nat.mod_lt _ (by omega)⟩)
  else y i

theorem lt16 (k : Fin k0_t1_loop.trips) : k.val < 16 := trips_eq ▸ k.isLt

theorem rowWord_toNat (k : Fin k0_t1_loop.trips) : (rowWord k.val).toNat = 64 * k.val := by
  have hk := lt16 k
  rw [rowWord_eq _ hk, BitVec.toNat_ofNat]
  omega

theorem off30_eq (k : Fin k0_t1_loop.trips) : k0_off30 k = ![64 * k.val, 128 * 0] := by
  show (![(rowWord k.val).toNat, 0] : Fin 2 → ℕ) = _
  rw [rowWord_toNat]
theorem off34_eq (k : Fin k0_t1_loop.trips) : k0_off34 k = ![64 * k.val, 128 * 1] := by
  show (![(rowWord k.val).toNat, 128] : Fin 2 → ℕ) = _
  rw [rowWord_toNat]
theorem off38_eq (k : Fin k0_t1_loop.trips) : k0_off38 k = ![64 * k.val, 128 * 2] := by
  show (![(rowWord k.val).toNat, 256] : Fin 2 → ℕ) = _
  rw [rowWord_toNat]
theorem off42_eq (k : Fin k0_t1_loop.trips) : k0_off42 k = ![64 * k.val, 128 * 3] := by
  show (![(rowWord k.val).toNat, 384] : Fin 2 → ℕ) = _
  rw [rowWord_toNat]

theorem read_putTrip (arg10 : Memref sig .tc .vmem S1024x512 .bf16) (f : arg10.view.ty.Contents (Elt F)) (k : Fin k0_t1_loop.trips) (B : Fin 4 → Vec F S64x128 .bf16) :
    arg10.view.read (Elt F) (arg10.view.writes (Elt F) f
        [⟨Rect.unit (s := S1024x512) (k0_off42 k) S64x128.size (k0_off42_inb k), B 3⟩,
         ⟨Rect.unit (s := S1024x512) (k0_off38 k) S64x128.size (k0_off38_inb k), B 2⟩,
         ⟨Rect.unit (s := S1024x512) (k0_off34 k) S64x128.size (k0_off34_inb k), B 1⟩,
         ⟨Rect.unit (s := S1024x512) (k0_off30 k) S64x128.size (k0_off30_inb k), B 0⟩])
      = putTrip (arg10.view.read (Elt F) f) k.val B := by
  funext y
  unfold putTrip
  have h1 : (y 1).val < 512 := (y 1).isLt
  split
  · rename_i h
    have key : ∀ (j : ℕ) (hj : j < 4) (off : Fin 2 → ℕ) (inb) (L : List (View.Piece (Elt F) S1024x512 .bf16)), off = ![64 * k.val, 128 * j] → (y 1).val / 128 = j →
        arg10.view.read (Elt F) (arg10.view.writes (Elt F) f (⟨Rect.unit (s := S1024x512) off S64x128.size inb, B ⟨j, hj⟩⟩ :: L)) y
          = B ⟨(y 1).val / 128, by omega⟩ (ValueIdx.ix2 (n0 := 64) (n1 := 128) ⟨(y 0).val - 64 * k.val, by omega⟩ ⟨(y 1).val % 128, Nat.mod_lt _ (by omega)⟩) := by
      intro j hj off inb L ho e
      subst e
      refine (View.read_writes_cons_unit_of_mem arg10.view f inb (B ⟨_, hj⟩) L y
        (ValueIdx.ix2 (n0 := 64) (n1 := 128) ⟨(y 0).val - 64 * k.val, by omega⟩ ⟨(y 1).val % 128, Nat.mod_lt _ (by omega)⟩) ho ?_).trans rfl
      intro a
      fin_cases a
      · show (y 0).val = 64 * k.val + ((y 0).val - 64 * k.val); omega
      · show (y 1).val = 128 * ((y 1).val / 128) + (y 1).val % 128; omega
    have skip : ∀ (j : ℕ) (hj : j < 4) (off : Fin 2 → ℕ) (inb) (L : List (View.Piece (Elt F) S1024x512 .bf16)), off = ![64 * k.val, 128 * j] → (y 1).val / 128 ≠ j →
        arg10.view.read (Elt F) (arg10.view.writes (Elt F) f (⟨Rect.unit (s := S1024x512) off S64x128.size inb, B ⟨j, hj⟩⟩ :: L)) y
          = arg10.view.read (Elt F) (arg10.view.writes (Elt F) f L) y := fun j hj off inb L ho e =>
      View.read_writes_cons_unit_of_not_mem arg10.view f inb (B ⟨j, hj⟩) L y ho 1 (by
        show (y 1).val < 128 * j ∨ 128 * j + 128 ≤ (y 1).val; omega)
    by_cases h3 : (y 1).val / 128 = 3
    · exact key 3 (by omega) _ _ _ (off42_eq k) h3
    refine (skip 3 (by omega) _ _ _ (off42_eq k) h3).trans ?_
    by_cases h2 : (y 1).val / 128 = 2
    · exact key 2 (by omega) _ _ _ (off38_eq k) h2
    refine (skip 2 (by omega) _ _ _ (off38_eq k) h2).trans ?_
    by_cases h1 : (y 1).val / 128 = 1
    · exact key 1 (by omega) _ _ _ (off34_eq k) h1
    refine (skip 1 (by omega) _ _ _ (off34_eq k) h1).trans ?_
    exact key 0 (by omega) _ _ _ (off30_eq k) (by omega)
  · rename_i h
    have skip : ∀ (j : ℕ) (hj : j < 4) (off : Fin 2 → ℕ) (inb) (L : List (View.Piece (Elt F) S1024x512 .bf16)), off = ![64 * k.val, 128 * j] →
        arg10.view.read (Elt F) (arg10.view.writes (Elt F) f (⟨Rect.unit (s := S1024x512) off S64x128.size inb, B ⟨j, hj⟩⟩ :: L)) y
          = arg10.view.read (Elt F) (arg10.view.writes (Elt F) f L) y := fun j hj off inb L ho =>
      View.read_writes_cons_unit_of_not_mem arg10.view f inb (B ⟨j, hj⟩) L y ho 0 (by
        show (y 0).val < 64 * k.val ∨ 64 * k.val + 64 ≤ (y 0).val; omega)
    exact (skip 3 (by omega) _ _ _ (off42_eq k)).trans ((skip 2 (by omega) _ _ _ (off38_eq k)).trans ((skip 1 (by omega) _ _ _ (off34_eq k)).trans (skip 0 (by omega) _ _ _ (off30_eq k))))

section Trip

variable (co : Dev nD) (i : grid0.Coords) (arg1 : Memref sig .tc .smem S13 .i32) (harg1 : arg1.IsWhole) (arg2 : Memref sig .tc .smem S4 .i32) (harg2 : arg2.IsWhole) (arg3 : Memref sig .tc .smem S3 .i32) (harg3 : arg3.IsWhole) (arg4 : Memref sig .tc .smem S3 .f32) (harg4 : arg4.IsWhole) (arg5 : Memref sig .tc .vmem S1248x3584 .bf16) (harg5 : arg5.IsWhole) (arg6 : Memref sig .tc .vmem S3x3584x512 .fp8e4m3) (harg6 : arg6.IsWhole) (arg7 : Memref sig .tc .vmem S3x1x512 .f32) (harg7 : arg7.IsWhole) (arg8 : Memref sig .tc .vmem S3x1x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S4x1248x128 .f32) (harg11 : arg11.IsWhole)

set_option maxHeartbeats 4000000 in
/-- Trip `k`, run: it leaves the output block at `putTrip` and everything else as it was. -/
theorem wp_trip (v52 : FVec F S1x128 .f32) (v53 v64 v75 : Elt F .f32) (k : Fin k0_t1_loop.trips)
    (x2 : Vec F S4 .i32) (x3 : Vec F S3 .i32) (x9 : Vec F S1024x512 .bf16) (P : Vec F S4x1248x128 .f32) (y : Vec F S1024x512 .bf16) (E : Set ℕ) :
    iprop(owns (co : Thread nD τ) arg2 fullShare x2 ∗ owns (co : Thread nD τ) arg3 fullShare x3 ∗ owns (co : Thread nD τ) arg9 fullShare x9
      ∗ owns (co : Thread nD τ) arg11 fullShare P ∗ owns (co : Thread nD τ) arg10 fullShare y)
    ⊢ wp frame (wpE (defs₀ (F := F)) Variants.none co none) E
        (k0_t1_body (F := F) i arg1 harg1 arg2 harg2 arg3 harg3 arg4 harg4 arg5 harg5 arg6 harg6 arg7 harg7 arg8 harg8 arg9 harg9 arg10 harg10 arg11 harg11 v52 v53 v64 v75 k PUnit.unit)
        fun _ => (iprop(owns (co : Thread nD τ) arg2 fullShare x2 ∗ owns (co : Thread nD τ) arg3 fullShare x3 ∗ owns (co : Thread nD τ) arg9 fullShare x9
          ∗ owns (co : Thread nD τ) arg11 fullShare P ∗ owns (co : Thread nD τ) arg10 fullShare (putTrip y k.val (tripVal x2 x3 v52 v53 v64 v75 x9 P k))) : sProp 𝕄) := by
  have hk : k.val < 16 := lt16 k
  unfold owns
  iintro ⟨⟨%f2, %hf2, H2⟩, ⟨%f3, %hf3, H3⟩, ⟨%f9, %hf9, H9⟩, ⟨%f11, %hf11, H11⟩, ⟨%f10, %hf10, H10⟩⟩
  subst hf2 hf3 hf9 hf10 hf11
  unfold k0_t1_body
  sl_exec
  sl_step
  isplitl [H2]; · iexists _; isplitr; · ipureintro; exact rfl
                  iexact H2
  isplitl [H3]; · iexists _; isplitr; · ipureintro; exact rfl
                  iexact H3
  isplitl [H9]; · iexists _; isplitr; · ipureintro; exact rfl
                  iexact H9
  isplitl [H11]; · iexists _; isplitr; · ipureintro; exact rfl
                   iexact H11
  iexists _; isplitr
  swap
  · iexact H10
  · ipureintro
    exact read_putTrip arg10 f10 k (tripVal _ _ _ _ _ _ _ _ k)

end Trip

end Cert.Out.Hand

end
-- ==== Proof.OutBody.lean ====
/-
  The output projection's body as a whole, for the program `Out`: thirteen chunks fill the planes wherever a chunk has a
  type, and sixteen trips blend them into the output block.
-/
module

public import proofs.«01_k».proof.Proof.OutTrip

@[expose] public section

set_option maxRecDepth 16384

noncomputable section

namespace Cert.Out.Hand

open Cert.Out Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The planes' rows of chunk `c` where its word `v` is a type. -/
abbrev chunkRows (v : BitVec 32) (hv : k0_chk1 v) (h : isType v = 1#1) (x5 : Vec F S1248x3584 .bf16) (x6 : Vec F S3x3584x512 .fp8e4m3) (x7 x8 : Vec F S3x1x512 .f32)
    (c : ℕ) (hc : c < 13) : Fin 4 → Vec F S1x96x128 .f32 :=
  planeRows (View.ld x5 (Rect.unit (s := S1248x3584) ![96 * c, 0] S96x3584.size (rowsX_inb hc)))
      (View.ld x6 (Rect.unit (s := S3x3584x512) (k0_off1 v) S1x3584x512.size (k0_off1_inb v hv h)))
      (View.ld x7 (Rect.unit (s := S3x1x512) (k0_off2 v) S1x1x512.size (k0_off2_inb v hv h)))
      (View.ld x8 (Rect.unit (s := S3x1x512) (k0_off2 v) S1x1x512.size (k0_off2_inb v hv h)))

/-- The planes hold, in the rows of every chunk below `n` that has a type, that chunk's projection. -/
def Filled (x1 : Vec F S13 .i32) (hchk : ∀ (c : ℕ) (hc : c < 13), k0_chk1 (wordAt x1 c hc)) (x5 : Vec F S1248x3584 .bf16) (x6 : Vec F S3x3584x512 .fp8e4m3) (x7 x8 : Vec F S3x1x512 .f32)
    (P : Vec F S4x1248x128 .f32) (n : ℕ) : Prop :=
  ∀ (c : ℕ) (hc : c < 13), c < n → ∀ (h : isType (wordAt x1 c hc) = 1#1) (i : S4x1248x128.Idx) (hi : 96 * c ≤ (i 1).val ∧ (i 1).val < 96 * c + 96),
    P i = chunkRows _ (hchk c hc) h x5 x6 x7 x8 c hc (i 0) (ValueIdx.ix3 (n0 := 1) (n1 := 96) (n2 := 128) 0 ⟨(i 1).val - 96 * c, by omega⟩ (i 2))

theorem filled_zero (x1 hchk x5 x6 x7 x8) (P : Vec F S4x1248x128 .f32) : Filled x1 hchk x5 x6 x7 x8 P 0 := fun _ _ h => absurd h (by omega)

theorem filled_step (x1 : Vec F S13 .i32) (hchk : ∀ (c : ℕ) (hc : c < 13), k0_chk1 (wordAt x1 c hc)) (x5 : Vec F S1248x3584 .bf16) (x6 : Vec F S3x3584x512 .fp8e4m3) (x7 x8 : Vec F S3x1x512 .f32)
    (P : Vec F S4x1248x128 .f32) (c : ℕ) (hc : c < 13) (hP : Filled x1 hchk x5 x6 x7 x8 P c) :
    Filled x1 hchk x5 x6 x7 x8 (fillOne (wordAt x1 c hc) (hchk c hc) x5 x6 x7 x8 c hc P) (c + 1) := by
  intro c' hc' hlt h i hi
  by_cases he : c' = c
  · subst he
    unfold fillOne
    rw [dif_pos h]
    unfold putPlanes
    rw [dif_pos hi]
  · have hout : ¬ (96 * c ≤ (i 1).val ∧ (i 1).val < 96 * c + 96) := by omega
    have hold := hP c' hc' (by omega) h i hi
    unfold fillOne
    split
    · unfold putPlanes
      rw [dif_neg hout]
      exact hold
    · exact hold

section Rules

variable (co : Dev nD) (arg1 : Memref sig .tc .smem S13 .i32) (arg5 : Memref sig .tc .vmem S1248x3584 .bf16) (arg6 : Memref sig .tc .vmem S3x3584x512 .fp8e4m3)
    (arg7 arg8 : Memref sig .tc .vmem S3x1x512 .f32) (arg11 : Memref sig .tc .vmem S4x1248x128 .f32)
    (x1 : Vec F S13 .i32) (hchk : ∀ (c : ℕ) (hc : c < 13), k0_chk1 (wordAt x1 c hc)) (x5 : Vec F S1248x3584 .bf16) (x6 : Vec F S3x3584x512 .fp8e4m3) (x7 x8 : Vec F S3x1x512 .f32)

/-- What the first phase owns, the planes at `P`. -/
abbrev phase1 (P : Vec F S4x1248x128 .f32) : sProp 𝕄 :=
  iprop(owns (co : Thread nD τ) arg1 fullShare x1 ∗ owns (co : Thread nD τ) arg5 fullShare x5 ∗ owns (co : Thread nD τ) arg6 fullShare x6
      ∗ owns (co : Thread nD τ) arg7 fullShare x7 ∗ owns (co : Thread nD τ) arg8 fullShare x8 ∗ owns (co : Thread nD τ) arg11 fullShare P)

theorem wp_word {α : Type} (c : ℕ) (hc : c < 13)
    (kk : (v : BitVec 32) → k0_chk1 v → Prog (TpuEff nD τ sig (Elt F) Λ₀ .tc) α) (P : Vec F S4x1248x128 .f32) (E : Set ℕ) (Q : α → sProp 𝕄)
    (hk : phase1 co arg1 arg5 arg6 arg7 arg8 arg11 x1 x5 x6 x7 x8 P ⊢ wp frame (wpE (defs₀ (F := F)) Variants.none co none) E (kk (wordAt x1 c hc) (hchk c hc)) Q) :
    phase1 co arg1 arg5 arg6 arg7 arg8 arg11 x1 x5 x6 x7 x8 P ⊢ wp frame (wpE (defs₀ (F := F)) Variants.none co none) E (readWord arg1 c hc kk) Q := by
  have hrun := wp_readWord co arg1 c hc kk x1 (hchk c hc) E Q
  iintro ⟨H1, Hr⟩
  iapply hrun
  isplitl [H1]; · iexact H1
  iintro H1
  iapply hk
  isplitl [H1]; · iexact H1
  iexact Hr

theorem wp_rest {α : Type} (c : ℕ) (hc : c < 13)
    (kk : PUnit.{1} → Prog (TpuEff nD τ sig (Elt F) Λ₀ .tc) α) (P : Vec F S4x1248x128 .f32) (hP : Filled x1 hchk x5 x6 x7 x8 P c) (E : Set ℕ) (Q : α → sProp 𝕄)
    (hk : ∀ P', Filled x1 hchk x5 x6 x7 x8 P' (c + 1) →
      phase1 co arg1 arg5 arg6 arg7 arg8 arg11 x1 x5 x6 x7 x8 P' ⊢ wp frame (wpE (defs₀ (F := F)) Variants.none co none) E (kk ⟨⟩) Q) :
    phase1 co arg1 arg5 arg6 arg7 arg8 arg11 x1 x5 x6 x7 x8 P ⊢ wp frame (wpE (defs₀ (F := F)) Variants.none co none) E
      (chunkRest (wordAt x1 c hc) (hchk c hc) arg5 arg6 arg7 arg8 arg11 c hc kk) Q := by
  have hrun := wp_chunkRest co (wordAt x1 c hc) (hchk c hc) arg5 arg6 arg7 arg8 arg11 c hc kk x5 x6 x7 x8 P E Q
  have hnext := hk _ (filled_step x1 hchk x5 x6 x7 x8 P c hc hP)
  iintro ⟨H1, H5, H6, H7, H8, H11⟩
  iapply hrun
  isplitl [H5]; · iexact H5
  isplitl [H6]; · iexact H6
  isplitl [H7]; · iexact H7
  isplitl [H8]; · iexact H8
  isplitl [H11]; · iexact H11
  iintro ⟨H5, H6, H7, H8, H11⟩
  iapply hnext
  isplitl [H1]; · iexact H1
  isplitl [H5]; · iexact H5
  isplitl [H6]; · iexact H6
  isplitl [H7]; · iexact H7
  isplitl [H8]; · iexact H8
  iexact H11

/-- A chunk: its word, then the rest. -/
theorem wp_one {α : Type} (c : ℕ) (hc : c < 13)
    (kk : PUnit.{1} → Prog (TpuEff nD τ sig (Elt F) Λ₀ .tc) α) (P : Vec F S4x1248x128 .f32) (hP : Filled x1 hchk x5 x6 x7 x8 P c) (E : Set ℕ) (Q : α → sProp 𝕄)
    (hk : ∀ P', Filled x1 hchk x5 x6 x7 x8 P' (c + 1) →
      phase1 co arg1 arg5 arg6 arg7 arg8 arg11 x1 x5 x6 x7 x8 P' ⊢ wp frame (wpE (defs₀ (F := F)) Variants.none co none) E (kk ⟨⟩) Q) :
    phase1 co arg1 arg5 arg6 arg7 arg8 arg11 x1 x5 x6 x7 x8 P ⊢ wp frame (wpE (defs₀ (F := F)) Variants.none co none) E
      (readWord arg1 c hc fun v hv => chunkRest v hv arg5 arg6 arg7 arg8 arg11 c hc kk) Q :=
  wp_word co arg1 arg5 arg6 arg7 arg8 arg11 x1 hchk x5 x6 x7 x8 c hc _ P E Q
    (wp_rest co arg1 arg5 arg6 arg7 arg8 arg11 x1 hchk x5 x6 x7 x8 c hc kk P hP E Q hk)

end Rules

section Body

variable (co : Dev nD) (i : grid0.Coords) (arg1 : Memref sig .tc .smem S13 .i32) (harg1 : arg1.IsWhole) (arg2 : Memref sig .tc .smem S4 .i32) (harg2 : arg2.IsWhole) (arg3 : Memref sig .tc .smem S3 .i32) (harg3 : arg3.IsWhole) (arg4 : Memref sig .tc .smem S3 .f32) (harg4 : arg4.IsWhole) (arg5 : Memref sig .tc .vmem S1248x3584 .bf16) (harg5 : arg5.IsWhole) (arg6 : Memref sig .tc .vmem S3x3584x512 .fp8e4m3) (harg6 : arg6.IsWhole) (arg7 : Memref sig .tc .vmem S3x1x512 .f32) (harg7 : arg7.IsWhole) (arg8 : Memref sig .tc .vmem S3x1x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S4x1248x128 .f32) (harg11 : arg11.IsWhole)

set_option maxRecDepth 65536 in
theorem part5_eq : k0_part5 (F := F) i arg1 harg1 arg2 harg2 arg3 harg3 arg4 harg4 arg5 harg5 arg6 harg6 arg7 harg7 arg8 harg8 arg9 harg9 arg10 harg10 arg11 harg11 =
    (readWord arg1 0 (by omega) fun v hv => chunkRest v hv arg5 arg6 arg7 arg8 arg11 0 (by omega) fun _ =>
     readWord arg1 1 (by omega) fun v hv => chunkRest v hv arg5 arg6 arg7 arg8 arg11 1 (by omega) fun _ =>
     readWord arg1 2 (by omega) fun v hv => chunkRest v hv arg5 arg6 arg7 arg8 arg11 2 (by omega) fun _ =>
     readWord arg1 3 (by omega) fun v hv => chunkRest v hv arg5 arg6 arg7 arg8 arg11 3 (by omega) fun _ =>
     readWord arg1 4 (by omega) fun v hv => chunkRest v hv arg5 arg6 arg7 arg8 arg11 4 (by omega) fun _ =>
     readWord arg1 5 (by omega) fun v hv => chunkRest v hv arg5 arg6 arg7 arg8 arg11 5 (by omega) fun _ =>
     readWord arg1 6 (by omega) fun v hv => pure ⟨v, hv, Scalar.cmpi .sge v 0#32⟩) := rfl

set_option maxRecDepth 65536 in
theorem part6_eq (v : BitVec 32) (hv : k0_chk1 v) : k0_part6 (F := F) i arg1 harg1 arg2 harg2 arg3 harg3 arg4 harg4 arg5 harg5 arg6 harg6 arg7 harg7 arg8 harg8 arg9 harg9 arg10 harg10 arg11 harg11 v hv (Scalar.cmpi .sge v 0#32) =
    (chunkRest v hv arg5 arg6 arg7 arg8 arg11 6 (by omega) fun _ =>
     readWord arg1 7 (by omega) fun v hv => chunkRest v hv arg5 arg6 arg7 arg8 arg11 7 (by omega) fun _ =>
     readWord arg1 8 (by omega) fun v hv => chunkRest v hv arg5 arg6 arg7 arg8 arg11 8 (by omega) fun _ =>
     readWord arg1 9 (by omega) fun v hv => chunkRest v hv arg5 arg6 arg7 arg8 arg11 9 (by omega) fun _ =>
     readWord arg1 10 (by omega) fun v hv => chunkRest v hv arg5 arg6 arg7 arg8 arg11 10 (by omega) fun _ =>
     readWord arg1 11 (by omega) fun v hv => chunkRest v hv arg5 arg6 arg7 arg8 arg11 11 (by omega) fun _ =>
     readWord arg1 12 (by omega) fun v hv => chunkRest v hv arg5 arg6 arg7 arg8 arg11 12 (by omega) fun _ => pure k0_pay84) := rfl

variable (x1 : Vec F S13 .i32) (hchk : ∀ (c : ℕ) (hc : c < 13), k0_chk1 (wordAt x1 c hc)) (x5 : Vec F S1248x3584 .bf16) (x6 : Vec F S3x3584x512 .fp8e4m3) (x7 x8 : Vec F S3x1x512 .f32)

set_option maxHeartbeats 1000000 in
theorem wp_part5 (P : Vec F S4x1248x128 .f32) (hP : Filled x1 hchk x5 x6 x7 x8 P 0) (E : Set ℕ) :
    phase1 co arg1 arg5 arg6 arg7 arg8 arg11 x1 x5 x6 x7 x8 P ⊢ wp frame (wpE (defs₀ (F := F)) Variants.none co none) E (k0_part5 (F := F) i arg1 harg1 arg2 harg2 arg3 harg3 arg4 harg4 arg5 harg5 arg6 harg6 arg7 harg7 arg8 harg8 arg9 harg9 arg10 harg10 arg11 harg11)
      fun r => (iprop(∃ P' : Vec F S4x1248x128 .f32, ⌜Filled x1 hchk x5 x6 x7 x8 P' 6 ∧ r = ⟨wordAt x1 6 (by omega), hchk 6 (by omega), Scalar.cmpi .sge (wordAt x1 6 (by omega)) 0#32⟩⌝
        ∗ phase1 co arg1 arg5 arg6 arg7 arg8 arg11 x1 x5 x6 x7 x8 P') : sProp 𝕄) := by
  rw [part5_eq]
  refine wp_one co arg1 arg5 arg6 arg7 arg8 arg11 x1 hchk x5 x6 x7 x8 0 (by omega) _ P hP E _ fun P hP => ?_
  refine wp_one co arg1 arg5 arg6 arg7 arg8 arg11 x1 hchk x5 x6 x7 x8 1 (by omega) _ P hP E _ fun P hP => ?_
  refine wp_one co arg1 arg5 arg6 arg7 arg8 arg11 x1 hchk x5 x6 x7 x8 2 (by omega) _ P hP E _ fun P hP => ?_
  refine wp_one co arg1 arg5 arg6 arg7 arg8 arg11 x1 hchk x5 x6 x7 x8 3 (by omega) _ P hP E _ fun P hP => ?_
  refine wp_one co arg1 arg5 arg6 arg7 arg8 arg11 x1 hchk x5 x6 x7 x8 4 (by omega) _ P hP E _ fun P hP => ?_
  refine wp_one co arg1 arg5 arg6 arg7 arg8 arg11 x1 hchk x5 x6 x7 x8 5 (by omega) _ P hP E _ fun P hP => ?_
  refine wp_word co arg1 arg5 arg6 arg7 arg8 arg11 x1 hchk x5 x6 x7 x8 6 (by omega) _ P E _ ?_
  iintro H
  sl_step
  iexists P
  isplitr
  · ipureintro; exact ⟨hP, rfl⟩
  iexact H

set_option maxHeartbeats 1000000 in
theorem wp_part6 (P : Vec F S4x1248x128 .f32) (hP : Filled x1 hchk x5 x6 x7 x8 P 6) (E : Set ℕ) :
    phase1 co arg1 arg5 arg6 arg7 arg8 arg11 x1 x5 x6 x7 x8 P ⊢ wp frame (wpE (defs₀ (F := F)) Variants.none co none) E (k0_part6 (F := F) i arg1 harg1 arg2 harg2 arg3 harg3 arg4 harg4 arg5 harg5 arg6 harg6 arg7 harg7 arg8 harg8 arg9 harg9 arg10 harg10 arg11 harg11
        (wordAt x1 6 (by omega)) (hchk 6 (by omega)) (Scalar.cmpi .sge (wordAt x1 6 (by omega)) 0#32))
      fun r => (iprop(∃ P' : Vec F S4x1248x128 .f32, ⌜Filled x1 hchk x5 x6 x7 x8 P' 13 ∧ r = k0_pay84⌝
        ∗ phase1 co arg1 arg5 arg6 arg7 arg8 arg11 x1 x5 x6 x7 x8 P') : sProp 𝕄) := by
  rw [part6_eq]
  refine wp_rest co arg1 arg5 arg6 arg7 arg8 arg11 x1 hchk x5 x6 x7 x8 6 (by omega) _ P hP E _ fun P hP => ?_
  refine wp_one co arg1 arg5 arg6 arg7 arg8 arg11 x1 hchk x5 x6 x7 x8 7 (by omega) _ P hP E _ fun P hP => ?_
  refine wp_one co arg1 arg5 arg6 arg7 arg8 arg11 x1 hchk x5 x6 x7 x8 8 (by omega) _ P hP E _ fun P hP => ?_
  refine wp_one co arg1 arg5 arg6 arg7 arg8 arg11 x1 hchk x5 x6 x7 x8 9 (by omega) _ P hP E _ fun P hP => ?_
  refine wp_one co arg1 arg5 arg6 arg7 arg8 arg11 x1 hchk x5 x6 x7 x8 10 (by omega) _ P hP E _ fun P hP => ?_
  refine wp_one co arg1 arg5 arg6 arg7 arg8 arg11 x1 hchk x5 x6 x7 x8 11 (by omega) _ P hP E _ fun P hP => ?_
  refine wp_one co arg1 arg5 arg6 arg7 arg8 arg11 x1 hchk x5 x6 x7 x8 12 (by omega) _ P hP E _ fun P hP => ?_
  iintro H
  sl_step
  iexists P
  isplitr
  · ipureintro; exact ⟨hP, rfl⟩
  iexact H

/-- The output block of the planes `P`: row `r` from trip `r / 64`. -/
def outBlock (x2 : Vec F S4 .i32) (x3 : Vec F S3 .i32) (x4 : Vec F S3 .f32) (x9 : Vec F S1024x512 .bf16) (P : Vec F S4x1248x128 .f32) : Vec F S1024x512 .bf16 := fun i =>
  tripVal x2 x3 k0_pay84 (skipWord x4 0 inb_S3_S1_0) (skipWord x4 1 inb_S3_S1_1) (skipWord x4 2 inb_S3_S1_2) x9 P
    ⟨(i 0).val / 64, by have : (i 0).val < 1024 := (i 0).isLt; rw [trips_eq]; omega⟩ ⟨(i 1).val / 128, by have : (i 1).val < 512 := (i 1).isLt; omega⟩
    (ValueIdx.ix2 (n0 := 64) (n1 := 128) ⟨(i 0).val % 64, Nat.mod_lt _ (by omega)⟩ ⟨(i 1).val % 128, Nat.mod_lt _ (by omega)⟩)

theorem outBlock_step (x2 : Vec F S4 .i32) (x3 : Vec F S3 .i32) (x4 : Vec F S3 .f32) (x9 : Vec F S1024x512 .bf16) (P : Vec F S4x1248x128 .f32) (y : Vec F S1024x512 .bf16)
    (k : Fin k0_t1_loop.trips) (hy : ∀ i, (i 0).val < 64 * k.val → y i = outBlock x2 x3 x4 x9 P i) :
    ∀ i, (i 0).val < 64 * (k.val + 1) → putTrip y k.val (tripVal x2 x3 k0_pay84 (skipWord x4 0 inb_S3_S1_0) (skipWord x4 1 inb_S3_S1_1) (skipWord x4 2 inb_S3_S1_2) x9 P k) i = outBlock x2 x3 x4 x9 P i := by
  intro i hi
  unfold putTrip
  split
  · rename_i h
    have hk : k = ⟨(i 0).val / 64, by have : (i 0).val < 1024 := (i 0).isLt; rw [trips_eq]; omega⟩ := Fin.ext (show k.val = (i 0).val / 64 by omega)
    unfold outBlock
    rw [← hk]
    refine congrArg _ (congrArg (fun r => ValueIdx.ix2 (n0 := 64) (n1 := 128) r _) (Fin.ext ?_))
    show (i 0).val - 64 * k.val = (i 0).val % 64
    omega
  · exact hy i (by omega)

variable (x2 : Vec F S4 .i32) (x3 : Vec F S3 .i32) (x4 : Vec F S3 .f32) (x9 : Vec F S1024x512 .bf16)

/-- What the second phase owns before trip `n`. -/
abbrev phase2 (P : Vec F S4x1248x128 .f32) (n : ℕ) (_ : Unit) : sProp 𝕄 :=
  iprop(owns (co : Thread nD τ) arg2 fullShare x2 ∗ owns (co : Thread nD τ) arg3 fullShare x3 ∗ owns (co : Thread nD τ) arg9 fullShare x9
      ∗ owns (co : Thread nD τ) arg11 fullShare P ∗ (∃ y : Vec F S1024x512 .bf16, ⌜∀ i, (i 0).val < 64 * n → y i = outBlock x2 x3 x4 x9 P i⌝ ∗ owns (co : Thread nD τ) arg10 fullShare y))

theorem phase2_step (P : Vec F S4x1248x128 .f32) (E : Set ℕ) (k : Fin k0_t1_loop.trips) (acc : Unit) :
    phase2 co arg2 arg3 arg9 arg10 arg11 x2 x3 x4 x9 P k.val acc ⊢ wp frame (wpE (defs₀ (F := F)) Variants.none co none) E
      (k0_t1_body (F := F) i arg1 harg1 arg2 harg2 arg3 harg3 arg4 harg4 arg5 harg5 arg6 harg6 arg7 harg7 arg8 harg8 arg9 harg9 arg10 harg10 arg11 harg11 k0_pay84 (skipWord x4 0 inb_S3_S1_0) (skipWord x4 1 inb_S3_S1_1) (skipWord x4 2 inb_S3_S1_2) k acc)
      (phase2 co arg2 arg3 arg9 arg10 arg11 x2 x3 x4 x9 P (k.val + 1)) := by
  iintro ⟨H2, H3, H9, H11, %y, %hy, H10⟩
  iapply (wp_wand_r frame (wpE (defs₀ (F := F)) Variants.none co none) E)
  isplitl [H2 H3 H9 H11 H10]
  · iapply (wp_trip co i arg1 harg1 arg2 harg2 arg3 harg3 arg4 harg4 arg5 harg5 arg6 harg6 arg7 harg7 arg8 harg8 arg9 harg9 arg10 harg10 arg11 harg11 k0_pay84 (skipWord x4 0 inb_S3_S1_0) (skipWord x4 1 inb_S3_S1_1) (skipWord x4 2 inb_S3_S1_2) k x2 x3 x9 P y E)
    isplitl [H2]; · iexact H2
    isplitl [H3]; · iexact H3
    isplitl [H9]; · iexact H9
    isplitl [H11]; · iexact H11
    iexact H10
  · iintro %_ ⟨H2, H3, H9, H11, H10⟩
    isplitl [H2]; · iexact H2
    isplitl [H3]; · iexact H3
    isplitl [H9]; · iexact H9
    isplitl [H11]; · iexact H11
    iexists _
    isplitr
    swap
    · iexact H10
    · ipureintro
      exact outBlock_step x2 x3 x4 x9 P y k hy

theorem wp_loop (P : Vec F S4x1248x128 .f32) (E : Set ℕ) :
    phase2 co arg2 arg3 arg9 arg10 arg11 x2 x3 x4 x9 P 0 () ⊢ wp frame (wpE (defs₀ (F := F)) Variants.none co none) E
      (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 k0_pay84 (skipWord x4 0 inb_S3_S1_0) (skipWord x4 1 inb_S3_S1_1) (skipWord x4 2 inb_S3_S1_2)))
      fun _ => (iprop(owns (co : Thread nD τ) arg2 fullShare x2 ∗ owns (co : Thread nD τ) arg3 fullShare x3 ∗ owns (co : Thread nD τ) arg9 fullShare x9
        ∗ owns (co : Thread nD τ) arg11 fullShare P ∗ owns (co : Thread nD τ) arg10 fullShare (outBlock x2 x3 x4 x9 P)) : sProp 𝕄) := by
  iintro H
  iapply (Scf.wp_for frame (wpE (defs₀ (F := F)) Variants.none co none) E k0_t1_loop.lb k0_t1_loop.ub k0_t1_loop.st k0_t1_ok () _
    (phase2 co arg2 arg3 arg9 arg10 arg11 x2 x3 x4 x9 P) (phase2_step co i arg1 harg1 arg2 harg2 arg3 harg3 arg4 harg4 arg5 harg5 arg6 harg6 arg7 harg7 arg8 harg8 arg9 harg9 arg10 harg10 arg11 harg11 x2 x3 x4 x9 P E))
  isplitl [H]; · iexact H
  iintro %_ ⟨H2, H3, H9, H11, %y, %hy, H10⟩
  have hall : y = outBlock x2 x3 x4 x9 P := funext fun i => hy i (by
    have : (i 0).val < 1024 := (i 0).isLt
    have h16 : Scf.trips k0_t1_loop.lb k0_t1_loop.ub k0_t1_loop.st = 16 := trips_eq
    rw [h16]; omega)
  subst hall
  isplitl [H2]; · iexact H2
  isplitl [H3]; · iexact H3
  isplitl [H9]; · iexact H9
  isplitl [H11]; · iexact H11
  iexact H10

/-- The gates read, and handed on. -/
def readGates {α : Type} (kk : Elt F .f32 → Elt F .f32 → Elt F .f32 → Prog (TpuEff nD τ sig (Elt F) Λ₀ .tc) α) : Prog (TpuEff nD τ sig (Elt F) Λ₀ .tc) α := do
  let v53 : Elt F .f32 ← smemLoad arg4 (Rect.unit (s := S3) ![0] S1.size inb_S3_S1_0) numel1_S1 rfl
  let v64 : Elt F .f32 ← smemLoad arg4 (Rect.unit (s := S3) ![1] S1.size inb_S3_S1_1) numel1_S1 rfl
  let v75 : Elt F .f32 ← smemLoad arg4 (Rect.unit (s := S3) ![2] S1.size inb_S3_S1_2) numel1_S1 rfl
  kk v53 v64 v75

theorem wp_readGates {α : Type} (kk : Elt F .f32 → Elt F .f32 → Elt F .f32 → Prog (TpuEff nD τ sig (Elt F) Λ₀ .tc) α) (E : Set ℕ) (Q : α → sProp 𝕄) :
    iprop(owns (co : Thread nD τ) arg4 fullShare x4
      ∗ (owns (co : Thread nD τ) arg4 fullShare x4 -∗ wp frame (wpE (defs₀ (F := F)) Variants.none co none) E (kk (skipWord x4 0 inb_S3_S1_0) (skipWord x4 1 inb_S3_S1_1) (skipWord x4 2 inb_S3_S1_2)) Q))
    ⊢ wp frame (wpE (defs₀ (F := F)) Variants.none co none) E (readGates arg4 kk) Q := by
  unfold owns
  iintro ⟨⟨%f4, %hf4, H4⟩, Hk⟩
  subst hf4
  unfold readGates
  sl_exec
  iapply Hk
  iexists _; isplitr; · ipureintro; exact rfl
  iexact H4

theorem body_eq : cc0_out_proj (F := F) i arg1 harg1 arg2 harg2 arg3 harg3 arg4 harg4 arg5 harg5 arg6 harg6 arg7 harg7 arg8 harg8 arg9 harg9 arg10 harg10 arg11 harg11 = (do
    let r ← k0_part5 (F := F) i arg1 harg1 arg2 harg2 arg3 harg3 arg4 harg4 arg5 harg5 arg6 harg6 arg7 harg7 arg8 harg8 arg9 harg9 arg10 harg10 arg11 harg11
    let v52 ← k0_part6 i arg1 harg1 arg2 harg2 arg3 harg3 arg4 harg4 arg5 harg5 arg6 harg6 arg7 harg7 arg8 harg8 arg9 harg9 arg10 harg10 arg11 harg11 r.1 r.2.1 r.2.2
    readGates arg4 fun v53 v64 v75 => do
      Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 v52 v53 v64 v75)
      pure ⟨⟩) := rfl

set_option maxHeartbeats 1000000 in
/-- The body, run on blocks holding `x1` to `x9`: whatever the planes and the output block held, the output block ends at
    `outBlock` of planes that hold every typed chunk's projection. -/
theorem wp_body (E : Set ℕ) :
    iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare x6
      ∗ owns (co : Thread nD τ) arg7 fullShare x7 ∗ owns (co : Thread nD τ) arg8 fullShare x8 ∗ owns (co : Thread nD τ) arg9 fullShare x9
      ∗ (∃ y : Vec F S1024x512 .bf16, owns (co : Thread nD τ) arg10 fullShare y) ∗ (∃ P : Vec F S4x1248x128 .f32, owns (co : Thread nD τ) arg11 fullShare P))
    ⊢ wp frame (wpE (defs₀ (F := F)) Variants.none co none) E (cc0_out_proj (F := F) i arg1 harg1 arg2 harg2 arg3 harg3 arg4 harg4 arg5 harg5 arg6 harg6 arg7 harg7 arg8 harg8 arg9 harg9 arg10 harg10 arg11 harg11)
      fun _ => (iprop(∃ P' : Vec F S4x1248x128 .f32, ⌜Filled x1 hchk x5 x6 x7 x8 P' 13⌝
        ∗ owns (co : Thread nD τ) arg1 fullShare x1 ∗ owns (co : Thread nD τ) arg2 fullShare x2 ∗ owns (co : Thread nD τ) arg3 fullShare x3
        ∗ owns (co : Thread nD τ) arg4 fullShare x4 ∗ owns (co : Thread nD τ) arg5 fullShare x5 ∗ owns (co : Thread nD τ) arg6 fullShare x6
        ∗ owns (co : Thread nD τ) arg7 fullShare x7 ∗ owns (co : Thread nD τ) arg8 fullShare x8 ∗ owns (co : Thread nD τ) arg9 fullShare x9
        ∗ owns (co : Thread nD τ) arg10 fullShare (outBlock x2 x3 x4 x9 P') ∗ owns (co : Thread nD τ) arg11 fullShare P') : sProp 𝕄) := by
  rw [body_eq, wp_bind]
  iintro ⟨H1, H2, H3, H4, H5, H6, H7, H8, H9, ⟨%y, H10⟩, ⟨%P, H11⟩⟩
  iapply (wp_wand_r frame (wpE (defs₀ (F := F)) Variants.none co none) E)
  isplitl [H1 H5 H6 H7 H8 H11]
  · iapply (wp_part5 co i arg1 harg1 arg2 harg2 arg3 harg3 arg4 harg4 arg5 harg5 arg6 harg6 arg7 harg7 arg8 harg8 arg9 harg9 arg10 harg10 arg11 harg11 x1 hchk x5 x6 x7 x8 P (filled_zero _ _ _ _ _ _ P) E)
    isplitl [H1]; · iexact H1
    isplitl [H5]; · iexact H5
    isplitl [H6]; · iexact H6
    isplitl [H7]; · iexact H7
    isplitl [H8]; · iexact H8
    iexact H11
  iintro %r ⟨%P1, %hr, HP⟩
  obtain ⟨hP1, rfl⟩ := hr
  rw [wp_bind]
  iapply (wp_wand_r frame (wpE (defs₀ (F := F)) Variants.none co none) E)
  isplitl [HP]
  · iapply (wp_part6 co i arg1 harg1 arg2 harg2 arg3 harg3 arg4 harg4 arg5 harg5 arg6 harg6 arg7 harg7 arg8 harg8 arg9 harg9 arg10 harg10 arg11 harg11 x1 hchk x5 x6 x7 x8 P1 hP1 E)
    iexact HP
  iintro %r ⟨%P2, %hr, H1, H5, H6, H7, H8, H11⟩
  obtain ⟨hP2, rfl⟩ := hr
  iapply (wp_readGates co arg4 x4 _ E)
  isplitl [H4]; · iexact H4
  iintro H4
  rw [wp_bind]
  iapply (wp_wand_r frame (wpE (defs₀ (F := F)) Variants.none co none) E)
  isplitl [H2 H3 H9 H11 H10]
  · iapply (wp_loop co i arg1 harg1 arg2 harg2 arg3 harg3 arg4 harg4 arg5 harg5 arg6 harg6 arg7 harg7 arg8 harg8 arg9 harg9 arg10 harg10 arg11 harg11 x2 x3 x4 x9 P2 E)
    isplitl [H2]; · iexact H2
    isplitl [H3]; · iexact H3
    isplitl [H9]; · iexact H9
    isplitl [H11]; · iexact H11
    iexists y
    isplitr
    · ipureintro; intro i hi; exact absurd hi (by omega)
    iexact H10
  iintro %_ ⟨H2, H3, H9, H11, H10⟩
  sl_step
  iexists P2
  isplitr
  · ipureintro; exact hP2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Body

end Cert.Out.Hand

end
-- ==== Proof.OutHost.lean ====
/-
  What the operations before the pallas_call of `Out` compute: the word that names each chunk's node type, as a function
  of the type offsets, and the range of that word.
-/
module

public import proofs.«01_k».proof.Proof.Gen.Out.Frame

@[expose] public section

set_option maxRecDepth 16384

noncomputable section

namespace Cert.Out.Hand

open Cert.Out Cert.Out.Gen
open Idealize.ShloMosaic Idealize.ShloMosaic.TcCoe Idealize.ShloMosaic.Tactic

variable {F : FTy → Type} [FloatOps F]
variable (m : (ℓ : Loc nD τ sig) → Buf (Elt F) ℓ)

/-- The quotient of `x` by 96, rounded down. -/
def floor96 (x : IVec S3 32) : IVec S3 32 :=
  select
    (andi (cmpi .ne (signi x) (broadcastInDim S3 ![] bcast_S_S3 (signi (id (constantI S_ 32 96#32)))))
      (cmpi .ne (Host.remsi x (broadcastInDim S3 ![] bcast_S_S3 (id (constantI S_ 32 96#32)))) (broadcastInDim S3 ![] bcast_S_S3 (constantI S_ 32 0#32))))
    (subi (Host.divsi x (broadcastInDim S3 ![] bcast_S_S3 (id (constantI S_ 32 96#32)))) (broadcastInDim S3 ![] bcast_S_S3 (constantI S_ 32 1#32)))
    (Host.divsi x (broadcastInDim S3 ![] bcast_S_S3 (id (constantI S_ 32 96#32))))

/-- The number of nodes of each type, from the type offsets. -/
def counts (off : IVec S4 32) : IVec S3 32 :=
  subi (extractStridedSlice S3 ![1] off slices_S4_S3_1) (extractStridedSlice S3 ![0] off slices_S4_S3_0)

/-- The running sums of the numbers of chunks. -/
def endsOf (blocks : IVec S3 32) : IVec S3 32 :=
  Host.reduceWindow IntOp.addi ![3] ![1] ![2] ![0] blocks (broadcastInDim S_ ![] bcast_S_S_ (constantI S_ 32 0#32)) reduceWindows_S3_S3_w3s1p2_0 h_S_

/-- The first chunk of each type, and the number of chunks in use. -/
def firstOf (off : IVec S4 32) : IVec S4 32 :=
  concatenate S4 0 [⟨S1, broadcastInDim S1 ![] bcast_S_S1 (constantI S_ 32 0#32)⟩, ⟨S3, endsOf (floor96 (subi (addi (counts off) (broadcastInDim S3 ![] bcast_S_S3 (constantI S_ 32 96#32))) (broadcastInDim S3 ![] bcast_S_S3 (constantI S_ 32 1#32))))⟩] concatenates_S1_S3_S4_d0

/-- How many of the three words `ends` are at or below each chunk's number. -/
def rankIn (first : IVec S4 32) : IVec S13 32 :=
  Host.reduce IntOp.addi (extui 32 (cmpi .sge
    (broadcastInDim S13x3 ![0, 1] bcast_S13x1_S13x3_0_1 (broadcastInDim S13x1 ![0] bcast_S13_S13x1_0 (iotaInDim S13 32 0)))
    (broadcastInDim S13x3 ![0, 1] bcast_S1x3_S13x3_0_1 (broadcastInDim S1x3 ![1] bcast_S3_S1x3_1 (extractStridedSlice S3 ![1] first slices_S4_S3_1)))) natLt_1_32)
    (constantI S_ 32 0#32) reducesTo_S13x3_S13_d1 h_S_

/-- How many types end at or before each chunk. -/
def rankOf (off : IVec S4 32) : IVec S13 32 := rankIn (firstOf off)

/-- The word of each chunk: its type, or -1 for a chunk of padding. -/
def ctypeOf (off : IVec S4 32) : IVec S13 32 :=
  select (cmpi .slt (rankOf off) (broadcastInDim S13 ![] bcast_S_S13 (constantI S_ 32 3#32))) (rankOf off)
    (broadcastInDim S13 ![] bcast_S_S13 (id (constantI S_ 32 4294967295#32)))

/-- How far each type's rows lie below their nodes, from the types' first chunks. -/
def shiftIn (first off : IVec S4 32) : IVec S3 32 :=
  subi (muli (extractStridedSlice S3 ![0] first slices_S4_S3_0) (broadcastInDim S3 ![] bcast_S_S3 (constantI S_ 32 96#32)))
    (extractStridedSlice S3 ![0] off slices_S4_S3_0)

/-- The same, from the type offsets. -/
def shiftOf (off : IVec S4 32) : IVec S3 32 := shiftIn (firstOf off) off

/-- Two stretches of operations in a row. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons o l ih => exact ih _

section Steps
variable (W : Valuation τ sig (Elt F))

theorem step0 : StableHlo.after hostOps0 W main_v0 = counts (W main_arg0) := by
  unfold hostOps0; after_results; try rfl
theorem step1 : StableHlo.after hostOps0_1 W main_v4 = subi (addi (W main_v0) (broadcastInDim S3 ![] bcast_S_S3 (constantI S_ 32 96#32))) (broadcastInDim S3 ![] bcast_S_S3 (constantI S_ 32 1#32)) := by
  unfold hostOps0_1; after_results; try rfl
theorem step1' : StableHlo.after hostOps0_1 W main_c_1 = constantI S_ 32 96#32 := by
  unfold hostOps0_1; after_results; try rfl
theorem step2 (h : W main_c_1 = constantI S_ 32 96#32) : StableHlo.after hostOps0_2 W main_v5 = floor96 (W main_v4) := by
  unfold hostOps0_2; after_results; simp only [h]; try rfl
theorem step3 : StableHlo.after hostOps0_3 W main_v6 = broadcastInDim S1 ![] bcast_S_S1 (constantI S_ 32 0#32) := by
  unfold hostOps0_3; after_results; try rfl
theorem step3' : StableHlo.after hostOps0_3 W main_v5 = W main_v5 := by
  unfold hostOps0_3; after_results; try rfl
theorem step4 : StableHlo.after hostOps0_4 W main_v7 = endsOf (W main_v5) := by
  unfold hostOps0_4; after_results; try rfl
theorem step4' : StableHlo.after hostOps0_4 W main_v6 = W main_v6 := by
  unfold hostOps0_4; after_results; try rfl
theorem step5 : StableHlo.after hostOps0_5 W main_v17 = rankIn (concatenate S4 0 [⟨S1, W main_v6⟩, ⟨S3, W main_v7⟩] concatenates_S1_S3_S4_d0) := by
  unfold hostOps0_5; after_results; try rfl
theorem step5' : StableHlo.after hostOps0_5 W main_v19 = cmpi .slt (rankIn (concatenate S4 0 [⟨S1, W main_v6⟩, ⟨S3, W main_v7⟩] concatenates_S1_S3_S4_d0)) (broadcastInDim S13 ![] bcast_S_S13 (constantI S_ 32 3#32)) := by
  unfold hostOps0_5; after_results; try rfl
theorem step5'' : StableHlo.after hostOps0_5 W main_c_5 = constantI S_ 32 4294967295#32 := by
  unfold hostOps0_5; after_results; try rfl
theorem step6 : StableHlo.after hostOps0_6 W main_v20 = select (W main_v19) (W main_v17) (broadcastInDim S13 ![] bcast_S_S13 (id (W main_c_5))) := by
  unfold hostOps0_6; after_results; try rfl
theorem step7 : StableHlo.after hostOps0_7 W main_v20 = W main_v20 := by
  unfold hostOps0_7; after_results; try rfl

theorem step5f : StableHlo.after hostOps0_5 W main_v8 = concatenate S4 0 [⟨S1, W main_v6⟩, ⟨S3, W main_v7⟩] concatenates_S1_S3_S4_d0 := by
  unfold hostOps0_5; after_results; try rfl
theorem step6f : StableHlo.after hostOps0_6 W main_v8 = W main_v8 := by
  unfold hostOps0_6; after_results; try rfl
theorem step7f : StableHlo.after hostOps0_7 W main_v25 = shiftIn (W main_v8) (W main_arg0) := by
  unfold hostOps0_7; after_results; try rfl
theorem arg0_0 : StableHlo.after hostOps0 W main_arg0 = W main_arg0 := by unfold hostOps0; after_results; try rfl
theorem arg0_1 : StableHlo.after hostOps0_1 W main_arg0 = W main_arg0 := by unfold hostOps0_1; after_results; try rfl
theorem arg0_2 : StableHlo.after hostOps0_2 W main_arg0 = W main_arg0 := by unfold hostOps0_2; after_results; try rfl
theorem arg0_3 : StableHlo.after hostOps0_3 W main_arg0 = W main_arg0 := by unfold hostOps0_3; after_results; try rfl
theorem arg0_4 : StableHlo.after hostOps0_4 W main_arg0 = W main_arg0 := by unfold hostOps0_4; after_results; try rfl
theorem arg0_5 : StableHlo.after hostOps0_5 W main_arg0 = W main_arg0 := by unfold hostOps0_5; after_results; try rfl
theorem arg0_6 : StableHlo.after hostOps0_6 W main_arg0 = W main_arg0 := by unfold hostOps0_6; after_results; try rfl

end Steps

/-- The array of chunk words as the pallas_call finds it. -/
theorem V_ctype (c : Dev nD) : V m c main_v20 = ctypeOf (m ((c : Thread nD τ).loc main_arg0)) := by
  unfold V
  simp only [List.flatten_cons, List.flatten_nil, after_append, StableHlo.after_nil]
  rw [step7, step6, step5, step5', step5'', step4, step4', step3, step3', step2 _ (step1' _), step1, step0]
  rfl

set_option backward.isDefEq.respectTransparency.types false in
/-- The array of shifts as the pallas_call finds it. -/
theorem V_shift (c : Dev nD) : V m c main_v25 = shiftOf (m ((c : Thread nD τ).loc main_arg0)) := by
  unfold V
  simp only [List.flatten_cons, List.flatten_nil, after_append, StableHlo.after_nil]
  rw [step7f, step6f, step5f, step4, step4', step3, step3', step2 _ (step1' _), step1, step0, arg0_6, arg0_5, arg0_4, arg0_3, arg0_2, arg0_1, arg0_0]
  rfl

/-- The scales as the pallas_call finds them. -/
theorem V_scale (c : Dev nD) : V m c main_v26 = broadcastInDim S3x1x3584 ![0, 2] bcast_S3x3584_S3x1x3584_0_2 (m ((c : Thread nD τ).loc main_arg3)) := by
  unfold V
  simp only [hostOps0, hostOps0_1, hostOps0_2, hostOps0_3, hostOps0_4, hostOps0_5, hostOps0_6, hostOps0_7, List.flatten_cons, List.flatten_nil, List.append_nil, List.cons_append,
      List.nil_append]
  after_results_simp

/-- The biases as the pallas_call finds them. -/
theorem V_bias (c : Dev nD) : V m c main_v27 = broadcastInDim S3x1x3584 ![0, 2] bcast_S3x3584_S3x1x3584_0_2 (m ((c : Thread nD τ).loc main_arg4)) := by
  unfold V
  simp only [hostOps0, hostOps0_1, hostOps0_2, hostOps0_3, hostOps0_4, hostOps0_5, hostOps0_6, hostOps0_7, List.flatten_cons, List.flatten_nil, List.append_nil, List.cons_append,
      List.nil_append]
  after_results_simp

/-- A word below three, read as a type, is at most two. -/
def Small (v : BitVec 32) : Prop := v.slt 3#32 = true

theorem small_ctypeOf (off : IVec S4 32) (i : S13.Idx) : Small (ctypeOf off i) := by
  unfold ctypeOf Small
  show BitVec.slt (if (BitVec.ofBool ((rankOf off i).slt 3#32)) = 1#1 then rankOf off i else 4294967295#32) 3#32 = true
  split
  · rename_i h
    exact (WordCmp.ofBool_eq_one_iff _).mp h
  · decide

theorem Small.lt {v : BitVec 32} (h : Small v) : (Scalar.maxsi v 0#32).toNat < 3 := by
  have h' : v.toInt < 3 := by
    have := h; unfold Small at this
    rw [BitVec.slt_iff_toInt_lt] at this
    exact this
  show (if (0#32 : BitVec 32).slt v then v else 0#32).toNat < 3
  split
  · rename_i h0
    rw [BitVec.slt_iff_toInt_lt] at h0
    have h0' : (0 : Int) < v.toInt := h0
    rw [BitVec.toInt_eq_toNat_cond] at h' h0'
    split at h' <;> omega
  · decide

end Cert.Out.Hand

end
-- ==== Proof.OutFrame.lean ====
/-
  The frame of the program `Out`: what each window's staging buffer holds at every grid point, the body's obligation at a
  point, and the run of the whole program, once with nothing said of the output and once with the output's blocks named.
-/
module

public import proofs.«01_k».proof.Proof.OutBody
public import proofs.«01_k».proof.Proof.OutHost
public import Idealize.ShloMosaic.Lib.Pipeline.TableIdle
public import Idealize.ShloMosaic.Lib.Claim

@[expose] public section

set_option maxRecDepth 16384

noncomputable section

namespace Cert.Out.Hand

open Cert.Out Cert.Out.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The chunk words are in range -/

theorem chk1_of_small (v : BitVec 32) (h : Small v) : k0_chk1 v := by
  have h3 := h.lt
  refine ⟨fun _ a => ?_, fun _ a => ?_⟩
  · fin_cases a
    · show (Scalar.maxsi v 0#32).toNat + 1 ≤ 3
      omega
    · exact Nat.le_refl _
    · exact Nat.le_refl _
  · fin_cases a
    · show (Scalar.maxsi v 0#32).toNat + 1 ≤ 3
      omega
    · exact Nat.le_refl _
    · exact Nat.le_refl _

/-- Every chunk word that the body reads is in range. -/
theorem words_chk (c : Dev nD) (t : Fin cfg0.N) (k : ℕ) (hk : k < 13) : k0_chk1 (wordAt (iblk m c 0 t) k hk) := by
  apply chk1_of_small
  show Small (V m c main_v20 _)
  rw [V_ctype]
  exact small_ctypeOf _ _

variable (X : Dev nD → Fin cfg0.N → Vec F S1024x512 .bf16)

/-- What the body leaves in each window's buffer, the output's being given as `X`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => X c t
  Φ _ := Pipeline.ΦA spec0 c
  q _ := fullShare
  owed _ := 0

theorem A_eq (c : Dev nD) (w : Fin cfg0.W) : (dats m X 0 c).A w = V m c (Pipeline.arrRef spec0 w) := by
  dsimp only [dats]

theorem after0_0 (c : Dev nD) (t : Fin cfg0.N) : (dats m X 0 c).after 0 t = iblk m c 0 t := by dsimp only [dats]
theorem after0_1 (c : Dev nD) (t : Fin cfg0.N) : (dats m X 0 c).after 1 t = iblk m c 1 t := by dsimp only [dats]
theorem after0_2 (c : Dev nD) (t : Fin cfg0.N) : (dats m X 0 c).after 2 t = iblk m c 2 t := by dsimp only [dats]
theorem after0_3 (c : Dev nD) (t : Fin cfg0.N) : (dats m X 0 c).after 3 t = iblk m c 3 t := by dsimp only [dats]
theorem after0_4 (c : Dev nD) (t : Fin cfg0.N) : (dats m X 0 c).after 4 t = iblk m c 4 t := by dsimp only [dats]
theorem after0_5 (c : Dev nD) (t : Fin cfg0.N) : (dats m X 0 c).after 5 t = iblk m c 5 t := by dsimp only [dats]
theorem after0_6 (c : Dev nD) (t : Fin cfg0.N) : (dats m X 0 c).after 6 t = iblk m c 6 t := by dsimp only [dats]
theorem after0_7 (c : Dev nD) (t : Fin cfg0.N) : (dats m X 0 c).after 7 t = iblk m c 7 t := by dsimp only [dats]
theorem after0_8 (c : Dev nD) (t : Fin cfg0.N) : (dats m X 0 c).after 8 t = iblk m c 8 t := by dsimp only [dats]
theorem after0_9 (c : Dev nD) (t : Fin cfg0.N) : (dats m X 0 c).after 9 t = X c t := by dsimp only [dats]

theorem before0_0 (c : Dev nD) (t : Fin cfg0.N) (d) : (dats m X 0 c).before 0 t d = iblk m c 0 t :=
  before0_0_of m (dats m X 0 c) (A_eq m X c 0) (after0_0 m X c) t d
theorem before0_1 (c : Dev nD) (t : Fin cfg0.N) (d) : (dats m X 0 c).before 1 t d = iblk m c 1 t :=
  before0_1_of m (dats m X 0 c) (A_eq m X c 1) (after0_1 m X c) t d
theorem before0_2 (c : Dev nD) (t : Fin cfg0.N) (d) : (dats m X 0 c).before 2 t d = iblk m c 2 t :=
  before0_2_of m (dats m X 0 c) (A_eq m X c 2) (after0_2 m X c) t d
theorem before0_3 (c : Dev nD) (t : Fin cfg0.N) (d) : (dats m X 0 c).before 3 t d = iblk m c 3 t :=
  before0_3_of m (dats m X 0 c) (A_eq m X c 3) (after0_3 m X c) t d
theorem before0_4 (c : Dev nD) (t : Fin cfg0.N) (d) : (dats m X 0 c).before 4 t d = iblk m c 4 t :=
  before0_4_of m (dats m X 0 c) (A_eq m X c 4) (after0_4 m X c) t d
theorem before0_5 (c : Dev nD) (t : Fin cfg0.N) (d) : (dats m X 0 c).before 5 t d = iblk m c 5 t :=
  before0_5_of m (dats m X 0 c) (A_eq m X c 5) (after0_5 m X c) t d
theorem before0_6 (c : Dev nD) (t : Fin cfg0.N) (d) : (dats m X 0 c).before 6 t d = iblk m c 6 t :=
  before0_6_of m (dats m X 0 c) (A_eq m X c 6) (after0_6 m X c) t d
theorem before0_7 (c : Dev nD) (t : Fin cfg0.N) (d) : (dats m X 0 c).before 7 t d = iblk m c 7 t :=
  before0_7_of m (dats m X 0 c) (A_eq m X c 7) (after0_7 m X c) t d
theorem before0_8 (c : Dev nD) (t : Fin cfg0.N) (d) : (dats m X 0 c).before 8 t d = iblk m c 8 t :=
  before0_8_of m (dats m X 0 c) (A_eq m X c 8) (after0_8 m X c) t d

/-- Planes that hold every typed chunk's projection at point `t`. -/
def FilledAt (c : Dev nD) (t : Fin cfg0.N) (P : Vec F S4x1248x128 .f32) : Prop :=
  Filled (iblk m c 0 t) (words_chk m c t) (iblk m c 4 t) (iblk m c 5 t) (iblk m c 6 t) (iblk m c 7 t) P 13

/-- The output block that such planes give at point `t`. -/
def outFrom (c : Dev nD) (t : Fin cfg0.N) (P : Vec F S4x1248x128 .f32) : Vec F S1024x512 .bf16 :=
  outBlock (iblk m c 1 t) (iblk m c 2 t) (iblk m c 3 t) (iblk m c 8 t) P

/-! ## The body at a grid point -/

/-- The planes' buffer, owned whole, is its points-to. -/
theorem scratch_out (c : Dev nD) (P : Vec F S4x1248x128 .f32) :
    (owns (c : Thread nD τ) (Memref.whole cc0_scratch0) fullShare P : sProp 𝕄) ⊢ (((c : Thread nD τ).loc cc0_scratch0) ↦{fullShare} P) :=
  (congrArg (fun A : sProp 𝕄 => A ⊢ (((c : Thread nD τ).loc cc0_scratch0) ↦{fullShare} P)) (owns_whole (c : Thread nD τ) cc0_scratch0 fullShare P)).mpr .rfl

/-- What the body is given at point `t`. -/
def bodyPre (c : Dev nD) (t : Fin cfg0.N) : sProp 𝕄 :=
  iprop((dats m X 0 c).Φ t.castSucc ∗ (dats m X 0 c).owesAt () t.castSucc
    ∗ (∃ d, owns (c : Thread nD τ) (st0_0 t) fullShare ((dats m X 0 c).before 0 t d))
    ∗ (∃ d, owns (c : Thread nD τ) (st0_1 t) fullShare ((dats m X 0 c).before 1 t d))
    ∗ (∃ d, owns (c : Thread nD τ) (st0_2 t) fullShare ((dats m X 0 c).before 2 t d))
    ∗ (∃ d, owns (c : Thread nD τ) (st0_3 t) fullShare ((dats m X 0 c).before 3 t d))
    ∗ (∃ d, owns (c : Thread nD τ) (st0_4 t) fullShare ((dats m X 0 c).before 4 t d))
    ∗ (∃ d, owns (c : Thread nD τ) (st0_5 t) fullShare ((dats m X 0 c).before 5 t d))
    ∗ (∃ d, owns (c : Thread nD τ) (st0_6 t) fullShare ((dats m X 0 c).before 6 t d))
    ∗ (∃ d, owns (c : Thread nD τ) (st0_7 t) fullShare ((dats m X 0 c).before 7 t d))
    ∗ (∃ d, owns (c : Thread nD τ) (st0_8 t) fullShare ((dats m X 0 c).before 8 t d))
    ∗ (∃ d, owns (c : Thread nD τ) (st0_9 t) fullShare d))

/-- What it leaves. -/
def bodyPost (c : Dev nD) (t : Fin cfg0.N) : sProp 𝕄 :=
  iprop((dats m X 0 c).Φ t.succ ∗ (dats m X 0 c).owesAt () t.succ
    ∗ owns (c : Thread nD τ) (st0_0 t) fullShare ((dats m X 0 c).after 0 t)
    ∗ owns (c : Thread nD τ) (st0_1 t) fullShare ((dats m X 0 c).after 1 t)
    ∗ owns (c : Thread nD τ) (st0_2 t) fullShare ((dats m X 0 c).after 2 t)
    ∗ owns (c : Thread nD τ) (st0_3 t) fullShare ((dats m X 0 c).after 3 t)
    ∗ owns (c : Thread nD τ) (st0_4 t) fullShare ((dats m X 0 c).after 4 t)
    ∗ owns (c : Thread nD τ) (st0_5 t) fullShare ((dats m X 0 c).after 5 t)
    ∗ owns (c : Thread nD τ) (st0_6 t) fullShare ((dats m X 0 c).after 6 t)
    ∗ owns (c : Thread nD τ) (st0_7 t) fullShare ((dats m X 0 c).after 7 t)
    ∗ owns (c : Thread nD τ) (st0_8 t) fullShare ((dats m X 0 c).after 8 t)
    ∗ (∃ P, ⌜FilledAt m c t P⌝ ∗ owns (c : Thread nD τ) (st0_9 t) fullShare (outFrom m c t P)))

set_option maxHeartbeats 1000000 in
theorem sound_body (c : Dev nD) (t : Fin cfg0.N) :
    bodyPre m X c t ⊢ wp frame (wpE (defs₀ (F := F)) Variants.none c none) Set.univ (bodyAt0 t) (fun _ => bodyPost m X c t) := by
  unfold bodyPre bodyPost bodyAt0
  simp only [before0_0, before0_1, before0_2, before0_3, before0_4, before0_5, before0_6, before0_7, before0_8]
  rw [show (dats m X 0 c).Φ t.castSucc = Pipeline.ΦA spec0 c from rfl, show (dats m X 0 c).Φ t.succ = Pipeline.ΦA spec0 c from rfl,
    show (dats m X 0 c).owesAt () t.succ = (dats m X 0 c).owesAt () t.castSucc from rfl,
    after0_0, after0_1, after0_2, after0_3, after0_4, after0_5, after0_6, after0_7, after0_8]
  unfold Pipeline.ΦA
  rw [scopedRest0_eq]
  iintro ⟨⟨⟨%P, HP⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := F)) Variants.none c none) Set.univ)
  isplitl [H0 H1 H2 H3 H4 H5 H6 H7 H8 H9 HP]
  · iapply (wp_body c (grid0.coords t) _ _ _ _ _ _ _ _ _ _ _ _ _ _ _ _ _ _ _ _ _ _ (iblk m c 0 t) (words_chk m c t) (iblk m c 4 t) (iblk m c 5 t) (iblk m c 6 t) (iblk m c 7 t)
      (iblk m c 1 t) (iblk m c 2 t) (iblk m c 3 t) (iblk m c 8 t) Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists P
    rw [owns_whole]
    iexact HP
  iintro %_ ⟨%P', %hP', H0, H1, H2, H3, H4, H5, H6, H7, H8, H9, HP⟩
  isplitl [HP Hr]
  · isplitl [HP]
    · iexists P'
      iapply (scratch_out c P')
      iexact HP
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists P'
  isplitr
  · ipureintro; exact hP'
  iexact H9

theorem defs₀_row (t : Fin cfg0.N) :
    defs₀ (F := F) .tc cfg0.body (cfg0.bodyArgs t (cfg0.slots t)) = bodyAt0 t := by
  unfold defs₀; rw [Defs.onTc_tc]

/-! ## The run with nothing said of the output -/

/-- Only the output is left unnamed. -/
def hidden : Fin 10 → Bool := fun w => w.val == 9

/-- What the body leaves, the output at some contents. -/
def bodyPostF (c : Dev nD) (t : Fin cfg0.N) : sProp 𝕄 :=
  iprop((dats m X 0 c).Φ t.succ ∗ (dats m X 0 c).owesAt () t.succ
    ∗ owns (c : Thread nD τ) (st0_0 t) fullShare ((dats m X 0 c).after 0 t)
    ∗ owns (c : Thread nD τ) (st0_1 t) fullShare ((dats m X 0 c).after 1 t)
    ∗ owns (c : Thread nD τ) (st0_2 t) fullShare ((dats m X 0 c).after 2 t)
    ∗ owns (c : Thread nD τ) (st0_3 t) fullShare ((dats m X 0 c).after 3 t)
    ∗ owns (c : Thread nD τ) (st0_4 t) fullShare ((dats m X 0 c).after 4 t)
    ∗ owns (c : Thread nD τ) (st0_5 t) fullShare ((dats m X 0 c).after 5 t)
    ∗ owns (c : Thread nD τ) (st0_6 t) fullShare ((dats m X 0 c).after 6 t)
    ∗ owns (c : Thread nD τ) (st0_7 t) fullShare ((dats m X 0 c).after 7 t)
    ∗ owns (c : Thread nD τ) (st0_8 t) fullShare ((dats m X 0 c).after 8 t)
    ∗ (∃ d, owns (c : Thread nD τ) (st0_9 t) fullShare d))

theorem post_some (c : Dev nD) (t : Fin cfg0.N) : bodyPost m X c t ⊢ bodyPostF m X c t := by
  unfold bodyPost bodyPostF
  iintro ⟨HΦ, Ho, H0, H1, H2, H3, H4, H5, H6, H7, H8, ⟨%P, %hP, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _
  iexact H9

theorem body_some (c : Dev nD) : BodyObligation (dats (F := F) m X 0 c) (defs₀ (F := F)) Variants.none () Set.univ hidden := fun t => by
  rw [bigSep_W0, bigSep_W0, defs₀_row]
  exact triple_restated (sound_body m X c t) rfl .rfl fun _ => post_some m X c t

set_option backward.isDefEq.respectTransparency.types false in
theorem run_some : θ_run defs (onTc (τ := τ) (main (F := F))) (s₀ m ρ)
    (fun r => Pipeline.RDat.FramePost (cfgs 0) (fun c => (dats m X 0 c).toRForget hidden) (V m) r ∧ r.2.sem = fun _ => 0) :=
  Pipeline.θ_run_frame_forget (Q' := _) cfgs (dats m X) (0 : Fin 1) launch0 defs₀ Variants.none hidden m ρ main
    (hbody := fun c => (body_some m X c).loose) (hshare := fun c => (dats m X 0 c).share_full fun _ => rfl)
    (howed := fun _ _ => rfl) (V := V m) (hmain := hmain m Variants.none) (hA := A_eq m X) (hΦ := fun _ _ => rfl)

/-- An input array of the forgetful run ends as the region found it. -/
theorem input_kept (c : Dev nD) (w : Fin cfg0.W) (hw : hidden w = false) (hin : (cfg0.win w).isOut = false) (G)
    (h : ((dats m X 0 c).toRForget hidden).ArrAt w cfg0.N G) : G = V m c (Pipeline.arrRef spec0 w) :=
  (((dats m X 0 c).toRForget_arrAt_iff hw _ _).mp h).trans (((dats m X 0 c).arrAt_in w hin _).trans (A_eq m X c w))

/-! ## The run with the output named -/

/-- `X` names the output: whatever planes hold every typed chunk's projection, the block they give is `X`'s. -/
def Names : Prop := ∀ (c : Dev nD) (t : Fin cfg0.N) (P : Vec F S4x1248x128 .f32), FilledAt m c t P → outFrom m c t P = X c t

/-- What the body leaves, the output at its name. -/
def bodyPostX (c : Dev nD) (t : Fin cfg0.N) : sProp 𝕄 :=
  iprop((dats m X 0 c).Φ t.succ ∗ (dats m X 0 c).owesAt () t.succ
    ∗ owns (c : Thread nD τ) (st0_0 t) fullShare ((dats m X 0 c).after 0 t)
    ∗ owns (c : Thread nD τ) (st0_1 t) fullShare ((dats m X 0 c).after 1 t)
    ∗ owns (c : Thread nD τ) (st0_2 t) fullShare ((dats m X 0 c).after 2 t)
    ∗ owns (c : Thread nD τ) (st0_3 t) fullShare ((dats m X 0 c).after 3 t)
    ∗ owns (c : Thread nD τ) (st0_4 t) fullShare ((dats m X 0 c).after 4 t)
    ∗ owns (c : Thread nD τ) (st0_5 t) fullShare ((dats m X 0 c).after 5 t)
    ∗ owns (c : Thread nD τ) (st0_6 t) fullShare ((dats m X 0 c).after 6 t)
    ∗ owns (c : Thread nD τ) (st0_7 t) fullShare ((dats m X 0 c).after 7 t)
    ∗ owns (c : Thread nD τ) (st0_8 t) fullShare ((dats m X 0 c).after 8 t)
    ∗ owns (c : Thread nD τ) (st0_9 t) fullShare ((dats m X 0 c).after 9 t))

/-- What the body is given, the output's buffer as the named run finds it. -/
def bodyPreX (c : Dev nD) (t : Fin cfg0.N) : sProp 𝕄 :=
  iprop((dats m X 0 c).Φ t.castSucc ∗ (dats m X 0 c).owesAt () t.castSucc
    ∗ (∃ d, owns (c : Thread nD τ) (st0_0 t) fullShare ((dats m X 0 c).before 0 t d))
    ∗ (∃ d, owns (c : Thread nD τ) (st0_1 t) fullShare ((dats m X 0 c).before 1 t d))
    ∗ (∃ d, owns (c : Thread nD τ) (st0_2 t) fullShare ((dats m X 0 c).before 2 t d))
    ∗ (∃ d, owns (c : Thread nD τ) (st0_3 t) fullShare ((dats m X 0 c).before 3 t d))
    ∗ (∃ d, owns (c : Thread nD τ) (st0_4 t) fullShare ((dats m X 0 c).before 4 t d))
    ∗ (∃ d, owns (c : Thread nD τ) (st0_5 t) fullShare ((dats m X 0 c).before 5 t d))
    ∗ (∃ d, owns (c : Thread nD τ) (st0_6 t) fullShare ((dats m X 0 c).before 6 t d))
    ∗ (∃ d, owns (c : Thread nD τ) (st0_7 t) fullShare ((dats m X 0 c).before 7 t d))
    ∗ (∃ d, owns (c : Thread nD τ) (st0_8 t) fullShare ((dats m X 0 c).before 8 t d))
    ∗ (∃ d, owns (c : Thread nD τ) (st0_9 t) fullShare ((dats m X 0 c).before 9 t d)))

theorem pre_some (c : Dev nD) (t : Fin cfg0.N) : bodyPreX m X c t ⊢ bodyPre m X c t := by
  unfold bodyPreX bodyPre
  iintro ⟨HΦ, Ho, H0, H1, H2, H3, H4, H5, H6, H7, H8, ⟨%d, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _
  iexact H9

theorem post_named (hX : Names m X) (c : Dev nD) (t : Fin cfg0.N) : bodyPost m X c t ⊢ bodyPostX m X c t := by
  unfold bodyPost bodyPostX
  iintro ⟨HΦ, Ho, H0, H1, H2, H3, H4, H5, H6, H7, H8, ⟨%P, %hP, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [after0_9, ← hX c t P hP]
  iexact H9

theorem sound_named (hX : Names m X) (c : Dev nD) (t : Fin cfg0.N) :
    bodyPreX m X c t ⊢ wp frame (wpE (defs₀ (F := F)) Variants.none c none) Set.univ (bodyAt0 t) (fun _ => bodyPostX m X c t) :=
  triple_restated (sound_body m X c t) rfl (pre_some m X c t) fun _ => post_named m X hX c t

theorem body_named (hX : Names m X) (c : Dev nD) : BodyObligation (dats (F := F) m X 0 c) (defs₀ (F := F)) Variants.none () Set.univ := fun t => by
  rw [bigSep_W0, bigSep_W0, defs₀_row]
  exact triple_restated (sound_named m X hX c t) rfl .rfl fun _ => .rfl

set_option backward.isDefEq.respectTransparency.types false in
theorem run_named (hX : Names m X) : θ_run defs (onTc (τ := τ) (main (F := F))) (s₀ m ρ) (Pipeline.FramePost cfgs (dats m X) 0 (V m)) :=
  (θ_run defs _ _).mono (fun _ h => h.1) (Pipeline.θ_run_frame (Q' := fun r => Pipeline.FramePost cfgs (dats m X) 0 (V m) r ∧ r.2.sem = fun _ => 0) cfgs (dats m X) (0 : Fin 1) launch0 defs₀ Variants.none m ρ main
    (hbody := fun c => (body_named m X hX c).loose) (hshare := fun c => (dats m X 0 c).share_full fun _ => rfl)
    (howed := fun _ _ => rfl) (V := V m) (hmain := hmain m Variants.none) (hA := A_eq m X) (hΦ := fun _ _ => rfl))

/-- Every argument array ends as it was, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r hr => ⟨fun c =>
      ⟨(input_kept m _ c 1 rfl rfl _ ((hr.1 c).1 1)).trans (V_main_arg0 m c),
      (input_kept m _ c 4 rfl rfl _ ((hr.1 c).1 4)).trans (V_main_arg1 m c),
      (input_kept m _ c 5 rfl rfl _ ((hr.1 c).1 5)).trans (V_main_arg2 m c),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c),
      (input_kept m _ c 3 rfl rfl _ ((hr.1 c).1 3)).trans (V_main_arg5 m c),
      (input_kept m _ c 8 rfl rfl _ ((hr.1 c).1 8)).trans (V_main_arg6 m c)⟩, hr.2⟩)
    (run_some m ρ (fun c t => iblk m c 9 t))

end Cert.Out.Hand

end
-- ==== Proof.OutIdealChunk.lean ====
/-
  One chunk of 96 rows of the output projection's first phase, for the program `OutIdeal`: the chunk's program as one definition
  with what follows it as an argument, and the rule that runs it, whatever the chunk's type and whatever the scratch holds.
-/
module

public import proofs.«01_k».proof.Proof.Gen.OutIdeal.Frame
public import proofs.«01_k».proof.Proof.Gen.OutIdeal.Skeleton
public import Idealize.ShloMosaic.Lib.WritesUnit
public import Idealize.ShloMosaic.Lib.WholeRead
public import Idealize.ShloMosaic.Lib.ValueIdx

@[expose] public section

set_option maxRecDepth 16384

noncomputable section

namespace Cert.OutIdeal.Hand

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Whether the word of a chunk is a type, as the body tests it. -/
abbrev isType (v : BitVec 32) : BitVec 1 := k0_cond1 v

theorem rowsX_inb {c : ℕ} (hc : c < 13) : ∀ a, (![96 * c, 0] : Fin 2 → ℕ) a + S96x3584.size a ≤ S1248x3584.size a :=
  Rect.inb₂ (by show 96 * c + 96 ≤ 1248; omega) (Nat.le_refl _)
theorem rowsP_inb (j : ℕ) (hj : j < 4) {c : ℕ} (hc : c < 13) : ∀ a, (![j, 96 * c, 0] : Fin 3 → ℕ) a + S1x96x128.size a ≤ S4x1248x128.size a := by
  intro a
  fin_cases a
  · show j + 1 ≤ 4; omega
  · show 96 * c + 96 ≤ 1248; omega
  · show 0 + 128 ≤ 128; omega
theorem word_inb {c : ℕ} (hc : c < 13) : ∀ a, (![c] : Fin 1 → ℕ) a + S1.size a ≤ S13.size a :=
  Rect.inb₁ (by show c + 1 ≤ 13; omega)

/-- Chunk `c`'s program once its word `v` is read, `kk` after it: where the word is a type, store the projection of the
    chunk's rows by that type's weights into the chunk's rows of the four planes. -/
def chunkRest {α : Type} (v : BitVec 32) (hv : k0_chk1 v)
    (arg5 : Memref sig .tc .vmem S1248x3584 .bf16) (arg6 : Memref sig .tc .vmem S3x3584x512 .fp8e4m3)
    (arg7 arg8 : Memref sig .tc .vmem S3x1x512 .f32) (arg11 : Memref sig .tc .vmem S4x1248x128 .f32) (c : ℕ) (hc : c < 13)
    (kk : PUnit.{1} → Prog (TpuEff nD τ sig (Elt F) Λ₀ .tc) α) : Prog (TpuEff nD τ sig (Elt F) Λ₀ .tc) α := do
  if h : isType v = 1#1 then do
    let v87 : Vec F S96x3584 .bf16 ← Prog.lift (.load arg5 (Rect.unit (s := S1248x3584) ![96 * c, 0] S96x3584.size (rowsX_inb hc)).toLoadRect (View.loadsAt_vmem h_S96x3584))
    let v89 : Vec F S1x3584x512 .fp8e4m3 ← Prog.lift (.load arg6 (Rect.unit (s := S3x3584x512) (k0_off1 v) S1x3584x512.size (k0_off1_inb v hv h)).toLoadRect (View.loadsAt_vmem h_S1x3584x512))
    let v93 : Vec F S1x1x512 .f32 ← Prog.lift (.load arg7 (Rect.unit (s := S3x1x512) (k0_off2 v) S1x1x512.size (k0_off2_inb v hv h)).toLoadRect (View.loadsAt_vmem h_S1x1x512))
    let v98 : Vec F S1x1x512 .f32 ← Prog.lift (.load arg8 (Rect.unit (s := S3x1x512) (k0_off2 v) S1x1x512.size (k0_off2_inb v hv h)).toLoadRect (View.loadsAt_vmem h_S1x1x512))
    let _ ← Prog.lift (.load arg11 (Rect.unit (s := S4x1248x128) ![0, 96 * c, 0] S1x96x128.size (rowsP_inb 0 (by omega) hc)).toLoadRect (View.loadsAt_vmem h_S1x96x128) : TpuEff nD τ sig (Elt F) Λ₀ .tc (Vec F S1x96x128 .f32))
    Prog.lift (.store arg11 (Rect.unit (s := S4x1248x128) ![0, 96 * c, 0] S1x96x128.size (rowsP_inb 0 (by omega) hc)) (k0_pay20 v87 v89 v93 v98) Finset.univ (View.stores_vmem_bits_univ h_S1x96x128 rfl) (.inl rfl))
    let _ ← Prog.lift (.load arg11 (Rect.unit (s := S4x1248x128) ![1, 96 * c, 0] S1x96x128.size (rowsP_inb 1 (by omega) hc)).toLoadRect (View.loadsAt_vmem h_S1x96x128) : TpuEff nD τ sig (Elt F) Λ₀ .tc (Vec F S1x96x128 .f32))
    Prog.lift (.store arg11 (Rect.unit (s := S4x1248x128) ![1, 96 * c, 0] S1x96x128.size (rowsP_inb 1 (by omega) hc)) (k0_pay21 v87 v89 v93 v98) Finset.univ (View.stores_vmem_bits_univ h_S1x96x128 rfl) (.inl rfl))
    let _ ← Prog.lift (.load arg11 (Rect.unit (s := S4x1248x128) ![2, 96 * c, 0] S1x96x128.size (rowsP_inb 2 (by omega) hc)).toLoadRect (View.loadsAt_vmem h_S1x96x128) : TpuEff nD τ sig (Elt F) Λ₀ .tc (Vec F S1x96x128 .f32))
    Prog.lift (.store arg11 (Rect.unit (s := S4x1248x128) ![2, 96 * c, 0] S1x96x128.size (rowsP_inb 2 (by omega) hc)) (k0_pay22 v87 v89 v93 v98) Finset.univ (View.stores_vmem_bits_univ h_S1x96x128 rfl) (.inl rfl))
    let _ ← Prog.lift (.load arg11 (Rect.unit (s := S4x1248x128) ![3, 96 * c, 0] S1x96x128.size (rowsP_inb 3 (by omega) hc)).toLoadRect (View.loadsAt_vmem h_S1x96x128) : TpuEff nD τ sig (Elt F) Λ₀ .tc (Vec F S1x96x128 .f32))
    Prog.lift (.store arg11 (Rect.unit (s := S4x1248x128) ![3, 96 * c, 0] S1x96x128.size (rowsP_inb 3 (by omega) hc)) (k0_pay23 v87 v89 v93 v98) Finset.univ (View.stores_vmem_bits_univ h_S1x96x128 rfl) (.inl rfl))
    pure ⟨⟩
  else do
    pure ⟨⟩
  kk ⟨⟩

/-- Chunk `c`'s word, read and assumed to be in range, and handed on. -/
def readWord {α : Type} (arg1 : Memref sig .tc .smem S13 .i32) (c : ℕ) (hc : c < 13)
    (kk : (v : BitVec 32) → k0_chk1 v → Prog (TpuEff nD τ sig (Elt F) Λ₀ .tc) α) : Prog (TpuEff nD τ sig (Elt F) Λ₀ .tc) α := do
  let v : Elt F .i32 ← smemLoad arg1 (Rect.unit (s := S13) ![c] S1.size (word_inb hc)) numel1_S1 rfl
  have k0_hw1 : k0_chk1 v := (← Prog.lift (TpuEff.assume (k0_chk1 v) (k0_chk1.dec v))).down
  kk v k0_hw1

/-- Chunk `c`'s word of the chunk table. -/
abbrev wordAt (x1 : Vec F S13 .i32) (c : ℕ) (hc : c < 13) : BitVec 32 := x1 (ValueIdx.ix1 (n := 13) ⟨c, hc⟩)

/-- The four planes with rows `96 c` to `96 c + 95` replaced by `B`, plane by plane. -/
def putPlanes (P : Vec F S4x1248x128 .f32) (c : ℕ) (B : Fin 4 → Vec F S1x96x128 .f32) : Vec F S4x1248x128 .f32 := fun i =>
  if h : 96 * c ≤ (i 1).val ∧ (i 1).val < 96 * c + 96 then
    B (i 0) (ValueIdx.ix3 (n0 := 1) (n1 := 96) (n2 := 128) 0 ⟨(i 1).val - 96 * c, by omega⟩ (i 2))
  else P i

/-- The planes' rows of a chunk, of its 96 rows of `g` and its type's weights, scale and bias. -/
def planeRows (v87 : Vec F S96x3584 .bf16) (v89 : Vec F S1x3584x512 .fp8e4m3) (v93 v98 : Vec F S1x1x512 .f32) : Fin 4 → Vec F S1x96x128 .f32
  | ⟨0, _⟩ => k0_pay20 v87 v89 v93 v98
  | ⟨1, _⟩ => k0_pay21 v87 v89 v93 v98
  | ⟨2, _⟩ => k0_pay22 v87 v89 v93 v98
  | ⟨3, _⟩ => k0_pay23 v87 v89 v93 v98

theorem read_put (arg11 : Memref sig .tc .vmem S4x1248x128 .f32) (f : arg11.view.ty.Contents (Elt F)) (c : ℕ) (hc : c < 13) (B : Fin 4 → Vec F S1x96x128 .f32) :
    arg11.view.read (Elt F) (arg11.view.writes (Elt F) f
        [⟨Rect.unit (s := S4x1248x128) ![3, 96 * c, 0] S1x96x128.size (rowsP_inb 3 (by omega) hc), B 3⟩,
         ⟨Rect.unit (s := S4x1248x128) ![2, 96 * c, 0] S1x96x128.size (rowsP_inb 2 (by omega) hc), B 2⟩,
         ⟨Rect.unit (s := S4x1248x128) ![1, 96 * c, 0] S1x96x128.size (rowsP_inb 1 (by omega) hc), B 1⟩,
         ⟨Rect.unit (s := S4x1248x128) ![0, 96 * c, 0] S1x96x128.size (rowsP_inb 0 (by omega) hc), B 0⟩])
      = putPlanes (arg11.view.read (Elt F) f) c B := by
  funext y
  unfold putPlanes
  have h0 : (y 0).val < 4 := (y 0).isLt
  split
  · rename_i h
    have key : ∀ (j : ℕ) (hj : j < 4) (L : List (View.Piece (Elt F) S4x1248x128 .f32)), (y 0).val = j →
        arg11.view.read (Elt F) (arg11.view.writes (Elt F) f (⟨Rect.unit (s := S4x1248x128) ![j, 96 * c, 0] S1x96x128.size (rowsP_inb j hj hc), B ⟨j, hj⟩⟩ :: L)) y
          = B (y 0) (ValueIdx.ix3 (n0 := 1) (n1 := 96) (n2 := 128) 0 ⟨(y 1).val - 96 * c, by omega⟩ (y 2)) := by
      intro j hj L e
      have e' : (y 0 : Fin 4) = ⟨j, hj⟩ := Fin.ext e
      refine (View.read_writes_cons_unit_of_mem arg11.view f (rowsP_inb j hj hc) (B ⟨j, hj⟩) L y
        (ValueIdx.ix3 (n0 := 1) (n1 := 96) (n2 := 128) 0 ⟨(y 1).val - 96 * c, by omega⟩ (y 2)) rfl ?_).trans ?_
      · intro a
        fin_cases a
        · show (y 0).val = j + 0; omega
        · show (y 1).val = 96 * c + ((y 1).val - 96 * c); omega
        · show (y 2).val = 0 + (y 2).val; omega
      · exact congrFun (congrArg B e'.symm) _
    have skip : ∀ (j : ℕ) (hj : j < 4) (L : List (View.Piece (Elt F) S4x1248x128 .f32)), (y 0).val ≠ j →
        arg11.view.read (Elt F) (arg11.view.writes (Elt F) f (⟨Rect.unit (s := S4x1248x128) ![j, 96 * c, 0] S1x96x128.size (rowsP_inb j hj hc), B ⟨j, hj⟩⟩ :: L)) y
          = arg11.view.read (Elt F) (arg11.view.writes (Elt F) f L) y := fun j hj L e =>
      View.read_writes_cons_unit_of_not_mem arg11.view f (rowsP_inb j hj hc) (B ⟨j, hj⟩) L y rfl 0 (by
        show (y 0).val < j ∨ j + 1 ≤ (y 0).val; omega)
    by_cases h3 : (y 0).val = 3
    · exact key 3 (by omega) _ h3
    refine (skip 3 (by omega) _ h3).trans ?_
    by_cases h2 : (y 0).val = 2
    · exact key 2 (by omega) _ h2
    refine (skip 2 (by omega) _ h2).trans ?_
    by_cases h1 : (y 0).val = 1
    · exact key 1 (by omega) _ h1
    refine (skip 1 (by omega) _ h1).trans ?_
    exact key 0 (by omega) _ (by omega)
  · rename_i h
    have skip : ∀ (j : ℕ) (hj : j < 4) (L : List (View.Piece (Elt F) S4x1248x128 .f32)),
        arg11.view.read (Elt F) (arg11.view.writes (Elt F) f (⟨Rect.unit (s := S4x1248x128) ![j, 96 * c, 0] S1x96x128.size (rowsP_inb j hj hc), B ⟨j, hj⟩⟩ :: L)) y
          = arg11.view.read (Elt F) (arg11.view.writes (Elt F) f L) y := fun j hj L =>
      View.read_writes_cons_unit_of_not_mem arg11.view f (rowsP_inb j hj hc) (B ⟨j, hj⟩) L y rfl 1 (by
        show (y 1).val < 96 * c ∨ 96 * c + 96 ≤ (y 1).val; omega)
    exact (skip 3 (by omega) _).trans ((skip 2 (by omega) _).trans ((skip 1 (by omega) _).trans (skip 0 (by omega) _)))

theorem first_pos (c : ℕ) (hc : c < 13) : 0 < (Rect.unit (s := S13) ![c] S1.size (word_inb hc)).shape.numel := Nat.le_of_eq numel1_S1.symm

/-- The table word the body reads for chunk `c`. -/
theorem read_word (arg1 : Memref sig .tc .smem S13 .i32) (f : arg1.view.ty.Contents (Elt F)) (c : ℕ) (hc : c < 13) (x) :
    (arg1.access (Rect.unit (s := S13) ![c] S1.size (word_inb hc))).read (Elt F) f x = wordAt (arg1.view.read (Elt F) f) c hc := by
  show arg1.view.read (Elt F) f ((Rect.unit (s := S13) ![c] S1.size (word_inb hc)).idx x) = _
  refine congrArg (arg1.view.read (Elt F) f) (funext fun a => ?_)
  have ha : a = 0 := Subsingleton.elim _ _
  subst ha
  refine Fin.ext ?_
  show c + 1 * (x 0).val = c
  have : (x 0).val < 1 := (x 0).isLt
  omega

/-- The planes after chunk `c`: its rows the projection by its word's type, or as they were where the word is no type. -/
def fillOne (v : BitVec 32) (hv : k0_chk1 v) (x5 : Vec F S1248x3584 .bf16) (x6 : Vec F S3x3584x512 .fp8e4m3) (x7 x8 : Vec F S3x1x512 .f32)
    (c : ℕ) (hc : c < 13) (P : Vec F S4x1248x128 .f32) : Vec F S4x1248x128 .f32 :=
  if h : isType v = 1#1 then
    putPlanes P c (planeRows (View.ld x5 (Rect.unit (s := S1248x3584) ![96 * c, 0] S96x3584.size (rowsX_inb hc)))
      (View.ld x6 (Rect.unit (s := S3x3584x512) (k0_off1 v) S1x3584x512.size (k0_off1_inb v hv h)))
      (View.ld x7 (Rect.unit (s := S3x1x512) (k0_off2 v) S1x1x512.size (k0_off2_inb v hv h)))
      (View.ld x8 (Rect.unit (s := S3x1x512) (k0_off2 v) S1x1x512.size (k0_off2_inb v hv h))))
  else P

set_option maxHeartbeats 1000000 in
/-- The rest of chunk `c`, run: it leaves the planes at `fillOne` and everything else as it was. -/
theorem wp_chunkRest {α : Type} (co : Dev nD) (v : BitVec 32) (hv : k0_chk1 v)
    (arg5 : Memref sig .tc .vmem S1248x3584 .bf16) (arg6 : Memref sig .tc .vmem S3x3584x512 .fp8e4m3)
    (arg7 arg8 : Memref sig .tc .vmem S3x1x512 .f32) (arg11 : Memref sig .tc .vmem S4x1248x128 .f32) (c : ℕ) (hc : c < 13)
    (kk : PUnit.{1} → Prog (TpuEff nD τ sig (Elt F) Λ₀ .tc) α)
    (x5 : Vec F S1248x3584 .bf16) (x6 : Vec F S3x3584x512 .fp8e4m3) (x7 x8 : Vec F S3x1x512 .f32) (P : Vec F S4x1248x128 .f32)
    (E : Set ℕ) (Q : α → sProp 𝕄) :
    iprop(owns (co : Thread nD τ) arg5 fullShare x5 ∗ owns (co : Thread nD τ) arg6 fullShare x6
      ∗ owns (co : Thread nD τ) arg7 fullShare x7 ∗ owns (co : Thread nD τ) arg8 fullShare x8 ∗ owns (co : Thread nD τ) arg11 fullShare P
      ∗ (iprop(owns (co : Thread nD τ) arg5 fullShare x5 ∗ owns (co : Thread nD τ) arg6 fullShare x6
          ∗ owns (co : Thread nD τ) arg7 fullShare x7 ∗ owns (co : Thread nD τ) arg8 fullShare x8
          ∗ owns (co : Thread nD τ) arg11 fullShare (fillOne v hv x5 x6 x7 x8 c hc P))
          -∗ wp frame (wpE (defs₀ (F := F)) Variants.none co none) E (kk ⟨⟩) Q))
    ⊢ wp frame (wpE (defs₀ (F := F)) Variants.none co none) E
        (chunkRest v hv arg5 arg6 arg7 arg8 arg11 c hc kk) Q := by
  unfold owns
  iintro ⟨⟨%f5, %hf5, H5⟩, ⟨%f6, %hf6, H6⟩, ⟨%f7, %hf7, H7⟩, ⟨%f8, %hf8, H8⟩, ⟨%f11, %hf11, H11⟩, Hk⟩
  subst hf5 hf6 hf7 hf8 hf11
  unfold chunkRest fillOne
  by_cases h : isType v = 1#1
  · simp only [dif_pos h]
    sl_exec
    iapply Hk
    isplitl [H5]; · iexists _; isplitr; · ipureintro; exact rfl
                    iexact H5
    isplitl [H6]; · iexists _; isplitr; · ipureintro; exact rfl
                    iexact H6
    isplitl [H7]; · iexists _; isplitr; · ipureintro; exact rfl
                    iexact H7
    isplitl [H8]; · iexists _; isplitr; · ipureintro; exact rfl
                    iexact H8
    iexists _; isplitr; · ipureintro; exact read_put arg11 f11 c hc (planeRows _ _ _ _)
    iexact H11
  · simp only [dif_neg h, pure_bind]
    iapply Hk
    isplitl [H5]; · iexists _; isplitr; · ipureintro; exact rfl
                    iexact H5
    isplitl [H6]; · iexists _; isplitr; · ipureintro; exact rfl
                    iexact H6
    isplitl [H7]; · iexists _; isplitr; · ipureintro; exact rfl
                    iexact H7
    isplitl [H8]; · iexists _; isplitr; · ipureintro; exact rfl
                    iexact H8
    iexists _; isplitr; · ipureintro; exact rfl
    iexact H11

set_option maxHeartbeats 1000000 in
/-- Reading chunk `c`'s word, run: what follows runs at the chunk table's word. -/
theorem wp_readWord {α : Type} (co : Dev nD) (arg1 : Memref sig .tc .smem S13 .i32) (c : ℕ) (hc : c < 13)
    (kk : (v : BitVec 32) → k0_chk1 v → Prog (TpuEff nD τ sig (Elt F) Λ₀ .tc) α) (x1 : Vec F S13 .i32)
    (hchk : k0_chk1 (wordAt x1 c hc)) (E : Set ℕ) (Q : α → sProp 𝕄) :
    iprop(owns (co : Thread nD τ) arg1 fullShare x1
      ∗ (owns (co : Thread nD τ) arg1 fullShare x1 -∗ wp frame (wpE (defs₀ (F := F)) Variants.none co none) E (kk (wordAt x1 c hc) hchk) Q))
    ⊢ wp frame (wpE (defs₀ (F := F)) Variants.none co none) E (readWord arg1 c hc kk) Q := by
  unfold owns
  iintro ⟨⟨%f1, %hf1, H1⟩, Hk⟩
  subst hf1
  have hv := read_word arg1 f1 c hc (Shape.Idx.first (first_pos c hc))
  have hchk' : k0_chk1 ((arg1.access (Rect.unit (s := S13) ![c] S1.size (word_inb hc))).read (Elt F) f1 (Shape.Idx.first (first_pos c hc))) := hv ▸ hchk
  have hkk : kk _ hchk' = kk _ hchk := by
    generalize_proofs at hchk'
    revert hchk'
    rw [hv]
    intro _
    rfl
  have hrest : iprop(wp frame (wpE (defs₀ (F := F)) Variants.none co none) E (kk (wordAt (arg1.view.read (Elt F) f1) c hc) hchk) Q)
      ⊢ wp frame (wpE (defs₀ (F := F)) Variants.none co none) E (kk _ hchk') Q := by rw [hkk]
  have hrest := And.intro trivial hrest
  unfold readWord
  sl_exec (disch := exact hchk')
  iapply hrest.2
  iapply Hk
  iexists _; isplitr; · ipureintro; exact rfl
  iexact H1

end Cert.OutIdeal.Hand

end
-- ==== Proof.OutIdealTrip.lean ====
/-
  One trip of the output projection's second phase, for the program `OutIdeal`: 64 rows of the output block, each blended from the
  rows of the planes that the three types' shifts point at, and the rule that runs it.
-/
module

public import proofs.«01_k».proof.Proof.OutIdealChunk
public import Idealize.ShloMosaic.Lib.WordArith

@[expose] public section

set_option maxRecDepth 16384

noncomputable section

namespace Cert.OutIdeal.Hand

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem trips_eq : k0_t1_loop.trips = 16 := by decide

/-- The first row of trip `k`, as the body computes it. -/
def rowWord (k : ℕ) : BitVec 32 := Scalar.muli (Scalar.addi 0#32 (Scalar.muli (Scf.iv (0#32 : BitVec 32) 1#32 k) 1#32)) 64#32

theorem rowWord_eq : ∀ k, k < 16 → rowWord k = BitVec.ofNat 32 (64 * k) := by decide

theorem clip_eq (x : BitVec 32) : (Scalar.minsi 1184#32 (Scalar.maxsi 0#32 x)).toNat = min 1184 (if x.toNat < 2 ^ 31 then x.toNat else 0) := by
  have hx : (Scalar.maxsi 0#32 x).toNat = if x.toNat < 2 ^ 31 then x.toNat else 0 := by
    show (if x.slt 0#32 = true then 0#32 else x).toNat = _
    simp only [BitVec.slt, BitVec.toInt_eq_toNat_cond, decide_eq_true_eq]
    have := x.isLt
    by_cases h : x.toNat < 2 ^ 31
    · rw [if_neg, if_pos h]
      rw [if_pos (by omega)]; simp
    · rw [if_pos, if_neg h]
      · rfl
      · rw [if_neg (by omega)]; simp; omega
  have hlt : (Scalar.maxsi 0#32 x).toNat < 2 ^ 31 := by rw [hx]; split <;> omega
  show (IntOp.minsi 1184#32 (Scalar.maxsi 0#32 x)).toNat = _
  rw [WordArith.toNat_minsi_of_lt _ _ (by decide) hlt, hx]
  rfl

theorem clip_le (x : BitVec 32) : (Scalar.minsi 1184#32 (Scalar.maxsi 0#32 x)).toNat ≤ 1184 := by
  rw [clip_eq]; exact Nat.min_le_left _ _

theorem planeRow_inb (j : ℕ) (hj : j < 4) (x : BitVec 32) :
    ∀ a, (![j, (Scalar.minsi 1184#32 (Scalar.maxsi 0#32 x)).toNat, 0] : Fin 3 → ℕ) a + S1x64x128.size a ≤ S4x1248x128.size a := by
  intro a
  have := clip_le x
  fin_cases a
  · show j + 1 ≤ 4; omega
  · show (Scalar.minsi 1184#32 (Scalar.maxsi 0#32 x)).toNat + 64 ≤ 1248; omega
  · show 0 + 128 ≤ 128; omega

theorem chk14 (k) (v : BitVec 32) : k0_chk14 k v := planeRow_inb 0 (by omega) _
theorem chk15 (k) (v : BitVec 32) : k0_chk15 k v := planeRow_inb 0 (by omega) _
theorem chk16 (k) (v : BitVec 32) : k0_chk16 k v := planeRow_inb 0 (by omega) _
theorem chk17 (k) (v : BitVec 32) : k0_chk17 k v := planeRow_inb 1 (by omega) _
theorem chk18 (k) (v : BitVec 32) : k0_chk18 k v := planeRow_inb 1 (by omega) _
theorem chk19 (k) (v : BitVec 32) : k0_chk19 k v := planeRow_inb 1 (by omega) _
theorem chk20 (k) (v : BitVec 32) : k0_chk20 k v := planeRow_inb 2 (by omega) _
theorem chk21 (k) (v : BitVec 32) : k0_chk21 k v := planeRow_inb 2 (by omega) _
theorem chk22 (k) (v : BitVec 32) : k0_chk22 k v := planeRow_inb 2 (by omega) _
theorem chk23 (k) (v : BitVec 32) : k0_chk23 k v := planeRow_inb 3 (by omega) _
theorem chk24 (k) (v : BitVec 32) : k0_chk24 k v := planeRow_inb 3 (by omega) _
theorem chk25 (k) (v : BitVec 32) : k0_chk25 k v := planeRow_inb 3 (by omega) _

/-- Word `j` of the offsets, as the body reads it. -/
def offWord (x2 : Vec F S4 .i32) (j : ℕ) (h : ∀ a, (![j] : Fin 1 → ℕ) a + S1.size a ≤ S4.size a) : BitVec 32 :=
  x2 ((Rect.unit (s := S4) ![j] S1.size h).idx (Shape.Idx.first (Nat.le_of_eq numel1_S1.symm)))
/-- Word `j` of the shifts, as the body reads it. -/
def shiftWord (x3 : Vec F S3 .i32) (j : ℕ) (h : ∀ a, (![j] : Fin 1 → ℕ) a + S1.size a ≤ S3.size a) : BitVec 32 :=
  x3 ((Rect.unit (s := S3) ![j] S1.size h).idx (Shape.Idx.first (Nat.le_of_eq numel1_S1.symm)))
/-- Gate `j`, as the body reads it. -/
def skipWord (x4 : Vec F S3 .f32) (j : ℕ) (h : ∀ a, (![j] : Fin 1 → ℕ) a + S1.size a ≤ S3.size a) : Elt F .f32 :=
  x4 ((Rect.unit (s := S3) ![j] S1.size h).idx (Shape.Idx.first (Nat.le_of_eq numel1_S1.symm)))

/-- Where the rows of trip `k` are at or after the second type's first row. -/
abbrev is1 (x2 : Vec F S4 .i32) (k : Fin k0_t1_loop.trips) : IVec S64x128 1 := k0_pay6 (F := F) 0#32 1#32 k (offWord x2 1 inb_S4_S1_1)
/-- Where the rows of trip `k` are at or after the third type's first row. -/
abbrev is2 (x2 : Vec F S4 .i32) (k : Fin k0_t1_loop.trips) : IVec S64x128 1 := k0_pay7 (F := F) 0#32 1#32 k (offWord x2 2 inb_S4_S1_2)
/-- The gates of the rows of trip `k`. -/
abbrev gates (x2 : Vec F S4 .i32) (v52 : FVec F S1x128 .f32) (v53 v64 v75 : Elt F .f32) (k : Fin k0_t1_loop.trips) : FVec F S64x128 .f32 :=
  k0_pay8 (k0_pay1 v52 v53) (k0_pay2 v64) (k0_pay3 v75) 0#32 1#32 k (offWord x2 1 inb_S4_S1_1) (offWord x2 2 inb_S4_S1_2)

/-- What trip `k` stores, by blocks of 128 columns. -/
def tripVal (x2 : Vec F S4 .i32) (x3 : Vec F S3 .i32) (v52 : FVec F S1x128 .f32) (v53 v64 v75 : Elt F .f32) (x9 : Vec F S1024x512 .bf16)
    (P : Vec F S4x1248x128 .f32) (k : Fin k0_t1_loop.trips) : Fin 4 → Vec F S64x128 .bf16
  | ⟨0, _⟩ => k0_pay11 (is1 x2 k) (is2 x2 k) (gates x2 v52 v53 v64 v75 k)
      (k0_pay9 (View.ld P (Rect.unit (s := S4x1248x128) (k0_off27 k (shiftWord x3 0 inb_S3_S1_0)) S1x64x128.size (chk14 k _))))
      (k0_pay10 (View.ld P (Rect.unit (s := S4x1248x128) (k0_off28 k (shiftWord x3 1 inb_S3_S1_1)) S1x64x128.size (chk15 k _))))
      (View.ld P (Rect.unit (s := S4x1248x128) (k0_off29 k (shiftWord x3 2 inb_S3_S1_2)) S1x64x128.size (chk16 k _)))
      (View.ld x9 (Rect.unit (s := S1024x512) (k0_off30 k) S64x128.size (k0_off30_inb k)))
  | ⟨1, _⟩ => k0_pay14 (is1 x2 k) (is2 x2 k) (gates x2 v52 v53 v64 v75 k)
      (k0_pay12 (View.ld P (Rect.unit (s := S4x1248x128) (k0_off31 k (shiftWord x3 0 inb_S3_S1_0)) S1x64x128.size (chk17 k _))))
      (k0_pay13 (View.ld P (Rect.unit (s := S4x1248x128) (k0_off32 k (shiftWord x3 1 inb_S3_S1_1)) S1x64x128.size (chk18 k _))))
      (View.ld P (Rect.unit (s := S4x1248x128) (k0_off33 k (shiftWord x3 2 inb_S3_S1_2)) S1x64x128.size (chk19 k _)))
      (View.ld x9 (Rect.unit (s := S1024x512) (k0_off34 k) S64x128.size (k0_off34_inb k)))
  | ⟨2, _⟩ => k0_pay16 (gates x2 v52 v53 v64 v75 k) (k0_pay15 (is1 x2 k) (is2 x2 k)
      (View.ld P (Rect.unit (s := S4x1248x128) (k0_off35 k (shiftWord x3 0 inb_S3_S1_0)) S1x64x128.size (chk20 k _)))
      (View.ld P (Rect.unit (s := S4x1248x128) (k0_off36 k (shiftWord x3 1 inb_S3_S1_1)) S1x64x128.size (chk21 k _)))
      (View.ld P (Rect.unit (s := S4x1248x128) (k0_off37 k (shiftWord x3 2 inb_S3_S1_2)) S1x64x128.size (chk22 k _))))
      (View.ld x9 (Rect.unit (s := S1024x512) (k0_off38 k) S64x128.size (k0_off38_inb k)))
  | ⟨3, _⟩ => k0_pay4 (k0_pay17 (is1 x2 k) (is2 x2 k) (gates x2 v52 v53 v64 v75 k)
      (View.ld P (Rect.unit (s := S4x1248x128) (k0_off39 k (shiftWord x3 0 inb_S3_S1_0)) S1x64x128.size (chk23 k _)))
      (View.ld P (Rect.unit (s := S4x1248x128) (k0_off40 k (shiftWord x3 1 inb_S3_S1_1)) S1x64x128.size (chk24 k _)))
      (View.ld P (Rect.unit (s := S4x1248x128) (k0_off41 k (shiftWord x3 2 inb_S3_S1_2)) S1x64x128.size (chk25 k _))))
      (k0_pay18 (gates x2 v52 v53 v64 v75 k))
      (View.ld x9 (Rect.unit (s := S1024x512) (k0_off42 k) S64x128.size (k0_off42_inb k)))

/-- A block with rows `64 k` to `64 k + 63` replaced by `B`, by blocks of 128 columns. -/
def putTrip (y : Vec F S1024x512 .bf16) (k : ℕ) (B : Fin 4 → Vec F S64x128 .bf16) : Vec F S1024x512 .bf16 := fun i =>
  if h : 64 * k ≤ (i 0).val ∧ (i 0).val < 64 * k + 64 then
    B ⟨(i 1).val / 128, by have : (i 1).val < 512 := (i 1).isLt; omega⟩
      (ValueIdx.ix2 (n0 := 64) (n1 := 128) ⟨(i 0).val - 64 * k, by omega⟩ ⟨(i 1).val % 128, Nat.mod_lt _ (by omega)⟩)
  else y i

theorem lt16 (k : Fin k0_t1_loop.trips) : k.val < 16 := trips_eq ▸ k.isLt

theorem rowWord_toNat (k : Fin k0_t1_loop.trips) : (rowWord k.val).toNat = 64 * k.val := by
  have hk := lt16 k
  rw [rowWord_eq _ hk, BitVec.toNat_ofNat]
  omega

theorem off30_eq (k : Fin k0_t1_loop.trips) : k0_off30 k = ![64 * k.val, 128 * 0] := by
  show (![(rowWord k.val).toNat, 0] : Fin 2 → ℕ) = _
  rw [rowWord_toNat]
theorem off34_eq (k : Fin k0_t1_loop.trips) : k0_off34 k = ![64 * k.val, 128 * 1] := by
  show (![(rowWord k.val).toNat, 128] : Fin 2 → ℕ) = _
  rw [rowWord_toNat]
theorem off38_eq (k : Fin k0_t1_loop.trips) : k0_off38 k = ![64 * k.val, 128 * 2] := by
  show (![(rowWord k.val).toNat, 256] : Fin 2 → ℕ) = _
  rw [rowWord_toNat]
theorem off42_eq (k : Fin k0_t1_loop.trips) : k0_off42 k = ![64 * k.val, 128 * 3] := by
  show (![(rowWord k.val).toNat, 384] : Fin 2 → ℕ) = _
  rw [rowWord_toNat]

theorem read_putTrip (arg10 : Memref sig .tc .vmem S1024x512 .bf16) (f : arg10.view.ty.Contents (Elt F)) (k : Fin k0_t1_loop.trips) (B : Fin 4 → Vec F S64x128 .bf16) :
    arg10.view.read (Elt F) (arg10.view.writes (Elt F) f
        [⟨Rect.unit (s := S1024x512) (k0_off42 k) S64x128.size (k0_off42_inb k), B 3⟩,
         ⟨Rect.unit (s := S1024x512) (k0_off38 k) S64x128.size (k0_off38_inb k), B 2⟩,
         ⟨Rect.unit (s := S1024x512) (k0_off34 k) S64x128.size (k0_off34_inb k), B 1⟩,
         ⟨Rect.unit (s := S1024x512) (k0_off30 k) S64x128.size (k0_off30_inb k), B 0⟩])
      = putTrip (arg10.view.read (Elt F) f) k.val B := by
  funext y
  unfold putTrip
  have h1 : (y 1).val < 512 := (y 1).isLt
  split
  · rename_i h
    have key : ∀ (j : ℕ) (hj : j < 4) (off : Fin 2 → ℕ) (inb) (L : List (View.Piece (Elt F) S1024x512 .bf16)), off = ![64 * k.val, 128 * j] → (y 1).val / 128 = j →
        arg10.view.read (Elt F) (arg10.view.writes (Elt F) f (⟨Rect.unit (s := S1024x512) off S64x128.size inb, B ⟨j, hj⟩⟩ :: L)) y
          = B ⟨(y 1).val / 128, by omega⟩ (ValueIdx.ix2 (n0 := 64) (n1 := 128) ⟨(y 0).val - 64 * k.val, by omega⟩ ⟨(y 1).val % 128, Nat.mod_lt _ (by omega)⟩) := by
      intro j hj off inb L ho e
      subst e
      refine (View.read_writes_cons_unit_of_mem arg10.view f inb (B ⟨_, hj⟩) L y
        (ValueIdx.ix2 (n0 := 64) (n1 := 128) ⟨(y 0).val - 64 * k.val, by omega⟩ ⟨(y 1).val % 128, Nat.mod_lt _ (by omega)⟩) ho ?_).trans rfl
      intro a
      fin_cases a
      · show (y 0).val = 64 * k.val + ((y 0).val - 64 * k.val); omega
      · show (y 1).val = 128 * ((y 1).val / 128) + (y 1).val % 128; omega
    have skip : ∀ (j : ℕ) (hj : j < 4) (off : Fin 2 → ℕ) (inb) (L : List (View.Piece (Elt F) S1024x512 .bf16)), off = ![64 * k.val, 128 * j] → (y 1).val / 128 ≠ j →
        arg10.view.read (Elt F) (arg10.view.writes (Elt F) f (⟨Rect.unit (s := S1024x512) off S64x128.size inb, B ⟨j, hj⟩⟩ :: L)) y
          = arg10.view.read (Elt F) (arg10.view.writes (Elt F) f L) y := fun j hj off inb L ho e =>
      View.read_writes_cons_unit_of_not_mem arg10.view f inb (B ⟨j, hj⟩) L y ho 1 (by
        show (y 1).val < 128 * j ∨ 128 * j + 128 ≤ (y 1).val; omega)
    by_cases h3 : (y 1).val / 128 = 3
    · exact key 3 (by omega) _ _ _ (off42_eq k) h3
    refine (skip 3 (by omega) _ _ _ (off42_eq k) h3).trans ?_
    by_cases h2 : (y 1).val / 128 = 2
    · exact key 2 (by omega) _ _ _ (off38_eq k) h2
    refine (skip 2 (by omega) _ _ _ (off38_eq k) h2).trans ?_
    by_cases h1 : (y 1).val / 128 = 1
    · exact key 1 (by omega) _ _ _ (off34_eq k) h1
    refine (skip 1 (by omega) _ _ _ (off34_eq k) h1).trans ?_
    exact key 0 (by omega) _ _ _ (off30_eq k) (by omega)
  · rename_i h
    have skip : ∀ (j : ℕ) (hj : j < 4) (off : Fin 2 → ℕ) (inb) (L : List (View.Piece (Elt F) S1024x512 .bf16)), off = ![64 * k.val, 128 * j] →
        arg10.view.read (Elt F) (arg10.view.writes (Elt F) f (⟨Rect.unit (s := S1024x512) off S64x128.size inb, B ⟨j, hj⟩⟩ :: L)) y
          = arg10.view.read (Elt F) (arg10.view.writes (Elt F) f L) y := fun j hj off inb L ho =>
      View.read_writes_cons_unit_of_not_mem arg10.view f inb (B ⟨j, hj⟩) L y ho 0 (by
        show (y 0).val < 64 * k.val ∨ 64 * k.val + 64 ≤ (y 0).val; omega)
    exact (skip 3 (by omega) _ _ _ (off42_eq k)).trans ((skip 2 (by omega) _ _ _ (off38_eq k)).trans ((skip 1 (by omega) _ _ _ (off34_eq k)).trans (skip 0 (by omega) _ _ _ (off30_eq k))))

section Trip

variable (co : Dev nD) (i : grid0.Coords) (arg1 : Memref sig .tc .smem S13 .i32) (harg1 : arg1.IsWhole) (arg2 : Memref sig .tc .smem S4 .i32) (harg2 : arg2.IsWhole) (arg3 : Memref sig .tc .smem S3 .i32) (harg3 : arg3.IsWhole) (arg4 : Memref sig .tc .smem S3 .f32) (harg4 : arg4.IsWhole) (arg5 : Memref sig .tc .vmem S1248x3584 .bf16) (harg5 : arg5.IsWhole) (arg6 : Memref sig .tc .vmem S3x3584x512 .fp8e4m3) (harg6 : arg6.IsWhole) (arg7 : Memref sig .tc .vmem S3x1x512 .f32) (harg7 : arg7.IsWhole) (arg8 : Memref sig .tc .vmem S3x1x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S4x1248x128 .f32) (harg11 : arg11.IsWhole)

set_option maxHeartbeats 4000000 in
/-- Trip `k`, run: it leaves the output block at `putTrip` and everything else as it was. -/
theorem wp_trip (v52 : FVec F S1x128 .f32) (v53 v64 v75 : Elt F .f32) (k : Fin k0_t1_loop.trips)
    (x2 : Vec F S4 .i32) (x3 : Vec F S3 .i32) (x9 : Vec F S1024x512 .bf16) (P : Vec F S4x1248x128 .f32) (y : Vec F S1024x512 .bf16) (E : Set ℕ) :
    iprop(owns (co : Thread nD τ) arg2 fullShare x2 ∗ owns (co : Thread nD τ) arg3 fullShare x3 ∗ owns (co : Thread nD τ) arg9 fullShare x9
      ∗ owns (co : Thread nD τ) arg11 fullShare P ∗ owns (co : Thread nD τ) arg10 fullShare y)
    ⊢ wp frame (wpE (defs₀ (F := F)) Variants.none co none) E
        (k0_t1_body (F := F) i arg1 harg1 arg2 harg2 arg3 harg3 arg4 harg4 arg5 harg5 arg6 harg6 arg7 harg7 arg8 harg8 arg9 harg9 arg10 harg10 arg11 harg11 v52 v53 v64 v75 k PUnit.unit)
        fun _ => (iprop(owns (co : Thread nD τ) arg2 fullShare x2 ∗ owns (co : Thread nD τ) arg3 fullShare x3 ∗ owns (co : Thread nD τ) arg9 fullShare x9
          ∗ owns (co : Thread nD τ) arg11 fullShare P ∗ owns (co : Thread nD τ) arg10 fullShare (putTrip y k.val (tripVal x2 x3 v52 v53 v64 v75 x9 P k))) : sProp 𝕄) := by
  have hk : k.val < 16 := lt16 k
  unfold owns
  iintro ⟨⟨%f2, %hf2, H2⟩, ⟨%f3, %hf3, H3⟩, ⟨%f9, %hf9, H9⟩, ⟨%f11, %hf11, H11⟩, ⟨%f10, %hf10, H10⟩⟩
  subst hf2 hf3 hf9 hf10 hf11
  unfold k0_t1_body
  sl_exec
  sl_step
  isplitl [H2]; · iexists _; isplitr; · ipureintro; exact rfl
                  iexact H2
  isplitl [H3]; · iexists _; isplitr; · ipureintro; exact rfl
                  iexact H3
  isplitl [H9]; · iexists _; isplitr; · ipureintro; exact rfl
                  iexact H9
  isplitl [H11]; · iexists _; isplitr; · ipureintro; exact rfl
                   iexact H11
  iexists _; isplitr
  swap
  · iexact H10
  · ipureintro
    exact read_putTrip arg10 f10 k (tripVal _ _ _ _ _ _ _ _ k)

end Trip

end Cert.OutIdeal.Hand

end
-- ==== Proof.OutIdealBody.lean ====
/-
  The output projection's body as a whole, for the program `OutIdeal`: thirteen chunks fill the planes wherever a chunk has a
  type, and sixteen trips blend them into the output block.
-/
module

public import proofs.«01_k».proof.Proof.OutIdealTrip

@[expose] public section

set_option maxRecDepth 16384

noncomputable section

namespace Cert.OutIdeal.Hand

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The planes' rows of chunk `c` where its word `v` is a type. -/
abbrev chunkRows (v : BitVec 32) (hv : k0_chk1 v) (h : isType v = 1#1) (x5 : Vec F S1248x3584 .bf16) (x6 : Vec F S3x3584x512 .fp8e4m3) (x7 x8 : Vec F S3x1x512 .f32)
    (c : ℕ) (hc : c < 13) : Fin 4 → Vec F S1x96x128 .f32 :=
  planeRows (View.ld x5 (Rect.unit (s := S1248x3584) ![96 * c, 0] S96x3584.size (rowsX_inb hc)))
      (View.ld x6 (Rect.unit (s := S3x3584x512) (k0_off1 v) S1x3584x512.size (k0_off1_inb v hv h)))
      (View.ld x7 (Rect.unit (s := S3x1x512) (k0_off2 v) S1x1x512.size (k0_off2_inb v hv h)))
      (View.ld x8 (Rect.unit (s := S3x1x512) (k0_off2 v) S1x1x512.size (k0_off2_inb v hv h)))

/-- The planes hold, in the rows of every chunk below `n` that has a type, that chunk's projection. -/
def Filled (x1 : Vec F S13 .i32) (hchk : ∀ (c : ℕ) (hc : c < 13), k0_chk1 (wordAt x1 c hc)) (x5 : Vec F S1248x3584 .bf16) (x6 : Vec F S3x3584x512 .fp8e4m3) (x7 x8 : Vec F S3x1x512 .f32)
    (P : Vec F S4x1248x128 .f32) (n : ℕ) : Prop :=
  ∀ (c : ℕ) (hc : c < 13), c < n → ∀ (h : isType (wordAt x1 c hc) = 1#1) (i : S4x1248x128.Idx) (hi : 96 * c ≤ (i 1).val ∧ (i 1).val < 96 * c + 96),
    P i = chunkRows _ (hchk c hc) h x5 x6 x7 x8 c hc (i 0) (ValueIdx.ix3 (n0 := 1) (n1 := 96) (n2 := 128) 0 ⟨(i 1).val - 96 * c, by omega⟩ (i 2))

theorem filled_zero (x1 hchk x5 x6 x7 x8) (P : Vec F S4x1248x128 .f32) : Filled x1 hchk x5 x6 x7 x8 P 0 := fun _ _ h => absurd h (by omega)

theorem filled_step (x1 : Vec F S13 .i32) (hchk : ∀ (c : ℕ) (hc : c < 13), k0_chk1 (wordAt x1 c hc)) (x5 : Vec F S1248x3584 .bf16) (x6 : Vec F S3x3584x512 .fp8e4m3) (x7 x8 : Vec F S3x1x512 .f32)
    (P : Vec F S4x1248x128 .f32) (c : ℕ) (hc : c < 13) (hP : Filled x1 hchk x5 x6 x7 x8 P c) :
    Filled x1 hchk x5 x6 x7 x8 (fillOne (wordAt x1 c hc) (hchk c hc) x5 x6 x7 x8 c hc P) (c + 1) := by
  intro c' hc' hlt h i hi
  by_cases he : c' = c
  · subst he
    unfold fillOne
    rw [dif_pos h]
    unfold putPlanes
    rw [dif_pos hi]
  · have hout : ¬ (96 * c ≤ (i 1).val ∧ (i 1).val < 96 * c + 96) := by omega
    have hold := hP c' hc' (by omega) h i hi
    unfold fillOne
    split
    · unfold putPlanes
      rw [dif_neg hout]
      exact hold
    · exact hold

section Rules

variable (co : Dev nD) (arg1 : Memref sig .tc .smem S13 .i32) (arg5 : Memref sig .tc .vmem S1248x3584 .bf16) (arg6 : Memref sig .tc .vmem S3x3584x512 .fp8e4m3)
    (arg7 arg8 : Memref sig .tc .vmem S3x1x512 .f32) (arg11 : Memref sig .tc .vmem S4x1248x128 .f32)
    (x1 : Vec F S13 .i32) (hchk : ∀ (c : ℕ) (hc : c < 13), k0_chk1 (wordAt x1 c hc)) (x5 : Vec F S1248x3584 .bf16) (x6 : Vec F S3x3584x512 .fp8e4m3) (x7 x8 : Vec F S3x1x512 .f32)

/-- What the first phase owns, the planes at `P`. -/
abbrev phase1 (P : Vec F S4x1248x128 .f32) : sProp 𝕄 :=
  iprop(owns (co : Thread nD τ) arg1 fullShare x1 ∗ owns (co : Thread nD τ) arg5 fullShare x5 ∗ owns (co : Thread nD τ) arg6 fullShare x6
      ∗ owns (co : Thread nD τ) arg7 fullShare x7 ∗ owns (co : Thread nD τ) arg8 fullShare x8 ∗ owns (co : Thread nD τ) arg11 fullShare P)

theorem wp_word {α : Type} (c : ℕ) (hc : c < 13)
    (kk : (v : BitVec 32) → k0_chk1 v → Prog (TpuEff nD τ sig (Elt F) Λ₀ .tc) α) (P : Vec F S4x1248x128 .f32) (E : Set ℕ) (Q : α → sProp 𝕄)
    (hk : phase1 co arg1 arg5 arg6 arg7 arg8 arg11 x1 x5 x6 x7 x8 P ⊢ wp frame (wpE (defs₀ (F := F)) Variants.none co none) E (kk (wordAt x1 c hc) (hchk c hc)) Q) :
    phase1 co arg1 arg5 arg6 arg7 arg8 arg11 x1 x5 x6 x7 x8 P ⊢ wp frame (wpE (defs₀ (F := F)) Variants.none co none) E (readWord arg1 c hc kk) Q := by
  have hrun := wp_readWord co arg1 c hc kk x1 (hchk c hc) E Q
  iintro ⟨H1, Hr⟩
  iapply hrun
  isplitl [H1]; · iexact H1
  iintro H1
  iapply hk
  isplitl [H1]; · iexact H1
  iexact Hr

theorem wp_rest {α : Type} (c : ℕ) (hc : c < 13)
    (kk : PUnit.{1} → Prog (TpuEff nD τ sig (Elt F) Λ₀ .tc) α) (P : Vec F S4x1248x128 .f32) (hP : Filled x1 hchk x5 x6 x7 x8 P c) (E : Set ℕ) (Q : α → sProp 𝕄)
    (hk : ∀ P', Filled x1 hchk x5 x6 x7 x8 P' (c + 1) →
      phase1 co arg1 arg5 arg6 arg7 arg8 arg11 x1 x5 x6 x7 x8 P' ⊢ wp frame (wpE (defs₀ (F := F)) Variants.none co none) E (kk ⟨⟩) Q) :
    phase1 co arg1 arg5 arg6 arg7 arg8 arg11 x1 x5 x6 x7 x8 P ⊢ wp frame (wpE (defs₀ (F := F)) Variants.none co none) E
      (chunkRest (wordAt x1 c hc) (hchk c hc) arg5 arg6 arg7 arg8 arg11 c hc kk) Q := by
  have hrun := wp_chunkRest co (wordAt x1 c hc) (hchk c hc) arg5 arg6 arg7 arg8 arg11 c hc kk x5 x6 x7 x8 P E Q
  have hnext := hk _ (filled_step x1 hchk x5 x6 x7 x8 P c hc hP)
  iintro ⟨H1, H5, H6, H7, H8, H11⟩
  iapply hrun
  isplitl [H5]; · iexact H5
  isplitl [H6]; · iexact H6
  isplitl [H7]; · iexact H7
  isplitl [H8]; · iexact H8
  isplitl [H11]; · iexact H11
  iintro ⟨H5, H6, H7, H8, H11⟩
  iapply hnext
  isplitl [H1]; · iexact H1
  isplitl [H5]; · iexact H5
  isplitl [H6]; · iexact H6
  isplitl [H7]; · iexact H7
  isplitl [H8]; · iexact H8
  iexact H11

/-- A chunk: its word, then the rest. -/
theorem wp_one {α : Type} (c : ℕ) (hc : c < 13)
    (kk : PUnit.{1} → Prog (TpuEff nD τ sig (Elt F) Λ₀ .tc) α) (P : Vec F S4x1248x128 .f32) (hP : Filled x1 hchk x5 x6 x7 x8 P c) (E : Set ℕ) (Q : α → sProp 𝕄)
    (hk : ∀ P', Filled x1 hchk x5 x6 x7 x8 P' (c + 1) →
      phase1 co arg1 arg5 arg6 arg7 arg8 arg11 x1 x5 x6 x7 x8 P' ⊢ wp frame (wpE (defs₀ (F := F)) Variants.none co none) E (kk ⟨⟩) Q) :
    phase1 co arg1 arg5 arg6 arg7 arg8 arg11 x1 x5 x6 x7 x8 P ⊢ wp frame (wpE (defs₀ (F := F)) Variants.none co none) E
      (readWord arg1 c hc fun v hv => chunkRest v hv arg5 arg6 arg7 arg8 arg11 c hc kk) Q :=
  wp_word co arg1 arg5 arg6 arg7 arg8 arg11 x1 hchk x5 x6 x7 x8 c hc _ P E Q
    (wp_rest co arg1 arg5 arg6 arg7 arg8 arg11 x1 hchk x5 x6 x7 x8 c hc kk P hP E Q hk)

end Rules

section Body

variable (co : Dev nD) (i : grid0.Coords) (arg1 : Memref sig .tc .smem S13 .i32) (harg1 : arg1.IsWhole) (arg2 : Memref sig .tc .smem S4 .i32) (harg2 : arg2.IsWhole) (arg3 : Memref sig .tc .smem S3 .i32) (harg3 : arg3.IsWhole) (arg4 : Memref sig .tc .smem S3 .f32) (harg4 : arg4.IsWhole) (arg5 : Memref sig .tc .vmem S1248x3584 .bf16) (harg5 : arg5.IsWhole) (arg6 : Memref sig .tc .vmem S3x3584x512 .fp8e4m3) (harg6 : arg6.IsWhole) (arg7 : Memref sig .tc .vmem S3x1x512 .f32) (harg7 : arg7.IsWhole) (arg8 : Memref sig .tc .vmem S3x1x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S4x1248x128 .f32) (harg11 : arg11.IsWhole)

set_option maxRecDepth 65536 in
theorem part5_eq : k0_part5 (F := F) i arg1 harg1 arg2 harg2 arg3 harg3 arg4 harg4 arg5 harg5 arg6 harg6 arg7 harg7 arg8 harg8 arg9 harg9 arg10 harg10 arg11 harg11 =
    (readWord arg1 0 (by omega) fun v hv => chunkRest v hv arg5 arg6 arg7 arg8 arg11 0 (by omega) fun _ =>
     readWord arg1 1 (by omega) fun v hv => chunkRest v hv arg5 arg6 arg7 arg8 arg11 1 (by omega) fun _ =>
     readWord arg1 2 (by omega) fun v hv => chunkRest v hv arg5 arg6 arg7 arg8 arg11 2 (by omega) fun _ =>
     readWord arg1 3 (by omega) fun v hv => chunkRest v hv arg5 arg6 arg7 arg8 arg11 3 (by omega) fun _ =>
     readWord arg1 4 (by omega) fun v hv => chunkRest v hv arg5 arg6 arg7 arg8 arg11 4 (by omega) fun _ =>
     readWord arg1 5 (by omega) fun v hv => chunkRest v hv arg5 arg6 arg7 arg8 arg11 5 (by omega) fun _ =>
     readWord arg1 6 (by omega) fun v hv => pure ⟨v, hv, Scalar.cmpi .sge v 0#32⟩) := rfl

set_option maxRecDepth 65536 in
theorem part6_eq (v : BitVec 32) (hv : k0_chk1 v) : k0_part6 (F := F) i arg1 harg1 arg2 harg2 arg3 harg3 arg4 harg4 arg5 harg5 arg6 harg6 arg7 harg7 arg8 harg8 arg9 harg9 arg10 harg10 arg11 harg11 v hv (Scalar.cmpi .sge v 0#32) =
    (chunkRest v hv arg5 arg6 arg7 arg8 arg11 6 (by omega) fun _ =>
     readWord arg1 7 (by omega) fun v hv => chunkRest v hv arg5 arg6 arg7 arg8 arg11 7 (by omega) fun _ =>
     readWord arg1 8 (by omega) fun v hv => chunkRest v hv arg5 arg6 arg7 arg8 arg11 8 (by omega) fun _ =>
     readWord arg1 9 (by omega) fun v hv => chunkRest v hv arg5 arg6 arg7 arg8 arg11 9 (by omega) fun _ =>
     readWord arg1 10 (by omega) fun v hv => chunkRest v hv arg5 arg6 arg7 arg8 arg11 10 (by omega) fun _ =>
     readWord arg1 11 (by omega) fun v hv => chunkRest v hv arg5 arg6 arg7 arg8 arg11 11 (by omega) fun _ =>
     readWord arg1 12 (by omega) fun v hv => chunkRest v hv arg5 arg6 arg7 arg8 arg11 12 (by omega) fun _ => pure k0_pay84) := rfl

variable (x1 : Vec F S13 .i32) (hchk : ∀ (c : ℕ) (hc : c < 13), k0_chk1 (wordAt x1 c hc)) (x5 : Vec F S1248x3584 .bf16) (x6 : Vec F S3x3584x512 .fp8e4m3) (x7 x8 : Vec F S3x1x512 .f32)

set_option maxHeartbeats 1000000 in
theorem wp_part5 (P : Vec F S4x1248x128 .f32) (hP : Filled x1 hchk x5 x6 x7 x8 P 0) (E : Set ℕ) :
    phase1 co arg1 arg5 arg6 arg7 arg8 arg11 x1 x5 x6 x7 x8 P ⊢ wp frame (wpE (defs₀ (F := F)) Variants.none co none) E (k0_part5 (F := F) i arg1 harg1 arg2 harg2 arg3 harg3 arg4 harg4 arg5 harg5 arg6 harg6 arg7 harg7 arg8 harg8 arg9 harg9 arg10 harg10 arg11 harg11)
      fun r => (iprop(∃ P' : Vec F S4x1248x128 .f32, ⌜Filled x1 hchk x5 x6 x7 x8 P' 6 ∧ r = ⟨wordAt x1 6 (by omega), hchk 6 (by omega), Scalar.cmpi .sge (wordAt x1 6 (by omega)) 0#32⟩⌝
        ∗ phase1 co arg1 arg5 arg6 arg7 arg8 arg11 x1 x5 x6 x7 x8 P') : sProp 𝕄) := by
  rw [part5_eq]
  refine wp_one co arg1 arg5 arg6 arg7 arg8 arg11 x1 hchk x5 x6 x7 x8 0 (by omega) _ P hP E _ fun P hP => ?_
  refine wp_one co arg1 arg5 arg6 arg7 arg8 arg11 x1 hchk x5 x6 x7 x8 1 (by omega) _ P hP E _ fun P hP => ?_
  refine wp_one co arg1 arg5 arg6 arg7 arg8 arg11 x1 hchk x5 x6 x7 x8 2 (by omega) _ P hP E _ fun P hP => ?_
  refine wp_one co arg1 arg5 arg6 arg7 arg8 arg11 x1 hchk x5 x6 x7 x8 3 (by omega) _ P hP E _ fun P hP => ?_
  refine wp_one co arg1 arg5 arg6 arg7 arg8 arg11 x1 hchk x5 x6 x7 x8 4 (by omega) _ P hP E _ fun P hP => ?_
  refine wp_one co arg1 arg5 arg6 arg7 arg8 arg11 x1 hchk x5 x6 x7 x8 5 (by omega) _ P hP E _ fun P hP => ?_
  refine wp_word co arg1 arg5 arg6 arg7 arg8 arg11 x1 hchk x5 x6 x7 x8 6 (by omega) _ P E _ ?_
  iintro H
  sl_step
  iexists P
  isplitr
  · ipureintro; exact ⟨hP, rfl⟩
  iexact H

set_option maxHeartbeats 1000000 in
theorem wp_part6 (P : Vec F S4x1248x128 .f32) (hP : Filled x1 hchk x5 x6 x7 x8 P 6) (E : Set ℕ) :
    phase1 co arg1 arg5 arg6 arg7 arg8 arg11 x1 x5 x6 x7 x8 P ⊢ wp frame (wpE (defs₀ (F := F)) Variants.none co none) E (k0_part6 (F := F) i arg1 harg1 arg2 harg2 arg3 harg3 arg4 harg4 arg5 harg5 arg6 harg6 arg7 harg7 arg8 harg8 arg9 harg9 arg10 harg10 arg11 harg11
        (wordAt x1 6 (by omega)) (hchk 6 (by omega)) (Scalar.cmpi .sge (wordAt x1 6 (by omega)) 0#32))
      fun r => (iprop(∃ P' : Vec F S4x1248x128 .f32, ⌜Filled x1 hchk x5 x6 x7 x8 P' 13 ∧ r = k0_pay84⌝
        ∗ phase1 co arg1 arg5 arg6 arg7 arg8 arg11 x1 x5 x6 x7 x8 P') : sProp 𝕄) := by
  rw [part6_eq]
  refine wp_rest co arg1 arg5 arg6 arg7 arg8 arg11 x1 hchk x5 x6 x7 x8 6 (by omega) _ P hP E _ fun P hP => ?_
  refine wp_one co arg1 arg5 arg6 arg7 arg8 arg11 x1 hchk x5 x6 x7 x8 7 (by omega) _ P hP E _ fun P hP => ?_
  refine wp_one co arg1 arg5 arg6 arg7 arg8 arg11 x1 hchk x5 x6 x7 x8 8 (by omega) _ P hP E _ fun P hP => ?_
  refine wp_one co arg1 arg5 arg6 arg7 arg8 arg11 x1 hchk x5 x6 x7 x8 9 (by omega) _ P hP E _ fun P hP => ?_
  refine wp_one co arg1 arg5 arg6 arg7 arg8 arg11 x1 hchk x5 x6 x7 x8 10 (by omega) _ P hP E _ fun P hP => ?_
  refine wp_one co arg1 arg5 arg6 arg7 arg8 arg11 x1 hchk x5 x6 x7 x8 11 (by omega) _ P hP E _ fun P hP => ?_
  refine wp_one co arg1 arg5 arg6 arg7 arg8 arg11 x1 hchk x5 x6 x7 x8 12 (by omega) _ P hP E _ fun P hP => ?_
  iintro H
  sl_step
  iexists P
  isplitr
  · ipureintro; exact ⟨hP, rfl⟩
  iexact H

/-- The output block of the planes `P`: row `r` from trip `r / 64`. -/
def outBlock (x2 : Vec F S4 .i32) (x3 : Vec F S3 .i32) (x4 : Vec F S3 .f32) (x9 : Vec F S1024x512 .bf16) (P : Vec F S4x1248x128 .f32) : Vec F S1024x512 .bf16 := fun i =>
  tripVal x2 x3 k0_pay84 (skipWord x4 0 inb_S3_S1_0) (skipWord x4 1 inb_S3_S1_1) (skipWord x4 2 inb_S3_S1_2) x9 P
    ⟨(i 0).val / 64, by have : (i 0).val < 1024 := (i 0).isLt; rw [trips_eq]; omega⟩ ⟨(i 1).val / 128, by have : (i 1).val < 512 := (i 1).isLt; omega⟩
    (ValueIdx.ix2 (n0 := 64) (n1 := 128) ⟨(i 0).val % 64, Nat.mod_lt _ (by omega)⟩ ⟨(i 1).val % 128, Nat.mod_lt _ (by omega)⟩)

theorem outBlock_step (x2 : Vec F S4 .i32) (x3 : Vec F S3 .i32) (x4 : Vec F S3 .f32) (x9 : Vec F S1024x512 .bf16) (P : Vec F S4x1248x128 .f32) (y : Vec F S1024x512 .bf16)
    (k : Fin k0_t1_loop.trips) (hy : ∀ i, (i 0).val < 64 * k.val → y i = outBlock x2 x3 x4 x9 P i) :
    ∀ i, (i 0).val < 64 * (k.val + 1) → putTrip y k.val (tripVal x2 x3 k0_pay84 (skipWord x4 0 inb_S3_S1_0) (skipWord x4 1 inb_S3_S1_1) (skipWord x4 2 inb_S3_S1_2) x9 P k) i = outBlock x2 x3 x4 x9 P i := by
  intro i hi
  unfold putTrip
  split
  · rename_i h
    have hk : k = ⟨(i 0).val / 64, by have : (i 0).val < 1024 := (i 0).isLt; rw [trips_eq]; omega⟩ := Fin.ext (show k.val = (i 0).val / 64 by omega)
    unfold outBlock
    rw [← hk]
    refine congrArg _ (congrArg (fun r => ValueIdx.ix2 (n0 := 64) (n1 := 128) r _) (Fin.ext ?_))
    show (i 0).val - 64 * k.val = (i 0).val % 64
    omega
  · exact hy i (by omega)

variable (x2 : Vec F S4 .i32) (x3 : Vec F S3 .i32) (x4 : Vec F S3 .f32) (x9 : Vec F S1024x512 .bf16)

/-- What the second phase owns before trip `n`. -/
abbrev phase2 (P : Vec F S4x1248x128 .f32) (n : ℕ) (_ : Unit) : sProp 𝕄 :=
  iprop(owns (co : Thread nD τ) arg2 fullShare x2 ∗ owns (co : Thread nD τ) arg3 fullShare x3 ∗ owns (co : Thread nD τ) arg9 fullShare x9
      ∗ owns (co : Thread nD τ) arg11 fullShare P ∗ (∃ y : Vec F S1024x512 .bf16, ⌜∀ i, (i 0).val < 64 * n → y i = outBlock x2 x3 x4 x9 P i⌝ ∗ owns (co : Thread nD τ) arg10 fullShare y))

theorem phase2_step (P : Vec F S4x1248x128 .f32) (E : Set ℕ) (k : Fin k0_t1_loop.trips) (acc : Unit) :
    phase2 co arg2 arg3 arg9 arg10 arg11 x2 x3 x4 x9 P k.val acc ⊢ wp frame (wpE (defs₀ (F := F)) Variants.none co none) E
      (k0_t1_body (F := F) i arg1 harg1 arg2 harg2 arg3 harg3 arg4 harg4 arg5 harg5 arg6 harg6 arg7 harg7 arg8 harg8 arg9 harg9 arg10 harg10 arg11 harg11 k0_pay84 (skipWord x4 0 inb_S3_S1_0) (skipWord x4 1 inb_S3_S1_1) (skipWord x4 2 inb_S3_S1_2) k acc)
      (phase2 co arg2 arg3 arg9 arg10 arg11 x2 x3 x4 x9 P (k.val + 1)) := by
  iintro ⟨H2, H3, H9, H11, %y, %hy, H10⟩
  iapply (wp_wand_r frame (wpE (defs₀ (F := F)) Variants.none co none) E)
  isplitl [H2 H3 H9 H11 H10]
  · iapply (wp_trip co i arg1 harg1 arg2 harg2 arg3 harg3 arg4 harg4 arg5 harg5 arg6 harg6 arg7 harg7 arg8 harg8 arg9 harg9 arg10 harg10 arg11 harg11 k0_pay84 (skipWord x4 0 inb_S3_S1_0) (skipWord x4 1 inb_S3_S1_1) (skipWord x4 2 inb_S3_S1_2) k x2 x3 x9 P y E)
    isplitl [H2]; · iexact H2
    isplitl [H3]; · iexact H3
    isplitl [H9]; · iexact H9
    isplitl [H11]; · iexact H11
    iexact H10
  · iintro %_ ⟨H2, H3, H9, H11, H10⟩
    isplitl [H2]; · iexact H2
    isplitl [H3]; · iexact H3
    isplitl [H9]; · iexact H9
    isplitl [H11]; · iexact H11
    iexists _
    isplitr
    swap
    · iexact H10
    · ipureintro
      exact outBlock_step x2 x3 x4 x9 P y k hy

theorem wp_loop (P : Vec F S4x1248x128 .f32) (E : Set ℕ) :
    phase2 co arg2 arg3 arg9 arg10 arg11 x2 x3 x4 x9 P 0 () ⊢ wp frame (wpE (defs₀ (F := F)) Variants.none co none) E
      (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 k0_pay84 (skipWord x4 0 inb_S3_S1_0) (skipWord x4 1 inb_S3_S1_1) (skipWord x4 2 inb_S3_S1_2)))
      fun _ => (iprop(owns (co : Thread nD τ) arg2 fullShare x2 ∗ owns (co : Thread nD τ) arg3 fullShare x3 ∗ owns (co : Thread nD τ) arg9 fullShare x9
        ∗ owns (co : Thread nD τ) arg11 fullShare P ∗ owns (co : Thread nD τ) arg10 fullShare (outBlock x2 x3 x4 x9 P)) : sProp 𝕄) := by
  iintro H
  iapply (Scf.wp_for frame (wpE (defs₀ (F := F)) Variants.none co none) E k0_t1_loop.lb k0_t1_loop.ub k0_t1_loop.st k0_t1_ok () _
    (phase2 co arg2 arg3 arg9 arg10 arg11 x2 x3 x4 x9 P) (phase2_step co i arg1 harg1 arg2 harg2 arg3 harg3 arg4 harg4 arg5 harg5 arg6 harg6 arg7 harg7 arg8 harg8 arg9 harg9 arg10 harg10 arg11 harg11 x2 x3 x4 x9 P E))
  isplitl [H]; · iexact H
  iintro %_ ⟨H2, H3, H9, H11, %y, %hy, H10⟩
  have hall : y = outBlock x2 x3 x4 x9 P := funext fun i => hy i (by
    have : (i 0).val < 1024 := (i 0).isLt
    have h16 : Scf.trips k0_t1_loop.lb k0_t1_loop.ub k0_t1_loop.st = 16 := trips_eq
    rw [h16]; omega)
  subst hall
  isplitl [H2]; · iexact H2
  isplitl [H3]; · iexact H3
  isplitl [H9]; · iexact H9
  isplitl [H11]; · iexact H11
  iexact H10

/-- The gates read, and handed on. -/
def readGates {α : Type} (kk : Elt F .f32 → Elt F .f32 → Elt F .f32 → Prog (TpuEff nD τ sig (Elt F) Λ₀ .tc) α) : Prog (TpuEff nD τ sig (Elt F) Λ₀ .tc) α := do
  let v53 : Elt F .f32 ← smemLoad arg4 (Rect.unit (s := S3) ![0] S1.size inb_S3_S1_0) numel1_S1 rfl
  let v64 : Elt F .f32 ← smemLoad arg4 (Rect.unit (s := S3) ![1] S1.size inb_S3_S1_1) numel1_S1 rfl
  let v75 : Elt F .f32 ← smemLoad arg4 (Rect.unit (s := S3) ![2] S1.size inb_S3_S1_2) numel1_S1 rfl
  kk v53 v64 v75

theorem wp_readGates {α : Type} (kk : Elt F .f32 → Elt F .f32 → Elt F .f32 → Prog (TpuEff nD τ sig (Elt F) Λ₀ .tc) α) (E : Set ℕ) (Q : α → sProp 𝕄) :
    iprop(owns (co : Thread nD τ) arg4 fullShare x4
      ∗ (owns (co : Thread nD τ) arg4 fullShare x4 -∗ wp frame (wpE (defs₀ (F := F)) Variants.none co none) E (kk (skipWord x4 0 inb_S3_S1_0) (skipWord x4 1 inb_S3_S1_1) (skipWord x4 2 inb_S3_S1_2)) Q))
    ⊢ wp frame (wpE (defs₀ (F := F)) Variants.none co none) E (readGates arg4 kk) Q := by
  unfold owns
  iintro ⟨⟨%f4, %hf4, H4⟩, Hk⟩
  subst hf4
  unfold readGates
  sl_exec
  iapply Hk
  iexists _; isplitr; · ipureintro; exact rfl
  iexact H4

theorem body_eq : cc0_out_proj (F := F) i arg1 harg1 arg2 harg2 arg3 harg3 arg4 harg4 arg5 harg5 arg6 harg6 arg7 harg7 arg8 harg8 arg9 harg9 arg10 harg10 arg11 harg11 = (do
    let r ← k0_part5 (F := F) i arg1 harg1 arg2 harg2 arg3 harg3 arg4 harg4 arg5 harg5 arg6 harg6 arg7 harg7 arg8 harg8 arg9 harg9 arg10 harg10 arg11 harg11
    let v52 ← k0_part6 i arg1 harg1 arg2 harg2 arg3 harg3 arg4 harg4 arg5 harg5 arg6 harg6 arg7 harg7 arg8 harg8 arg9 harg9 arg10 harg10 arg11 harg11 r.1 r.2.1 r.2.2
    readGates arg4 fun v53 v64 v75 => do
      Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 v52 v53 v64 v75)
      pure ⟨⟩) := rfl

set_option maxHeartbeats 1000000 in
/-- The body, run on blocks holding `x1` to `x9`: whatever the planes and the output block held, the output block ends at
    `outBlock` of planes that hold every typed chunk's projection. -/
theorem wp_body (E : Set ℕ) :
    iprop(owns (co : Thread nD τ) arg1 fullShare x1 ∗ owns (co : Thread nD τ) arg2 fullShare x2 ∗ owns (co : Thread nD τ) arg3 fullShare x3
      ∗ owns (co : Thread nD τ) arg4 fullShare x4 ∗ owns (co : Thread nD τ) arg5 fullShare x5 ∗ owns (co : Thread nD τ) arg6 fullShare x6
      ∗ owns (co : Thread nD τ) arg7 fullShare x7 ∗ owns (co : Thread nD τ) arg8 fullShare x8 ∗ owns (co : Thread nD τ) arg9 fullShare x9
      ∗ (∃ y : Vec F S1024x512 .bf16, owns (co : Thread nD τ) arg10 fullShare y) ∗ (∃ P : Vec F S4x1248x128 .f32, owns (co : Thread nD τ) arg11 fullShare P))
    ⊢ wp frame (wpE (defs₀ (F := F)) Variants.none co none) E (cc0_out_proj (F := F) i arg1 harg1 arg2 harg2 arg3 harg3 arg4 harg4 arg5 harg5 arg6 harg6 arg7 harg7 arg8 harg8 arg9 harg9 arg10 harg10 arg11 harg11)
      fun _ => (iprop(∃ P' : Vec F S4x1248x128 .f32, ⌜Filled x1 hchk x5 x6 x7 x8 P' 13⌝
        ∗ owns (co : Thread nD τ) arg1 fullShare x1 ∗ owns (co : Thread nD τ) arg2 fullShare x2 ∗ owns (co : Thread nD τ) arg3 fullShare x3
        ∗ owns (co : Thread nD τ) arg4 fullShare x4 ∗ owns (co : Thread nD τ) arg5 fullShare x5 ∗ owns (co : Thread nD τ) arg6 fullShare x6
        ∗ owns (co : Thread nD τ) arg7 fullShare x7 ∗ owns (co : Thread nD τ) arg8 fullShare x8 ∗ owns (co : Thread nD τ) arg9 fullShare x9
        ∗ owns (co : Thread nD τ) arg10 fullShare (outBlock x2 x3 x4 x9 P') ∗ owns (co : Thread nD τ) arg11 fullShare P') : sProp 𝕄) := by
  rw [body_eq, wp_bind]
  iintro ⟨H1, H2, H3, H4, H5, H6, H7, H8, H9, ⟨%y, H10⟩, ⟨%P, H11⟩⟩
  iapply (wp_wand_r frame (wpE (defs₀ (F := F)) Variants.none co none) E)
  isplitl [H1 H5 H6 H7 H8 H11]
  · iapply (wp_part5 co i arg1 harg1 arg2 harg2 arg3 harg3 arg4 harg4 arg5 harg5 arg6 harg6 arg7 harg7 arg8 harg8 arg9 harg9 arg10 harg10 arg11 harg11 x1 hchk x5 x6 x7 x8 P (filled_zero _ _ _ _ _ _ P) E)
    isplitl [H1]; · iexact H1
    isplitl [H5]; · iexact H5
    isplitl [H6]; · iexact H6
    isplitl [H7]; · iexact H7
    isplitl [H8]; · iexact H8
    iexact H11
  iintro %r ⟨%P1, %hr, HP⟩
  obtain ⟨hP1, rfl⟩ := hr
  rw [wp_bind]
  iapply (wp_wand_r frame (wpE (defs₀ (F := F)) Variants.none co none) E)
  isplitl [HP]
  · iapply (wp_part6 co i arg1 harg1 arg2 harg2 arg3 harg3 arg4 harg4 arg5 harg5 arg6 harg6 arg7 harg7 arg8 harg8 arg9 harg9 arg10 harg10 arg11 harg11 x1 hchk x5 x6 x7 x8 P1 hP1 E)
    iexact HP
  iintro %r ⟨%P2, %hr, H1, H5, H6, H7, H8, H11⟩
  obtain ⟨hP2, rfl⟩ := hr
  iapply (wp_readGates co arg4 x4 _ E)
  isplitl [H4]; · iexact H4
  iintro H4
  rw [wp_bind]
  iapply (wp_wand_r frame (wpE (defs₀ (F := F)) Variants.none co none) E)
  isplitl [H2 H3 H9 H11 H10]
  · iapply (wp_loop co i arg1 harg1 arg2 harg2 arg3 harg3 arg4 harg4 arg5 harg5 arg6 harg6 arg7 harg7 arg8 harg8 arg9 harg9 arg10 harg10 arg11 harg11 x2 x3 x4 x9 P2 E)
    isplitl [H2]; · iexact H2
    isplitl [H3]; · iexact H3
    isplitl [H9]; · iexact H9
    isplitl [H11]; · iexact H11
    iexists y
    isplitr
    · ipureintro; intro i hi; exact absurd hi (by omega)
    iexact H10
  iintro %_ ⟨H2, H3, H9, H11, H10⟩
  sl_step
  iexists P2
  isplitr
  · ipureintro; exact hP2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Body

end Cert.OutIdeal.Hand

end
-- ==== Proof.OutIdealHost.lean ====
/-
  What the operations before the pallas_call of `OutIdeal` compute: the word that names each chunk's node type, as a function
  of the type offsets, and the range of that word.
-/
module

public import proofs.«01_k».proof.Proof.Gen.OutIdeal.Frame

@[expose] public section

set_option maxRecDepth 16384

noncomputable section

namespace Cert.OutIdeal.Hand

open Cert.OutIdeal Cert.OutIdeal.Gen
open Idealize.ShloMosaic Idealize.ShloMosaic.TcCoe Idealize.ShloMosaic.Tactic

variable {F : FTy → Type} [FloatOps F]
variable (m : (ℓ : Loc nD τ sig) → Buf (Elt F) ℓ)

/-- The quotient of `x` by 96, rounded down. -/
def floor96 (x : IVec S3 32) : IVec S3 32 :=
  select
    (andi (cmpi .ne (signi x) (broadcastInDim S3 ![] bcast_S_S3 (signi (id (constantI S_ 32 96#32)))))
      (cmpi .ne (Host.remsi x (broadcastInDim S3 ![] bcast_S_S3 (id (constantI S_ 32 96#32)))) (broadcastInDim S3 ![] bcast_S_S3 (constantI S_ 32 0#32))))
    (subi (Host.divsi x (broadcastInDim S3 ![] bcast_S_S3 (id (constantI S_ 32 96#32)))) (broadcastInDim S3 ![] bcast_S_S3 (constantI S_ 32 1#32)))
    (Host.divsi x (broadcastInDim S3 ![] bcast_S_S3 (id (constantI S_ 32 96#32))))

/-- The number of nodes of each type, from the type offsets. -/
def counts (off : IVec S4 32) : IVec S3 32 :=
  subi (extractStridedSlice S3 ![1] off slices_S4_S3_1) (extractStridedSlice S3 ![0] off slices_S4_S3_0)

/-- The running sums of the numbers of chunks. -/
def endsOf (blocks : IVec S3 32) : IVec S3 32 :=
  Host.reduceWindow IntOp.addi ![3] ![1] ![2] ![0] blocks (broadcastInDim S_ ![] bcast_S_S_ (constantI S_ 32 0#32)) reduceWindows_S3_S3_w3s1p2_0 h_S_

/-- The first chunk of each type, and the number of chunks in use. -/
def firstOf (off : IVec S4 32) : IVec S4 32 :=
  concatenate S4 0 [⟨S1, broadcastInDim S1 ![] bcast_S_S1 (constantI S_ 32 0#32)⟩, ⟨S3, endsOf (floor96 (subi (addi (counts off) (broadcastInDim S3 ![] bcast_S_S3 (constantI S_ 32 96#32))) (broadcastInDim S3 ![] bcast_S_S3 (constantI S_ 32 1#32))))⟩] concatenates_S1_S3_S4_d0

/-- How many of the three words `ends` are at or below each chunk's number. -/
def rankIn (first : IVec S4 32) : IVec S13 32 :=
  Host.reduce IntOp.addi (extui 32 (cmpi .sge
    (broadcastInDim S13x3 ![0, 1] bcast_S13x1_S13x3_0_1 (broadcastInDim S13x1 ![0] bcast_S13_S13x1_0 (iotaInDim S13 32 0)))
    (broadcastInDim S13x3 ![0, 1] bcast_S1x3_S13x3_0_1 (broadcastInDim S1x3 ![1] bcast_S3_S1x3_1 (extractStridedSlice S3 ![1] first slices_S4_S3_1)))) natLt_1_32)
    (constantI S_ 32 0#32) reducesTo_S13x3_S13_d1 h_S_

/-- How many types end at or before each chunk. -/
def rankOf (off : IVec S4 32) : IVec S13 32 := rankIn (firstOf off)

/-- The word of each chunk: its type, or -1 for a chunk of padding. -/
def ctypeOf (off : IVec S4 32) : IVec S13 32 :=
  select (cmpi .slt (rankOf off) (broadcastInDim S13 ![] bcast_S_S13 (constantI S_ 32 3#32))) (rankOf off)
    (broadcastInDim S13 ![] bcast_S_S13 (id (constantI S_ 32 4294967295#32)))

/-- How far each type's rows lie below their nodes, from the types' first chunks. -/
def shiftIn (first off : IVec S4 32) : IVec S3 32 :=
  subi (muli (extractStridedSlice S3 ![0] first slices_S4_S3_0) (broadcastInDim S3 ![] bcast_S_S3 (constantI S_ 32 96#32)))
    (extractStridedSlice S3 ![0] off slices_S4_S3_0)

/-- The same, from the type offsets. -/
def shiftOf (off : IVec S4 32) : IVec S3 32 := shiftIn (firstOf off) off

/-- Two stretches of operations in a row. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons o l ih => exact ih _

section Steps
variable (W : Valuation τ sig (Elt F))

theorem step0 : StableHlo.after hostOps0 W main_v0 = counts (W main_arg0) := by
  unfold hostOps0; after_results; try rfl
theorem step1 : StableHlo.after hostOps0_1 W main_v4 = subi (addi (W main_v0) (broadcastInDim S3 ![] bcast_S_S3 (constantI S_ 32 96#32))) (broadcastInDim S3 ![] bcast_S_S3 (constantI S_ 32 1#32)) := by
  unfold hostOps0_1; after_results; try rfl
theorem step1' : StableHlo.after hostOps0_1 W main_c_1 = constantI S_ 32 96#32 := by
  unfold hostOps0_1; after_results; try rfl
theorem step2 (h : W main_c_1 = constantI S_ 32 96#32) : StableHlo.after hostOps0_2 W main_v5 = floor96 (W main_v4) := by
  unfold hostOps0_2; after_results; simp only [h]; try rfl
theorem step3 : StableHlo.after hostOps0_3 W main_v6 = broadcastInDim S1 ![] bcast_S_S1 (constantI S_ 32 0#32) := by
  unfold hostOps0_3; after_results; try rfl
theorem step3' : StableHlo.after hostOps0_3 W main_v5 = W main_v5 := by
  unfold hostOps0_3; after_results; try rfl
theorem step4 : StableHlo.after hostOps0_4 W main_v7 = endsOf (W main_v5) := by
  unfold hostOps0_4; after_results; try rfl
theorem step4' : StableHlo.after hostOps0_4 W main_v6 = W main_v6 := by
  unfold hostOps0_4; after_results; try rfl
theorem step5 : StableHlo.after hostOps0_5 W main_v17 = rankIn (concatenate S4 0 [⟨S1, W main_v6⟩, ⟨S3, W main_v7⟩] concatenates_S1_S3_S4_d0) := by
  unfold hostOps0_5; after_results; try rfl
theorem step5' : StableHlo.after hostOps0_5 W main_v19 = cmpi .slt (rankIn (concatenate S4 0 [⟨S1, W main_v6⟩, ⟨S3, W main_v7⟩] concatenates_S1_S3_S4_d0)) (broadcastInDim S13 ![] bcast_S_S13 (constantI S_ 32 3#32)) := by
  unfold hostOps0_5; after_results; try rfl
theorem step5'' : StableHlo.after hostOps0_5 W main_c_5 = constantI S_ 32 4294967295#32 := by
  unfold hostOps0_5; after_results; try rfl
theorem step6 : StableHlo.after hostOps0_6 W main_v20 = select (W main_v19) (W main_v17) (broadcastInDim S13 ![] bcast_S_S13 (id (W main_c_5))) := by
  unfold hostOps0_6; after_results; try rfl
theorem step7 : StableHlo.after hostOps0_7 W main_v20 = W main_v20 := by
  unfold hostOps0_7; after_results; try rfl

theorem step5f : StableHlo.after hostOps0_5 W main_v8 = concatenate S4 0 [⟨S1, W main_v6⟩, ⟨S3, W main_v7⟩] concatenates_S1_S3_S4_d0 := by
  unfold hostOps0_5; after_results; try rfl
theorem step6f : StableHlo.after hostOps0_6 W main_v8 = W main_v8 := by
  unfold hostOps0_6; after_results; try rfl
theorem step7f : StableHlo.after hostOps0_7 W main_v25 = shiftIn (W main_v8) (W main_arg0) := by
  unfold hostOps0_7; after_results; try rfl
theorem arg0_0 : StableHlo.after hostOps0 W main_arg0 = W main_arg0 := by unfold hostOps0; after_results; try rfl
theorem arg0_1 : StableHlo.after hostOps0_1 W main_arg0 = W main_arg0 := by unfold hostOps0_1; after_results; try rfl
theorem arg0_2 : StableHlo.after hostOps0_2 W main_arg0 = W main_arg0 := by unfold hostOps0_2; after_results; try rfl
theorem arg0_3 : StableHlo.after hostOps0_3 W main_arg0 = W main_arg0 := by unfold hostOps0_3; after_results; try rfl
theorem arg0_4 : StableHlo.after hostOps0_4 W main_arg0 = W main_arg0 := by unfold hostOps0_4; after_results; try rfl
theorem arg0_5 : StableHlo.after hostOps0_5 W main_arg0 = W main_arg0 := by unfold hostOps0_5; after_results; try rfl
theorem arg0_6 : StableHlo.after hostOps0_6 W main_arg0 = W main_arg0 := by unfold hostOps0_6; after_results; try rfl

end Steps

/-- The array of chunk words as the pallas_call finds it. -/
theorem V_ctype (c : Dev nD) : V m c main_v20 = ctypeOf (m ((c : Thread nD τ).loc main_arg0)) := by
  unfold V
  simp only [List.flatten_cons, List.flatten_nil, after_append, StableHlo.after_nil]
  rw [step7, step6, step5, step5', step5'', step4, step4', step3, step3', step2 _ (step1' _), step1, step0]
  rfl

set_option backward.isDefEq.respectTransparency.types false in
/-- The array of shifts as the pallas_call finds it. -/
theorem V_shift (c : Dev nD) : V m c main_v25 = shiftOf (m ((c : Thread nD τ).loc main_arg0)) := by
  unfold V
  simp only [List.flatten_cons, List.flatten_nil, after_append, StableHlo.after_nil]
  rw [step7f, step6f, step5f, step4, step4', step3, step3', step2 _ (step1' _), step1, step0, arg0_6, arg0_5, arg0_4, arg0_3, arg0_2, arg0_1, arg0_0]
  rfl

/-- The scales as the pallas_call finds them. -/
theorem V_scale (c : Dev nD) : V m c main_v26 = broadcastInDim S3x1x3584 ![0, 2] bcast_S3x3584_S3x1x3584_0_2 (m ((c : Thread nD τ).loc main_arg3)) := by
  unfold V
  simp only [hostOps0, hostOps0_1, hostOps0_2, hostOps0_3, hostOps0_4, hostOps0_5, hostOps0_6, hostOps0_7, List.flatten_cons, List.flatten_nil, List.append_nil, List.cons_append,
      List.nil_append]
  after_results_simp

/-- The biases as the pallas_call finds them. -/
theorem V_bias (c : Dev nD) : V m c main_v27 = broadcastInDim S3x1x3584 ![0, 2] bcast_S3x3584_S3x1x3584_0_2 (m ((c : Thread nD τ).loc main_arg4)) := by
  unfold V
  simp only [hostOps0, hostOps0_1, hostOps0_2, hostOps0_3, hostOps0_4, hostOps0_5, hostOps0_6, hostOps0_7, List.flatten_cons, List.flatten_nil, List.append_nil, List.cons_append,
      List.nil_append]
  after_results_simp

/-- A word below three, read as a type, is at most two. -/
def Small (v : BitVec 32) : Prop := v.slt 3#32 = true

theorem small_ctypeOf (off : IVec S4 32) (i : S13.Idx) : Small (ctypeOf off i) := by
  unfold ctypeOf Small
  show BitVec.slt (if (BitVec.ofBool ((rankOf off i).slt 3#32)) = 1#1 then rankOf off i else 4294967295#32) 3#32 = true
  split
  · rename_i h
    exact (WordCmp.ofBool_eq_one_iff _).mp h
  · decide

theorem Small.lt {v : BitVec 32} (h : Small v) : (Scalar.maxsi v 0#32).toNat < 3 := by
  have h' : v.toInt < 3 := by
    have := h; unfold Small at this
    rw [BitVec.slt_iff_toInt_lt] at this
    exact this
  show (if (0#32 : BitVec 32).slt v then v else 0#32).toNat < 3
  split
  · rename_i h0
    rw [BitVec.slt_iff_toInt_lt] at h0
    have h0' : (0 : Int) < v.toInt := h0
    rw [BitVec.toInt_eq_toNat_cond] at h' h0'
    split at h' <;> omega
  · decide

end Cert.OutIdeal.Hand

end
-- ==== Proof.OutIdealFrame.lean ====
/-
  The frame of the program `OutIdeal`: what each window's staging buffer holds at every grid point, the body's obligation at a
  point, and the run of the whole program, once with nothing said of the output and once with the output's blocks named.
-/
module

public import proofs.«01_k».proof.Proof.OutIdealBody
public import proofs.«01_k».proof.Proof.OutIdealHost
public import Idealize.ShloMosaic.Lib.Pipeline.TableIdle
public import Idealize.ShloMosaic.Lib.Claim

@[expose] public section

set_option maxRecDepth 16384

noncomputable section

namespace Cert.OutIdeal.Hand

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The chunk words are in range -/

theorem chk1_of_small (v : BitVec 32) (h : Small v) : k0_chk1 v := by
  have h3 := h.lt
  refine ⟨fun _ a => ?_, fun _ a => ?_⟩
  · fin_cases a
    · show (Scalar.maxsi v 0#32).toNat + 1 ≤ 3
      omega
    · exact Nat.le_refl _
    · exact Nat.le_refl _
  · fin_cases a
    · show (Scalar.maxsi v 0#32).toNat + 1 ≤ 3
      omega
    · exact Nat.le_refl _
    · exact Nat.le_refl _

/-- Every chunk word that the body reads is in range. -/
theorem words_chk (c : Dev nD) (t : Fin cfg0.N) (k : ℕ) (hk : k < 13) : k0_chk1 (wordAt (iblk m c 0 t) k hk) := by
  apply chk1_of_small
  show Small (V m c main_v20 _)
  rw [V_ctype]
  exact small_ctypeOf _ _

variable (X : Dev nD → Fin cfg0.N → Vec F S1024x512 .bf16)

/-- What the body leaves in each window's buffer, the output's being given as `X`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => X c t
  Φ _ := Pipeline.ΦA spec0 c
  q _ := fullShare
  owed _ := 0

theorem A_eq (c : Dev nD) (w : Fin cfg0.W) : (dats m X 0 c).A w = V m c (Pipeline.arrRef spec0 w) := by
  dsimp only [dats]

theorem after0_0 (c : Dev nD) (t : Fin cfg0.N) : (dats m X 0 c).after 0 t = iblk m c 0 t := by dsimp only [dats]
theorem after0_1 (c : Dev nD) (t : Fin cfg0.N) : (dats m X 0 c).after 1 t = iblk m c 1 t := by dsimp only [dats]
theorem after0_2 (c : Dev nD) (t : Fin cfg0.N) : (dats m X 0 c).after 2 t = iblk m c 2 t := by dsimp only [dats]
theorem after0_3 (c : Dev nD) (t : Fin cfg0.N) : (dats m X 0 c).after 3 t = iblk m c 3 t := by dsimp only [dats]
theorem after0_4 (c : Dev nD) (t : Fin cfg0.N) : (dats m X 0 c).after 4 t = iblk m c 4 t := by dsimp only [dats]
theorem after0_5 (c : Dev nD) (t : Fin cfg0.N) : (dats m X 0 c).after 5 t = iblk m c 5 t := by dsimp only [dats]
theorem after0_6 (c : Dev nD) (t : Fin cfg0.N) : (dats m X 0 c).after 6 t = iblk m c 6 t := by dsimp only [dats]
theorem after0_7 (c : Dev nD) (t : Fin cfg0.N) : (dats m X 0 c).after 7 t = iblk m c 7 t := by dsimp only [dats]
theorem after0_8 (c : Dev nD) (t : Fin cfg0.N) : (dats m X 0 c).after 8 t = iblk m c 8 t := by dsimp only [dats]
theorem after0_9 (c : Dev nD) (t : Fin cfg0.N) : (dats m X 0 c).after 9 t = X c t := by dsimp only [dats]

theorem before0_0 (c : Dev nD) (t : Fin cfg0.N) (d) : (dats m X 0 c).before 0 t d = iblk m c 0 t :=
  before0_0_of m (dats m X 0 c) (A_eq m X c 0) (after0_0 m X c) t d
theorem before0_1 (c : Dev nD) (t : Fin cfg0.N) (d) : (dats m X 0 c).before 1 t d = iblk m c 1 t :=
  before0_1_of m (dats m X 0 c) (A_eq m X c 1) (after0_1 m X c) t d
theorem before0_2 (c : Dev nD) (t : Fin cfg0.N) (d) : (dats m X 0 c).before 2 t d = iblk m c 2 t :=
  before0_2_of m (dats m X 0 c) (A_eq m X c 2) (after0_2 m X c) t d
theorem before0_3 (c : Dev nD) (t : Fin cfg0.N) (d) : (dats m X 0 c).before 3 t d = iblk m c 3 t :=
  before0_3_of m (dats m X 0 c) (A_eq m X c 3) (after0_3 m X c) t d
theorem before0_4 (c : Dev nD) (t : Fin cfg0.N) (d) : (dats m X 0 c).before 4 t d = iblk m c 4 t :=
  before0_4_of m (dats m X 0 c) (A_eq m X c 4) (after0_4 m X c) t d
theorem before0_5 (c : Dev nD) (t : Fin cfg0.N) (d) : (dats m X 0 c).before 5 t d = iblk m c 5 t :=
  before0_5_of m (dats m X 0 c) (A_eq m X c 5) (after0_5 m X c) t d
theorem before0_6 (c : Dev nD) (t : Fin cfg0.N) (d) : (dats m X 0 c).before 6 t d = iblk m c 6 t :=
  before0_6_of m (dats m X 0 c) (A_eq m X c 6) (after0_6 m X c) t d
theorem before0_7 (c : Dev nD) (t : Fin cfg0.N) (d) : (dats m X 0 c).before 7 t d = iblk m c 7 t :=
  before0_7_of m (dats m X 0 c) (A_eq m X c 7) (after0_7 m X c) t d
theorem before0_8 (c : Dev nD) (t : Fin cfg0.N) (d) : (dats m X 0 c).before 8 t d = iblk m c 8 t :=
  before0_8_of m (dats m X 0 c) (A_eq m X c 8) (after0_8 m X c) t d

/-- Planes that hold every typed chunk's projection at point `t`. -/
def FilledAt (c : Dev nD) (t : Fin cfg0.N) (P : Vec F S4x1248x128 .f32) : Prop :=
  Filled (iblk m c 0 t) (words_chk m c t) (iblk m c 4 t) (iblk m c 5 t) (iblk m c 6 t) (iblk m c 7 t) P 13

/-- The output block that such planes give at point `t`. -/
def outFrom (c : Dev nD) (t : Fin cfg0.N) (P : Vec F S4x1248x128 .f32) : Vec F S1024x512 .bf16 :=
  outBlock (iblk m c 1 t) (iblk m c 2 t) (iblk m c 3 t) (iblk m c 8 t) P

/-! ## The body at a grid point -/

/-- The planes' buffer, owned whole, is its points-to. -/
theorem scratch_out (c : Dev nD) (P : Vec F S4x1248x128 .f32) :
    (owns (c : Thread nD τ) (Memref.whole cc0_scratch0) fullShare P : sProp 𝕄) ⊢ (((c : Thread nD τ).loc cc0_scratch0) ↦{fullShare} P) :=
  (congrArg (fun A : sProp 𝕄 => A ⊢ (((c : Thread nD τ).loc cc0_scratch0) ↦{fullShare} P)) (owns_whole (c : Thread nD τ) cc0_scratch0 fullShare P)).mpr .rfl

/-- What the body is given at point `t`. -/
def bodyPre (c : Dev nD) (t : Fin cfg0.N) : sProp 𝕄 :=
  iprop((dats m X 0 c).Φ t.castSucc ∗ (dats m X 0 c).owesAt () t.castSucc
    ∗ (∃ d, owns (c : Thread nD τ) (st0_0 t) fullShare ((dats m X 0 c).before 0 t d))
    ∗ (∃ d, owns (c : Thread nD τ) (st0_1 t) fullShare ((dats m X 0 c).before 1 t d))
    ∗ (∃ d, owns (c : Thread nD τ) (st0_2 t) fullShare ((dats m X 0 c).before 2 t d))
    ∗ (∃ d, owns (c : Thread nD τ) (st0_3 t) fullShare ((dats m X 0 c).before 3 t d))
    ∗ (∃ d, owns (c : Thread nD τ) (st0_4 t) fullShare ((dats m X 0 c).before 4 t d))
    ∗ (∃ d, owns (c : Thread nD τ) (st0_5 t) fullShare ((dats m X 0 c).before 5 t d))
    ∗ (∃ d, owns (c : Thread nD τ) (st0_6 t) fullShare ((dats m X 0 c).before 6 t d))
    ∗ (∃ d, owns (c : Thread nD τ) (st0_7 t) fullShare ((dats m X 0 c).before 7 t d))
    ∗ (∃ d, owns (c : Thread nD τ) (st0_8 t) fullShare ((dats m X 0 c).before 8 t d))
    ∗ (∃ d, owns (c : Thread nD τ) (st0_9 t) fullShare d))

/-- What it leaves. -/
def bodyPost (c : Dev nD) (t : Fin cfg0.N) : sProp 𝕄 :=
  iprop((dats m X 0 c).Φ t.succ ∗ (dats m X 0 c).owesAt () t.succ
    ∗ owns (c : Thread nD τ) (st0_0 t) fullShare ((dats m X 0 c).after 0 t)
    ∗ owns (c : Thread nD τ) (st0_1 t) fullShare ((dats m X 0 c).after 1 t)
    ∗ owns (c : Thread nD τ) (st0_2 t) fullShare ((dats m X 0 c).after 2 t)
    ∗ owns (c : Thread nD τ) (st0_3 t) fullShare ((dats m X 0 c).after 3 t)
    ∗ owns (c : Thread nD τ) (st0_4 t) fullShare ((dats m X 0 c).after 4 t)
    ∗ owns (c : Thread nD τ) (st0_5 t) fullShare ((dats m X 0 c).after 5 t)
    ∗ owns (c : Thread nD τ) (st0_6 t) fullShare ((dats m X 0 c).after 6 t)
    ∗ owns (c : Thread nD τ) (st0_7 t) fullShare ((dats m X 0 c).after 7 t)
    ∗ owns (c : Thread nD τ) (st0_8 t) fullShare ((dats m X 0 c).after 8 t)
    ∗ (∃ P, ⌜FilledAt m c t P⌝ ∗ owns (c : Thread nD τ) (st0_9 t) fullShare (outFrom m c t P)))

set_option maxHeartbeats 1000000 in
theorem sound_body (c : Dev nD) (t : Fin cfg0.N) :
    bodyPre m X c t ⊢ wp frame (wpE (defs₀ (F := F)) Variants.none c none) Set.univ (bodyAt0 t) (fun _ => bodyPost m X c t) := by
  unfold bodyPre bodyPost bodyAt0
  simp only [before0_0, before0_1, before0_2, before0_3, before0_4, before0_5, before0_6, before0_7, before0_8]
  rw [show (dats m X 0 c).Φ t.castSucc = Pipeline.ΦA spec0 c from rfl, show (dats m X 0 c).Φ t.succ = Pipeline.ΦA spec0 c from rfl,
    show (dats m X 0 c).owesAt () t.succ = (dats m X 0 c).owesAt () t.castSucc from rfl,
    after0_0, after0_1, after0_2, after0_3, after0_4, after0_5, after0_6, after0_7, after0_8]
  unfold Pipeline.ΦA
  rw [scopedRest0_eq]
  iintro ⟨⟨⟨%P, HP⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r frame (wpE (defs₀ (F := F)) Variants.none c none) Set.univ)
  isplitl [H0 H1 H2 H3 H4 H5 H6 H7 H8 H9 HP]
  · iapply (wp_body c (grid0.coords t) _ _ _ _ _ _ _ _ _ _ _ _ _ _ _ _ _ _ _ _ _ _ (iblk m c 0 t) (words_chk m c t) (iblk m c 4 t) (iblk m c 5 t) (iblk m c 6 t) (iblk m c 7 t)
      (iblk m c 1 t) (iblk m c 2 t) (iblk m c 3 t) (iblk m c 8 t) Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists P
    rw [owns_whole]
    iexact HP
  iintro %_ ⟨%P', %hP', H0, H1, H2, H3, H4, H5, H6, H7, H8, H9, HP⟩
  isplitl [HP Hr]
  · isplitl [HP]
    · iexists P'
      iapply (scratch_out c P')
      iexact HP
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists P'
  isplitr
  · ipureintro; exact hP'
  iexact H9

theorem defs₀_row (t : Fin cfg0.N) :
    defs₀ (F := F) .tc cfg0.body (cfg0.bodyArgs t (cfg0.slots t)) = bodyAt0 t := by
  unfold defs₀; rw [Defs.onTc_tc]

/-! ## The run with nothing said of the output -/

/-- Only the output is left unnamed. -/
def hidden : Fin 10 → Bool := fun w => w.val == 9

/-- What the body leaves, the output at some contents. -/
def bodyPostF (c : Dev nD) (t : Fin cfg0.N) : sProp 𝕄 :=
  iprop((dats m X 0 c).Φ t.succ ∗ (dats m X 0 c).owesAt () t.succ
    ∗ owns (c : Thread nD τ) (st0_0 t) fullShare ((dats m X 0 c).after 0 t)
    ∗ owns (c : Thread nD τ) (st0_1 t) fullShare ((dats m X 0 c).after 1 t)
    ∗ owns (c : Thread nD τ) (st0_2 t) fullShare ((dats m X 0 c).after 2 t)
    ∗ owns (c : Thread nD τ) (st0_3 t) fullShare ((dats m X 0 c).after 3 t)
    ∗ owns (c : Thread nD τ) (st0_4 t) fullShare ((dats m X 0 c).after 4 t)
    ∗ owns (c : Thread nD τ) (st0_5 t) fullShare ((dats m X 0 c).after 5 t)
    ∗ owns (c : Thread nD τ) (st0_6 t) fullShare ((dats m X 0 c).after 6 t)
    ∗ owns (c : Thread nD τ) (st0_7 t) fullShare ((dats m X 0 c).after 7 t)
    ∗ owns (c : Thread nD τ) (st0_8 t) fullShare ((dats m X 0 c).after 8 t)
    ∗ (∃ d, owns (c : Thread nD τ) (st0_9 t) fullShare d))

theorem post_some (c : Dev nD) (t : Fin cfg0.N) : bodyPost m X c t ⊢ bodyPostF m X c t := by
  unfold bodyPost bodyPostF
  iintro ⟨HΦ, Ho, H0, H1, H2, H3, H4, H5, H6, H7, H8, ⟨%P, %hP, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _
  iexact H9

theorem body_some (c : Dev nD) : BodyObligation (dats (F := F) m X 0 c) (defs₀ (F := F)) Variants.none () Set.univ hidden := fun t => by
  rw [bigSep_W0, bigSep_W0, defs₀_row]
  exact triple_restated (sound_body m X c t) rfl .rfl fun _ => post_some m X c t

set_option backward.isDefEq.respectTransparency.types false in
theorem run_some : θ_run defs (onTc (τ := τ) (main (F := F))) (s₀ m ρ)
    (fun r => Pipeline.RDat.FramePost (cfgs 0) (fun c => (dats m X 0 c).toRForget hidden) (V m) r ∧ r.2.sem = fun _ => 0) :=
  Pipeline.θ_run_frame_forget (Q' := _) cfgs (dats m X) (0 : Fin 1) launch0 defs₀ Variants.none hidden m ρ main
    (hbody := fun c => (body_some m X c).loose) (hshare := fun c => (dats m X 0 c).share_full fun _ => rfl)
    (howed := fun _ _ => rfl) (V := V m) (hmain := hmain m Variants.none) (hA := A_eq m X) (hΦ := fun _ _ => rfl)

/-- An input array of the forgetful run ends as the region found it. -/
theorem input_kept (c : Dev nD) (w : Fin cfg0.W) (hw : hidden w = false) (hin : (cfg0.win w).isOut = false) (G)
    (h : ((dats m X 0 c).toRForget hidden).ArrAt w cfg0.N G) : G = V m c (Pipeline.arrRef spec0 w) :=
  (((dats m X 0 c).toRForget_arrAt_iff hw _ _).mp h).trans (((dats m X 0 c).arrAt_in w hin _).trans (A_eq m X c w))

/-! ## The run with the output named -/

/-- `X` names the output: whatever planes hold every typed chunk's projection, the block they give is `X`'s. -/
def Names : Prop := ∀ (c : Dev nD) (t : Fin cfg0.N) (P : Vec F S4x1248x128 .f32), FilledAt m c t P → outFrom m c t P = X c t

/-- What the body leaves, the output at its name. -/
def bodyPostX (c : Dev nD) (t : Fin cfg0.N) : sProp 𝕄 :=
  iprop((dats m X 0 c).Φ t.succ ∗ (dats m X 0 c).owesAt () t.succ
    ∗ owns (c : Thread nD τ) (st0_0 t) fullShare ((dats m X 0 c).after 0 t)
    ∗ owns (c : Thread nD τ) (st0_1 t) fullShare ((dats m X 0 c).after 1 t)
    ∗ owns (c : Thread nD τ) (st0_2 t) fullShare ((dats m X 0 c).after 2 t)
    ∗ owns (c : Thread nD τ) (st0_3 t) fullShare ((dats m X 0 c).after 3 t)
    ∗ owns (c : Thread nD τ) (st0_4 t) fullShare ((dats m X 0 c).after 4 t)
    ∗ owns (c : Thread nD τ) (st0_5 t) fullShare ((dats m X 0 c).after 5 t)
    ∗ owns (c : Thread nD τ) (st0_6 t) fullShare ((dats m X 0 c).after 6 t)
    ∗ owns (c : Thread nD τ) (st0_7 t) fullShare ((dats m X 0 c).after 7 t)
    ∗ owns (c : Thread nD τ) (st0_8 t) fullShare ((dats m X 0 c).after 8 t)
    ∗ owns (c : Thread nD τ) (st0_9 t) fullShare ((dats m X 0 c).after 9 t))

/-- What the body is given, the output's buffer as the named run finds it. -/
def bodyPreX (c : Dev nD) (t : Fin cfg0.N) : sProp 𝕄 :=
  iprop((dats m X 0 c).Φ t.castSucc ∗ (dats m X 0 c).owesAt () t.castSucc
    ∗ (∃ d, owns (c : Thread nD τ) (st0_0 t) fullShare ((dats m X 0 c).before 0 t d))
    ∗ (∃ d, owns (c : Thread nD τ) (st0_1 t) fullShare ((dats m X 0 c).before 1 t d))
    ∗ (∃ d, owns (c : Thread nD τ) (st0_2 t) fullShare ((dats m X 0 c).before 2 t d))
    ∗ (∃ d, owns (c : Thread nD τ) (st0_3 t) fullShare ((dats m X 0 c).before 3 t d))
    ∗ (∃ d, owns (c : Thread nD τ) (st0_4 t) fullShare ((dats m X 0 c).before 4 t d))
    ∗ (∃ d, owns (c : Thread nD τ) (st0_5 t) fullShare ((dats m X 0 c).before 5 t d))
    ∗ (∃ d, owns (c : Thread nD τ) (st0_6 t) fullShare ((dats m X 0 c).before 6 t d))
    ∗ (∃ d, owns (c : Thread nD τ) (st0_7 t) fullShare ((dats m X 0 c).before 7 t d))
    ∗ (∃ d, owns (c : Thread nD τ) (st0_8 t) fullShare ((dats m X 0 c).before 8 t d))
    ∗ (∃ d, owns (c : Thread nD τ) (st0_9 t) fullShare ((dats m X 0 c).before 9 t d)))

theorem pre_some (c : Dev nD) (t : Fin cfg0.N) : bodyPreX m X c t ⊢ bodyPre m X c t := by
  unfold bodyPreX bodyPre
  iintro ⟨HΦ, Ho, H0, H1, H2, H3, H4, H5, H6, H7, H8, ⟨%d, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists _
  iexact H9

theorem post_named (hX : Names m X) (c : Dev nD) (t : Fin cfg0.N) : bodyPost m X c t ⊢ bodyPostX m X c t := by
  unfold bodyPost bodyPostX
  iintro ⟨HΦ, Ho, H0, H1, H2, H3, H4, H5, H6, H7, H8, ⟨%P, %hP, H9⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [after0_9, ← hX c t P hP]
  iexact H9

theorem sound_named (hX : Names m X) (c : Dev nD) (t : Fin cfg0.N) :
    bodyPreX m X c t ⊢ wp frame (wpE (defs₀ (F := F)) Variants.none c none) Set.univ (bodyAt0 t) (fun _ => bodyPostX m X c t) :=
  triple_restated (sound_body m X c t) rfl (pre_some m X c t) fun _ => post_named m X hX c t

theorem body_named (hX : Names m X) (c : Dev nD) : BodyObligation (dats (F := F) m X 0 c) (defs₀ (F := F)) Variants.none () Set.univ := fun t => by
  rw [bigSep_W0, bigSep_W0, defs₀_row]
  exact triple_restated (sound_named m X hX c t) rfl .rfl fun _ => .rfl

set_option backward.isDefEq.respectTransparency.types false in
theorem run_named (hX : Names m X) : θ_run defs (onTc (τ := τ) (main (F := F))) (s₀ m ρ) (Pipeline.FramePost cfgs (dats m X) 0 (V m)) :=
  (θ_run defs _ _).mono (fun _ h => h.1) (Pipeline.θ_run_frame (Q' := fun r => Pipeline.FramePost cfgs (dats m X) 0 (V m) r ∧ r.2.sem = fun _ => 0) cfgs (dats m X) (0 : Fin 1) launch0 defs₀ Variants.none m ρ main
    (hbody := fun c => (body_named m X hX c).loose) (hshare := fun c => (dats m X 0 c).share_full fun _ => rfl)
    (howed := fun _ _ => rfl) (V := V m) (hmain := hmain m Variants.none) (hA := A_eq m X) (hΦ := fun _ _ => rfl))

/-- Every argument array ends as it was, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r hr => ⟨fun c =>
      ⟨(input_kept m _ c 1 rfl rfl _ ((hr.1 c).1 1)).trans (V_main_arg0 m c),
      (input_kept m _ c 4 rfl rfl _ ((hr.1 c).1 4)).trans (V_main_arg1 m c),
      (input_kept m _ c 5 rfl rfl _ ((hr.1 c).1 5)).trans (V_main_arg2 m c),
      ((hr.1 c).2 main_arg3 (Pipeline.mem_restRefs_of main_arg3 (by decide) (by decide))).trans (V_main_arg3 m c),
      ((hr.1 c).2 main_arg4 (Pipeline.mem_restRefs_of main_arg4 (by decide) (by decide))).trans (V_main_arg4 m c),
      (input_kept m _ c 3 rfl rfl _ ((hr.1 c).1 3)).trans (V_main_arg5 m c),
      (input_kept m _ c 8 rfl rfl _ ((hr.1 c).1 8)).trans (V_main_arg6 m c)⟩, hr.2⟩)
    (run_some m ρ (fun c t => iblk m c 9 t))

end Cert.OutIdeal.Hand

end
-- ==== Proof.OutRefHost.lean ====
/-
  What the operations before the pallas_call of the reference `OutRefIdeal` compute: the row, the type and the gate of every node, as a
  function of the type offsets.
-/
module

public import proofs.«01_k».proof.Proof.Gen.OutRefIdeal.Frame

@[expose] public section

set_option maxRecDepth 16384

noncomputable section

namespace Cert.OutRefIdeal.Hand

open Cert.OutRefIdeal Cert.OutRefIdeal.Gen
open Idealize.ShloMosaic Idealize.ShloMosaic.TcCoe Idealize.ShloMosaic.Tactic

variable {F : FTy → Type} [FloatOps F]
variable (m : (ℓ : Loc nD τ sig) → Buf (Elt F) ℓ)

/-- The quotient of `x` by 96, rounded down. -/
def floor96 (x : IVec S3 32) : IVec S3 32 :=
  select
    (andi (cmpi .ne (signi x) (broadcastInDim S3 ![] bcast_S_S3 (signi (id (constantI S_ 32 96#32)))))
      (cmpi .ne (Host.remsi x (broadcastInDim S3 ![] bcast_S_S3 (id (constantI S_ 32 96#32)))) (broadcastInDim S3 ![] bcast_S_S3 (constantI S_ 32 0#32))))
    (subi (Host.divsi x (broadcastInDim S3 ![] bcast_S_S3 (id (constantI S_ 32 96#32)))) (broadcastInDim S3 ![] bcast_S_S3 (constantI S_ 32 1#32)))
    (Host.divsi x (broadcastInDim S3 ![] bcast_S_S3 (id (constantI S_ 32 96#32))))

/-- The number of nodes of each type, from the type offsets. -/
def counts (off : IVec S4 32) : IVec S3 32 :=
  subi (extractStridedSlice S3 ![1] off slices_S4_S3_1) (extractStridedSlice S3 ![0] off slices_S4_S3_0)

/-- The running sums of the numbers of blocks. -/
def endsOf (blocks : IVec S3 32) : IVec S3 32 :=
  Host.reduceWindow IntOp.addi ![3] ![1] ![2] ![0] blocks (broadcastInDim S_ ![] bcast_S_S_ (constantI S_ 32 0#32)) reduceWindows_S3_S3_w3s1p2_0 h_S_

/-- The number of blocks of each type. -/
def blocksOf (off : IVec S4 32) : IVec S3 32 := floor96 (addi (counts off) (broadcastInDim S3 ![] bcast_S_S3 (constantI S_ 32 95#32)))

/-- Where each type's blocks end. -/
def endsAt (off : IVec S4 32) : IVec S3 32 :=
  endsOf (blocksOf off)

/-- Each node's type: how many of the two inner type offsets are at or below its number. -/
def typeOf (off : IVec S4 32) : IVec S1024 32 :=
  Host.reduce IntOp.addi (extui 32 (cmpi .sge
    (broadcastInDim S1024x2 ![0, 1] bcast_S1024x1_S1024x2_0_1 (broadcastInDim S1024x1 ![0] bcast_S1024_S1024x1_0 (iotaInDim S1024 32 0)))
    (broadcastInDim S1024x2 ![0, 1] bcast_S1x2_S1024x2_0_1 (broadcastInDim S1x2 ![1] bcast_S2_S1x2_1 (extractStridedSlice S2 ![1] off slices_S4_S2_1)))) natLt_1_32)
    (constantI S_ 32 0#32) reducesTo_S1024x2_S1024_d1 h_S_

/-- How far each type's rows lie below their nodes, from the types' ends and numbers of blocks. -/
def shiftIn (ends blocks : IVec S3 32) (off : IVec S4 32) : IVec S3 32 :=
  subi (muli (broadcastInDim S3 ![] bcast_S_S3 (constantI S_ 32 96#32)) (subi ends blocks)) (extractStridedSlice S3 ![0] off slices_S4_S3_0)

/-- The same, from the type offsets. -/
def shiftOf (off : IVec S4 32) : IVec S3 32 := shiftIn (endsAt off) (blocksOf off) off

/-- The row of each node: its number plus its type's shift. -/
def rowOf (off : IVec S4 32) : IVec S1024 32 :=
  addi (iotaInDim S1024 32 0) (Host.gather gather_S3_S1024x1_S1024_n_0_n_n_0_1_1 (shiftOf off) (broadcastInDim S1024x1 ![0] bcast_S1024_S1024x1_0 (typeOf off)))

/-- The gate of each type. -/
def gateOf (skip : FVec F S3 .f32) : FVec F S3 .f32 :=
  Host.divf (broadcastInDim S3 ![] bcast_S_S3 (constant S_ .f32 0x3F800000#32))
    (addf (broadcastInDim S3 ![] bcast_S_S3 (constant S_ .f32 0x3F800000#32)) (Host.exp (Host.negf skip)))

/-- Two stretches of operations in a row. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons o l ih => exact ih _

section Steps
variable (W : Valuation τ sig (Elt F))

theorem step0 : StableHlo.after hostOps0 W main_v0 = counts (W main_arg0) := by
  unfold hostOps0; after_results; try rfl
theorem step1 : StableHlo.after hostOps0_1 W main_v2 = addi (W main_v0) (broadcastInDim S3 ![] bcast_S_S3 (constantI S_ 32 95#32)) := by
  unfold hostOps0_1; after_results; try rfl
theorem step1' : StableHlo.after hostOps0_1 W main_c_0 = constantI S_ 32 96#32 := by
  unfold hostOps0_1; after_results; try rfl
theorem step2 (h : W main_c_0 = constantI S_ 32 96#32) : StableHlo.after hostOps0_2 W main_v3 = floor96 (W main_v2) := by
  unfold hostOps0_2; after_results; simp only [h]; try rfl
theorem step3 : StableHlo.after hostOps0_3 W main_v4 = endsOf (W main_v3) := by
  unfold hostOps0_3; after_results; try rfl
theorem step3' : StableHlo.after hostOps0_3 W main_v3 = W main_v3 := by
  unfold hostOps0_3; after_results; try rfl
theorem step4 : StableHlo.after hostOps0_4 W main_v16 = typeOf (W main_arg0) := by
  unfold hostOps0_4; after_results; try rfl
theorem step4s : StableHlo.after hostOps0_4 W main_v18 = shiftIn (W main_v4) (W main_v3) (W main_arg0) := by
  unfold hostOps0_4; after_results; try rfl
theorem step4i : StableHlo.after hostOps0_4 W main_v8 = iotaInDim S1024 32 0 := by
  unfold hostOps0_4; after_results; try rfl
theorem step5 : StableHlo.after hostOps0_5 W main_v19 = Host.gather gather_S3_S1024x1_S1024_n_0_n_n_0_1_1 (W main_v18) (broadcastInDim S1024x1 ![0] bcast_S1024_S1024x1_0 (W main_v16)) := by
  unfold hostOps0_5; after_results; try rfl
theorem step5t : StableHlo.after hostOps0_5 W main_v16 = W main_v16 := by
  unfold hostOps0_5; after_results; try rfl
theorem step5i : StableHlo.after hostOps0_5 W main_v8 = W main_v8 := by
  unfold hostOps0_5; after_results; try rfl
theorem step6 : StableHlo.after hostOps0_6 W main_v20 = addi (W main_v8) (W main_v19) := by
  unfold hostOps0_6; after_results; try rfl
theorem step6t : StableHlo.after hostOps0_6 W main_v16 = W main_v16 := by
  unfold hostOps0_6; after_results; try rfl
theorem step7 : StableHlo.after hostOps0_7 W main_v21 = Host.gather gather_S1248x3584_S1024x1_S1024x3584_1_0_n_n_0_1_13584 (W main_arg1) (broadcastInDim S1024x1 ![0] bcast_S1024_S1024x1_0 (W main_v20)) := by
  unfold hostOps0_7; after_results; try rfl
theorem step7t : StableHlo.after hostOps0_7 W main_v16 = W main_v16 := by
  unfold hostOps0_7; after_results; try rfl
theorem step8 : StableHlo.after hostOps0_8 W main_v27 = gateOf (W main_arg5) := by
  unfold hostOps0_8; after_results; try rfl
theorem step8t : StableHlo.after hostOps0_8 W main_v16 = W main_v16 := by
  unfold hostOps0_8; after_results; try rfl
theorem step8r : StableHlo.after hostOps0_8 W main_v21 = W main_v21 := by
  unfold hostOps0_8; after_results; try rfl
theorem step9 : StableHlo.after hostOps0_9 W main_v28 = Host.gather gather_S3_S1024x1_S1024_n_0_n_n_0_1_1 (W main_v27) (broadcastInDim S1024x1 ![0] bcast_S1024_S1024x1_0 (W main_v16)) := by
  unfold hostOps0_9; after_results; try rfl
theorem step9t : StableHlo.after hostOps0_9 W main_v16 = W main_v16 := by
  unfold hostOps0_9; after_results; try rfl
theorem step9r : StableHlo.after hostOps0_9 W main_v21 = W main_v21 := by
  unfold hostOps0_9; after_results; try rfl
theorem step10 : StableHlo.after hostOps0_10 W main_v29 = broadcastInDim S1024x1 ![0] bcast_S1024_S1024x1_0 (W main_v16) := by
  unfold hostOps0_10; after_results; try rfl
theorem step10g : StableHlo.after hostOps0_10 W main_v32 = broadcastInDim S1024x1 ![0] bcast_S1024_S1024x1_0 (W main_v28) := by
  unfold hostOps0_10; after_results; try rfl
theorem step10r : StableHlo.after hostOps0_10 W main_v21 = W main_v21 := by
  unfold hostOps0_10; after_results; try rfl
theorem keep0 : StableHlo.after hostOps0 W main_arg0 = W main_arg0 := by
  unfold hostOps0; after_results; try rfl
theorem keep1 : StableHlo.after hostOps0_1 W main_arg0 = W main_arg0 := by
  unfold hostOps0_1; after_results; try rfl
theorem keep2 : StableHlo.after hostOps0_2 W main_arg0 = W main_arg0 := by
  unfold hostOps0_2; after_results; try rfl
theorem keep3 : StableHlo.after hostOps0_3 W main_arg0 = W main_arg0 := by
  unfold hostOps0_3; after_results; try rfl
theorem keep4 : StableHlo.after hostOps0_4 W main_arg0 = W main_arg0 := by
  unfold hostOps0_4; after_results; try rfl
theorem arg1_0 : StableHlo.after hostOps0 W main_arg1 = W main_arg1 := by
  unfold hostOps0; after_results; try rfl
theorem arg1_1 : StableHlo.after hostOps0_1 W main_arg1 = W main_arg1 := by
  unfold hostOps0_1; after_results; try rfl
theorem arg1_2 : StableHlo.after hostOps0_2 W main_arg1 = W main_arg1 := by
  unfold hostOps0_2; after_results; try rfl
theorem arg1_3 : StableHlo.after hostOps0_3 W main_arg1 = W main_arg1 := by
  unfold hostOps0_3; after_results; try rfl
theorem arg1_4 : StableHlo.after hostOps0_4 W main_arg1 = W main_arg1 := by
  unfold hostOps0_4; after_results; try rfl
theorem arg1_5 : StableHlo.after hostOps0_5 W main_arg1 = W main_arg1 := by
  unfold hostOps0_5; after_results; try rfl
theorem arg1_6 : StableHlo.after hostOps0_6 W main_arg1 = W main_arg1 := by
  unfold hostOps0_6; after_results; try rfl
theorem arg5_0 : StableHlo.after hostOps0 W main_arg5 = W main_arg5 := by
  unfold hostOps0; after_results; try rfl
theorem arg5_1 : StableHlo.after hostOps0_1 W main_arg5 = W main_arg5 := by
  unfold hostOps0_1; after_results; try rfl
theorem arg5_2 : StableHlo.after hostOps0_2 W main_arg5 = W main_arg5 := by
  unfold hostOps0_2; after_results; try rfl
theorem arg5_3 : StableHlo.after hostOps0_3 W main_arg5 = W main_arg5 := by
  unfold hostOps0_3; after_results; try rfl
theorem arg5_4 : StableHlo.after hostOps0_4 W main_arg5 = W main_arg5 := by
  unfold hostOps0_4; after_results; try rfl
theorem arg5_5 : StableHlo.after hostOps0_5 W main_arg5 = W main_arg5 := by
  unfold hostOps0_5; after_results; try rfl
theorem arg5_6 : StableHlo.after hostOps0_6 W main_arg5 = W main_arg5 := by
  unfold hostOps0_6; after_results; try rfl
theorem arg5_7 : StableHlo.after hostOps0_7 W main_arg5 = W main_arg5 := by
  unfold hostOps0_7; after_results; try rfl

end Steps

/-- Each node's type as the pallas_call finds it. -/
theorem V_type (c : Dev nD) : V m c main_v29 = broadcastInDim S1024x1 ![0] bcast_S1024_S1024x1_0 (typeOf (m ((c : Thread nD τ).loc main_arg0))) := by
  unfold V
  simp only [List.flatten_cons, List.flatten_nil, after_append, StableHlo.after_nil]
  rw [step10, step9t, step8t, step7t, step6t, step5t, step4, keep3, keep2, keep1, keep0]

/-- The rows of the nodes as the pallas_call finds them. -/
theorem V_rows (c : Dev nD) : V m c main_v21 = Host.gather gather_S1248x3584_S1024x1_S1024x3584_1_0_n_n_0_1_13584 (m ((c : Thread nD τ).loc main_arg1)) (broadcastInDim S1024x1 ![0] bcast_S1024_S1024x1_0 (rowOf (m ((c : Thread nD τ).loc main_arg0)))) := by
  unfold V
  simp only [List.flatten_cons, List.flatten_nil, after_append, StableHlo.after_nil]
  rw [step10r, step9r, step8r, step7, step6, step5, step5i, step4, step4s, step4i, step3, step3', step2 _ (step1' _), step1, step0, keep3, keep2, keep1, keep0, arg1_6, arg1_5, arg1_4, arg1_3, arg1_2, arg1_1, arg1_0]
  rfl

/-- Each node's gate as the pallas_call finds it. -/
theorem V_gate (c : Dev nD) : V m c main_v32 = broadcastInDim S1024x1 ![0] bcast_S1024_S1024x1_0 (Host.gather gather_S3_S1024x1_S1024_n_0_n_n_0_1_1 (gateOf (m ((c : Thread nD τ).loc main_arg5))) (broadcastInDim S1024x1 ![0] bcast_S1024_S1024x1_0 (typeOf (m ((c : Thread nD τ).loc main_arg0))))) := by
  unfold V
  simp only [List.flatten_cons, List.flatten_nil, after_append, StableHlo.after_nil]
  rw [step10g, step9, step8, step8t, step7t, step6t, step5t, step4, keep3, keep2, keep1, keep0, arg5_7, arg5_6, arg5_5, arg5_4, arg5_3, arg5_2, arg5_1, arg5_0]

/-- The scales as the pallas_call finds them. -/
theorem V_scale (c : Dev nD) : V m c main_v30 = broadcastInDim S3x1x3584 ![0, 2] bcast_S3x3584_S3x1x3584_0_2 (m ((c : Thread nD τ).loc main_arg3)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append]
  after_results_simp

/-- The biass as the pallas_call finds them. -/
theorem V_bias (c : Dev nD) : V m c main_v31 = broadcastInDim S3x1x3584 ![0, 2] bcast_S3x3584_S3x1x3584_0_2 (m ((c : Thread nD τ).loc main_arg4)) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append]
  after_results_simp

end Cert.OutRefIdeal.Hand

end
-- ==== Proof.OutIndex.lean ====
/-
  The whole numbers that the kernel's host operations compute from type offsets `0 ≤ a ≤ b ≤ 1024`: how many chunks of 96
  rows each type takes, where they start, the type of every chunk in use, and the row of every node.
-/
module

public import proofs.«01_k».proof.Proof.OutIdealHost
public import proofs.«01_k».proof.Proof.OutRefHost
public import Idealize.ShloMosaic.Lib.Pointwise
public import Idealize.ShloMosaic.Lib.Routing.Ops
public import Idealize.ShloMosaic.Lib.Routing.OpsSet

@[expose] public section

set_option maxRecDepth 16384

noncomputable section

namespace Cert.OutEq

open Idealize.ShloMosaic

/-- The four type offsets are 0, `a`, `b` and 1024, in order. -/
structure Offs (off : IVec Cert.OutIdeal.S4 32) (a b : ℕ) : Prop where
  h0 : off (ix1 0) = BitVec.ofNat 32 0
  h1 : off (ix1 1) = BitVec.ofNat 32 a
  h2 : off (ix1 2) = BitVec.ofNat 32 b
  h3 : off (ix1 3) = BitVec.ofNat 32 1024
  hab : a ≤ b
  hb : b ≤ 1024

/-- The number of nodes of a type. -/
def cntN (a b : ℕ) : ℕ → ℕ
  | 0 => a
  | 1 => b - a
  | _ => 1024 - b
/-- The number of chunks of a type. -/
def blkN (a b t : ℕ) : ℕ := (cntN a b t + 95) / 96
/-- The first chunk of a type; of type 3, the number of chunks in use. -/
def firstN (a b : ℕ) : ℕ → ℕ
  | 0 => 0
  | n + 1 => firstN a b n + blkN a b n
/-- The first node of a type. -/
def offN (a b : ℕ) : ℕ → ℕ
  | 0 => 0
  | 1 => a
  | _ => b
/-- How far a type's rows lie below its nodes. -/
def shiftN (a b t : ℕ) : ℕ := 96 * firstN a b t - offN a b t
/-- The type of a node. -/
def typeN (a b i : ℕ) : Fin 3 := if b ≤ i then 2 else if a ≤ i then 1 else 0
/-- The row of a node. -/
def rowN (a b i : ℕ) : ℕ := i + shiftN a b (typeN a b i).val

theorem offN_le (a b : ℕ) (hab : a ≤ b) (t : Fin 3) : offN a b t.val ≤ 96 * firstN a b t.val := by
  fin_cases t <;> simp only [offN, firstN, blkN, cntN] <;> omega

theorem shiftN_le (a b : ℕ) (hab : a ≤ b) (hb : b ≤ 1024) (t : Fin 3) : shiftN a b t.val ≤ 190 := by
  fin_cases t <;> simp only [shiftN, offN, firstN, blkN, cntN] <;> omega

/-- A node's row lies in a chunk of the node's type. -/
theorem row_chunk (a b i : ℕ) (hab : a ≤ b) (hb : b ≤ 1024) (hi : i < 1024) :
    firstN a b (typeN a b i).val ≤ rowN a b i / 96 ∧ rowN a b i / 96 < firstN a b ((typeN a b i).val + 1) := by
  unfold rowN typeN
  split
  · simp only [shiftN, offN, firstN, blkN, cntN, Fin.val_two]; omega
  · split
    · simp only [shiftN, offN, firstN, blkN, cntN, Fin.val_one]; omega
    · simp only [shiftN, offN, firstN, blkN, cntN, Fin.val_zero]; omega

theorem firstN_le (a b : ℕ) (hab : a ≤ b) (hb : b ≤ 1024) (t : ℕ) (ht : t ≤ 3) : firstN a b t ≤ 13 := by
  have : t = 0 ∨ t = 1 ∨ t = 2 ∨ t = 3 := by omega
  rcases this with rfl | rfl | rfl | rfl <;> simp only [firstN, blkN, cntN] <;> omega

theorem rowN_lt (a b i : ℕ) (hab : a ≤ b) (hb : b ≤ 1024) (hi : i < 1024) : rowN a b i < 1248 := by
  have h := (row_chunk a b i hab hb hi).2
  have h' := firstN_le a b hab hb ((typeN a b i).val + 1) (by omega)
  omega

/-- Comparing small numbers as signed words compares them as numbers. -/
theorem sge_nat (x y : ℕ) (hx : x < 2 ^ 31) (hy : y < 2 ^ 31) :
    BitVec.setWidth 32 (IntOp.cmpi .sge (BitVec.ofNat 32 x) (BitVec.ofNat 32 y)) = if y ≤ x then 1#32 else 0#32 := by
  show BitVec.setWidth 32 (BitVec.ofBool ((BitVec.ofNat 32 y).sle (BitVec.ofNat 32 x))) = _
  have ex : (BitVec.ofNat 32 x).toInt = x := by rw [BitVec.toInt_ofNat']; exact Int.bmod_eq_of_le (by omega) (by omega)
  have ey : (BitVec.ofNat 32 y).toInt = y := by rw [BitVec.toInt_ofNat']; exact Int.bmod_eq_of_le (by omega) (by omega)
  have e : (BitVec.ofNat 32 y).sle (BitVec.ofNat 32 x) = decide (y ≤ x) := by
    rw [Bool.eq_iff_iff, BitVec.sle_iff_toInt_le, ex, ey, decide_eq_true_eq]; omega
  rw [e]
  by_cases hle : y ≤ x
  · rw [if_pos hle, decide_eq_true hle]; rfl
  · rw [if_neg hle, decide_eq_false hle]; rfl

theorem fold3 (f : Fin 3 → BitVec 32) : Finset.fold IntOp.addi 0#32 f Finset.univ = f 0 + (f 1 + (f 2 + 0#32)) := rfl
theorem fold2 (f : Fin 2 → BitVec 32) : Finset.fold IntOp.addi 0#32 f Finset.univ = f 0 + (f 1 + 0#32) := rfl

section Kernel

open Cert.OutIdeal Cert.OutIdeal.Gen Cert.OutIdeal.Hand

theorem floor96_apply (x : IVec S3 32) (i : Fin 3) (n : Fin 1200) (h : x (ix1 i) = BitVec.ofNat 32 n.val) :
    floor96 x (ix1 i) = BitVec.ofNat 32 (n.val / 96) := by
  unfold floor96
  pointwise
  rw [h]
  clear h
  revert n
  decide +kernel

theorem counts_apply (off : IVec S4 32) (a b : ℕ) (h : Offs off a b) (t : Fin 3) : counts off (ix1 t) = BitVec.ofNat 32 (cntN a b t.val) := by
  obtain ⟨h0, h1, h2, h3, hab, hb⟩ := h
  have e : ∀ t : Fin 3, counts off (ix1 t) = off (ix1 ⟨t.val + 1, by omega⟩) - off (ix1 ⟨t.val, by omega⟩) := by
    intro t; unfold counts; pointwise
    exact congrArg (fun k => off (ix1 k) - off (ix1 ⟨t.val, by omega⟩)) (Fin.ext (Nat.add_comm 1 t.val))
  rw [e]
  fin_cases t
  · show off (ix1 1) - off (ix1 0) = _
    rw [h0, h1]; simp only [cntN]; bv_omega
  · show off (ix1 2) - off (ix1 1) = _
    rw [h2, h1]; simp only [cntN]; bv_omega
  · show off (ix1 3) - off (ix1 2) = _
    rw [h2, h3]; simp only [cntN]; bv_omega

theorem cntN_le (a b : ℕ) (hab : a ≤ b) (hb : b ≤ 1024) (t : ℕ) : cntN a b t ≤ 1024 := by
  unfold cntN; split <;> omega

theorem blocks_apply (off : IVec S4 32) (a b : ℕ) (h : Offs off a b) (t : Fin 3) :
    floor96 (subi (addi (counts off) (broadcastInDim S3 ![] bcast_S_S3 (constantI S_ 32 96#32))) (broadcastInDim S3 ![] bcast_S_S3 (constantI S_ 32 1#32))) (ix1 t) = BitVec.ofNat 32 (blkN a b t.val) := by
  have hc := cntN_le a b h.hab h.hb t.val
  refine floor96_apply _ t ⟨cntN a b t.val + 95, by omega⟩ ?_
  show counts off (ix1 t) + 96#32 - 1#32 = _
  rw [counts_apply off a b h t]
  show _ = BitVec.ofNat 32 (cntN a b t.val + 95)
  bv_omega

theorem ends_apply (off : IVec S4 32) (a b : ℕ) (h : Offs off a b) (blocks : IVec S3 32) (hbl : ∀ t : Fin 3, blocks (ix1 t) = BitVec.ofNat 32 (blkN a b t.val)) (t : Fin 3) :
    endsOf blocks (ix1 t) = BitVec.ofNat 32 (firstN a b (t.val + 1)) := by
  unfold endsOf
  refine (Routing.cumsum1 (N := 3) (Nm1 := 2) rfl blocks (blkN a b) hbl _ rfl _ _ t).trans (congrArg _ ?_)
  fin_cases t <;> simp [List.range_succ, firstN, Nat.add_assoc]

theorem firstOf_apply (off : IVec S4 32) (a b : ℕ) (h : Offs off a b) (t : Fin 4) : firstOf off (ix1 t) = BitVec.ofNat 32 (firstN a b t.val) := by
  have he := ends_apply off a b h _ (blocks_apply off a b h)
  unfold firstOf
  generalize endsOf _ = e at he ⊢
  have e0 : concatenate S4 0 [⟨S1, broadcastInDim S1 ![] bcast_S_S1 (constantI S_ 32 0#32)⟩, ⟨S3, e⟩] concatenates_S1_S3_S4_d0 (ix1 0) = 0#32 := by pointwise
  have e1 : ∀ k : Fin 3, concatenate S4 0 [⟨S1, broadcastInDim S1 ![] bcast_S_S1 (constantI S_ 32 0#32)⟩, ⟨S3, e⟩] concatenates_S1_S3_S4_d0 (ix1 ⟨1 + k.val, by omega⟩) = e (ix1 k) := by
    intro k; pointwise
  rcases t with ⟨_ | t, ht⟩
  · exact e0
  · refine Eq.trans ?_ ((e1 ⟨t, by omega⟩).trans (he ⟨t, by omega⟩))
    exact congrArg _ (congrArg ix1 (Fin.ext (Nat.add_comm t 1)))

theorem shiftOf_apply (off : IVec S4 32) (a b : ℕ) (h : Offs off a b) (t : Fin 3) : shiftOf off (ix1 t) = BitVec.ofNat 32 (shiftN a b t.val) := by
  have hf := firstOf_apply off a b h ⟨t.val, by omega⟩
  unfold shiftOf
  generalize firstOf off = f at hf ⊢
  have e : ∀ t : Fin 3, shiftIn f off (ix1 t) = f (ix1 ⟨t.val, by omega⟩) * 96#32 - off (ix1 ⟨t.val, by omega⟩) := by
    intro t; unfold shiftIn; pointwise
    rfl
  have ho : off (ix1 ⟨t.val, by omega⟩) = BitVec.ofNat 32 (offN a b t.val) := by
    fin_cases t
    · exact h.h0
    · exact h.h1
    · exact h.h2
  have hle := offN_le a b h.hab t
  have hF := firstN_le a b h.hab h.hb t.val (by omega)
  rw [e, hf, ho]
  unfold shiftN
  bv_omega

theorem rankOf_apply (off : IVec S4 32) (a b : ℕ) (h : Offs off a b) (c : Fin 13) (t : Fin 3) (hl : firstN a b t.val ≤ c.val) (hr : c.val < firstN a b (t.val + 1)) :
    rankOf off (ix1 c) = BitVec.ofNat 32 t.val := by
  have hf := firstOf_apply off a b h
  unfold rankOf rankIn
  generalize firstOf off = f at hf ⊢
  pointwise
  rw [fold3]
  simp only [hf]
  have hF := firstN_le a b h.hab h.hb
  rw [sge_nat _ _ (by omega) (by have := hF 1 (by omega); show firstN a b 1 < _; omega), sge_nat _ _ (by omega) (by have := hF 2 (by omega); show firstN a b 2 < _; omega),
    sge_nat _ _ (by omega) (by have := hF 3 (by omega); show firstN a b 3 < _; omega)]
  show (if firstN a b 1 ≤ c.val then 1#32 else 0#32) + ((if firstN a b 2 ≤ c.val then 1#32 else 0#32) + ((if firstN a b 3 ≤ c.val then 1#32 else 0#32) + 0#32)) = _
  have e0 : firstN a b 1 = firstN a b 0 + blkN a b 0 := rfl
  have e1 : firstN a b 2 = firstN a b 1 + blkN a b 1 := rfl
  have e2 : firstN a b 3 = firstN a b 2 + blkN a b 2 := rfl
  match t, hl, hr with
  | ⟨0, _⟩, hl, hr =>
    have hr' : c.val < firstN a b 1 := hr
    rw [if_neg (by omega), if_neg (by omega), if_neg (by omega)]; rfl
  | ⟨1, _⟩, hl, hr =>
    have hr' : c.val < firstN a b 2 := hr
    have hl' : firstN a b 1 ≤ c.val := hl
    rw [if_pos (by omega), if_neg (by omega), if_neg (by omega)]; rfl
  | ⟨2, _⟩, hl, hr =>
    have hr' : c.val < firstN a b 3 := hr
    have hl' : firstN a b 2 ≤ c.val := hl
    rw [if_pos (by omega), if_pos (by omega), if_neg (by omega)]; rfl

/-- The word of a chunk in use is its type. -/
theorem ctypeOf_apply (off : IVec S4 32) (a b : ℕ) (h : Offs off a b) (c : Fin 13) (t : Fin 3) (hl : firstN a b t.val ≤ c.val) (hr : c.val < firstN a b (t.val + 1)) :
    ctypeOf off (ix1 c) = BitVec.ofNat 32 t.val := by
  have e := rankOf_apply off a b h c t hl hr
  unfold ctypeOf
  generalize rankOf off = r at e ⊢
  pointwise
  rw [e]
  clear e hl hr
  revert t
  decide

end Kernel

section Reference

open Cert.OutRefIdeal Cert.OutRefIdeal.Gen Cert.OutRefIdeal.Hand

theorem ref_blocks (off : IVec S4 32) (a b : ℕ) (h : Offs off a b) (t : Fin 3) : blocksOf off (ix1 t) = BitVec.ofNat 32 (blkN a b t.val) := by
  have hc := cntN_le a b h.hab h.hb t.val
  refine floor96_apply _ t ⟨cntN a b t.val + 95, by omega⟩ ?_
  show Cert.OutIdeal.Hand.counts off (ix1 t) + 95#32 = _
  rw [counts_apply off a b h t]
  show _ = BitVec.ofNat 32 (cntN a b t.val + 95)
  bv_omega

theorem ref_ends (off : IVec S4 32) (a b : ℕ) (h : Offs off a b) (t : Fin 3) : endsAt off (ix1 t) = BitVec.ofNat 32 (firstN a b (t.val + 1)) :=
  ends_apply off a b h _ (ref_blocks off a b h) t

theorem ref_shift (off : IVec S4 32) (a b : ℕ) (h : Offs off a b) (t : Fin 3) : shiftOf off (ix1 t) = BitVec.ofNat 32 (shiftN a b t.val) := by
  have hf := ref_ends off a b h t
  have hb := ref_blocks off a b h t
  unfold shiftOf
  generalize endsAt off = f at hf ⊢
  generalize blocksOf off = g at hb ⊢
  have e : shiftIn f g off (ix1 t) = 96#32 * (f (ix1 t) - g (ix1 t)) - off (ix1 ⟨t.val, by omega⟩) := by
    unfold shiftIn; pointwise
    rfl
  have ho : off (ix1 ⟨t.val, by omega⟩) = BitVec.ofNat 32 (offN a b t.val) := by
    fin_cases t
    · exact h.h0
    · exact h.h1
    · exact h.h2
  have hle := offN_le a b h.hab t
  have hF := firstN_le a b h.hab h.hb (t.val + 1) (by omega)
  have hs : firstN a b (t.val + 1) = firstN a b t.val + blkN a b t.val := rfl
  rw [e, hf, hb, ho]
  unfold shiftN
  bv_omega

theorem ref_type (off : IVec S4 32) (a b : ℕ) (h : Offs off a b) (i : Fin 1024) : typeOf off (ix1 i) = BitVec.ofNat 32 (typeN a b i.val).val := by
  have h1 : off (ix1 ⟨1 + 0, by omega⟩) = BitVec.ofNat 32 a := h.h1
  have h2 : off (ix1 ⟨1 + 1, by omega⟩) = BitVec.ofNat 32 b := h.h2
  have hab := h.hab
  have hb := h.hb
  unfold typeOf
  pointwise
  rw [fold2]
  show BitVec.setWidth 32 (IntOp.cmpi .sge (BitVec.ofNat 32 i.val) (off (ix1 ⟨1 + 0, _⟩))) + (BitVec.setWidth 32 (IntOp.cmpi .sge (BitVec.ofNat 32 i.val) (off (ix1 ⟨1 + 1, _⟩))) + 0#32) = _
  rw [h1, h2, sge_nat _ _ (by omega) (by omega), sge_nat _ _ (by omega) (by omega)]
  unfold typeN
  by_cases hi : b ≤ i.val
  · rw [if_pos hi, if_pos (by omega), if_pos (by omega)]; rfl
  · rw [if_neg hi]
    by_cases hj : a ≤ i.val
    · rw [if_pos hj, if_neg (by omega), if_pos (by omega)]; rfl
    · rw [if_neg hj, if_neg (by omega), if_neg (by omega)]; rfl

theorem ref_row (off : IVec S4 32) (a b : ℕ) (h : Offs off a b) (i : Fin 1024) : rowOf off (ix1 i) = BitVec.ofNat 32 (rowN a b i.val) := by
  have ht := ref_type off a b h i
  have hs := ref_shift off a b h (typeN a b i.val)
  have hS := shiftN_le a b h.hab h.hb (typeN a b i.val)
  show BitVec.ofNat 32 i.val + Host.gather gather_S3_S1024x1_S1024_n_0_n_n_0_1_1 (shiftOf off) (broadcastInDim S1024x1 ![0] bcast_S1024_S1024x1_0 (typeOf off)) (ix1 i) = _
  have g := Routing.gather_take1 gather_S3_S1024x1_S1024_n_0_n_n_0_1_1 rfl rfl rfl rfl (shiftOf off) (broadcastInDim S1024x1 ![0] bcast_S1024_S1024x1_0 (typeOf off)) i (typeN a b i.val) (by rw [← ht]; generalize typeOf off = z; pointwise) (by omega)
  refine (congrArg (BitVec.ofNat 32 i.val + ·) (g.trans hs)).trans ?_
  show BitVec.ofNat 32 i.val + BitVec.ofNat 32 _ = _
  unfold rowN
  bv_omega

end Reference
end Cert.OutEq
end
-- ==== Proof.OutPre.lean ====
/-
  What the precondition `offsets_ok` says: the four type offsets are 0, `a`, `b` and 1024 with `a ≤ b ≤ 1024`.
-/
module

public import proofs.«01_k».proof.Pre_offsets_ok
public import proofs.«01_k».proof.Proof.OutIndex

@[expose] public section

set_option maxRecDepth 16384

noncomputable section

namespace Cert.OutEq

open Idealize.ShloMosaic

open Cert.Pre_offsets_ok in
theorem pre_facts : Cert.Pre_offsets_ok.Facts where
  slices_S4_S1_0 := by decide
  shapeCasts_S1_S_ := by decide
  slices_S4_S1_1 := by decide
  slices_S4_S1_2 := by decide
  slices_S4_S1_3 := by decide

section
attribute [local instance] pre_facts

theorem and_one : ∀ x y : BitVec 1, IntOp.andi x y = 1#1 → x = 1#1 ∧ y = 1#1 := by decide

theorem ofBool_one (p : Bool) (h : BitVec.ofBool p = 1#1) : p = true := by revert h; revert p; decide

theorem eq_one (x y : BitVec 32) (h : IntOp.cmpi .eq x y = 1#1) : x = y := by
  have h' : BitVec.ofBool (x == y) = 1#1 := h
  exact eq_of_beq (ofBool_one _ h')

theorem sle_one (x y : BitVec 32) (h : IntOp.cmpi .sle x y = 1#1) : x.toInt ≤ y.toInt := by
  have h' : BitVec.ofBool (x.sle y) = 1#1 := h
  exact BitVec.sle_iff_toInt_le.mp (ofBool_one _ h')

open Cert.Pre_offsets_ok in
theorem fn_apply (off x1 x2 x3 x4 x5 x6) : fn (F := Ideal) off x1 x2 x3 x4 x5 x6 ValueIdx.ix0
    = IntOp.andi (IntOp.andi (IntOp.andi (IntOp.andi (IntOp.cmpi .eq (off (ix1 0)) 0#32) (IntOp.cmpi .sle (off (ix1 0)) (off (ix1 1)))) (IntOp.cmpi .sle (off (ix1 1)) (off (ix1 2))))
        (IntOp.cmpi .sle (off (ix1 2)) (off (ix1 3)))) (IntOp.cmpi .eq (off (ix1 3)) 1024#32) := by
  unfold fn fn_part1
  pointwise
  try rfl

open Cert.Pre_offsets_ok in
/-- The precondition, as two numbers. -/
theorem offs_of_pre (off x1 x2 x3 x4 x5 x6) (h : fn (F := Ideal) off x1 x2 x3 x4 x5 x6 = fun _ => 1#1) : ∃ a b, Offs off a b := by
  have h' := (fn_apply off x1 x2 x3 x4 x5 x6).symm.trans (congrFun h ValueIdx.ix0)
  obtain ⟨h', g3⟩ := and_one _ _ h'
  obtain ⟨h', g23⟩ := and_one _ _ h'
  obtain ⟨h', g12⟩ := and_one _ _ h'
  obtain ⟨g0, g01⟩ := and_one _ _ h'
  have e0 := eq_one _ _ g0
  have e3 := eq_one _ _ g3
  have l01 := sle_one _ _ g01
  have l12 := sle_one _ _ g12
  have l23 := sle_one _ _ g23
  rw [e0] at l01
  rw [e3] at l23
  have z0 : (0#32 : BitVec 32).toInt = 0 := by decide
  have z3 : (1024#32 : BitVec 32).toInt = 1024 := by decide
  rw [z0] at l01
  rw [z3] at l23
  generalize hA : off (ix1 1) = A at *
  generalize hB : off (ix1 2) = B at *
  refine ⟨A.toNat, B.toNat, ⟨e0, by rw [hA]; simp, by rw [hB]; simp, e3, ?_, ?_⟩⟩
  · have tA := BitVec.toInt_eq_toNat_cond A
    have tB := BitVec.toInt_eq_toNat_cond B
    split at tA <;> split at tB <;> omega
  · have tB := BitVec.toInt_eq_toNat_cond B
    split at tB <;> omega

end

end Cert.OutEq

end
-- ==== Proof.OutPay.lean ====
/-
  The output projection's payloads at the ideal instance, read at an index: the projection of one chunk, and the blend of
  one trip.
-/
module

public import proofs.«01_k».proof.Proof.OutIdealBody
public import proofs.«01_k».proof.Proof.Gen.OutRefIdeal.Frame
public import Idealize.ShloMosaic.Lib.Pointwise

@[expose] public section

set_option maxRecDepth 16384

noncomputable section

namespace Cert.OutEq

open Idealize.ShloMosaic

/-- A row times a column, scaled, with the bias added. -/
def lin (x w : Fin 3584 → EReal) (s b : EReal) : EReal := (∑ k, x k * w k) * s + b

/-- The gate of a skip weight: its logistic function. -/
def gate (z : EReal) : EReal := Ideal.div 1 (1 + Ideal.exp (-z))

section Kernel

open Cert.OutIdeal Cert.OutIdeal.Gen Cert.OutIdeal.Hand

theorem pay19_apply (x : Vec Ideal S96x3584 .bf16) (w : Vec Ideal S1x3584x512 .fp8e4m3) (s b : Vec Ideal S1x1x512 .f32) (i : S96x512.Idx) :
    k0_pay19 x w s b i = lin (fun k => x (ix2 (i 0) k)) (fun k => w (ix3 0 k (i 1))) (s (ix3 0 0 (i 1))) (b (ix3 0 0 (i 1))) := by
  unfold k0_pay19 lin
  pointwise

theorem pay20_apply (x : Vec Ideal S96x3584 .bf16) (w : Vec Ideal S1x3584x512 .fp8e4m3) (s b : Vec Ideal S1x1x512 .f32) (r : Fin 96) (c : Fin 128) :
    k0_pay20 x w s b (ix3 0 r c) = k0_pay19 x w s b (ix2 r ⟨128 * 0 + c.val, by omega⟩) := by
  unfold k0_pay20
  generalize k0_pay19 x w s b = v
  pointwise
theorem pay21_apply (x : Vec Ideal S96x3584 .bf16) (w : Vec Ideal S1x3584x512 .fp8e4m3) (s b : Vec Ideal S1x1x512 .f32) (r : Fin 96) (c : Fin 128) :
    k0_pay21 x w s b (ix3 0 r c) = k0_pay19 x w s b (ix2 r ⟨128 * 1 + c.val, by omega⟩) := by
  unfold k0_pay21
  generalize k0_pay19 x w s b = v
  pointwise
theorem pay22_apply (x : Vec Ideal S96x3584 .bf16) (w : Vec Ideal S1x3584x512 .fp8e4m3) (s b : Vec Ideal S1x1x512 .f32) (r : Fin 96) (c : Fin 128) :
    k0_pay22 x w s b (ix3 0 r c) = k0_pay19 x w s b (ix2 r ⟨128 * 2 + c.val, by omega⟩) := by
  unfold k0_pay22
  generalize k0_pay19 x w s b = v
  pointwise
theorem pay23_apply (x : Vec Ideal S96x3584 .bf16) (w : Vec Ideal S1x3584x512 .fp8e4m3) (s b : Vec Ideal S1x1x512 .f32) (r : Fin 96) (c : Fin 128) :
    k0_pay23 x w s b (ix3 0 r c) = k0_pay19 x w s b (ix2 r ⟨128 * 3 + c.val, by omega⟩) := by
  unfold k0_pay23
  generalize k0_pay19 x w s b = v
  pointwise

/-- Of three values, the one that two bits choose. -/
def sel3 (b1 b2 : BitVec 1) (A B C : EReal) : EReal := Scalar.select b2 C (Scalar.select b1 B A)

/-- The blend of a projected value and an input by a gate. -/
def blend (g o x : EReal) : EReal := g * o + (1 - g) * x

theorem pay11_apply (b1 b2 : IVec S64x128 1) (g A B : FVec Ideal S64x128 .f32) (C : Vec Ideal S1x64x128 .f32) (x : Vec Ideal S64x128 .bf16) (r : Fin 64) (c : Fin 128) :
    k0_pay11 b1 b2 g A B C x (ix2 r c) = blend (g (ix2 r c)) (sel3 (b1 (ix2 r c)) (b2 (ix2 r c)) (A (ix2 r c)) (B (ix2 r c)) (C (ix3 0 r c))) (x (ix2 r c)) := by
  unfold k0_pay11 blend sel3
  pointwise
theorem pay14_apply (b1 b2 : IVec S64x128 1) (g A B : FVec Ideal S64x128 .f32) (C : Vec Ideal S1x64x128 .f32) (x : Vec Ideal S64x128 .bf16) (r : Fin 64) (c : Fin 128) :
    k0_pay14 b1 b2 g A B C x (ix2 r c) = blend (g (ix2 r c)) (sel3 (b1 (ix2 r c)) (b2 (ix2 r c)) (A (ix2 r c)) (B (ix2 r c)) (C (ix3 0 r c))) (x (ix2 r c)) := by
  unfold k0_pay14 blend sel3
  pointwise
theorem pay16_apply (b1 b2 : IVec S64x128 1) (g : FVec Ideal S64x128 .f32) (A B C : Vec Ideal S1x64x128 .f32) (x : Vec Ideal S64x128 .bf16) (r : Fin 64) (c : Fin 128) :
    k0_pay16 g (k0_pay15 b1 b2 A B C) x (ix2 r c) = blend (g (ix2 r c)) (sel3 (b1 (ix2 r c)) (b2 (ix2 r c)) (A (ix3 0 r c)) (B (ix3 0 r c)) (C (ix3 0 r c))) (x (ix2 r c)) := by
  unfold k0_pay16 k0_pay15 blend sel3
  pointwise
theorem pay4_apply (b1 b2 : IVec S64x128 1) (g : FVec Ideal S64x128 .f32) (A B C : Vec Ideal S1x64x128 .f32) (x : Vec Ideal S64x128 .bf16) (r : Fin 64) (c : Fin 128) :
    k0_pay4 (k0_pay17 b1 b2 g A B C) (k0_pay18 g) x (ix2 r c) = blend (g (ix2 r c)) (sel3 (b1 (ix2 r c)) (b2 (ix2 r c)) (A (ix3 0 r c)) (B (ix3 0 r c)) (C (ix3 0 r c))) (x (ix2 r c)) := by
  unfold k0_pay4 k0_pay17 k0_pay18 blend sel3
  pointwise
theorem pay9_apply (A : Vec Ideal S1x64x128 .f32) (r : Fin 64) (c : Fin 128) : k0_pay9 A (ix2 r c) = A (ix3 0 r c) := by unfold k0_pay9; pointwise
theorem pay10_apply (A : Vec Ideal S1x64x128 .f32) (r : Fin 64) (c : Fin 128) : k0_pay10 A (ix2 r c) = A (ix3 0 r c) := by unfold k0_pay10; pointwise
theorem pay12_apply (A : Vec Ideal S1x64x128 .f32) (r : Fin 64) (c : Fin 128) : k0_pay12 A (ix2 r c) = A (ix3 0 r c) := by unfold k0_pay12; pointwise
theorem pay13_apply (A : Vec Ideal S1x64x128 .f32) (r : Fin 64) (c : Fin 128) : k0_pay13 A (ix2 r c) = A (ix3 0 r c) := by unfold k0_pay13; pointwise

/-- Where a row of a trip is at or after a type's first row. -/
theorem pay6_apply (k : Fin k0_t1_loop.trips) (v : BitVec 32) (r : Fin 64) (c : Fin 128) :
    k0_pay6 (F := Ideal) 0#32 1#32 k v (ix2 r c) = IntOp.cmpi .sge (rowWord k.val + BitVec.ofNat 32 r.val) v := by
  unfold k0_pay6 k0_pay5 rowWord
  pointwise
  rfl
theorem pay7_apply (k : Fin k0_t1_loop.trips) (v : BitVec 32) (r : Fin 64) (c : Fin 128) :
    k0_pay7 (F := Ideal) 0#32 1#32 k v (ix2 r c) = IntOp.cmpi .sge (rowWord k.val + BitVec.ofNat 32 r.val) v := by
  unfold k0_pay7 k0_pay5 rowWord
  pointwise
  rfl

theorem pay1_apply (z : EReal) (i : S1x128.Idx) : k0_pay1 (F := Ideal) k0_pay84 z i = gate z := by
  unfold k0_pay1 k0_pay84 gate
  pointwise
  rw [zero_sub]
theorem pay2_apply (z : EReal) (i : S1x128.Idx) : k0_pay2 (F := Ideal) z i = gate z := by
  unfold k0_pay2 gate
  pointwise
  rw [zero_sub]
theorem pay3_apply (z : EReal) (i : S1x128.Idx) : k0_pay3 (F := Ideal) z i = gate z := by
  unfold k0_pay3 gate
  pointwise
  rw [zero_sub]

/-- The gate of a row of a trip is that of the row's type. -/
theorem gates_apply (x2 : Vec Ideal S4 .i32) (z0 z1 z2 : EReal) (k : Fin k0_t1_loop.trips) (r : Fin 64) (c : Fin 128) :
    gates (F := Ideal) x2 k0_pay84 z0 z1 z2 k (ix2 r c) = sel3 (is1 (F := Ideal) x2 k (ix2 r c)) (is2 (F := Ideal) x2 k (ix2 r c)) (gate z0) (gate z1) (gate z2) := by
  have e : ∀ (p q s : FVec Ideal S1x128 .f32) (v w : BitVec 32), k0_pay8 (F := Ideal) p q s 0#32 1#32 k v w (ix2 r c)
      = sel3 (k0_pay6 (F := Ideal) 0#32 1#32 k v (ix2 r c)) (k0_pay7 (F := Ideal) 0#32 1#32 k w (ix2 r c)) (p (ix2 0 c)) (q (ix2 0 c)) (s (ix2 0 c)) := by
    intro p q s v w
    unfold k0_pay8 sel3
    pointwise
  refine (e _ _ _ _ _).trans ?_
  rw [pay1_apply, pay2_apply, pay3_apply]

end Kernel

section Reference

open Cert.OutRefIdeal Cert.OutRefIdeal.Gen

/-- Of three values, the one that a type word names, zero for any other word. -/
def pick3 (T : BitVec 32) (A B C : EReal) : EReal :=
  Scalar.select (IntOp.cmpi .eq T 2#32) C (Scalar.select (IntOp.cmpi .eq T 1#32) B (Scalar.select (IntOp.cmpi .eq T 0#32) A 0))

theorem ref_pay4 (x : Vec Ideal S1024x3584 .bf16) (T : Vec Ideal S1024x1 .i32) (w : Vec Ideal S1x3584x3584 .fp8e4m3) (s b : Vec Ideal S1x1x3584 .f32) (i : S1024x3584.Idx) :
    k0_pay4 x T w s b i = Scalar.select (IntOp.cmpi .eq (T (ix2 (i 0) 0)) 0#32) (lin (fun k => x (ix2 (i 0) k)) (fun k => w (ix3 0 k (i 1))) (s (ix3 0 0 (i 1))) (b (ix3 0 0 (i 1)))) 0 := by
  unfold k0_pay4 k0_pay2 k0_pay3 lin
  pointwise

theorem ref_pay5 (x : Vec Ideal S1024x3584 .bf16) (w : Vec Ideal S1x3584x3584 .fp8e4m3) (s b : Vec Ideal S1x1x3584 .f32) (i : S1024x3584.Idx) :
    k0_pay5 x w s b i = lin (fun k => x (ix2 (i 0) k)) (fun k => w (ix3 0 k (i 1))) (s (ix3 0 0 (i 1))) (b (ix3 0 0 (i 1))) := by
  unfold k0_pay5 k0_pay2 lin
  pointwise

theorem ref_pay1 (x : Vec Ideal S1024x3584 .bf16) (T : Vec Ideal S1024x1 .i32) (A B : FVec Ideal S1024x3584 .f32) (w : Vec Ideal S1x3584x3584 .fp8e4m3) (s b : Vec Ideal S1x1x3584 .f32)
    (g : Vec Ideal S1024x1 .f32) (y : Vec Ideal S1024x3584 .bf16) (i : S1024x3584.Idx) :
    k0_pay1 (k0_pay2 x) (k0_pay3 (F := Ideal) T) A B w s b g y i
      = blend (g (ix2 (i 0) 0)) (Scalar.select (IntOp.cmpi .eq (T (ix2 (i 0) 0)) 2#32) (lin (fun k => x (ix2 (i 0) k)) (fun k => w (ix3 0 k (i 1))) (s (ix3 0 0 (i 1))) (b (ix3 0 0 (i 1))))
          (Scalar.select (IntOp.cmpi .eq (T (ix2 (i 0) 0)) 1#32) (B i) (A i))) (y i) := by
  unfold k0_pay1 k0_pay2 k0_pay3 lin blend
  pointwise

end Reference

end Cert.OutEq

end
-- ==== Proof.OutRefValue.lean ====
/-
  What the reference `OutRefIdeal` computes: every node's row by the weights of the node's type, blended with the node's
  input by the type's gate.
-/
module

public import proofs.«01_k».proof.Proof.OutPay
public import proofs.«01_k».proof.Proof.OutIndex
public import proofs.«01_k».proof.Proof.Gen.OutRefIdeal.Value

@[expose] public section

set_option maxRecDepth 16384

noncomputable section

namespace Cert.OutEq

open Idealize.ShloMosaic Idealize.ShloMosaic.TcCoe
open Cert.OutRefIdeal Cert.OutRefIdeal.Gen Cert.OutRefIdeal.Hand

/-- The row of a node. -/
def rowF (a b : ℕ) (hab : a ≤ b) (hb : b ≤ 1024) (i : Fin 1024) : Fin 1248 := ⟨rowN a b i.val, rowN_lt a b i.val hab hb i.isLt⟩

/-- The result at node `i 0` and column `i 1`, for type offsets 0, `a`, `b` and 1024: the node's row by the weights of its
    type, blended with its input. -/
def goal (a b : ℕ) (hab : a ≤ b) (hb : b ≤ 1024) (x : S1248x3584.Idx → EReal) (w : S3x3584x3584.Idx → EReal) (s bi : S3x3584.Idx → EReal) (z : S3.Idx → EReal)
    (y : S1024x3584.Idx → EReal) : S1024x3584.Idx → EReal := fun i =>
  blend (gate (z (ix1 (typeN a b (i 0).val))))
    (lin (fun k => x (ix2 (rowF a b hab hb (i 0)) k)) (fun k => w (ix3 (typeN a b (i 0).val) k (i 1))) (s (ix2 (typeN a b (i 0).val) (i 1))) (bi (ix2 (typeN a b (i 0).val) (i 1))))
    (y i)

variable (m : (ℓ : Loc nD τ sig) → Buf (Elt Ideal) ℓ)

theorem pick3_type (t : Fin 3) (f : Fin 3 → EReal) : pick3 (BitVec.ofNat 32 t.val) (f 0) (f 1) (f 2) = f t := by
  unfold pick3
  fin_cases t <;> rfl

/-- The reference's result at the blocks that its body reads. -/
theorem ref_apply (x0 : Vec Ideal S1024x1 .i32) (x1 : Vec Ideal S1024x3584 .bf16) (x2 : Vec Ideal S3x3584x3584 .fp8e4m3) (x3 x4 : Vec Ideal S3x1x3584 .f32)
    (x5 : Vec Ideal S1024x1 .f32) (x6 : Vec Ideal S1024x3584 .bf16) (i : S1024x3584.Idx) :
    k0_pay1 (k0_pay2 (View.ld x1 r0_0)) (k0_pay3 (F := Ideal) (View.ld x0 r0_1)) (k0_pay4 (View.ld x1 r0_0) (View.ld x0 r0_1) (View.ld x2 r0_2) (View.ld x3 r0_3) (View.ld x4 r0_3))
        (k0_pay5 (View.ld x1 r0_0) (View.ld x2 r0_4) (View.ld x3 r0_5) (View.ld x4 r0_5)) (View.ld x2 r0_6) (View.ld x3 r0_7) (View.ld x4 r0_7) (View.ld x5 r0_1) (View.ld x6 r0_0) i
      = blend (x5 (ix2 (i 0) 0)) (pick3 (x0 (ix2 (i 0) 0)) (lin (fun k => x1 (ix2 (i 0) k)) (fun k => x2 (ix3 0 k (i 1))) (x3 (ix3 0 0 (i 1))) (x4 (ix3 0 0 (i 1))))
          (lin (fun k => x1 (ix2 (i 0) k)) (fun k => x2 (ix3 1 k (i 1))) (x3 (ix3 1 0 (i 1))) (x4 (ix3 1 0 (i 1))))
          (lin (fun k => x1 (ix2 (i 0) k)) (fun k => x2 (ix3 2 k (i 1))) (x3 (ix3 2 0 (i 1))) (x4 (ix3 2 0 (i 1))))) (x6 i) := by
  unfold k0_pay1 k0_pay4 k0_pay5 k0_pay2 k0_pay3 pick3 lin blend
  pointwise

/-- Broadcasting a vector along a new last axis of extent one. -/
theorem bcast_apply {α : Type} (z : S1024.Idx → α) (y : S1024x1.Idx) : broadcastInDim S1024x1 ![0] bcast_S1024_S1024x1_0 z y = z (ix1 (y 0)) := by pointwise

/-- The same as the result of the reference, where the blocks hold the types, the rows, the weights, the gates and the
    inputs. -/
theorem goal_of (a b : ℕ) (hab : a ≤ b) (hb : b ≤ 1024) (x0 : Vec Ideal S1024x1 .i32) (x1 : Vec Ideal S1024x3584 .bf16) (x2 : Vec Ideal S3x3584x3584 .fp8e4m3) (x3 x4 : Vec Ideal S3x1x3584 .f32)
    (x5 : Vec Ideal S1024x1 .f32) (x6 : Vec Ideal S1024x3584 .bf16) (X : S1248x3584.Idx → EReal) (W : S3x3584x3584.Idx → EReal) (S B : S3x3584.Idx → EReal) (Z : S3.Idx → EReal) (Y : S1024x3584.Idx → EReal)
    (h0 : ∀ y : S1024x1.Idx, x0 y = BitVec.ofNat 32 (typeN a b (y 0).val).val) (h1 : ∀ (p : Fin 1024) (k : Fin 3584), x1 (ix2 p k) = X (ix2 (rowF a b hab hb p) k))
    (h2 : ∀ y, x2 y = W y) (h3 : ∀ y : S3x1x3584.Idx, x3 y = S (ix2 (y 0) (y 2))) (h4 : ∀ y : S3x1x3584.Idx, x4 y = B (ix2 (y 0) (y 2)))
    (h5 : ∀ y : S1024x1.Idx, x5 y = gate (Z (ix1 (typeN a b (y 0).val)))) (h6 : ∀ y, x6 y = Y y) (i : S1024x3584.Idx) :
    blend (x5 (ix2 (i 0) 0)) (pick3 (x0 (ix2 (i 0) 0)) (lin (fun k => x1 (ix2 (i 0) k)) (fun k => x2 (ix3 0 k (i 1))) (x3 (ix3 0 0 (i 1))) (x4 (ix3 0 0 (i 1))))
          (lin (fun k => x1 (ix2 (i 0) k)) (fun k => x2 (ix3 1 k (i 1))) (x3 (ix3 1 0 (i 1))) (x4 (ix3 1 0 (i 1))))
          (lin (fun k => x1 (ix2 (i 0) k)) (fun k => x2 (ix3 2 k (i 1))) (x3 (ix3 2 0 (i 1))) (x4 (ix3 2 0 (i 1))))) (x6 i)  = goal a b hab hb X W S B Z Y i := by
  have e0 : x0 (ix2 (i 0) 0) = BitVec.ofNat 32 (typeN a b (i 0).val).val := h0 _
  have e5 : x5 (ix2 (i 0) 0) = gate (Z (ix1 (typeN a b (i 0).val))) := h5 _
  have e1 : (fun k => x1 (ix2 (i 0) k)) = fun k => X (ix2 (rowF a b hab hb (i 0)) k) := funext fun k => h1 (i 0) k
  have e2 : ∀ T : Fin 3, (fun k => x2 (ix3 T k (i 1))) = fun k => W (ix3 T k (i 1)) := fun T => funext fun k => h2 _
  have e3 : ∀ T : Fin 3, x3 (ix3 T 0 (i 1)) = S (ix2 T (i 1)) := fun T => h3 _
  have e4 : ∀ T : Fin 3, x4 (ix3 T 0 (i 1)) = B (ix2 T (i 1)) := fun T => h4 _
  rw [e0, e5, e1, e2 0, e2 1, e2 2, e3 0, e3 1, e3 2, e4 0, e4 1, e4 2, h6]
  unfold goal
  exact congrArg (fun o : EReal => blend (gate (Z (ix1 (typeN a b (i 0).val)))) o (Y i))
    (pick3_type (typeN a b (i 0).val) fun T => lin (fun k => X (ix2 (rowF a b hab hb (i 0)) k)) (fun k => W (ix3 T k (i 1))) (S (ix2 T (i 1))) (B (ix2 T (i 1))))

theorem idx0 : ∀ t : Fin cfg0.N, ∀ a : Fin 2, win0_0.index t a = 0 := (by decide +kernel : ∀ t : Fin grid0.N, ∀ a : Fin 2, win0_0.index t a = 0)
theorem idx1 : ∀ t : Fin cfg0.N, ∀ a : Fin 2, win0_1.index t a = 0 := (by decide +kernel : ∀ t : Fin grid0.N, ∀ a : Fin 2, win0_1.index t a = 0)
theorem idx2 : ∀ t : Fin cfg0.N, ∀ a : Fin 3, win0_2.index t a = 0 := (by decide +kernel : ∀ t : Fin grid0.N, ∀ a : Fin 3, win0_2.index t a = 0)
theorem idx3 : ∀ t : Fin cfg0.N, ∀ a : Fin 3, win0_3.index t a = 0 := (by decide +kernel : ∀ t : Fin grid0.N, ∀ a : Fin 3, win0_3.index t a = 0)
theorem idx4 : ∀ t : Fin cfg0.N, ∀ a : Fin 3, win0_4.index t a = 0 := (by decide +kernel : ∀ t : Fin grid0.N, ∀ a : Fin 3, win0_4.index t a = 0)
theorem idx5 : ∀ t : Fin cfg0.N, ∀ a : Fin 2, win0_5.index t a = 0 := (by decide +kernel : ∀ t : Fin grid0.N, ∀ a : Fin 2, win0_5.index t a = 0)
theorem idx6 : ∀ t : Fin cfg0.N, ∀ a : Fin 2, win0_6.index t a = 0 := (by decide +kernel : ∀ t : Fin grid0.N, ∀ a : Fin 2, win0_6.index t a = 0)
theorem idx7 : ∀ t : Fin cfg0.N, ∀ a : Fin 2, win0_7.index t a = 0 := (by decide +kernel : ∀ t : Fin grid0.N, ∀ a : Fin 2, win0_7.index t a = 0)

theorem emb0 (t : Fin cfg0.N) (y : S1024x1.Idx) : ((cfg0.win 0).blk t).view.emb y = y :=
  funext fun a => Fin.ext (by show win0_0.index t a * S1024x1.size a + 1 * (y a).val = (y a).val; rw [idx0]; omega)
theorem emb1 (t : Fin cfg0.N) (y : S1024x3584.Idx) : ((cfg0.win 1).blk t).view.emb y = y :=
  funext fun a => Fin.ext (by show win0_1.index t a * S1024x3584.size a + 1 * (y a).val = (y a).val; rw [idx1]; omega)
theorem emb2 (t : Fin cfg0.N) (y : S3x3584x3584.Idx) : ((cfg0.win 2).blk t).view.emb y = y :=
  funext fun a => Fin.ext (by show win0_2.index t a * S3x3584x3584.size a + 1 * (y a).val = (y a).val; rw [idx2]; omega)
theorem emb3 (t : Fin cfg0.N) (y : S3x1x3584.Idx) : ((cfg0.win 3).blk t).view.emb y = y :=
  funext fun a => Fin.ext (by show win0_3.index t a * S3x1x3584.size a + 1 * (y a).val = (y a).val; rw [idx3]; omega)
theorem emb4 (t : Fin cfg0.N) (y : S3x1x3584.Idx) : ((cfg0.win 4).blk t).view.emb y = y :=
  funext fun a => Fin.ext (by show win0_4.index t a * S3x1x3584.size a + 1 * (y a).val = (y a).val; rw [idx4]; omega)
theorem emb5 (t : Fin cfg0.N) (y : S1024x1.Idx) : ((cfg0.win 5).blk t).view.emb y = y :=
  funext fun a => Fin.ext (by show win0_5.index t a * S1024x1.size a + 1 * (y a).val = (y a).val; rw [idx5]; omega)
theorem emb6 (t : Fin cfg0.N) (y : S1024x3584.Idx) : ((cfg0.win 6).blk t).view.emb y = y :=
  funext fun a => Fin.ext (by show win0_6.index t a * S1024x3584.size a + 1 * (y a).val = (y a).val; rw [idx6]; omega)
theorem emb7 (t : Fin cfg0.N) (y : S1024x3584.Idx) : ((cfg0.win 7).blk t).view.emb y = y :=
  funext fun a => Fin.ext (by show win0_7.index t a * S1024x3584.size a + 1 * (y a).val = (y a).val; rw [idx7]; omega)

section Blocks
variable (c : Dev nD) (t : Fin cfg0.N) (a b : ℕ) (h : Offs (m ((c : Thread nD τ).loc main_arg0)) a b)
include h

theorem blk0 (y : S1024x1.Idx) : iblk m c 0 t y = BitVec.ofNat 32 (typeN a b (y 0).val).val := by
  show V m c main_v29 (((cfg0.win 0).blk t).view.emb y) = _
  rw [emb0, V_type]
  exact (bcast_apply _ y).trans (ref_type _ a b h (y 0))
theorem blk1 (p : Fin 1024) (k : Fin 3584) : iblk m c 1 t (ix2 p k : S1024x3584.Idx) = (m ((c : Thread nD τ).loc main_arg1)) (ix2 (rowF a b h.hab h.hb p) k) := by
  show V m c main_v21 (((cfg0.win 1).blk t).view.emb _) = _
  rw [emb1, V_rows]
  refine Routing.gather_row gather_S1248x3584_S1024x1_S1024x3584_1_0_n_n_0_1_13584 rfl rfl rfl rfl rfl (m ((c : Thread nD τ).loc main_arg1)) _ p k (rowF a b h.hab h.hb p) ?_ (by omega)
  exact (bcast_apply _ (ix2 p 0)).trans (ref_row _ a b h p)
theorem blk5 (y : S1024x1.Idx) : iblk m c 5 t y = gate ((m ((c : Thread nD τ).loc main_arg5)) (ix1 (typeN a b (y 0).val))) := by
  show V m c main_v32 (((cfg0.win 5).blk t).view.emb y) = _
  rw [emb5, V_gate]
  have g := Routing.gather_take1 gather_S3_S1024x1_S1024_n_0_n_n_0_1_1 rfl rfl rfl rfl (gateOf (F := Ideal) (m ((c : Thread nD τ).loc main_arg5))) (broadcastInDim S1024x1 ![0] bcast_S1024_S1024x1_0 (typeOf (m ((c : Thread nD τ).loc main_arg0)))) (y 0) (typeN a b (y 0).val)
    ((bcast_apply _ (ix2 (y 0) 0)).trans (ref_type _ a b h (y 0))) (by omega)
  have e : gateOf (F := Ideal) (m ((c : Thread nD τ).loc main_arg5)) (ix1 (typeN a b (y 0).val)) = gate ((m ((c : Thread nD τ).loc main_arg5)) (ix1 (typeN a b (y 0).val))) := by
    unfold gateOf gate
    pointwise
  exact (bcast_apply _ y).trans (g.trans e)
omit h in
theorem blk2 (y : S3x3584x3584.Idx) : iblk m c 2 t y = (m ((c : Thread nD τ).loc main_arg2)) y := by
  show V m c main_arg2 (((cfg0.win 2).blk t).view.emb y) = _
  rw [emb2, V_main_arg2]
omit h in
theorem blk3 (y : S3x1x3584.Idx) : iblk m c 3 t y = (m ((c : Thread nD τ).loc main_arg3)) (ix2 (y 0) (y 2)) := by
  show V m c main_v30 (((cfg0.win 3).blk t).view.emb y) = _
  rw [emb3, V_scale]
  pointwise
omit h in
theorem blk4 (y : S3x1x3584.Idx) : iblk m c 4 t y = (m ((c : Thread nD τ).loc main_arg4)) (ix2 (y 0) (y 2)) := by
  show V m c main_v31 (((cfg0.win 4).blk t).view.emb y) = _
  rw [emb4, V_bias]
  pointwise
omit h in
theorem blk6 (y : S1024x3584.Idx) : iblk m c 6 t y = (m ((c : Thread nD τ).loc main_arg6)) y := by
  show V m c main_arg6 (((cfg0.win 6).blk t).view.emb y) = _
  rw [emb6, V_main_arg6]

theorem out7 : out0_7 (iblk m c 0 t) (iblk m c 1 t) (iblk m c 2 t) (iblk m c 3 t) (iblk m c 4 t) (iblk m c 5 t) (iblk m c 6 t)
    = goal a b h.hab h.hb (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold out0_7
  refine (View.canon_unit_zero (by decide) _ _).trans (funext fun i => ?_)
  refine (ref_apply (iblk m c 0 t) (iblk m c 1 t) (iblk m c 2 t) (iblk m c 3 t) (iblk m c 4 t) (iblk m c 5 t) (iblk m c 6 t) i).trans ?_
  exact goal_of a b h.hab h.hb (iblk m c 0 t) (iblk m c 1 t) (iblk m c 2 t) (iblk m c 3 t) (iblk m c 4 t) (iblk m c 5 t) (iblk m c 6 t) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (blk0 m c t a b h) (blk1 m c t a b h) (blk2 m c t) (blk3 m c t) (blk4 m c t) (blk5 m c t a b h) (blk6 m c t) i

omit h in
theorem flush7 : ∀ t : Fin cfg0.N, (cfg0.win 7).flush t = true := (by decide +kernel : ∀ t : Fin grid0.N, win0_7.flush t = true)

end Blocks

/-- The result of the reference. -/
theorem ref7 (c : Dev nD) (a b : ℕ) (h : Offs (m ((c : Thread nD τ).loc main_arg0)) a b) : (dats m 0 c).arrAt 7 cfg0.N = goal a b h.hab h.hb (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_cover 7 (goal a b h.hab h.hb (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => ?_) (fun i => ⟨⟨0, by show 0 < grid0.N; rw [N_0]; omega⟩, flush7 _, ?_⟩)
  · rw [Value.flushed7, out7 m c t a b h]
    funext y
    exact congrArg (goal a b h.hab h.hb (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (emb7 t y).symm
  · have e := ((cfg0.win 7).blk ⟨0, by show 0 < grid0.N; rw [N_0]; omega⟩).view.emb_mem_set i
    rwa [emb7] at e

end Cert.OutEq

end
-- ==== Proof.OutKerValue.lean ====
/-
  What the kernel of `OutIdeal` computes of the blocks it reads, at a grid point: every node's row by the weights of the
  node's type, blended with the node's input by the type's gate.
-/
module

public import proofs.«01_k».proof.Proof.OutRefValue

@[expose] public section

set_option maxRecDepth 16384

noncomputable section

namespace Cert.OutEq

open Idealize.ShloMosaic Idealize.ShloMosaic.TcCoe
open Cert.OutIdeal Cert.OutIdeal.Gen Cert.OutIdeal.Hand

theorem isType_type (t : Fin 3) : isType (BitVec.ofNat 32 t.val) = 1#1 := by revert t; decide

theorem maxsi_type (t : Fin 3) : (Scalar.maxsi (BitVec.ofNat 32 t.val) 0#32).toNat = t.val := by revert t; decide

theorem lin_congr {x x' w w' : Fin 3584 → EReal} {s s' b b' : EReal} (hx : x = x') (hw : w = w') (hs : s = s') (hb : b = b') : lin x w s b = lin x' w' s' b' := by
  rw [hx, hw, hs, hb]

theorem plane_apply (x : Vec Ideal S96x3584 .bf16) (w : Vec Ideal S1x3584x512 .fp8e4m3) (s b : Vec Ideal S1x1x512 .f32) (q : Fin 4) (r : Fin 96) (c : Fin 128) :
    planeRows x w s b q (ix3 0 r c) = k0_pay19 x w s b (ix2 r ⟨128 * q.val + c.val, by omega⟩) := by
  match q with
  | ⟨0, _⟩ => exact pay20_apply x w s b r c
  | ⟨1, _⟩ => exact pay21_apply x w s b r c
  | ⟨2, _⟩ => exact pay22_apply x w s b r c
  | ⟨3, _⟩ => exact pay23_apply x w s b r c

/-- One element of the planes' rows of a chunk of type `t`. -/
theorem chunkRows_apply (t : Fin 3) (hv) (h) (x5 : Vec Ideal S1248x3584 .bf16) (x6 : Vec Ideal S3x3584x512 .fp8e4m3) (x7 x8 : Vec Ideal S3x1x512 .f32) (c : ℕ) (hc : c < 13)
    (q : Fin 4) (r : Fin 96) (j : Fin 128) :
    chunkRows (BitVec.ofNat 32 t.val) hv h x5 x6 x7 x8 c hc q (ix3 0 r j)
      = lin (fun k => x5 (ix2 ⟨96 * c + r.val, by omega⟩ k)) (fun k => x6 (ix3 t k ⟨128 * q.val + j.val, by omega⟩)) (x7 (ix3 t 0 ⟨128 * q.val + j.val, by omega⟩))
          (x8 (ix3 t 0 ⟨128 * q.val + j.val, by omega⟩)) := by
  have o := maxsi_type t
  refine (plane_apply _ _ _ _ q r j).trans ((pay19_apply _ _ _ _ _).trans ?_)
  refine lin_congr (funext fun k => ?_) (funext fun k => ?_) ?_ ?_
  · refine congrArg x5 (funext fun a => Fin.ext ?_)
    match a with
    | ⟨0, _⟩ => show 96 * c + 1 * r.val = 96 * c + r.val; omega
    | ⟨1, _⟩ => show 0 + 1 * k.val = k.val; omega
  · refine congrArg x6 (funext fun a => Fin.ext ?_)
    have e1 : k0_off1 (BitVec.ofNat 32 t.val) 0 = t.val := o
    match a with
    | ⟨0, _⟩ => show k0_off1 (BitVec.ofNat 32 t.val) 0 + 1 * 0 = t.val; omega
    | ⟨1, _⟩ => show 0 + 1 * k.val = k.val; omega
    | ⟨2, _⟩ => show 0 + 1 * (128 * q.val + j.val) = 128 * q.val + j.val; omega
  · refine congrArg x7 (funext fun a => Fin.ext ?_)
    have e1 : k0_off2 (BitVec.ofNat 32 t.val) 0 = t.val := o
    match a with
    | ⟨0, _⟩ => show k0_off2 (BitVec.ofNat 32 t.val) 0 + 1 * 0 = t.val; omega
    | ⟨1, _⟩ => rfl
    | ⟨2, _⟩ => show 0 + 1 * (128 * q.val + j.val) = 128 * q.val + j.val; omega
  · refine congrArg x8 (funext fun a => Fin.ext ?_)
    have e1 : k0_off2 (BitVec.ofNat 32 t.val) 0 = t.val := o
    match a with
    | ⟨0, _⟩ => show k0_off2 (BitVec.ofNat 32 t.val) 0 + 1 * 0 = t.val; omega
    | ⟨1, _⟩ => rfl
    | ⟨2, _⟩ => show 0 + 1 * (128 * q.val + j.val) = 128 * q.val + j.val; omega

/-- What the planes hold in a row of a chunk of type `t`. -/
theorem filled_apply (x1 : Vec Ideal S13 .i32) (hchk) (x5 : Vec Ideal S1248x3584 .bf16) (x6 : Vec Ideal S3x3584x512 .fp8e4m3) (x7 x8 : Vec Ideal S3x1x512 .f32)
    (P : Vec Ideal S4x1248x128 .f32) (hP : Filled x1 hchk x5 x6 x7 x8 P 13) (t : Fin 3) (p : Fin 1248) (hw : ∀ hc, wordAt x1 (p.val / 96) hc = BitVec.ofNat 32 t.val)
    (q : Fin 4) (j : Fin 128) :
    P (ix3 q p j) = lin (fun k => x5 (ix2 p k)) (fun k => x6 (ix3 t k ⟨128 * q.val + j.val, by omega⟩)) (x7 (ix3 t 0 ⟨128 * q.val + j.val, by omega⟩))
          (x8 (ix3 t 0 ⟨128 * q.val + j.val, by omega⟩)) := by
  have hp := p.isLt
  have hc : p.val / 96 < 13 := by omega
  have hwc := hw hc
  have hi : 96 * (p.val / 96) ≤ ((ix3 q p j : S4x1248x128.Idx) 1).val ∧ ((ix3 q p j : S4x1248x128.Idx) 1).val < 96 * (p.val / 96) + 96 := by
    show 96 * (p.val / 96) ≤ p.val ∧ p.val < 96 * (p.val / 96) + 96
    omega
  have h : isType (wordAt x1 (p.val / 96) hc) = 1#1 := by rw [hwc]; exact isType_type t
  refine (hP (p.val / 96) hc hc h (ix3 q p j) hi).trans ?_
  have hr : p.val - 96 * (p.val / 96) < 96 := by omega
  have key : ∀ (v : BitVec 32) (hv : k0_chk1 v) (hh : isType v = 1#1), v = BitVec.ofNat 32 t.val →
      chunkRows v hv hh x5 x6 x7 x8 (p.val / 96) hc q (ix3 0 (⟨p.val - 96 * (p.val / 96), hr⟩ : Fin 96) j)
        = lin (fun k => x5 (ix2 p k)) (fun k => x6 (ix3 t k ⟨128 * q.val + j.val, by omega⟩)) (x7 (ix3 t 0 ⟨128 * q.val + j.val, by omega⟩))
          (x8 (ix3 t 0 ⟨128 * q.val + j.val, by omega⟩)) := by
    intro v hv hh e
    subst e
    refine (chunkRows_apply t hv hh x5 x6 x7 x8 (p.val / 96) hc q ⟨p.val - 96 * (p.val / 96), hr⟩ j).trans ?_
    refine lin_congr (funext fun k => ?_) rfl rfl rfl
    exact congrArg (fun r => x5 (ix2 r k)) (Fin.ext (by show 96 * (p.val / 96) + (p.val - 96 * (p.val / 96)) = p.val; omega))
  exact key _ _ h hwc

/-- A word of the offsets, of the shifts, of the skip weights. -/
theorem offWord_eq (x2 : Vec Ideal S4 .i32) (j : ℕ) (hj : j < 4) (h) : offWord x2 j h = x2 (ix1 ⟨j, hj⟩) :=
  congrArg x2 (funext fun a => Fin.ext (by match a with | ⟨0, _⟩ => rfl))
theorem shiftWord_eq (x3 : Vec Ideal S3 .i32) (j : ℕ) (hj : j < 3) (h) : shiftWord x3 j h = x3 (ix1 ⟨j, hj⟩) :=
  congrArg x3 (funext fun a => Fin.ext (by match a with | ⟨0, _⟩ => rfl))
theorem skipWord_eq (x4 : Vec Ideal S3 .f32) (j : ℕ) (hj : j < 3) (h) : skipWord x4 j h = x4 (ix1 ⟨j, hj⟩) :=
  congrArg x4 (funext fun a => Fin.ext (by match a with | ⟨0, _⟩ => rfl))

theorem trip_lt (k : Fin k0_t1_loop.trips) : k.val < 16 := lt_of_lt_of_eq k.isLt trips_eq

/-- The first row that a trip reads of a plane is never clipped. -/
theorem clip_row (k : Fin k0_t1_loop.trips) (s : ℕ) (hs : s ≤ 190) :
    (Scalar.minsi 1184#32 (Scalar.maxsi 0#32 (Scalar.addi (rowWord k.val) (BitVec.ofNat 32 s)))).toNat = 64 * k.val + s := by
  have hk := trip_lt k
  have e : (Scalar.addi (rowWord k.val) (BitVec.ofNat 32 s)).toNat = 64 * k.val + s := by
    show (rowWord k.val + BitVec.ofNat 32 s).toNat = _
    rw [rowWord_eq _ hk]
    simp
    omega
  rw [clip_eq, e]
  split <;> omega

/-- What a trip reads of a plane. -/
theorem plane_ld (P : Vec Ideal S4x1248x128 .f32) (k : Fin k0_t1_loop.trips) (q : Fin 4) (s : ℕ) (hs : s ≤ 190) (o : Fin 3 → ℕ) (h) (w : BitVec 32) (hw : w = BitVec.ofNat 32 s)
    (ho : o = ![q.val, (Scalar.minsi 1184#32 (Scalar.maxsi 0#32 (Scalar.addi (rowWord k.val) w))).toNat, 0]) (r : Fin 64) (c : Fin 128) :
    View.ld P (Rect.unit (s := S4x1248x128) o S1x64x128.size h) (ix3 0 r c) = P (ix3 q ⟨64 * k.val + r.val + s, by have := trip_lt k; omega⟩ c) := by
  rw [hw, clip_row k s hs] at ho
  subst ho
  refine congrArg P (funext fun a => Fin.ext ?_)
  match a with
  | ⟨0, _⟩ => show q.val + 1 * 0 = q.val; omega
  | ⟨1, _⟩ => show (64 * k.val + s) + 1 * r.val = 64 * k.val + r.val + s; omega
  | ⟨2, _⟩ => show 0 + 1 * c.val = c.val; omega

/-- What a trip reads of the input. -/
theorem in_ld (x9 : Vec Ideal S1024x512 .bf16) (k : Fin k0_t1_loop.trips) (q : Fin 4) (o : Fin 2 → ℕ) (h) (ho : o = ![64 * k.val, 128 * q.val]) (r : Fin 64) (c : Fin 128) :
    View.ld x9 (Rect.unit (s := S1024x512) o S64x128.size h) (ix2 r c) = x9 (ix2 ⟨64 * k.val + r.val, by have := trip_lt k; omega⟩ ⟨128 * q.val + c.val, by omega⟩) := by
  subst ho
  refine congrArg x9 (funext fun a => Fin.ext ?_)
  match a with
  | ⟨0, _⟩ => show 64 * k.val + 1 * r.val = 64 * k.val + r.val; omega
  | ⟨1, _⟩ => show 128 * q.val + 1 * c.val = 128 * q.val + c.val; omega

theorem sge_one (x y : ℕ) (hx : x < 2 ^ 31) (hy : y < 2 ^ 31) : IntOp.cmpi .sge (BitVec.ofNat 32 x) (BitVec.ofNat 32 y) = if y ≤ x then 1#1 else 0#1 := by
  have e := sge_nat x y hx hy
  generalize IntOp.cmpi .sge (BitVec.ofNat 32 x) (BitVec.ofNat 32 y) = z at e ⊢
  split at e <;> rename_i h
  · rw [if_pos h]; revert e; revert z; decide
  · rw [if_neg h]; revert e; revert z; decide

/-- The two bits of a node choose the value of its type. -/
theorem sel3_type (a b i : ℕ) (hab : a ≤ b) (hb : b ≤ 1024) (hi : i < 1024) (f : Fin 3 → EReal) :
    sel3 (IntOp.cmpi .sge (BitVec.ofNat 32 i) (BitVec.ofNat 32 a)) (IntOp.cmpi .sge (BitVec.ofNat 32 i) (BitVec.ofNat 32 b)) (f 0) (f 1) (f 2) = f (typeN a b i) := by
  rw [sge_one _ _ (by omega) (by omega), sge_one _ _ (by omega) (by omega)]
  unfold typeN sel3
  by_cases h2 : b ≤ i
  · rw [if_pos h2, if_pos h2]; rfl
  · rw [if_neg h2, if_neg h2]
    by_cases h1 : a ≤ i
    · rw [if_pos h1, if_pos h1]; rfl
    · rw [if_neg h1, if_neg h1]; rfl

section Trip
variable (x2 : Vec Ideal S4 .i32) (x3 : Vec Ideal S3 .i32) (x4 : Vec Ideal S3 .f32) (x9 : Vec Ideal S1024x512 .bf16) (P : Vec Ideal S4x1248x128 .f32)
variable (a b : ℕ) (hO : Offs x2 a b) (hs : ∀ t : Fin 3, x3 (ix1 t) = BitVec.ofNat 32 (shiftN a b t.val))
variable (k : Fin k0_t1_loop.trips) (r : Fin 64) (c : Fin 128)

/-- The number of a row of a trip, as a word. -/
theorem row_word : rowWord k.val + BitVec.ofNat 32 r.val = BitVec.ofNat 32 (64 * k.val + r.val) := by
  rw [rowWord_eq _ (trip_lt k)]
  bv_omega

include hO in
theorem is1_eq : is1 (F := Ideal) x2 k (ix2 r c) = IntOp.cmpi .sge (BitVec.ofNat 32 (64 * k.val + r.val)) (BitVec.ofNat 32 a) := by
  refine (pay6_apply k _ r c).trans ?_
  rw [row_word, offWord_eq x2 1 (by omega)]
  exact congrArg _ hO.h1
include hO in
theorem is2_eq : is2 (F := Ideal) x2 k (ix2 r c) = IntOp.cmpi .sge (BitVec.ofNat 32 (64 * k.val + r.val)) (BitVec.ofNat 32 b) := by
  refine (pay7_apply k _ r c).trans ?_
  rw [row_word, offWord_eq x2 2 (by omega)]
  exact congrArg _ hO.h2

/-- The value of one element of a trip: the plane's value in the node's row, blended with the input. -/
def tripAt (q : Fin 4) : EReal :=
  blend (gate (x4 (ix1 (typeN a b (64 * k.val + r.val))))) (P (ix3 q (rowF a b hO.hab hO.hb ⟨64 * k.val + r.val, by have := trip_lt k; omega⟩) c))
    (x9 (ix2 ⟨64 * k.val + r.val, by have := trip_lt k; omega⟩ ⟨128 * q.val + c.val, by omega⟩))

/-- From the values read, what is chosen is the value of the node's type. -/
theorem trip_of (q : Fin 4) (g A B C X : EReal)
    (hg : g = sel3 (is1 (F := Ideal) x2 k (ix2 r c)) (is2 (F := Ideal) x2 k (ix2 r c)) (gate (x4 (ix1 0))) (gate (x4 (ix1 1))) (gate (x4 (ix1 2))))
    (hS : ∀ t : Fin 3, shiftN a b t.val ≤ 190)
    (hA : A = P (ix3 q ⟨64 * k.val + r.val + shiftN a b 0, by have := trip_lt k; have : shiftN a b 0 ≤ 190 := hS 0; omega⟩ c))
    (hB : B = P (ix3 q ⟨64 * k.val + r.val + shiftN a b 1, by have := trip_lt k; have : shiftN a b 1 ≤ 190 := hS 1; omega⟩ c))
    (hC : C = P (ix3 q ⟨64 * k.val + r.val + shiftN a b 2, by have := trip_lt k; have : shiftN a b 2 ≤ 190 := hS 2; omega⟩ c))
    (hX : X = x9 (ix2 ⟨64 * k.val + r.val, by have := trip_lt k; omega⟩ ⟨128 * q.val + c.val, by omega⟩)) :
    blend g (sel3 (is1 (F := Ideal) x2 k (ix2 r c)) (is2 (F := Ideal) x2 k (ix2 r c)) A B C) X = tripAt x2 x4 x9 P a b hO k r c q := by
  have hk := trip_lt k
  have hi : 64 * k.val + r.val < 1024 := by omega
  rw [hg, is1_eq x2 a b hO k r c, is2_eq x2 a b hO k r c, hA, hB, hC, hX]
  have e1 := sel3_type a b (64 * k.val + r.val) hO.hab hO.hb hi fun t => gate (x4 (ix1 t))
  have e2 := sel3_type a b (64 * k.val + r.val) hO.hab hO.hb hi fun t => P (ix3 q ⟨64 * k.val + r.val + shiftN a b t.val, by have := hS t; omega⟩ c)
  exact congrArg₂ (fun g o : EReal => blend g o (x9 (ix2 ⟨64 * k.val + r.val, by have := trip_lt k; omega⟩ ⟨128 * q.val + c.val, by omega⟩))) e1 e2

include hs in
theorem trip_apply (q : Fin 4) : tripVal x2 x3 k0_pay84 (skipWord x4 0 inb_S3_S1_0) (skipWord x4 1 inb_S3_S1_1) (skipWord x4 2 inb_S3_S1_2) x9 P k q (ix2 r c)
    = tripAt x2 x4 x9 P a b hO k r c q := by
  have hS := fun t => shiftN_le a b hO.hab hO.hb t
  have w0 : shiftWord x3 0 inb_S3_S1_0 = BitVec.ofNat 32 (shiftN a b 0) := (shiftWord_eq x3 0 (by omega) _).trans (hs 0)
  have w1 : shiftWord x3 1 inb_S3_S1_1 = BitVec.ofNat 32 (shiftN a b 1) := (shiftWord_eq x3 1 (by omega) _).trans (hs 1)
  have w2 : shiftWord x3 2 inb_S3_S1_2 = BitVec.ofNat 32 (shiftN a b 2) := (shiftWord_eq x3 2 (by omega) _).trans (hs 2)
  have hg := gates_apply x2 (skipWord x4 0 inb_S3_S1_0) (skipWord x4 1 inb_S3_S1_1) (skipWord x4 2 inb_S3_S1_2) k r c
  rw [skipWord_eq x4 0 (by omega), skipWord_eq x4 1 (by omega), skipWord_eq x4 2 (by omega)] at hg
  rw [skipWord_eq x4 0 (by omega), skipWord_eq x4 1 (by omega), skipWord_eq x4 2 (by omega)]
  match q with
  | ⟨0, _⟩ =>
    refine (pay11_apply _ _ _ _ _ _ _ r c).trans (trip_of x2 x4 x9 P a b hO k r c 0 _ _ _ _ _ hg hS ?_ ?_ ?_ ?_)
    · exact (pay9_apply _ r c).trans (plane_ld P k 0 _ (hS 0) _ _ _ w0 rfl r c)
    · exact (pay10_apply _ r c).trans (plane_ld P k 0 _ (hS 1) _ _ _ w1 rfl r c)
    · exact plane_ld P k 0 _ (hS 2) _ _ _ w2 rfl r c
    · exact in_ld x9 k 0 _ _ (off30_eq k) r c
  | ⟨1, _⟩ =>
    refine (pay14_apply _ _ _ _ _ _ _ r c).trans (trip_of x2 x4 x9 P a b hO k r c 1 _ _ _ _ _ hg hS ?_ ?_ ?_ ?_)
    · exact (pay12_apply _ r c).trans (plane_ld P k 1 _ (hS 0) _ _ _ w0 rfl r c)
    · exact (pay13_apply _ r c).trans (plane_ld P k 1 _ (hS 1) _ _ _ w1 rfl r c)
    · exact plane_ld P k 1 _ (hS 2) _ _ _ w2 rfl r c
    · exact in_ld x9 k 1 _ _ (off34_eq k) r c
  | ⟨2, _⟩ =>
    refine (pay16_apply _ _ _ _ _ _ _ r c).trans (trip_of x2 x4 x9 P a b hO k r c 2 _ _ _ _ _ hg hS ?_ ?_ ?_ ?_)
    · exact plane_ld P k 2 _ (hS 0) _ _ _ w0 rfl r c
    · exact plane_ld P k 2 _ (hS 1) _ _ _ w1 rfl r c
    · exact plane_ld P k 2 _ (hS 2) _ _ _ w2 rfl r c
    · exact in_ld x9 k 2 _ _ (off38_eq k) r c
  | ⟨3, _⟩ =>
    refine (pay4_apply _ _ _ _ _ _ _ r c).trans (trip_of x2 x4 x9 P a b hO k r c 3 _ _ _ _ _ hg hS ?_ ?_ ?_ ?_)
    · exact plane_ld P k 3 _ (hS 0) _ _ _ w0 rfl r c
    · exact plane_ld P k 3 _ (hS 1) _ _ _ w1 rfl r c
    · exact plane_ld P k 3 _ (hS 2) _ _ _ w2 rfl r c
    · exact in_ld x9 k 3 _ _ (off42_eq k) r c

end Trip

end Cert.OutEq

end
-- ==== Proof.OutIdealValue.lean ====
/-
  What the kernel of `OutIdeal` computes: its grid points' blocks of 512 columns put together.
-/
module

public import proofs.«01_k».proof.Proof.OutKerValue
public import proofs.«01_k».proof.Proof.OutIdealFrame

@[expose] public section

set_option maxRecDepth 16384

noncomputable section

namespace Cert.OutEq.Ker

open Idealize.ShloMosaic Idealize.ShloMosaic.TcCoe Idealize.SL.Sem
open Cert.OutIdeal Cert.OutIdeal.Gen Cert.OutIdeal.Hand

variable (m : (ℓ : Loc nD τ sig) → Buf (Elt Ideal) ℓ)

/-! ## Where each window's blocks lie -/

theorem idx0 : ∀ t : Fin cfg0.N, ∀ a : Fin 1, win0_0.index t a = 0 := (by decide +kernel : ∀ t : Fin grid0.N, ∀ a : Fin 1, win0_0.index t a = 0)
theorem idx1 : ∀ t : Fin cfg0.N, ∀ a : Fin 1, win0_1.index t a = 0 := (by decide +kernel : ∀ t : Fin grid0.N, ∀ a : Fin 1, win0_1.index t a = 0)
theorem idx2 : ∀ t : Fin cfg0.N, ∀ a : Fin 1, win0_2.index t a = 0 := (by decide +kernel : ∀ t : Fin grid0.N, ∀ a : Fin 1, win0_2.index t a = 0)
theorem idx3 : ∀ t : Fin cfg0.N, ∀ a : Fin 1, win0_3.index t a = 0 := (by decide +kernel : ∀ t : Fin grid0.N, ∀ a : Fin 1, win0_3.index t a = 0)
theorem idx4 : ∀ t : Fin cfg0.N, ∀ a : Fin 2, win0_4.index t a = 0 := (by decide +kernel : ∀ t : Fin grid0.N, ∀ a : Fin 2, win0_4.index t a = 0)
theorem idx5 : ∀ t : Fin cfg0.N, win0_5.index t 0 = 0 ∧ win0_5.index t 1 = 0 ∧ win0_5.index t 2 = t.val := (by decide +kernel : ∀ t : Fin grid0.N, win0_5.index t 0 = 0 ∧ win0_5.index t 1 = 0 ∧ win0_5.index t 2 = t.val)
theorem idx6 : ∀ t : Fin cfg0.N, win0_6.index t 0 = 0 ∧ win0_6.index t 1 = 0 ∧ win0_6.index t 2 = t.val := (by decide +kernel : ∀ t : Fin grid0.N, win0_6.index t 0 = 0 ∧ win0_6.index t 1 = 0 ∧ win0_6.index t 2 = t.val)
theorem idx7 : ∀ t : Fin cfg0.N, win0_7.index t 0 = 0 ∧ win0_7.index t 1 = 0 ∧ win0_7.index t 2 = t.val := (by decide +kernel : ∀ t : Fin grid0.N, win0_7.index t 0 = 0 ∧ win0_7.index t 1 = 0 ∧ win0_7.index t 2 = t.val)
theorem idx8 : ∀ t : Fin cfg0.N, win0_8.index t 0 = 0 ∧ win0_8.index t 1 = t.val := (by decide +kernel : ∀ t : Fin grid0.N, win0_8.index t 0 = 0 ∧ win0_8.index t 1 = t.val)
theorem idx9 : ∀ t : Fin cfg0.N, win0_9.index t 0 = 0 ∧ win0_9.index t 1 = t.val := (by decide +kernel : ∀ t : Fin grid0.N, win0_9.index t 0 = 0 ∧ win0_9.index t 1 = t.val)

theorem N_eq : cfg0.N = 7 := N_0

theorem col_lt (t : Fin cfg0.N) (j : Fin 512) : 512 * t.val + j.val < 3584 := by have := t.isLt; have := N_eq; omega

theorem emb0 (t : Fin cfg0.N) (y : S13.Idx) : ((cfg0.win 0).blk t).view.emb y = y :=
  funext fun a => Fin.ext (by show win0_0.index t a * S13.size a + 1 * (y a).val = (y a).val; rw [idx0]; omega)
theorem emb1 (t : Fin cfg0.N) (y : S4.Idx) : ((cfg0.win 1).blk t).view.emb y = y :=
  funext fun a => Fin.ext (by show win0_1.index t a * S4.size a + 1 * (y a).val = (y a).val; rw [idx1]; omega)
theorem emb2 (t : Fin cfg0.N) (y : S3.Idx) : ((cfg0.win 2).blk t).view.emb y = y :=
  funext fun a => Fin.ext (by show win0_2.index t a * S3.size a + 1 * (y a).val = (y a).val; rw [idx2]; omega)
theorem emb3 (t : Fin cfg0.N) (y : S3.Idx) : ((cfg0.win 3).blk t).view.emb y = y :=
  funext fun a => Fin.ext (by show win0_3.index t a * S3.size a + 1 * (y a).val = (y a).val; rw [idx3]; omega)
theorem emb4 (t : Fin cfg0.N) (y : S1248x3584.Idx) : ((cfg0.win 4).blk t).view.emb y = y :=
  funext fun a => Fin.ext (by show win0_4.index t a * S1248x3584.size a + 1 * (y a).val = (y a).val; rw [idx4]; omega)
theorem emb5 (t : Fin cfg0.N) (p : Fin 3) (k : Fin 3584) (j : Fin 512) : ((cfg0.win 5).blk t).view.emb (ix3 p k j : S3x3584x512.Idx) = (ix3 p k ⟨512 * t.val + j.val, col_lt t j⟩ : S3x3584x3584.Idx) := by
  obtain ⟨h0, h1, h2⟩ := idx5 t
  refine funext fun a => Fin.ext ?_
  match a with
  | ⟨0, _⟩ => show win0_5.index t 0 * 3 + 1 * p.val = p.val; omega
  | ⟨1, _⟩ => show win0_5.index t 1 * 3584 + 1 * k.val = k.val; omega
  | ⟨2, _⟩ => show win0_5.index t 2 * 512 + 1 * j.val = 512 * t.val + j.val; omega
theorem emb6 (t : Fin cfg0.N) (p : Fin 3) (j : Fin 512) : ((cfg0.win 6).blk t).view.emb (ix3 p 0 j : S3x1x512.Idx) = (ix3 p 0 ⟨512 * t.val + j.val, col_lt t j⟩ : S3x1x3584.Idx) := by
  obtain ⟨h0, h1, h2⟩ := idx6 t
  refine funext fun a => Fin.ext ?_
  match a with
  | ⟨0, _⟩ => show win0_6.index t 0 * 3 + 1 * p.val = p.val; omega
  | ⟨1, _⟩ => show win0_6.index t 1 * 1 + 1 * 0 = 0; omega
  | ⟨2, _⟩ => show win0_6.index t 2 * 512 + 1 * j.val = 512 * t.val + j.val; omega
theorem emb7 (t : Fin cfg0.N) (p : Fin 3) (j : Fin 512) : ((cfg0.win 7).blk t).view.emb (ix3 p 0 j : S3x1x512.Idx) = (ix3 p 0 ⟨512 * t.val + j.val, col_lt t j⟩ : S3x1x3584.Idx) := by
  obtain ⟨h0, h1, h2⟩ := idx7 t
  refine funext fun a => Fin.ext ?_
  match a with
  | ⟨0, _⟩ => show win0_7.index t 0 * 3 + 1 * p.val = p.val; omega
  | ⟨1, _⟩ => show win0_7.index t 1 * 1 + 1 * 0 = 0; omega
  | ⟨2, _⟩ => show win0_7.index t 2 * 512 + 1 * j.val = 512 * t.val + j.val; omega
theorem emb8 (t : Fin cfg0.N) (y : S1024x512.Idx) : ((cfg0.win 8).blk t).view.emb y = (ix2 (y 0) ⟨512 * t.val + (y 1).val, col_lt t (y 1)⟩ : S1024x3584.Idx) := by
  obtain ⟨h0, h1⟩ := idx8 t
  refine funext fun a => Fin.ext ?_
  match a with
  | ⟨0, _⟩ => show win0_8.index t 0 * 1024 + 1 * (y 0).val = (y 0).val; omega
  | ⟨1, _⟩ => show win0_8.index t 1 * 512 + 1 * (y 1).val = 512 * t.val + (y 1).val; omega
theorem emb9 (t : Fin cfg0.N) (y : S1024x512.Idx) : ((cfg0.win 9).blk t).view.emb y = (ix2 (y 0) ⟨512 * t.val + (y 1).val, col_lt t (y 1)⟩ : S1024x3584.Idx) := by
  obtain ⟨h0, h1⟩ := idx9 t
  refine funext fun a => Fin.ext ?_
  match a with
  | ⟨0, _⟩ => show win0_9.index t 0 * 1024 + 1 * (y 0).val = (y 0).val; omega
  | ⟨1, _⟩ => show win0_9.index t 1 * 512 + 1 * (y 1).val = 512 * t.val + (y 1).val; omega

/-! ## What each block holds -/

theorem blk0 (c : Dev nD) (t : Fin cfg0.N) (y : S13.Idx) : iblk m c 0 t y = ctypeOf (m ((c : Thread nD τ).loc main_arg0)) y := by
  show V m c main_v20 (((cfg0.win 0).blk t).view.emb _) = _
  rw [emb0, V_ctype]
theorem blk1 (c : Dev nD) (t : Fin cfg0.N) (y : S4.Idx) : iblk m c 1 t y = (m ((c : Thread nD τ).loc main_arg0)) y := by
  show V m c main_arg0 (((cfg0.win 1).blk t).view.emb _) = _
  rw [emb1, V_main_arg0]
theorem blk2 (c : Dev nD) (t : Fin cfg0.N) (y : S3.Idx) : iblk m c 2 t y = shiftOf (m ((c : Thread nD τ).loc main_arg0)) y := by
  show V m c main_v25 (((cfg0.win 2).blk t).view.emb _) = _
  rw [emb2, V_shift]
theorem blk3 (c : Dev nD) (t : Fin cfg0.N) (y : S3.Idx) : iblk m c 3 t y = (m ((c : Thread nD τ).loc main_arg5)) y := by
  show V m c main_arg5 (((cfg0.win 3).blk t).view.emb _) = _
  rw [emb3, V_main_arg5]
theorem blk4 (c : Dev nD) (t : Fin cfg0.N) (y : S1248x3584.Idx) : iblk m c 4 t y = (m ((c : Thread nD τ).loc main_arg1)) y := by
  show V m c main_arg1 (((cfg0.win 4).blk t).view.emb _) = _
  rw [emb4, V_main_arg1]
theorem blk5 (c : Dev nD) (t : Fin cfg0.N) (p : Fin 3) (k : Fin 3584) (j : Fin 512) : iblk m c 5 t (ix3 p k j) = (m ((c : Thread nD τ).loc main_arg2)) (ix3 p k ⟨512 * t.val + j.val, col_lt t j⟩) := by
  show V m c main_arg2 (((cfg0.win 5).blk t).view.emb _) = _
  rw [emb5, V_main_arg2]
theorem blk6 (c : Dev nD) (t : Fin cfg0.N) (p : Fin 3) (j : Fin 512) : iblk m c 6 t (ix3 p 0 j) = (m ((c : Thread nD τ).loc main_arg3)) (ix2 p ⟨512 * t.val + j.val, col_lt t j⟩) := by
  show V m c main_v26 (((cfg0.win 6).blk t).view.emb _) = _
  rw [emb6, V_scale]
  pointwise
theorem blk7 (c : Dev nD) (t : Fin cfg0.N) (p : Fin 3) (j : Fin 512) : iblk m c 7 t (ix3 p 0 j) = (m ((c : Thread nD τ).loc main_arg4)) (ix2 p ⟨512 * t.val + j.val, col_lt t j⟩) := by
  show V m c main_v27 (((cfg0.win 7).blk t).view.emb _) = _
  rw [emb7, V_bias]
  pointwise
theorem blk8 (c : Dev nD) (t : Fin cfg0.N) (y : S1024x512.Idx) : iblk m c 8 t y = (m ((c : Thread nD τ).loc main_arg6)) (ix2 (y 0) ⟨512 * t.val + (y 1).val, col_lt t (y 1)⟩) := by
  show V m c main_arg6 (((cfg0.win 8).blk t).view.emb _) = _
  rw [emb8, V_main_arg6]

/-- The chunk of a node's row has the node's type. -/
theorem word_row (c : Dev nD) (t : Fin cfg0.N) (a b : ℕ) (h : Offs (m ((c : Thread nD τ).loc main_arg0)) a b) (i : Fin 1024) (hc : (rowF a b h.hab h.hb i).val / 96 < 13) :
    wordAt (iblk m c 0 t) ((rowF a b h.hab h.hb i).val / 96) hc = BitVec.ofNat 32 (typeN a b i.val).val := by
  obtain ⟨hl, hr⟩ := row_chunk a b i.val h.hab h.hb i.isLt
  exact (blk0 m c t _).trans (ctypeOf_apply _ a b h ⟨_, hc⟩ (typeN a b i.val) hl hr)

/-- What the planes hold in a node's row. -/
theorem plane_row (c : Dev nD) (t : Fin cfg0.N) (a b : ℕ) (h : Offs (m ((c : Thread nD τ).loc main_arg0)) a b) (P : Vec Ideal S4x1248x128 .f32) (hP : FilledAt m c t P) (i : Fin 1024) (q : Fin 4) (j : Fin 128) :
    P (ix3 q (rowF a b h.hab h.hb i) j)
      = lin (fun k => (m ((c : Thread nD τ).loc main_arg1)) (ix2 (rowF a b h.hab h.hb i) k)) (fun k => (m ((c : Thread nD τ).loc main_arg2)) (ix3 (typeN a b i.val) k ⟨512 * t.val + (128 * q.val + j.val), col_lt t ⟨128 * q.val + j.val, by omega⟩⟩))
          ((m ((c : Thread nD τ).loc main_arg3)) (ix2 (typeN a b i.val) ⟨512 * t.val + (128 * q.val + j.val), col_lt t ⟨128 * q.val + j.val, by omega⟩⟩))
          ((m ((c : Thread nD τ).loc main_arg4)) (ix2 (typeN a b i.val) ⟨512 * t.val + (128 * q.val + j.val), col_lt t ⟨128 * q.val + j.val, by omega⟩⟩)) := by
  refine (filled_apply _ _ _ _ _ _ P hP (typeN a b i.val) (rowF a b h.hab h.hb i) (word_row m c t a b h i) q j).trans ?_
  refine lin_congr (funext fun k => ?_) (funext fun k => ?_) ?_ ?_
  · exact blk4 m c t _
  · exact blk5 m c t _ k _
  · exact blk6 m c t _ _
  · exact blk7 m c t _ _

/-- One element of the block that a grid point leaves. -/
theorem out_apply (c : Dev nD) (t : Fin cfg0.N) (a b : ℕ) (h : Offs (m ((c : Thread nD τ).loc main_arg0)) a b) (P : Vec Ideal S4x1248x128 .f32) (hP : FilledAt m c t P) (y : S1024x512.Idx) :
    outFrom m c t P y = goal a b h.hab h.hb (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (y 0) ⟨512 * t.val + (y 1).val, col_lt t (y 1)⟩) := by
  have hy0 : (y 0).val < 1024 := (y 0).isLt
  have hy1 : (y 1).val < 512 := (y 1).isLt
  have hO : Offs (iblk m c 1 t) a b := by
    have e : (iblk m c 1 t : IVec S4 32) = (m ((c : Thread nD τ).loc main_arg0)) := funext fun y => blk1 m c t y
    rw [e]; exact h
  have hs : ∀ u : Fin 3, iblk m c 2 t (ix1 u) = BitVec.ofNat 32 (shiftN a b u.val) := fun u => (blk2 m c t _).trans (shiftOf_apply _ a b h u)
  refine (trip_apply (iblk m c 1 t) (iblk m c 2 t) (iblk m c 3 t) (iblk m c 8 t) P a b hO hs ⟨(y 0).val / 64, by rw [trips_eq]; omega⟩ ⟨(y 0).val % 64, Nat.mod_lt _ (by omega)⟩
    ⟨(y 1).val % 128, Nat.mod_lt _ (by omega)⟩ ⟨(y 1).val / 128, by omega⟩).trans ?_
  have r0 : 64 * ((y 0).val / 64) + (y 0).val % 64 = (y 0).val := Nat.div_add_mod _ _
  have r1 : 128 * ((y 1).val / 128) + (y 1).val % 128 = (y 1).val := Nat.div_add_mod _ _
  have f0 : (⟨64 * ((y 0).val / 64) + (y 0).val % 64, by omega⟩ : Fin 1024) = y 0 := Fin.ext r0
  have f1 : (⟨128 * ((y 1).val / 128) + (y 1).val % 128, by omega⟩ : Fin 512) = y 1 := Fin.ext r1
  have f2 : ∀ hh, (⟨512 * t.val + (128 * ((y 1).val / 128) + (y 1).val % 128), hh⟩ : Fin 3584) = ⟨512 * t.val + (y 1).val, col_lt t (y 1)⟩ := fun _ => Fin.ext (congrArg (512 * t.val + ·) r1)
  have p := plane_row m c t a b h P hP (y 0) ⟨(y 1).val / 128, by omega⟩ ⟨(y 1).val % 128, Nat.mod_lt _ (by omega)⟩
  dsimp only at p
  rw [f2] at p
  unfold tripAt
  dsimp only
  simp only [f0, f1, r0]
  rw [blk3, blk8]
  exact congrArg (fun o : EReal => blend (gate ((m ((c : Thread nD τ).loc main_arg5)) (ix1 (typeN a b (y 0).val)))) o ((m ((c : Thread nD τ).loc main_arg6)) (ix2 (y 0) ⟨512 * t.val + (y 1).val, col_lt t (y 1)⟩))) p

section Run
variable (ρ : Dev nD → PrngReg) (a b : Dev nD → ℕ) (h : ∀ c : Dev nD, Offs (m ((c : Thread nD τ).loc main_arg0)) (a c) (b c))

/-- The result, for the type offsets that each device holds. -/
def goalAt (c : Dev nD) : S1024x3584.Idx → EReal := goal (a c) (b c) (h c).hab (h c).hb (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The block of it at a grid point. -/
def X (c : Dev nD) (t : Fin cfg0.N) : Vec Ideal S1024x512 .bf16 := fun y => goalAt m a b h c (ix2 (y 0) ⟨512 * t.val + (y 1).val, col_lt t (y 1)⟩)

theorem names : Names m (X m a b h) := fun c t P hP => funext fun y => out_apply m c t (a c) (b c) (h c) P hP y

theorem flush9 : ∀ t : Fin cfg0.N, (cfg0.win 9).flush t = true := (by decide +kernel : ∀ t : Fin grid0.N, win0_9.flush t = true)

theorem flat9 (c : Dev nD) : (dats m (X m a b h) 0 c).arrAt 9 cfg0.N = goalAt m a b h c := by
  refine (dats m (X m a b h) 0 c).arrAt_eq_of_cover 9 (goalAt m a b h c) (fun t _ => funext fun y => ?_) (fun i => ?_)
  · show (dats m (X m a b h) 0 c).after 9 t y = _
    rw [after0_9]
    exact congrArg (goalAt m a b h c) (emb9 t y).symm
  · have h1 : (i 1).val < 3584 := (i 1).isLt
    have ht : (i 1).val / 512 < cfg0.N := by rw [N_eq]; omega
    refine ⟨⟨(i 1).val / 512, ht⟩, flush9 _, ?_⟩
    have e := ((cfg0.win 9).blk ⟨(i 1).val / 512, ht⟩).view.emb_mem_set (ix2 (i 0) ⟨(i 1).val % 512, Nat.mod_lt _ (by omega)⟩ : S1024x512.Idx)
    have ei : (ix2 (i 0) ⟨512 * ((i 1).val / 512) + (i 1).val % 512, by omega⟩ : S1024x3584.Idx) = i := by
      refine funext fun d => Fin.ext ?_
      match d with
      | ⟨0, _⟩ => rfl
      | ⟨1, _⟩ => exact Nat.div_add_mod _ _
    convert e using 1
    exact ei.symm.trans (emb9 ⟨(i 1).val / 512, ht⟩ (ix2 (i 0) ⟨(i 1).val % 512, Nat.mod_lt _ (by omega)⟩)).symm

/-- The kernel's run: its result is `goal`, its arguments are as they were. -/
theorem run : θ_run (defs (F := Ideal)) (onTc (τ := τ) (main (F := Ideal))) ⟨m, fun _ => 0, ρ⟩ fun r => ∀ c : Dev nD,
      r.2.mem ((c : Thread nD τ).loc main_v28) = goalAt m a b h c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h' c => ⟨((h' c).1 9).trans (flat9 m a b h c),
    ((h' c).1 1).trans (((dats m (X m a b h) 0 c).arrAt_in 1 rfl _).trans ((A_eq m (X m a b h) c 1).trans (V_main_arg0 m c))),
    ((h' c).1 4).trans (((dats m (X m a b h) 0 c).arrAt_in 4 rfl _).trans ((A_eq m (X m a b h) c 4).trans (V_main_arg1 m c))),
    ((h' c).1 5).trans (((dats m (X m a b h) 0 c).arrAt_in 5 rfl _).trans ((A_eq m (X m a b h) c 5).trans (V_main_arg2 m c))),
    ((h' c).2 main_arg3 (Pipeline.mem_restRefs_of main_arg3 (by decide) (by decide))).trans (V_main_arg3 m c),
    ((h' c).2 main_arg4 (Pipeline.mem_restRefs_of main_arg4 (by decide) (by decide))).trans (V_main_arg4 m c),
    ((h' c).1 3).trans (((dats m (X m a b h) 0 c).arrAt_in 3 rfl _).trans ((A_eq m (X m a b h) c 3).trans (V_main_arg5 m c))),
    ((h' c).1 8).trans (((dats m (X m a b h) 0 c).arrAt_in 8 rfl _).trans ((A_eq m (X m a b h) c 8).trans (V_main_arg6 m c)))⟩)
    (run_named m ρ (X m a b h) (names m a b h))

end Run

end Cert.OutEq.Ker

end
-- ==== Proof.OutClaim.lean ====
/-
  The kernel `OutIdeal` and the reference `OutRefIdeal` compute the same array wherever the type offsets are in order.
-/
module

public import proofs.«01_k».proof.Defs
public import proofs.«01_k».proof.Proof.Gen.OutIdeal
public import proofs.«01_k».proof.Proof.Gen.OutRefIdeal
public import proofs.«01_k».proof.Proof.OutPre
public import proofs.«01_k».proof.Proof.OutRefValue
public import proofs.«01_k».proof.Proof.OutIdealValue

@[expose] public section

noncomputable section

namespace Cert.OutEq

open Idealize.ShloMosaic Idealize.ShloMosaic.TcCoe Idealize.SL.Sem

/-- `goal` of equal arrays. -/
theorem goal_congr (a b : ℕ) (hab : a ≤ b) (hb : b ≤ 1024) {x x' w w' s s' bi bi' z z' y y'} (ex : x = x') (ew : w = w') (es : s = s') (eb : bi = bi') (ez : z = z') (ey : y = y') :
    goal a b hab hb x w s bi z y = goal a b hab hb x' w' s' bi' z' y' := by
  subst ex ew es eb ez ey
  rfl

/-- The claim: from the same arguments, with the type offsets in order, both programs end with the same array. -/
theorem algebraic : @Cert.algebraic_OutIdeal_OutRefIdeal_pre_offsets_ok Cert.OutIdeal.Gen.facts Cert.OutRefIdeal.Gen.facts pre_facts := by
  intro m g m' g' hpre hm
  choose a b h using fun c => offs_of_pre _ _ _ _ _ _ _ (hpre c)
  refine ⟨_, Ker.run m g a b h, (θ_run _ _ _).mono (fun r hr c => ?_) (Cert.OutRefIdeal.Value.run_blocks m' g')⟩
  obtain ⟨h0, ha⟩ := hr c
  obtain ⟨e0, e1, e2, e3, e4, e5, e6⟩ := hm c
  exact ⟨(h0.trans (ref7 m' c (a c) (b c) (e0 ▸ h c))).trans (goal_congr _ _ _ _ e1 e2 e3 e4 e5 e6), ha⟩

end Cert.OutEq

end
-- ==== Proof.lean ====
module

public import proofs.«01_k».proof.Defs
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Skeleton
public import proofs.«01_k».proof.Proof.Gen.QkvRefIdeal.Launch
public import proofs.«01_k».proof.Proof.Gen.QkvRefIdeal.Points
public import proofs.«01_k».proof.Proof.Gen.QkvRefIdeal.Frame
public import proofs.«01_k».proof.Proof.Gen.QkvRefIdeal.Value
public import proofs.«01_k».proof.Proof.Gen.Out
public import proofs.«01_k».proof.Proof.Gen.Out.Skeleton
public import proofs.«01_k».proof.Proof.Gen.Out.Loops
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Loops
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Skeleton
public import proofs.«01_k».proof.Proof.Gen.OutRefIdeal.Launch
public import proofs.«01_k».proof.Proof.Gen.OutRefIdeal.Points
public import proofs.«01_k».proof.Proof.Gen.OutRefIdeal.Frame
public import proofs.«01_k».proof.Proof.Gen.OutRefIdeal.Value
public import proofs.«01_k».proof.Proof.QkvFrame
public import proofs.«01_k».proof.Proof.QkvIdealFrame
public import proofs.«01_k».proof.Proof.QkvClaim
public import proofs.«01_k».proof.Proof.OutFrame
public import proofs.«01_k».proof.Proof.OutIdealFrame
public import proofs.«01_k».proof.Proof.OutClaim
public import Idealize.ShloMosaic.Adequacy
public import Idealize.ShloMosaic.Init

@[expose] public section

noncomputable section

namespace Cert.Proof

open Idealize.ShloMosaic Idealize.SL.Sem

theorem claim : Cert.Claim :=
  ⟨Cert.Qkv.Gen.facts, Cert.QkvIdeal.Gen.facts, Cert.QkvRefIdeal.Gen.facts, Cert.Out.Gen.facts, Cert.OutIdeal.Gen.facts, Cert.OutRefIdeal.Gen.facts, Cert.OutEq.pre_facts,
    fun m g _ => Cert.Qkv.Hand.frame m g, fun m g _ => Cert.QkvIdeal.Hand.frame m g, fun m g _ => Cert.QkvRefIdeal.Gen.frame m g,
    fun m g _ => Cert.Out.Hand.frame m g, fun m g _ => Cert.OutIdeal.Hand.frame m g, fun m g _ => Cert.OutIdeal.Hand.frame m g,
    fun m g _ => Cert.OutRefIdeal.Gen.frame m g, fun m g _ => Cert.OutRefIdeal.Gen.frame m g,
    trivial, Cert.QkvEq.algebraic, trivial, Cert.OutEq.algebraic⟩

end Cert.Proof
